-- ==== Defs.lean ====
def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_pool_finite [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.1 = (fun _ => 1#1)
    ∧ (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2 = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_pool_finite [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.1 = (fun _ => 1#1)
    ∧ (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2 = (fun _ => 1#1)

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))).2.2.2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_OutGradKernel (m : (ℓ : Loc Cert.OutGradKernel.nD Cert.OutGradKernel.τ Cert.OutGradKernel.sig) → Buf (Elt Bits) ℓ) : Prop :=
  True

def Pre_OutGradKernelIdeal (m : (ℓ : Loc Cert.OutGradKernelIdeal.nD Cert.OutGradKernelIdeal.τ Cert.OutGradKernelIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_InGradKernel (m : (ℓ : Loc Cert.InGradKernel.nD Cert.InGradKernel.τ Cert.InGradKernel.sig) → Buf (Elt Bits) ℓ) : Prop :=
  True

def Pre_InGradKernelIdeal (m : (ℓ : Loc Cert.InGradKernelIdeal.nD Cert.InGradKernelIdeal.τ Cert.InGradKernelIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_OutprojKernel (m : (ℓ : Loc Cert.OutprojKernel.nD Cert.OutprojKernel.τ Cert.OutprojKernel.sig) → Buf (Elt Bits) ℓ) : Prop :=
  True

def Pre_OutprojKernelIdeal (m : (ℓ : Loc Cert.OutprojKernelIdeal.nD Cert.OutprojKernelIdeal.τ Cert.OutprojKernelIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolKernelIdeal_pre_pool_finite [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_pool_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolReferenceIdeal_pre_pool_finite [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_pool_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5))
      ∧ r.2.sem = fun _ => 0)

def quiescent_OutGradKernel [hOutGradKernel : Cert.OutGradKernel.Facts] : Prop :=
  ∀ (m : (ℓ : Loc Cert.OutGradKernel.nD Cert.OutGradKernel.τ Cert.OutGradKernel.sig) → Buf (Elt Bits) ℓ) (g : Dev Cert.OutGradKernel.nD → PrngReg), Pre_OutGradKernel m →
    θ_run (Cert.OutGradKernel.defs (F := Bits)) (onTc (τ := Cert.OutGradKernel.τ) (Cert.OutGradKernel.main (F := Bits))) ⟨m, fun _ => 0, g⟩ (fun r => (∀ c : Dev Cert.OutGradKernel.nD,
      r.2.mem ((c.tc : Thread Cert.OutGradKernel.nD Cert.OutGradKernel.τ).loc Cert.OutGradKernel.main_arg0) = m ((c.tc : Thread Cert.OutGradKernel.nD Cert.OutGradKernel.τ).loc Cert.OutGradKernel.main_arg0)
      ∧ r.2.mem ((c.tc : Thread Cert.OutGradKernel.nD Cert.OutGradKernel.τ).loc Cert.OutGradKernel.main_arg1) = m ((c.tc : Thread Cert.OutGradKernel.nD Cert.OutGradKernel.τ).loc Cert.OutGradKernel.main_arg1))
      ∧ r.2.sem = fun _ => 0)

def quiescent_OutGradKernelIdeal [hOutGradKernelIdeal : Cert.OutGradKernelIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg), Pre_OutGradKernelIdeal m →
    θ_run (Cert.OutGradKernelIdeal.defs (F := Ideal)) (onTc (τ := Cert.OutGradKernelIdeal.τ) (Cert.OutGradKernelIdeal.main (F := Ideal))) ⟨m, fun _ => 0, g⟩ (fun r => (∀ c : Dev Cert.OutGradKernelIdeal.nD,
      r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
      ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_InGradKernel [hInGradKernel : Cert.InGradKernel.Facts] : Prop :=
  ∀ (m : (ℓ : Loc Cert.InGradKernel.nD Cert.InGradKernel.τ Cert.InGradKernel.sig) → Buf (Elt Bits) ℓ) (g : Dev Cert.InGradKernel.nD → PrngReg), Pre_InGradKernel m →
    θ_run (Cert.InGradKernel.defs (F := Bits)) (onTc (τ := Cert.InGradKernel.τ) (Cert.InGradKernel.main (F := Bits))) ⟨m, fun _ => 0, g⟩ (fun r => (∀ c : Dev Cert.InGradKernel.nD,
      r.2.mem ((c.tc : Thread Cert.InGradKernel.nD Cert.InGradKernel.τ).loc Cert.InGradKernel.main_arg0) = m ((c.tc : Thread Cert.InGradKernel.nD Cert.InGradKernel.τ).loc Cert.InGradKernel.main_arg0)
      ∧ r.2.mem ((c.tc : Thread Cert.InGradKernel.nD Cert.InGradKernel.τ).loc Cert.InGradKernel.main_arg1) = m ((c.tc : Thread Cert.InGradKernel.nD Cert.InGradKernel.τ).loc Cert.InGradKernel.main_arg1))
      ∧ r.2.sem = fun _ => 0)

def quiescent_InGradKernelIdeal [hInGradKernelIdeal : Cert.InGradKernelIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg), Pre_InGradKernelIdeal m →
    θ_run (Cert.InGradKernelIdeal.defs (F := Ideal)) (onTc (τ := Cert.InGradKernelIdeal.τ) (Cert.InGradKernelIdeal.main (F := Ideal))) ⟨m, fun _ => 0, g⟩ (fun r => (∀ c : Dev Cert.InGradKernelIdeal.nD,
      r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
      ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5)
      ∧ r.2.mem ((c.tc : Thread Cert.InprojKernel.nD Cert.InprojKernel.τ).loc Cert.InprojKernel.main_arg6) = m ((c.tc : Thread Cert.InprojKernel.nD Cert.InprojKernel.τ).loc Cert.InprojKernel.main_arg6)
      ∧ r.2.mem ((c.tc : Thread Cert.InprojKernel.nD Cert.InprojKernel.τ).loc Cert.InprojKernel.main_arg7) = m ((c.tc : Thread Cert.InprojKernel.nD Cert.InprojKernel.τ).loc Cert.InprojKernel.main_arg7))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
      ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7))
      ∧ r.2.sem = fun _ => 0)

def quiescent_OutprojKernel [hOutprojKernel : Cert.OutprojKernel.Facts] : Prop :=
  ∀ (m : (ℓ : Loc Cert.OutprojKernel.nD Cert.OutprojKernel.τ Cert.OutprojKernel.sig) → Buf (Elt Bits) ℓ) (g : Dev Cert.OutprojKernel.nD → PrngReg), Pre_OutprojKernel m →
    θ_run (Cert.OutprojKernel.defs (F := Bits)) (onTc (τ := Cert.OutprojKernel.τ) (Cert.OutprojKernel.main (F := Bits))) ⟨m, fun _ => 0, g⟩ (fun r => (∀ c : Dev Cert.OutprojKernel.nD,
      r.2.mem ((c.tc : Thread Cert.OutprojKernel.nD Cert.OutprojKernel.τ).loc Cert.OutprojKernel.main_arg0) = m ((c.tc : Thread Cert.OutprojKernel.nD Cert.OutprojKernel.τ).loc Cert.OutprojKernel.main_arg0)
      ∧ r.2.mem ((c.tc : Thread Cert.OutprojKernel.nD Cert.OutprojKernel.τ).loc Cert.OutprojKernel.main_arg1) = m ((c.tc : Thread Cert.OutprojKernel.nD Cert.OutprojKernel.τ).loc Cert.OutprojKernel.main_arg1)
      ∧ r.2.mem ((c.tc : Thread Cert.OutprojKernel.nD Cert.OutprojKernel.τ).loc Cert.OutprojKernel.main_arg2) = m ((c.tc : Thread Cert.OutprojKernel.nD Cert.OutprojKernel.τ).loc Cert.OutprojKernel.main_arg2)
      ∧ r.2.mem ((c.tc : Thread Cert.OutprojKernel.nD Cert.OutprojKernel.τ).loc Cert.OutprojKernel.main_arg3) = m ((c.tc : Thread Cert.OutprojKernel.nD Cert.OutprojKernel.τ).loc Cert.OutprojKernel.main_arg3)
      ∧ r.2.mem ((c.tc : Thread Cert.OutprojKernel.nD Cert.OutprojKernel.τ).loc Cert.OutprojKernel.main_arg4) = m ((c.tc : Thread Cert.OutprojKernel.nD Cert.OutprojKernel.τ).loc Cert.OutprojKernel.main_arg4)
      ∧ r.2.mem ((c.tc : Thread Cert.OutprojKernel.nD Cert.OutprojKernel.τ).loc Cert.OutprojKernel.main_arg5) = m ((c.tc : Thread Cert.OutprojKernel.nD Cert.OutprojKernel.τ).loc Cert.OutprojKernel.main_arg5))
      ∧ r.2.sem = fun _ => 0)

def quiescent_OutprojKernelIdeal [hOutprojKernelIdeal : Cert.OutprojKernelIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg), Pre_OutprojKernelIdeal m →
    θ_run (Cert.OutprojKernelIdeal.defs (F := Ideal)) (onTc (τ := Cert.OutprojKernelIdeal.τ) (Cert.OutprojKernelIdeal.main (F := Ideal))) ⟨m, fun _ => 0, g⟩ (fun r => (∀ c : Dev Cert.OutprojKernelIdeal.nD,
      r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
      ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
      ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
      ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
      ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
      ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5))
      ∧ r.2.sem = fun _ => 0)

def preserves_PoolKernel_PoolKernelIdeal : Prop :=
  True

def algebraic_PoolKernelIdeal_PoolReferenceIdeal_pre_pool_finite [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_pool_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v70_0)) (v1 : (c : Dev Cert.PoolKernelIdeal.nD) → Buf (Elt Ideal) ((c.tc : Thread Cert.PoolKernelIdeal.nD Cert.PoolKernelIdeal.τ).loc Cert.PoolKernelIdeal.main_v70_1)) (v2 : (c : Dev Cert.PoolKernelIdeal.nD) → Buf (Elt Ideal) ((c.tc : Thread Cert.PoolKernelIdeal.nD Cert.PoolKernelIdeal.τ).loc Cert.PoolKernelIdeal.main_v70_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v70_0) = v0 c
          ∧ r.2.mem ((c.tc : Thread Cert.PoolKernelIdeal.nD Cert.PoolKernelIdeal.τ).loc Cert.PoolKernelIdeal.main_v70_1) = v1 c
          ∧ r.2.mem ((c.tc : Thread Cert.PoolKernelIdeal.nD Cert.PoolKernelIdeal.τ).loc Cert.PoolKernelIdeal.main_v70_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v143) = v0 c
          ∧ r.2.mem ((c.tc : Thread Cert.PoolReferenceIdeal.nD Cert.PoolReferenceIdeal.τ).loc Cert.PoolReferenceIdeal.main_v86) = v1 c
          ∧ r.2.mem ((c.tc : Thread Cert.PoolReferenceIdeal.nD Cert.PoolReferenceIdeal.τ).loc Cert.PoolReferenceIdeal.main_v78) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_WgradKernel_WgradKernelIdeal : Prop :=
  True

def algebraic_WgradKernelIdeal_DownReferenceIdeal [hWgradKernelIdeal : Cert.WgradKernelIdeal.Facts] [hDownReferenceIdeal : Cert.DownReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_WgradKernelIdeal m →
    (∀ c : Dev Cert.WgradKernelIdeal.nD,
      m' ((c.tc : Thread Cert.DownReferenceIdeal.nD Cert.DownReferenceIdeal.τ).loc Cert.DownReferenceIdeal.main_arg0) = m ((c.tc : Thread Cert.WgradKernelIdeal.nD Cert.WgradKernelIdeal.τ).loc Cert.WgradKernelIdeal.main_arg0)
      ∧ m' ((c.tc : Thread Cert.DownReferenceIdeal.nD Cert.DownReferenceIdeal.τ).loc Cert.DownReferenceIdeal.main_arg1) = m ((c.tc : Thread Cert.WgradKernelIdeal.nD Cert.WgradKernelIdeal.τ).loc Cert.WgradKernelIdeal.main_arg1)) →
    ∃ (v0 : (c : Dev Cert.WgradKernelIdeal.nD) → Buf (Elt Ideal) ((c.tc : Thread Cert.WgradKernelIdeal.nD Cert.WgradKernelIdeal.τ).loc Cert.WgradKernelIdeal.main_v4)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v4) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def algebraic_WgradKernelIdeal_GateReferenceIdeal [hWgradKernelIdeal : Cert.WgradKernelIdeal.Facts] [hGateReferenceIdeal : Cert.GateReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_WgradKernelIdeal m →
    (∀ c : Dev Cert.WgradKernelIdeal.nD,
      m' ((c.tc : Thread Cert.GateReferenceIdeal.nD Cert.GateReferenceIdeal.τ).loc Cert.GateReferenceIdeal.main_arg0) = m ((c.tc : Thread Cert.WgradKernelIdeal.nD Cert.WgradKernelIdeal.τ).loc Cert.WgradKernelIdeal.main_arg0)
      ∧ m' ((c.tc : Thread Cert.GateReferenceIdeal.nD Cert.GateReferenceIdeal.τ).loc Cert.GateReferenceIdeal.main_arg1) = m ((c.tc : Thread Cert.WgradKernelIdeal.nD Cert.WgradKernelIdeal.τ).loc Cert.WgradKernelIdeal.main_arg1)) →
    ∃ (v0 : (c : Dev Cert.WgradKernelIdeal.nD) → Buf (Elt Ideal) ((c.tc : Thread Cert.WgradKernelIdeal.nD Cert.WgradKernelIdeal.τ).loc Cert.WgradKernelIdeal.main_v4)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v4) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v5) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v42_0)) (v1 : (c : Dev Cert.FfnKernelIdeal.nD) → Buf (Elt Ideal) ((c.tc : Thread Cert.FfnKernelIdeal.nD Cert.FfnKernelIdeal.τ).loc Cert.FfnKernelIdeal.main_v42_1)) (v2 : (c : Dev Cert.FfnKernelIdeal.nD) → Buf (Elt Ideal) ((c.tc : Thread Cert.FfnKernelIdeal.nD Cert.FfnKernelIdeal.τ).loc Cert.FfnKernelIdeal.main_v42_2)) (v3 : (c : Dev Cert.FfnKernelIdeal.nD) → Buf (Elt Ideal) ((c.tc : Thread Cert.FfnKernelIdeal.nD Cert.FfnKernelIdeal.τ).loc Cert.FfnKernelIdeal.main_v42_3)) (v4 : (c : Dev Cert.FfnKernelIdeal.nD) → Buf (Elt Ideal) ((c.tc : Thread Cert.FfnKernelIdeal.nD Cert.FfnKernelIdeal.τ).loc Cert.FfnKernelIdeal.main_v42_4)) (v5 : (c : Dev Cert.FfnKernelIdeal.nD) → Buf (Elt Ideal) ((c.tc : Thread Cert.FfnKernelIdeal.nD Cert.FfnKernelIdeal.τ).loc Cert.FfnKernelIdeal.main_v42_5)) (v6 : (c : Dev Cert.FfnKernelIdeal.nD) → Buf (Elt Ideal) ((c.tc : Thread Cert.FfnKernelIdeal.nD Cert.FfnKernelIdeal.τ).loc Cert.FfnKernelIdeal.main_v42_6)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v42_0) = v0 c
          ∧ r.2.mem ((c.tc : Thread Cert.FfnKernelIdeal.nD Cert.FfnKernelIdeal.τ).loc Cert.FfnKernelIdeal.main_v42_1) = v1 c
          ∧ r.2.mem ((c.tc : Thread Cert.FfnKernelIdeal.nD Cert.FfnKernelIdeal.τ).loc Cert.FfnKernelIdeal.main_v42_2) = v2 c
          ∧ r.2.mem ((c.tc : Thread Cert.FfnKernelIdeal.nD Cert.FfnKernelIdeal.τ).loc Cert.FfnKernelIdeal.main_v42_3) = v3 c
          ∧ r.2.mem ((c.tc : Thread Cert.FfnKernelIdeal.nD Cert.FfnKernelIdeal.τ).loc Cert.FfnKernelIdeal.main_v42_4) = v4 c
          ∧ r.2.mem ((c.tc : Thread Cert.FfnKernelIdeal.nD Cert.FfnKernelIdeal.τ).loc Cert.FfnKernelIdeal.main_v42_5) = v5 c
          ∧ r.2.mem ((c.tc : Thread Cert.FfnKernelIdeal.nD Cert.FfnKernelIdeal.τ).loc Cert.FfnKernelIdeal.main_v42_6) = v6 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v80) = v0 c
          ∧ r.2.mem ((c.tc : Thread Cert.FfnReferenceIdeal.nD Cert.FfnReferenceIdeal.τ).loc Cert.FfnReferenceIdeal.main_v81) = v1 c
          ∧ r.2.mem ((c.tc : Thread Cert.FfnReferenceIdeal.nD Cert.FfnReferenceIdeal.τ).loc Cert.FfnReferenceIdeal.main_v84) = v2 c
          ∧ r.2.mem ((c.tc : Thread Cert.FfnReferenceIdeal.nD Cert.FfnReferenceIdeal.τ).loc Cert.FfnReferenceIdeal.main_v87) = v3 c
          ∧ r.2.mem ((c.tc : Thread Cert.FfnReferenceIdeal.nD Cert.FfnReferenceIdeal.τ).loc Cert.FfnReferenceIdeal.main_v90) = v4 c
          ∧ r.2.mem ((c.tc : Thread Cert.FfnReferenceIdeal.nD Cert.FfnReferenceIdeal.τ).loc Cert.FfnReferenceIdeal.main_v42) = v5 c
          ∧ r.2.mem ((c.tc : Thread Cert.FfnReferenceIdeal.nD Cert.FfnReferenceIdeal.τ).loc Cert.FfnReferenceIdeal.main_v39) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)) →
    ∃ (v0 : (c : Dev Cert.FwdKernelIdeal.nD) → Buf (Elt Ideal) ((c.tc : Thread Cert.FwdKernelIdeal.nD Cert.FwdKernelIdeal.τ).loc Cert.FwdKernelIdeal.main_v8_0)) (v1 : (c : Dev Cert.FwdKernelIdeal.nD) → Buf (Elt Ideal) ((c.tc : Thread Cert.FwdKernelIdeal.nD Cert.FwdKernelIdeal.τ).loc Cert.FwdKernelIdeal.main_v8_1)) (v2 : (c : Dev Cert.FwdKernelIdeal.nD) → Buf (Elt Ideal) ((c.tc : Thread Cert.FwdKernelIdeal.nD Cert.FwdKernelIdeal.τ).loc Cert.FwdKernelIdeal.main_v8_2)) (v3 : (c : Dev Cert.FwdKernelIdeal.nD) → Buf (Elt Ideal) ((c.tc : Thread Cert.FwdKernelIdeal.nD Cert.FwdKernelIdeal.τ).loc Cert.FwdKernelIdeal.main_v8_3)) (v4 : (c : Dev Cert.FwdKernelIdeal.nD) → Buf (Elt Ideal) ((c.tc : Thread Cert.FwdKernelIdeal.nD Cert.FwdKernelIdeal.τ).loc Cert.FwdKernelIdeal.main_v8_4)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v8_0) = v0 c
          ∧ r.2.mem ((c.tc : Thread Cert.FwdKernelIdeal.nD Cert.FwdKernelIdeal.τ).loc Cert.FwdKernelIdeal.main_v8_1) = v1 c
          ∧ r.2.mem ((c.tc : Thread Cert.FwdKernelIdeal.nD Cert.FwdKernelIdeal.τ).loc Cert.FwdKernelIdeal.main_v8_2) = v2 c
          ∧ r.2.mem ((c.tc : Thread Cert.FwdKernelIdeal.nD Cert.FwdKernelIdeal.τ).loc Cert.FwdKernelIdeal.main_v8_3) = v3 c
          ∧ r.2.mem ((c.tc : Thread Cert.FwdKernelIdeal.nD Cert.FwdKernelIdeal.τ).loc Cert.FwdKernelIdeal.main_v8_4) = v4 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v31) = v0 c
          ∧ r.2.mem ((c.tc : Thread Cert.FwdReferenceIdeal.nD Cert.FwdReferenceIdeal.τ).loc Cert.FwdReferenceIdeal.main_v27) = v1 c
          ∧ r.2.mem ((c.tc : Thread Cert.FwdReferenceIdeal.nD Cert.FwdReferenceIdeal.τ).loc Cert.FwdReferenceIdeal.main_v32) = v2 c
          ∧ r.2.mem ((c.tc : Thread Cert.FwdReferenceIdeal.nD Cert.FwdReferenceIdeal.τ).loc Cert.FwdReferenceIdeal.main_v35) = v3 c
          ∧ r.2.mem ((c.tc : Thread Cert.FwdReferenceIdeal.nD Cert.FwdReferenceIdeal.τ).loc Cert.FwdReferenceIdeal.main_v38) = v4 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5))

def preserves_OutGradKernel_OutGradKernelIdeal : Prop :=
  True

def algebraic_OutGradKernelIdeal_OutGradReferenceIdeal [hOutGradKernelIdeal : Cert.OutGradKernelIdeal.Facts] [hOutGradReferenceIdeal : Cert.OutGradReferenceIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradKernelIdeal m →
    (∀ c : Dev Cert.OutGradKernelIdeal.nD,
      m' ((c.tc : Thread Cert.OutGradReferenceIdeal.nD Cert.OutGradReferenceIdeal.τ).loc Cert.OutGradReferenceIdeal.main_arg0) = m ((c.tc : Thread Cert.OutGradKernelIdeal.nD Cert.OutGradKernelIdeal.τ).loc Cert.OutGradKernelIdeal.main_arg0)
      ∧ m' ((c.tc : Thread Cert.OutGradReferenceIdeal.nD Cert.OutGradReferenceIdeal.τ).loc Cert.OutGradReferenceIdeal.main_arg1) = m ((c.tc : Thread Cert.OutGradKernelIdeal.nD Cert.OutGradKernelIdeal.τ).loc Cert.OutGradKernelIdeal.main_arg1)) →
    ∃ (v0 : (c : Dev Cert.OutGradKernelIdeal.nD) → Buf (Elt Ideal) ((c.tc : Thread Cert.OutGradKernelIdeal.nD Cert.OutGradKernelIdeal.τ).loc Cert.OutGradKernelIdeal.main_v2)),
      θ_run (Cert.OutGradKernelIdeal.defs (F := Ideal)) (onTc (τ := Cert.OutGradKernelIdeal.τ) (Cert.OutGradKernelIdeal.main (F := Ideal))) ⟨m, fun _ => 0, g⟩ (fun r => ∀ c : Dev Cert.OutGradKernelIdeal.nD,
          r.2.mem ((c.tc : Thread Cert.OutGradKernelIdeal.nD Cert.OutGradKernelIdeal.τ).loc Cert.OutGradKernelIdeal.main_v2) = v0 c
          ∧ r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
          ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v4) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_InGradKernel_InGradKernelIdeal : Prop :=
  True

def algebraic_InGradKernelIdeal_InGradReferenceIdeal [hInGradKernelIdeal : Cert.InGradKernelIdeal.Facts] [hInGradReferenceIdeal : Cert.InGradReferenceIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradKernelIdeal m →
    (∀ c : Dev Cert.InGradKernelIdeal.nD,
      m' ((c.tc : Thread Cert.InGradReferenceIdeal.nD Cert.InGradReferenceIdeal.τ).loc Cert.InGradReferenceIdeal.main_arg0) = m ((c.tc : Thread Cert.InGradKernelIdeal.nD Cert.InGradKernelIdeal.τ).loc Cert.InGradKernelIdeal.main_arg0)
      ∧ m' ((c.tc : Thread Cert.InGradReferenceIdeal.nD Cert.InGradReferenceIdeal.τ).loc Cert.InGradReferenceIdeal.main_arg1) = m ((c.tc : Thread Cert.InGradKernelIdeal.nD Cert.InGradKernelIdeal.τ).loc Cert.InGradKernelIdeal.main_arg1)) →
    ∃ (v0 : (c : Dev Cert.InGradKernelIdeal.nD) → Buf (Elt Ideal) ((c.tc : Thread Cert.InGradKernelIdeal.nD Cert.InGradKernelIdeal.τ).loc Cert.InGradKernelIdeal.main_v2)),
      θ_run (Cert.InGradKernelIdeal.defs (F := Ideal)) (onTc (τ := Cert.InGradKernelIdeal.τ) (Cert.InGradKernelIdeal.main (F := Ideal))) ⟨m, fun _ => 0, g⟩ (fun r => ∀ c : Dev Cert.InGradKernelIdeal.nD,
          r.2.mem ((c.tc : Thread Cert.InGradKernelIdeal.nD Cert.InGradKernelIdeal.τ).loc Cert.InGradKernelIdeal.main_v2) = v0 c
          ∧ r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
          ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v5) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)
      ∧ m' ((c.tc : Thread Cert.InprojReferenceIdeal.nD Cert.InprojReferenceIdeal.τ).loc Cert.InprojReferenceIdeal.main_arg6) = m ((c.tc : Thread Cert.InprojKernelIdeal.nD Cert.InprojKernelIdeal.τ).loc Cert.InprojKernelIdeal.main_arg6)
      ∧ m' ((c.tc : Thread Cert.InprojReferenceIdeal.nD Cert.InprojReferenceIdeal.τ).loc Cert.InprojReferenceIdeal.main_arg7) = m ((c.tc : Thread Cert.InprojKernelIdeal.nD Cert.InprojKernelIdeal.τ).loc Cert.InprojKernelIdeal.main_arg7)) →
    ∃ (v0 : (c : Dev Cert.InprojKernelIdeal.nD) → Buf (Elt Ideal) ((c.tc : Thread Cert.InprojKernelIdeal.nD Cert.InprojKernelIdeal.τ).loc Cert.InprojKernelIdeal.main_v14_0)) (v1 : (c : Dev Cert.InprojKernelIdeal.nD) → Buf (Elt Ideal) ((c.tc : Thread Cert.InprojKernelIdeal.nD Cert.InprojKernelIdeal.τ).loc Cert.InprojKernelIdeal.main_v14_1)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v14_0) = v0 c
          ∧ r.2.mem ((c.tc : Thread Cert.InprojKernelIdeal.nD Cert.InprojKernelIdeal.τ).loc Cert.InprojKernelIdeal.main_v14_1) = v1 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
          ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
          ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v4) = v0 c
          ∧ r.2.mem ((c.tc : Thread Cert.InprojReferenceIdeal.nD Cert.InprojReferenceIdeal.τ).loc Cert.InprojReferenceIdeal.main_v6) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7))

def preserves_OutprojKernel_OutprojKernelIdeal : Prop :=
  True

def algebraic_OutprojKernelIdeal_OutprojReferenceIdeal [hOutprojKernelIdeal : Cert.OutprojKernelIdeal.Facts] [hOutprojReferenceIdeal : Cert.OutprojReferenceIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojKernelIdeal m →
    (∀ c : Dev Cert.OutprojKernelIdeal.nD,
      m' ((c.tc : Thread Cert.OutprojReferenceIdeal.nD Cert.OutprojReferenceIdeal.τ).loc Cert.OutprojReferenceIdeal.main_arg0) = m ((c.tc : Thread Cert.OutprojKernelIdeal.nD Cert.OutprojKernelIdeal.τ).loc Cert.OutprojKernelIdeal.main_arg0)
      ∧ m' ((c.tc : Thread Cert.OutprojReferenceIdeal.nD Cert.OutprojReferenceIdeal.τ).loc Cert.OutprojReferenceIdeal.main_arg1) = m ((c.tc : Thread Cert.OutprojKernelIdeal.nD Cert.OutprojKernelIdeal.τ).loc Cert.OutprojKernelIdeal.main_arg1)
      ∧ m' ((c.tc : Thread Cert.OutprojReferenceIdeal.nD Cert.OutprojReferenceIdeal.τ).loc Cert.OutprojReferenceIdeal.main_arg2) = m ((c.tc : Thread Cert.OutprojKernelIdeal.nD Cert.OutprojKernelIdeal.τ).loc Cert.OutprojKernelIdeal.main_arg2)
      ∧ m' ((c.tc : Thread Cert.OutprojReferenceIdeal.nD Cert.OutprojReferenceIdeal.τ).loc Cert.OutprojReferenceIdeal.main_arg3) = m ((c.tc : Thread Cert.OutprojKernelIdeal.nD Cert.OutprojKernelIdeal.τ).loc Cert.OutprojKernelIdeal.main_arg3)
      ∧ m' ((c.tc : Thread Cert.OutprojReferenceIdeal.nD Cert.OutprojReferenceIdeal.τ).loc Cert.OutprojReferenceIdeal.main_arg4) = m ((c.tc : Thread Cert.OutprojKernelIdeal.nD Cert.OutprojKernelIdeal.τ).loc Cert.OutprojKernelIdeal.main_arg4)
      ∧ m' ((c.tc : Thread Cert.OutprojReferenceIdeal.nD Cert.OutprojReferenceIdeal.τ).loc Cert.OutprojReferenceIdeal.main_arg5) = m ((c.tc : Thread Cert.OutprojKernelIdeal.nD Cert.OutprojKernelIdeal.τ).loc Cert.OutprojKernelIdeal.main_arg5)) →
    ∃ (v0 : (c : Dev Cert.OutprojKernelIdeal.nD) → Buf (Elt Ideal) ((c.tc : Thread Cert.OutprojKernelIdeal.nD Cert.OutprojKernelIdeal.τ).loc Cert.OutprojKernelIdeal.main_v3_0)) (v1 : (c : Dev Cert.OutprojKernelIdeal.nD) → Buf (Elt Ideal) ((c.tc : Thread Cert.OutprojKernelIdeal.nD Cert.OutprojKernelIdeal.τ).loc Cert.OutprojKernelIdeal.main_v3_1)),
      θ_run (Cert.OutprojKernelIdeal.defs (F := Ideal)) (onTc (τ := Cert.OutprojKernelIdeal.τ) (Cert.OutprojKernelIdeal.main (F := Ideal))) ⟨m, fun _ => 0, g⟩ (fun r => ∀ c : Dev Cert.OutprojKernelIdeal.nD,
          r.2.mem ((c.tc : Thread Cert.OutprojKernelIdeal.nD Cert.OutprojKernelIdeal.τ).loc Cert.OutprojKernelIdeal.main_v3_0) = v0 c
          ∧ r.2.mem ((c.tc : Thread Cert.OutprojKernelIdeal.nD Cert.OutprojKernelIdeal.τ).loc Cert.OutprojKernelIdeal.main_v3_1) = v1 c
          ∧ r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
          ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
          ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
          ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
          ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
          ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v26) = v0 c
          ∧ r.2.mem ((c.tc : Thread Cert.OutprojReferenceIdeal.nD Cert.OutprojReferenceIdeal.τ).loc Cert.OutprojReferenceIdeal.main_v22) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5))

def Claim : Prop :=
  ∃ (hPoolKernel : Cert.PoolKernel.Facts) (hPoolKernelIdeal : Cert.PoolKernelIdeal.Facts) (hPoolReferenceIdeal : Cert.PoolReferenceIdeal.Facts) (hWgradKernel : Cert.WgradKernel.Facts) (hWgradKernelIdeal : Cert.WgradKernelIdeal.Facts) (hDownReferenceIdeal : Cert.DownReferenceIdeal.Facts) (hGateReferenceIdeal : Cert.GateReferenceIdeal.Facts) (hFfnKernel : Cert.FfnKernel.Facts) (hFfnKernelIdeal : Cert.FfnKernelIdeal.Facts) (hFfnReferenceIdeal : Cert.FfnReferenceIdeal.Facts) (hFwdKernel : Cert.FwdKernel.Facts) (hFwdKernelIdeal : Cert.FwdKernelIdeal.Facts) (hFwdReferenceIdeal : Cert.FwdReferenceIdeal.Facts) (hOutGradKernel : Cert.OutGradKernel.Facts) (hOutGradKernelIdeal : Cert.OutGradKernelIdeal.Facts) (hOutGradReferenceIdeal : Cert.OutGradReferenceIdeal.Facts) (hInGradKernel : Cert.InGradKernel.Facts) (hInGradKernelIdeal : Cert.InGradKernelIdeal.Facts) (hInGradReferenceIdeal : Cert.InGradReferenceIdeal.Facts) (hInprojKernel : Cert.InprojKernel.Facts) (hInprojKernelIdeal : Cert.InprojKernelIdeal.Facts) (hInprojReferenceIdeal : Cert.InprojReferenceIdeal.Facts) (hOutprojKernel : Cert.OutprojKernel.Facts) (hOutprojKernelIdeal : Cert.OutprojKernelIdeal.Facts) (hOutprojReferenceIdeal : Cert.OutprojReferenceIdeal.Facts) (hPre_pool_finite : Cert.Pre_pool_finite.Facts) (hPre_ffn_finite : Cert.Pre_ffn_finite.Facts),
    quiescent_PoolKernel (hPoolKernel := hPoolKernel)
    ∧ quiescent_PoolKernelIdeal (hPoolKernelIdeal := hPoolKernelIdeal)
    ∧ quiescent_PoolKernelIdeal_pre_pool_finite (hPoolKernelIdeal := hPoolKernelIdeal) (hPre_pool_finite := hPre_pool_finite)
    ∧ quiescent_PoolReferenceIdeal (hPoolReferenceIdeal := hPoolReferenceIdeal)
    ∧ quiescent_PoolReferenceIdeal_pre_pool_finite (hPoolReferenceIdeal := hPoolReferenceIdeal) (hPre_pool_finite := hPre_pool_finite)
    ∧ quiescent_WgradKernel (hWgradKernel := hWgradKernel)
    ∧ quiescent_WgradKernelIdeal (hWgradKernelIdeal := hWgradKernelIdeal)
    ∧ quiescent_DownReferenceIdeal (hDownReferenceIdeal := hDownReferenceIdeal)
    ∧ quiescent_GateReferenceIdeal (hGateReferenceIdeal := hGateReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_OutGradKernel (hOutGradKernel := hOutGradKernel)
    ∧ quiescent_OutGradKernelIdeal (hOutGradKernelIdeal := hOutGradKernelIdeal)
    ∧ quiescent_OutGradReferenceIdeal (hOutGradReferenceIdeal := hOutGradReferenceIdeal)
    ∧ quiescent_InGradKernel (hInGradKernel := hInGradKernel)
    ∧ quiescent_InGradKernelIdeal (hInGradKernelIdeal := hInGradKernelIdeal)
    ∧ quiescent_InGradReferenceIdeal (hInGradReferenceIdeal := hInGradReferenceIdeal)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_OutprojKernel (hOutprojKernel := hOutprojKernel)
    ∧ quiescent_OutprojKernelIdeal (hOutprojKernelIdeal := hOutprojKernelIdeal)
    ∧ quiescent_OutprojReferenceIdeal (hOutprojReferenceIdeal := hOutprojReferenceIdeal)
    ∧ preserves_PoolKernel_PoolKernelIdeal
    ∧ algebraic_PoolKernelIdeal_PoolReferenceIdeal_pre_pool_finite (hPoolKernelIdeal := hPoolKernelIdeal) (hPoolReferenceIdeal := hPoolReferenceIdeal) (hPre_pool_finite := hPre_pool_finite)
    ∧ preserves_WgradKernel_WgradKernelIdeal
    ∧ algebraic_WgradKernelIdeal_DownReferenceIdeal (hWgradKernelIdeal := hWgradKernelIdeal) (hDownReferenceIdeal := hDownReferenceIdeal)
    ∧ algebraic_WgradKernelIdeal_GateReferenceIdeal (hWgradKernelIdeal := hWgradKernelIdeal) (hGateReferenceIdeal := hGateReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_FwdKernel_FwdKernelIdeal
    ∧ algebraic_FwdKernelIdeal_FwdReferenceIdeal (hFwdKernelIdeal := hFwdKernelIdeal) (hFwdReferenceIdeal := hFwdReferenceIdeal)
    ∧ preserves_OutGradKernel_OutGradKernelIdeal
    ∧ algebraic_OutGradKernelIdeal_OutGradReferenceIdeal (hOutGradKernelIdeal := hOutGradKernelIdeal) (hOutGradReferenceIdeal := hOutGradReferenceIdeal)
    ∧ preserves_InGradKernel_InGradKernelIdeal
    ∧ algebraic_InGradKernelIdeal_InGradReferenceIdeal (hInGradKernelIdeal := hInGradKernelIdeal) (hInGradReferenceIdeal := hInGradReferenceIdeal)
    ∧ preserves_InprojKernel_InprojKernelIdeal
    ∧ algebraic_InprojKernelIdeal_InprojReferenceIdeal (hInprojKernelIdeal := hInprojKernelIdeal) (hInprojReferenceIdeal := hInprojReferenceIdeal)
    ∧ preserves_OutprojKernel_OutprojKernelIdeal
    ∧ algebraic_OutprojKernelIdeal_OutprojReferenceIdeal (hOutprojKernelIdeal := hOutprojKernelIdeal) (hOutprojReferenceIdeal := hOutprojReferenceIdeal)
-- ==== Pre_ffn_finite.lean ====
abbrev S8320x1024 : Shape := ⟨2, ![8320, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S8320x1024 : S_.BroadcastsInDim S8320x1024 (![] : Fin 0 → Fin S8320x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S8320x1024 .f32) (main_arg1 : FVec F S8320x1024 .f32) (main_arg2 : FVec F S1024x2816 .f32) (main_arg3 : FVec F S1024x2816 .f32) (main_arg4 : FVec F S2816x1024 .f32) (main_arg5 : FVec F S1x1024 .f32) (main_arg6 : FVec F S1x1024 .f32) : IVec S8320x1024 1 × IVec S8320x1024 1 × IVec S1024x2816 1 × IVec S1024x2816 1 × IVec S2816x1024 1 × IVec S1x1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S8320x1024 .f32 := Host.absf main_arg1
  let main_cst_0 : FVec F S_ .f32 := constant S_ .f32 0x7F800000#32
  let main_v4 : FVec F S8320x1024 .f32 := broadcastInDim S8320x1024 ![] bcast_S_S8320x1024 main_cst_0
  let main_v5 : IVec S8320x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_pool_finite.lean ====
abbrev S8320x512 : Shape := ⟨2, ![8320, 512]⟩
abbrev S4x128x128 : Shape := ⟨3, ![4, 128, 128]⟩
abbrev S1x512 : Shape := ⟨2, ![1, 512]⟩
abbrev S_ : Shape := ⟨0, ![]⟩

class Facts : Prop where
  bcast_S_S8320x512 : S_.BroadcastsInDim S8320x512 (![] : Fin 0 → Fin S8320x512.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S8320x512 .f32) (main_arg1 : FVec F S8320x512 .f32) (main_arg2 : FVec F S4x128x128 .f32) (main_arg3 : FVec F S1x512 .f32) : IVec S8320x512 1 × IVec S4x128x128 1 × IVec S1x512 1 :=
  let main_v0 : FVec F S8320x512 .f32 := Host.absf main_arg0
  let main_cst : FVec F S_ .f32 := constant S_ .f32 0x7F800000#32
  let main_v1 : FVec F S8320x512 .f32 := broadcastInDim S8320x512 ![] bcast_S_S8320x512 main_cst
  let main_v2 : IVec S8320x512 1 := cmpf .olt main_v0 main_v1
  let main_v3 : FVec F S4x128x128 .f32 := Host.absf main_arg2
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S1x512 .f32 := Host.absf main_arg3
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  (main_v2, main_v5, main_v8)
-- ==== PoolKernel.lean ====
abbrev S8320x512 : Shape := ⟨2, ![8320, 512]⟩
abbrev S4x128x128 : Shape := ⟨3, ![4, 128, 128]⟩
abbrev S1x512 : Shape := ⟨2, ![1, 512]⟩
abbrev S_ : Shape := ⟨0, ![]⟩
abbrev S8320 : Shape := ⟨1, ![8320]⟩
abbrev S8320x128 : Shape := ⟨2, ![8320, 128]⟩
abbrev S2x128 : Shape := ⟨2, ![2, 128]⟩
abbrev S8318x128 : Shape := ⟨2, ![8318, 128]⟩
abbrev S8320x1 : Shape := ⟨2, ![8320, 1]⟩
abbrev S4x128 : Shape := ⟨2, ![4, 128]⟩
abbrev S8316x128 : Shape := ⟨2, ![8316, 128]⟩
abbrev S8x128 : Shape := ⟨2, ![8, 128]⟩
abbrev S8312x128 : Shape := ⟨2, ![8312, 128]⟩
abbrev S16x128 : Shape := ⟨2, ![16, 128]⟩
abbrev S8304x128 : Shape := ⟨2, ![8304, 128]⟩
abbrev S8320x1x128 : Shape := ⟨3, ![8320, 1, 128]⟩
abbrev S8320x4x128 : Shape := ⟨3, ![8320, 4, 128]⟩
abbrev S640x512 : Shape := ⟨2, ![640, 512]⟩
abbrev S656x512 : Shape := ⟨2, ![656, 512]⟩
abbrev S16x512 : Shape := ⟨2, ![16, 512]⟩
abbrev S640x128 : Shape := ⟨2, ![640, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S640x1 : Shape := ⟨2, ![640, 1]⟩

abbrev nBuf : Space → Nat
  | .hbm => 91
  | .vmem => 11
  | .smem => 0
  | _ => 0

abbrev bufTy : (tb : Table) → Fin (tcTables nBuf tb) → BufTy
  | .hbm, ⟨0, _⟩ => ⟨S8320x512, .f32⟩
  | .hbm, ⟨1, _⟩ => ⟨S8320x512, .f32⟩
  | .hbm, ⟨2, _⟩ => ⟨S4x128x128, .f32⟩
  | .hbm, ⟨3, _⟩ => ⟨S1x512, .f32⟩
  | .hbm, ⟨4, _⟩ => ⟨S_, .f32⟩
  | .hbm, ⟨5, _⟩ => ⟨S_, .f32⟩
  | .hbm, ⟨6, _⟩ => ⟨S8320x512, .f32⟩
  | .hbm, ⟨7, _⟩ => ⟨S8320, .i32⟩
  | .hbm, ⟨8, _⟩ => ⟨S8320x128, .f32⟩
  | .hbm, ⟨9, _⟩ => ⟨S_, .f32⟩
  | .hbm, ⟨10, _⟩ => ⟨S2x128, .f32⟩
  | .hbm, ⟨11, _⟩ => ⟨S8318x128, .f32⟩
  | .hbm, ⟨12, _⟩ => ⟨S8320x128, .f32⟩
  | .hbm, ⟨13, _⟩ => ⟨S_, .i32⟩
  | .hbm, ⟨14, _⟩ => ⟨S8320, .i32⟩
  | .hbm, ⟨15, _⟩ => ⟨S8320, .i32⟩
  | .hbm, ⟨16, _⟩ => ⟨S_, .i32⟩
  | .hbm, ⟨17, _⟩ => ⟨S8320, .i32⟩
  | .hbm, ⟨18, _⟩ => ⟨S8320, .i32⟩
  | .hbm, ⟨19, _⟩ => ⟨S8320, .f32⟩
  | .hbm, ⟨20, _⟩ => ⟨S8320x128, .f32⟩
  | .hbm, ⟨21, _⟩ => ⟨S8320x1, .f32⟩
  | .hbm, ⟨22, _⟩ => ⟨S8320x128, .f32⟩
  | .hbm, ⟨23, _⟩ => ⟨S8320x128, .f32⟩
  | .hbm, ⟨24, _⟩ => ⟨S8320x128, .f32⟩
  | .hbm, ⟨25, _⟩ => ⟨S8320x128, .f32⟩
  | .hbm, ⟨26, _⟩ => ⟨S8320x128, .f32⟩
  | .hbm, ⟨27, _⟩ => ⟨S_, .f32⟩
  | .hbm, ⟨28, _⟩ => ⟨S4x128, .f32⟩
  | .hbm, ⟨29, _⟩ => ⟨S8316x128, .f32⟩
  | .hbm, ⟨30, _⟩ => ⟨S8320x128, .f32⟩
  | .hbm, ⟨31, _⟩ => ⟨S_, .i32⟩
  | .hbm, ⟨32, _⟩ => ⟨S8320, .i32⟩
  | .hbm, ⟨33, _⟩ => ⟨S8320, .i32⟩
  | .hbm, ⟨34, _⟩ => ⟨S_, .i32⟩
  | .hbm, ⟨35, _⟩ => ⟨S8320, .i32⟩
  | .hbm, ⟨36, _⟩ => ⟨S8320, .i32⟩
  | .hbm, ⟨37, _⟩ => ⟨S8320, .f32⟩
  | .hbm, ⟨38, _⟩ => ⟨S8320x128, .f32⟩
  | .hbm, ⟨39, _⟩ => ⟨S8320x1, .f32⟩
  | .hbm, ⟨40, _⟩ => ⟨S8320x128, .f32⟩
  | .hbm, ⟨41, _⟩ => ⟨S8320x128, .f32⟩
  | .hbm, ⟨42, _⟩ => ⟨S8320x128, .f32⟩
  | .hbm, ⟨43, _⟩ => ⟨S8320x128, .f32⟩
  | .hbm, ⟨44, _⟩ => ⟨S8320x128, .f32⟩
  | .hbm, ⟨45, _⟩ => ⟨S_, .f32⟩
  | .hbm, ⟨46, _⟩ => ⟨S8x128, .f32⟩
  | .hbm, ⟨47, _⟩ => ⟨S8312x128, .f32⟩
  | .hbm, ⟨48, _⟩ => ⟨S8320x128, .f32⟩
  | .hbm, ⟨49, _⟩ => ⟨S_, .i32⟩
  | .hbm, ⟨50, _⟩ => ⟨S8320, .i32⟩
  | .hbm, ⟨51, _⟩ => ⟨S8320, .i32⟩
  | .hbm, ⟨52, _⟩ => ⟨S_, .i32⟩
  | .hbm, ⟨53, _⟩ => ⟨S8320, .i32⟩
  | .hbm, ⟨54, _⟩ => ⟨S8320, .i32⟩
  | .hbm, ⟨55, _⟩ => ⟨S8320, .f32⟩
  | .hbm, ⟨56, _⟩ => ⟨S8320x128, .f32⟩
  | .hbm, ⟨57, _⟩ => ⟨S8320x1, .f32⟩
  | .hbm, ⟨58, _⟩ => ⟨S8320x128, .f32⟩
  | .hbm, ⟨59, _⟩ => ⟨S8320x128, .f32⟩
  | .hbm, ⟨60, _⟩ => ⟨S8320x128, .f32⟩
  | .hbm, ⟨61, _⟩ => ⟨S8320x128, .f32⟩
  | .hbm, ⟨62, _⟩ => ⟨S8320x128, .f32⟩
  | .hbm, ⟨63, _⟩ => ⟨S_, .f32⟩
  | .hbm, ⟨64, _⟩ => ⟨S16x128, .f32⟩
  | .hbm, ⟨65, _⟩ => ⟨S8304x128, .f32⟩
  | .hbm, ⟨66, _⟩ => ⟨S8320x128, .f32⟩
  | .hbm, ⟨67, _⟩ => ⟨S_, .i32⟩
  | .hbm, ⟨68, _⟩ => ⟨S8320, .i32⟩
  | .hbm, ⟨69, _⟩ => ⟨S8320, .i32⟩
  | .hbm, ⟨70, _⟩ => ⟨S_, .i32⟩
  | .hbm, ⟨71, _⟩ => ⟨S8320, .i32⟩
  | .hbm, ⟨72, _⟩ => ⟨S8320, .i32⟩
  | .hbm, ⟨73, _⟩ => ⟨S8320, .f32⟩
  | .hbm, ⟨74, _⟩ => ⟨S8320x128, .f32⟩
  | .hbm, ⟨75, _⟩ => ⟨S8320x1, .f32⟩
  | .hbm, ⟨76, _⟩ => ⟨S8320x128, .f32⟩
  | .hbm, ⟨77, _⟩ => ⟨S8320x128, .f32⟩
  | .hbm, ⟨78, _⟩ => ⟨S8320x128, .f32⟩
  | .hbm, ⟨79, _⟩ => ⟨S8320x128, .f32⟩
  | .hbm, ⟨80, _⟩ => ⟨S8320x1x128, .f32⟩
  | .hbm, ⟨81, _⟩ => ⟨S8320x1x128, .f32⟩
  | .hbm, ⟨82, _⟩ => ⟨S8320x1x128, .f32⟩
  | .hbm, ⟨83, _⟩ => ⟨S8320x1x128, .f32⟩
  | .hbm, ⟨84, _⟩ => ⟨S8320x4x128, .f32⟩
  | .hbm, ⟨85, _⟩ => ⟨S8320x512, .f32⟩
  | .hbm, ⟨86, _⟩ => ⟨S8320x512, .bf16⟩
  | .hbm, ⟨87, _⟩ => ⟨S4x128x128, .bf16⟩
  | .hbm, ⟨88, _⟩ => ⟨S8320x512, .bf16⟩
  | .hbm, ⟨89, _⟩ => ⟨S4x128x128, .f32⟩
  | .hbm, ⟨90, _⟩ => ⟨S1x512, .f32⟩
  | .local _ .vmem, ⟨0, _⟩ => ⟨S640x512, .f32⟩
  | .local _ .vmem, ⟨1, _⟩ => ⟨S640x512, .f32⟩
  | .local _ .vmem, ⟨2, _⟩ => ⟨S640x512, .bf16⟩
  | .local _ .vmem, ⟨3, _⟩ => ⟨S640x512, .bf16⟩
  | .local _ .vmem, ⟨4, _⟩ => ⟨S4x128x128, .bf16⟩
  | .local _ .vmem, ⟨5, _⟩ => ⟨S1x512, .f32⟩
  | .local _ .vmem, ⟨6, _⟩ => ⟨S640x512, .bf16⟩
  | .local _ .vmem, ⟨7, _⟩ => ⟨S640x512, .bf16⟩
  | .local _ .vmem, ⟨8, _⟩ => ⟨S4x128x128, .f32⟩
  | .local _ .vmem, ⟨9, _⟩ => ⟨S1x512, .f32⟩
  | .local _ .vmem, ⟨10, _⟩ => ⟨S656x512, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70_0 : Ref sig .tc := ⟨.hbm, 88, rfl⟩
abbrev main_v70_1 : Ref sig .tc := ⟨.hbm, 89, rfl⟩
abbrev main_v70_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolReferenceIdeal.lean ====
abbrev S8320x512 : Shape := ⟨2, ![8320, 512]⟩
abbrev S4x128x128 : Shape := ⟨3, ![4, 128, 128]⟩
abbrev S1x512 : Shape := ⟨2, ![1, 512]⟩
abbrev S_ : Shape := ⟨0, ![]⟩
abbrev S8320 : Shape := ⟨1, ![8320]⟩
abbrev S8320x128 : Shape := ⟨2, ![8320, 128]⟩
abbrev S2x128 : Shape := ⟨2, ![2, 128]⟩
abbrev S8318x128 : Shape := ⟨2, ![8318, 128]⟩
abbrev S8320x1 : Shape := ⟨2, ![8320, 1]⟩
abbrev S4x128 : Shape := ⟨2, ![4, 128]⟩
abbrev S8316x128 : Shape := ⟨2, ![8316, 128]⟩
abbrev S8x128 : Shape := ⟨2, ![8, 128]⟩
abbrev S8312x128 : Shape := ⟨2, ![8312, 128]⟩
abbrev S16x128 : Shape := ⟨2, ![16, 128]⟩
abbrev S8304x128 : Shape := ⟨2, ![8304, 128]⟩
abbrev S8320x1x128 : Shape := ⟨3, ![8320, 1, 128]⟩
abbrev S8320x4x128 : Shape := ⟨3, ![8320, 4, 128]⟩
abbrev S4x128x8320 : Shape := ⟨3, ![4, 128, 8320]⟩
abbrev S512 : Shape := ⟨1, ![512]⟩
abbrev S4x8320x128 : Shape := ⟨3, ![4, 8320, 128]⟩

abbrev nBuf : Space → Nat
  | .hbm => 181
  | .vmem => 0
  | .smem => 0
  | _ => 0

abbrev hbmTy0_0 (i : Nat) : BufTy := match i % 128 with
  | 0 => ⟨S8320x512, .f32⟩
  | 1 => ⟨S8320x512, .f32⟩
  | 2 => ⟨S4x128x128, .f32⟩
  | 3 => ⟨S1x512, .f32⟩
  | 4 => ⟨S_, .f32⟩
  | 5 => ⟨S_, .f32⟩
  | 6 => ⟨S8320x512, .f32⟩
  | 7 => ⟨S8320, .i32⟩
  | 8 => ⟨S8320x128, .f32⟩
  | 9 => ⟨S_, .f32⟩
  | 10 => ⟨S2x128, .f32⟩
  | 11 => ⟨S8318x128, .f32⟩
  | 12 => ⟨S8320x128, .f32⟩
  | 13 => ⟨S_, .f32⟩
  | 14 => ⟨S2x128, .f32⟩
  | 15 => ⟨S_, .i32⟩
  | 16 => ⟨S8320, .i32⟩
  | 17 => ⟨S8320, .i32⟩
  | 18 => ⟨S_, .i32⟩
  | 19 => ⟨S8320, .i32⟩
  | 20 => ⟨S8320, .i32⟩
  | 21 => ⟨S8320, .f32⟩
  | 22 => ⟨S8320x128, .f32⟩
  | 23 => ⟨S8320x1, .f32⟩
  | 24 => ⟨S8320x128, .f32⟩
  | 25 => ⟨S8320x128, .f32⟩
  | 26 => ⟨S8320x128, .f32⟩
  | 27 => ⟨S8320x128, .f32⟩
  | 28 => ⟨S8320x128, .f32⟩
  | 29 => ⟨S_, .f32⟩
  | 30 => ⟨S4x128, .f32⟩
  | 31 => ⟨S8316x128, .f32⟩
  | 32 => ⟨S8320x128, .f32⟩
  | 33 => ⟨S_, .f32⟩
  | 34 => ⟨S4x128, .f32⟩
  | 35 => ⟨S_, .i32⟩
  | 36 => ⟨S8320, .i32⟩
  | 37 => ⟨S8320, .i32⟩
  | 38 => ⟨S_, .i32⟩
  | 39 => ⟨S8320, .i32⟩
  | 40 => ⟨S8320, .i32⟩
  | 41 => ⟨S8320, .f32⟩
  | 42 => ⟨S8320x128, .f32⟩
  | 43 => ⟨S8320x1, .f32⟩
  | 44 => ⟨S8320x128, .f32⟩
  | 45 => ⟨S8320x128, .f32⟩
  | 46 => ⟨S8320x128, .f32⟩
  | 47 => ⟨S8320x128, .f32⟩
  | 48 => ⟨S8320x128, .f32⟩
  | 49 => ⟨S_, .f32⟩
  | 50 => ⟨S8x128, .f32⟩
  | 51 => ⟨S8312x128, .f32⟩
  | 52 => ⟨S8320x128, .f32⟩
  | 53 => ⟨S_, .f32⟩
  | 54 => ⟨S8x128, .f32⟩
  | 55 => ⟨S_, .i32⟩
  | 56 => ⟨S8320, .i32⟩
  | 57 => ⟨S8320, .i32⟩
  | 58 => ⟨S_, .i32⟩
  | 59 => ⟨S8320, .i32⟩
  | 60 => ⟨S8320, .i32⟩
  | 61 => ⟨S8320, .f32⟩
  | 62 => ⟨S8320x128, .f32⟩
  | 63 => ⟨S8320x1, .f32⟩
  | 64 => ⟨S8320x128, .f32⟩
  | 65 => ⟨S8320x128, .f32⟩
  | 66 => ⟨S8320x128, .f32⟩
  | 67 => ⟨S8320x128, .f32⟩
  | 68 => ⟨S8320x128, .f32⟩
  | 69 => ⟨S_, .f32⟩
  | 70 => ⟨S16x128, .f32⟩
  | 71 => ⟨S8304x128, .f32⟩
  | 72 => ⟨S8320x128, .f32⟩
  | 73 => ⟨S_, .f32⟩
  | 74 => ⟨S16x128, .f32⟩
  | 75 => ⟨S_, .i32⟩
  | 76 => ⟨S8320, .i32⟩
  | 77 => ⟨S8320, .i32⟩
  | 78 => ⟨S_, .i32⟩
  | 79 => ⟨S8320, .i32⟩
  | 80 => ⟨S8320, .i32⟩
  | 81 => ⟨S8320, .f32⟩
  | 82 => ⟨S8320x128, .f32⟩
  | 83 => ⟨S8320x1, .f32⟩
  | 84 => ⟨S8320x128, .f32⟩
  | 85 => ⟨S8320x128, .f32⟩
  | 86 => ⟨S8320x128, .f32⟩
  | 87 => ⟨S8320x128, .f32⟩
  | 88 => ⟨S8320x1x128, .f32⟩
  | 89 => ⟨S8320x1x128, .f32⟩
  | 90 => ⟨S8320x1x128, .f32⟩
  | 91 => ⟨S8320x1x128, .f32⟩
  | 92 => ⟨S8320x4x128, .f32⟩
  | 93 => ⟨S4x128x8320, .f32⟩
  | 94 => ⟨S8320x4x128, .f32⟩
  | 95 => ⟨S8320x512, .f32⟩
  | 96 => ⟨S8320x512, .f32⟩
  | 97 => ⟨S8320x512, .f32⟩
  | 98 => ⟨S8320x512, .f32⟩
  | 99 => ⟨S_, .f32⟩
  | 100 => ⟨S512, .f32⟩
  | 101 => ⟨S1x512, .f32⟩
  | 102 => ⟨S8320x512, .f32⟩
  | 103 => ⟨S8320x512, .f32⟩
  | 104 => ⟨S8320x4x128, .f32⟩
  | 105 => ⟨S4x128x8320, .f32⟩
  | 106 => ⟨S4x8320x128, .f32⟩
  | 107 => ⟨S8320x4x128, .f32⟩
  | 108 => ⟨S4x128x128, .f32⟩
  | 109 => ⟨S4x128x128, .f32⟩
  | 110 => ⟨S8320x1x128, .f32⟩
  | 111 => ⟨S8320x128, .f32⟩
  | 112 => ⟨S8320x1x128, .f32⟩
  | 113 => ⟨S8320x128, .f32⟩
  | 114 => ⟨S8320x1x128, .f32⟩
  | 115 => ⟨S8320x128, .f32⟩
  | 116 => ⟨S8320x1x128, .f32⟩
  | 117 => ⟨S8320x128, .f32⟩
  | 118 => ⟨S8320x128, .f32⟩
  | 119 => ⟨S_, .f32⟩
  | 120 => ⟨S8320x512, .f32⟩
  | 121 => ⟨S8320x128, .f32⟩
  | 122 => ⟨S8320x128, .f32⟩
  | 123 => ⟨S8320x128, .f32⟩
  | 124 => ⟨S16x128, .f32⟩
  | 125 => ⟨S8304x128, .f32⟩
  | 126 => ⟨S_, .f32⟩
  | 127 => ⟨S8320x128, .f32⟩
  | _ => ⟨S8320x512, .f32⟩

abbrev hbmTy0_1 (i : Nat) : BufTy := match i % 128 with
  | 0 => ⟨S8320x128, .f32⟩
  | 1 => ⟨S_, .f32⟩
  | 2 => ⟨S8320x512, .f32⟩
  | 3 => ⟨S8320x128, .f32⟩
  | 4 => ⟨S_, .f32⟩
  | 5 => ⟨S8320x512, .f32⟩
  | 6 => ⟨S8320x512, .f32⟩
  | 7 => ⟨S8320x128, .f32⟩
  | 8 => ⟨S8320x128, .f32⟩
  | 9 => ⟨S8320x128, .f32⟩
  | 10 => ⟨S8x128, .f32⟩
  | 11 => ⟨S8312x128, .f32⟩
  | 12 => ⟨S_, .f32⟩
  | 13 => ⟨S8320x128, .f32⟩
  | 14 => ⟨S8320x128, .f32⟩
  | 15 => ⟨S_, .f32⟩
  | 16 => ⟨S8320x512, .f32⟩
  | 17 => ⟨S8320x512, .f32⟩
  | 18 => ⟨S8320x128, .f32⟩
  | 19 => ⟨S_, .f32⟩
  | 20 => ⟨S8320x512, .f32⟩
  | 21 => ⟨S8320x512, .f32⟩
  | 22 => ⟨S8320x128, .f32⟩
  | 23 => ⟨S8320x128, .f32⟩
  | 24 => ⟨S8320x128, .f32⟩
  | 25 => ⟨S4x128, .f32⟩
  | 26 => ⟨S8316x128, .f32⟩
  | 27 => ⟨S_, .f32⟩
  | 28 => ⟨S8320x128, .f32⟩
  | 29 => ⟨S8320x128, .f32⟩
  | 30 => ⟨S_, .f32⟩
  | 31 => ⟨S8320x512, .f32⟩
  | 32 => ⟨S8320x512, .f32⟩
  | 33 => ⟨S8320x128, .f32⟩
  | 34 => ⟨S_, .f32⟩
  | 35 => ⟨S8320x512, .f32⟩
  | 36 => ⟨S8320x512, .f32⟩
  | 37 => ⟨S8320x128, .f32⟩
  | 38 => ⟨S8320x128, .f32⟩
  | 39 => ⟨S8320x128, .f32⟩
  | 40 => ⟨S2x128, .f32⟩
  | 41 => ⟨S8318x128, .f32⟩
  | 42 => ⟨S_, .f32⟩
  | 43 => ⟨S8320x128, .f32⟩
  | 44 => ⟨S8320x128, .f32⟩
  | 45 => ⟨S_, .f32⟩
  | 46 => ⟨S8320x512, .f32⟩
  | 47 => ⟨S8320x512, .f32⟩
  | 48 => ⟨S_, .f32⟩
  | 49 => ⟨S_, .f32⟩
  | 50 => ⟨S8320x512, .f32⟩
  | 51 => ⟨S8320x512, .f32⟩
  | 52 => ⟨S8320x512, .bf16⟩
  | _ => ⟨S8320x512, .f32⟩

abbrev hbmTy (i : Nat) : BufTy := match i / 128 with
  | 0 => hbmTy0_0 i
  | 1 => hbmTy0_1 i
  | _ => ⟨S8320x512, .f32⟩

abbrev bufTy : (tb : Table) → Fin (tcTables nBuf tb) → BufTy
  | .hbm, ⟨i, _⟩ => hbmTy i
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_14 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_cst_18 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_cst_20 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_21 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_22 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_24 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_25 : Ref sig .tc := ⟨.hbm, 170, rfl⟩
abbrev main_v137 : Ref sig .tc := ⟨.hbm, 171, rfl⟩
abbrev main_v138 : Ref sig .tc := ⟨.hbm, 172, rfl⟩
abbrev main_cst_26 : Ref sig .tc := ⟨.hbm, 173, rfl⟩
abbrev main_v139 : Ref sig .tc := ⟨.hbm, 174, rfl⟩
abbrev main_v140 : Ref sig .tc := ⟨.hbm, 175, rfl⟩
abbrev main_call1_call0_cst : Ref sig .tc := ⟨.hbm, 176, rfl⟩
abbrev main_call1_call0_v0 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩

abbrev nD : Nat := 1
abbrev τ : Topo := Topo.v7x

variable {F : FTy → Type} [FloatOps F]
-- ==== WgradKernel.lean ====
abbrev S8320x2816 : Shape := ⟨2, ![8320, 2816]⟩
abbrev S8320x1024 : Shape := ⟨2, ![8320, 1024]⟩
abbrev S8320x4x704 : Shape := ⟨3, ![8320, 4, 704]⟩
abbrev S4x8320x704 : Shape := ⟨3, ![4, 8320, 704]⟩
abbrev S2816x1024 : Shape := ⟨2, ![2816, 1024]⟩
abbrev S1x4160x704 : Shape := ⟨3, ![1, 4160, 704]⟩
abbrev S4160x1024 : Shape := ⟨2, ![4160, 1024]⟩
abbrev S704x1024 : Shape := ⟨2, ![704, 1024]⟩
abbrev S4160x704 : Shape := ⟨2, ![4160, 704]⟩

abbrev nBuf : Space → Nat
  | .hbm => 7
  | .vmem => 7
  | .smem => 0
  | _ => 0

abbrev bufTy : (tb : Table) → Fin (tcTables nBuf tb) → BufTy
  | .hbm, ⟨0, _⟩ => ⟨S8320x2816, .f32⟩
  | .hbm, ⟨1, _⟩ => ⟨S8320x1024, .f32⟩
  | .hbm, ⟨2, _⟩ => ⟨S8320x2816, .bf16⟩
  | .hbm, ⟨3, _⟩ => ⟨S8320x4x704, .bf16⟩
  | .hbm, ⟨4, _⟩ => ⟨S4x8320x704, .bf16⟩
  | .hbm, ⟨5, _⟩ => ⟨S8320x1024, .bf16⟩
  | .hbm, ⟨6, _⟩ => ⟨S2816x1024, .bf16⟩
  | .local _ .vmem, ⟨0, _⟩ => ⟨S1x4160x704, .bf16⟩
  | .local _ .vmem, ⟨1, _⟩ => ⟨S1x4160x704, .bf16⟩
  | .local _ .vmem, ⟨2, _⟩ => ⟨S4160x1024, .bf16⟩
  | .local _ .vmem, ⟨3, _⟩ => ⟨S4160x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4160x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x1024, .f32⟩
  | .hbm, ⟨2, _⟩ => ⟨S_, .f32⟩
  | .hbm, ⟨3, _⟩ => ⟨S2816x1024, .f32⟩
  | .hbm, ⟨4, _⟩ => ⟨S8320x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateReferenceIdeal.lean ====
abbrev S8320x2816 : Shape := ⟨2, ![8320, 2816]⟩
abbrev S8320x1024 : Shape := ⟨2, ![8320, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x1024, .f32⟩
  | .hbm, ⟨2, _⟩ => ⟨S_, .f32⟩
  | .hbm, ⟨3, _⟩ => ⟨S1024x2816, .f32⟩
  | .hbm, ⟨4, _⟩ => ⟨S8320x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnKernel.lean ====
abbrev S8320x1024 : Shape := ⟨2, ![8320, 1024]⟩
abbrev S1024x2816 : Shape := ⟨2, ![1024, 2816]⟩
abbrev S2816x1024 : Shape := ⟨2, ![2816, 1024]⟩
abbrev S1x1024 : Shape := ⟨2, ![1, 1024]⟩
abbrev S8320x2816 : Shape := ⟨2, ![8320, 2816]⟩
abbrev S_ : Shape := ⟨0, ![]⟩
abbrev S8320 : Shape := ⟨1, ![8320]⟩
abbrev S8320x1 : Shape := ⟨2, ![8320, 1]⟩
abbrev S4x704x1024 : Shape := ⟨3, ![4, 704, 1024]⟩
abbrev S8320x4x704 : Shape := ⟨3, ![8320, 4, 704]⟩
abbrev S4x8320x704 : Shape := ⟨3, ![4, 8320, 704]⟩
abbrev S640x1024 : Shape := ⟨2, ![640, 1024]⟩
abbrev S640x1 : Shape := ⟨2, ![640, 1]⟩
abbrev S1x640x704 : Shape := ⟨3, ![1, 640, 704]⟩
abbrev S1x704x1024 : Shape := ⟨3, ![1, 704, 1024]⟩
abbrev S640 : Shape := ⟨1, ![640]⟩
abbrev S1024 : Shape := ⟨1, ![1024]⟩
abbrev S320x1024 : Shape := ⟨2, ![320, 1024]⟩
abbrev S704x1024 : Shape := ⟨2, ![704, 1024]⟩
abbrev S320x704 : Shape := ⟨2, ![320, 704]⟩
abbrev S1x320x704 : Shape := ⟨3, ![1, 320, 704]⟩

abbrev nBuf : Space → Nat
  | .hbm => 71
  | .vmem => 30
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S8320x2816, .f32⟩
  | .hbm, ⟨8, _⟩ => ⟨S8320x2816, .f32⟩
  | .hbm, ⟨9, _⟩ => ⟨S_, .f32⟩
  | .hbm, ⟨10, _⟩ => ⟨S8320x1024, .f32⟩
  | .hbm, ⟨11, _⟩ => ⟨S8320x1024, .f32⟩
  | .hbm, ⟨12, _⟩ => ⟨S8320x2816, .f32⟩
  | .hbm, ⟨13, _⟩ => ⟨S8320x2816, .f32⟩
  | .hbm, ⟨14, _⟩ => ⟨S_, .f32⟩
  | .hbm, ⟨15, _⟩ => ⟨S8320x2816, .f32⟩
  | .hbm, ⟨16, _⟩ => ⟨S8320x2816, .f32⟩
  | .hbm, ⟨17, _⟩ => ⟨S_, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S8320x2816, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320, .f32⟩
  | .hbm, ⟨29, _⟩ => ⟨S8320x1, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S_, .f32⟩
  | .hbm, ⟨37, _⟩ => ⟨S8320, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S_, .f32⟩
  | .hbm, ⟨43, _⟩ => ⟨S8320x1, .f32⟩
  | .hbm, ⟨44, _⟩ => ⟨S8320x1, .f32⟩
  | .hbm, ⟨45, _⟩ => ⟨S8320x1, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S1024x2816, .bf16⟩
  | .hbm, ⟨51, _⟩ => ⟨S2816x1024, .bf16⟩
  | .hbm, ⟨52, _⟩ => ⟨S4x704x1024, .bf16⟩
  | .hbm, ⟨53, _⟩ => ⟨S1024x2816, .bf16⟩
  | .hbm, ⟨54, _⟩ => ⟨S2816x1024, .bf16⟩
  | .hbm, ⟨55, _⟩ => ⟨S4x704x1024, .bf16⟩
  | .hbm, ⟨56, _⟩ => ⟨S2816x1024, .bf16⟩
  | .hbm, ⟨57, _⟩ => ⟨S4x704x1024, .bf16⟩
  | .hbm, ⟨58, _⟩ => ⟨S8320x2816, .bf16⟩
  | .hbm, ⟨59, _⟩ => ⟨S8320x4x704, .bf16⟩
  | .hbm, ⟨60, _⟩ => ⟨S4x8320x704, .bf16⟩
  | .hbm, ⟨61, _⟩ => ⟨S8320x2816, .bf16⟩
  | .hbm, ⟨62, _⟩ => ⟨S8320x4x704, .bf16⟩
  | .hbm, ⟨63, _⟩ => ⟨S4x8320x704, .bf16⟩
  | .hbm, ⟨64, _⟩ => ⟨S8320x1024, .f32⟩
  | .hbm, ⟨65, _⟩ => ⟨S8320x1024, .bf16⟩
  | .hbm, ⟨66, _⟩ => ⟨S4x8320x704, .bf16⟩
  | .hbm, ⟨67, _⟩ => ⟨S4x8320x704, .bf16⟩
  | .hbm, ⟨68, _⟩ => ⟨S4x8320x704, .bf16⟩
  | .hbm, ⟨69, _⟩ => ⟨S1x1024, .f32⟩
  | .hbm, ⟨70, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1, .f32⟩
  | .local _ .vmem, ⟨5, _⟩ => ⟨S640x1, .f32⟩
  | .local _ .vmem, ⟨6, _⟩ => ⟨S1x1024, .f32⟩
  | .local _ .vmem, ⟨7, _⟩ => ⟨S1x640x704, .bf16⟩
  | .local _ .vmem, ⟨8, _⟩ => ⟨S1x640x704, .bf16⟩
  | .local _ .vmem, ⟨9, _⟩ => ⟨S1x640x704, .bf16⟩
  | .local _ .vmem, ⟨10, _⟩ => ⟨S1x640x704, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S640x1024, .f32⟩
  | .local _ .vmem, ⟨18, _⟩ => ⟨S640x1024, .f32⟩
  | .local _ .vmem, ⟨19, _⟩ => ⟨S640x1024, .bf16⟩
  | .local _ .vmem, ⟨20, _⟩ => ⟨S640x1024, .bf16⟩
  | .local _ .vmem, ⟨21, _⟩ => ⟨S1x640x704, .bf16⟩
  | .local _ .vmem, ⟨22, _⟩ => ⟨S1x640x704, .bf16⟩
  | .local _ .vmem, ⟨23, _⟩ => ⟨S1x640x704, .bf16⟩
  | .local _ .vmem, ⟨24, _⟩ => ⟨S1x640x704, .bf16⟩
  | .local _ .vmem, ⟨25, _⟩ => ⟨S1x640x704, .bf16⟩
  | .local _ .vmem, ⟨26, _⟩ => ⟨S1x640x704, .bf16⟩
  | .local _ .vmem, ⟨27, _⟩ => ⟨S1x1024, .f32⟩
  | .local _ .vmem, ⟨28, _⟩ => ⟨S1x1024, .f32⟩
  | .local _ .vmem, ⟨29, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_v42_2 : Ref sig .tc := ⟨.hbm, 66, rfl⟩
abbrev main_v42_3 : Ref sig .tc := ⟨.hbm, 67, rfl⟩
abbrev main_v42_4 : Ref sig .tc := ⟨.hbm, 68, rfl⟩
abbrev main_v42_5 : Ref sig .tc := ⟨.hbm, 69, rfl⟩
abbrev main_v42_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28

abbrev nD : Nat := 1
abbrev τ : Topo := Topo.v7x

variable {F : FTy → Type} [FloatOps F]

abbrev grid0 : Pipeline.Grid := ⟨2, ![13, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_88 : BitVec 32 := 0#32
  let v127 : BitVec 1 := Scalar.cmpi .eq arg0 c0_i32_88
  let v128 : BitVec 32 := Scalar.extui v127
  let c0_i32_89 : BitVec 32 := 0#32
  let v129 : BitVec 1 := Scalar.cmpi .ne v128 c0_i32_89
  v129

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x640x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S640x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x640x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x640x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== FfnReferenceIdeal.lean ====
abbrev S8320x1024 : Shape := ⟨2, ![8320, 1024]⟩
abbrev S1024x2816 : Shape := ⟨2, ![1024, 2816]⟩
abbrev S2816x1024 : Shape := ⟨2, ![2816, 1024]⟩
abbrev S1x1024 : Shape := ⟨2, ![1, 1024]⟩
abbrev S8320x2816 : Shape := ⟨2, ![8320, 2816]⟩
abbrev S_ : Shape := ⟨0, ![]⟩
abbrev S8320 : Shape := ⟨1, ![8320]⟩
abbrev S8320x1 : Shape := ⟨2, ![8320, 1]⟩
abbrev S1024 : Shape := ⟨1, ![1024]⟩
abbrev S8320x4x704 : Shape := ⟨3, ![8320, 4, 704]⟩
abbrev S4x8320x704 : Shape := ⟨3, ![4, 8320, 704]⟩

abbrev nBuf : Space → Nat
  | .hbm => 133
  | .vmem => 0
  | .smem => 0
  | _ => 0

abbrev hbmTy0_0 (i : Nat) : BufTy := match i % 128 with
  | 0 => ⟨S8320x1024, .f32⟩
  | 1 => ⟨S8320x1024, .f32⟩
  | 2 => ⟨S1024x2816, .f32⟩
  | 3 => ⟨S1024x2816, .f32⟩
  | 4 => ⟨S2816x1024, .f32⟩
  | 5 => ⟨S1x1024, .f32⟩
  | 6 => ⟨S1x1024, .f32⟩
  | 7 => ⟨S8320x2816, .f32⟩
  | 8 => ⟨S8320x2816, .f32⟩
  | 9 => ⟨S8320x2816, .f32⟩
  | 10 => ⟨S8320x2816, .f32⟩
  | 11 => ⟨S_, .f32⟩
  | 12 => ⟨S8320x2816, .f32⟩
  | 13 => ⟨S8320x2816, .f32⟩
  | 14 => ⟨S_, .f32⟩
  | 15 => ⟨S8320x2816, .f32⟩
  | 16 => ⟨S8320x2816, .f32⟩
  | 17 => ⟨S_, .f32⟩
  | 18 => ⟨S8320x2816, .f32⟩
  | 19 => ⟨S8320x2816, .f32⟩
  | 20 => ⟨S8320x2816, .f32⟩
  | 21 => ⟨S8320x2816, .f32⟩
  | 22 => ⟨S8320x2816, .f32⟩
  | 23 => ⟨S8320x1024, .f32⟩
  | 24 => ⟨S_, .f32⟩
  | 25 => ⟨S8320x1024, .f32⟩
  | 26 => ⟨S8320x1024, .f32⟩
  | 27 => ⟨S_, .f32⟩
  | 28 => ⟨S8320x1024, .f32⟩
  | 29 => ⟨S8320x1024, .f32⟩
  | 30 => ⟨S8320x1024, .f32⟩
  | 31 => ⟨S_, .f32⟩
  | 32 => ⟨S8320, .f32⟩
  | 33 => ⟨S8320x1, .f32⟩
  | 34 => ⟨S_, .f32⟩
  | 35 => ⟨S8320x1, .f32⟩
  | 36 => ⟨S8320x1, .f32⟩
  | 37 => ⟨S8320x1024, .f32⟩
  | 38 => ⟨S8320x1024, .f32⟩
  | 39 => ⟨S8320x1024, .f32⟩
  | 40 => ⟨S_, .f32⟩
  | 41 => ⟨S8320x1024, .f32⟩
  | 42 => ⟨S8320x1024, .f32⟩
  | 43 => ⟨S_, .f32⟩
  | 44 => ⟨S8320, .f32⟩
  | 45 => ⟨S8320x1, .f32⟩
  | 46 => ⟨S_, .f32⟩
  | 47 => ⟨S8320x1, .f32⟩
  | 48 => ⟨S8320x1, .f32⟩
  | 49 => ⟨S8320x1024, .f32⟩
  | 50 => ⟨S8320x1024, .f32⟩
  | 51 => ⟨S_, .f32⟩
  | 52 => ⟨S8320x1, .f32⟩
  | 53 => ⟨S8320x1, .f32⟩
  | 54 => ⟨S8320x1, .f32⟩
  | 55 => ⟨S8320x1, .f32⟩
  | 56 => ⟨S_, .f32⟩
  | 57 => ⟨S8320x1, .f32⟩
  | 58 => ⟨S8320x1, .f32⟩
  | 59 => ⟨S8320x1024, .f32⟩
  | 60 => ⟨S8320x1024, .f32⟩
  | 61 => ⟨S8320x1024, .f32⟩
  | 62 => ⟨S8320x1024, .f32⟩
  | 63 => ⟨S8320x1024, .f32⟩
  | 64 => ⟨S8320x1024, .f32⟩
  | 65 => ⟨S8320x1024, .f32⟩
  | 66 => ⟨S_, .f32⟩
  | 67 => ⟨S1024, .f32⟩
  | 68 => ⟨S1x1024, .f32⟩
  | 69 => ⟨S8320x1024, .f32⟩
  | 70 => ⟨S_, .f32⟩
  | 71 => ⟨S1024, .f32⟩
  | 72 => ⟨S1x1024, .f32⟩
  | 73 => ⟨S8320x1024, .f32⟩
  | 74 => ⟨S8320x1024, .f32⟩
  | 75 => ⟨S8320x1024, .f32⟩
  | 76 => ⟨S_, .f32⟩
  | 77 => ⟨S8320, .f32⟩
  | 78 => ⟨S8320x1, .f32⟩
  | 79 => ⟨S8320x1024, .f32⟩
  | 80 => ⟨S8320x1024, .f32⟩
  | 81 => ⟨S8320x1, .f32⟩
  | 82 => ⟨S8320x1024, .f32⟩
  | 83 => ⟨S_, .f32⟩
  | 84 => ⟨S8320, .f32⟩
  | 85 => ⟨S8320x1, .f32⟩
  | 86 => ⟨S_, .f32⟩
  | 87 => ⟨S8320x1, .f32⟩
  | 88 => ⟨S8320x1, .f32⟩
  | 89 => ⟨S_, .f32⟩
  | 90 => ⟨S8320, .f32⟩
  | 91 => ⟨S8320x1024, .f32⟩
  | 92 => ⟨S8320x1024, .f32⟩
  | 93 => ⟨S8320x1024, .f32⟩
  | 94 => ⟨S_, .f32⟩
  | 95 => ⟨S8320, .f32⟩
  | 96 => ⟨S8320x1, .f32⟩
  | 97 => ⟨S8320x1024, .f32⟩
  | 98 => ⟨S8320x1, .f32⟩
  | 99 => ⟨S_, .f32⟩
  | 100 => ⟨S8320x1, .f32⟩
  | 101 => ⟨S8320x1, .f32⟩
  | 102 => ⟨S_, .f32⟩
  | 103 => ⟨S8320, .f32⟩
  | 104 => ⟨S8320x1024, .f32⟩
  | 105 => ⟨S8320x1024, .f32⟩
  | 106 => ⟨S_, .f32⟩
  | 107 => ⟨S8320x1024, .f32⟩
  | 108 => ⟨S8320x1024, .f32⟩
  | 109 => ⟨S_, .f32⟩
  | 110 => ⟨S8320x1024, .f32⟩
  | 111 => ⟨S8320x1024, .f32⟩
  | 112 => ⟨S8320x2816, .f32⟩
  | 113 => ⟨S8320x2816, .f32⟩
  | 114 => ⟨S8320x2816, .f32⟩
  | 115 => ⟨S8320x2816, .f32⟩
  | 116 => ⟨S8320x2816, .f32⟩
  | 117 => ⟨S8320x2816, .f32⟩
  | 118 => ⟨S8320x2816, .f32⟩
  | 119 => ⟨S8320x1024, .f32⟩
  | 120 => ⟨S8320x1024, .f32⟩
  | 121 => ⟨S8320x1024, .f32⟩
  | 122 => ⟨S8320x1024, .f32⟩
  | 123 => ⟨S8320x1024, .bf16⟩
  | 124 => ⟨S8320x4x704, .f32⟩
  | 125 => ⟨S4x8320x704, .f32⟩
  | 126 => ⟨S4x8320x704, .bf16⟩
  | 127 => ⟨S8320x4x704, .f32⟩
  | _ => ⟨S8320x1024, .f32⟩

abbrev hbmTy0_1 (i : Nat) : BufTy := match i % 128 with
  | 0 => ⟨S4x8320x704, .f32⟩
  | 1 => ⟨S4x8320x704, .bf16⟩
  | 2 => ⟨S8320x4x704, .f32⟩
  | 3 => ⟨S4x8320x704, .f32⟩
  | 4 => ⟨S4x8320x704, .bf16⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v2_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v2_1 : Ref sig .tc := ⟨.hbm, 20, rfl⟩
abbrev main_v2_0 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_v70 : Ref sig .tc := ⟨.hbm, 108, rfl⟩
abbrev main_cst_18 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩

abbrev nD : Nat := 1
abbrev τ : Topo := Topo.v7x

variable {F : FTy → Type} [FloatOps F]
-- ==== FwdKernel.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S8320x1 : Shape := ⟨2, ![8320, 1]⟩
abbrev S4x8320x704 : Shape := ⟨3, ![4, 8320, 704]⟩
abbrev S640x1024 : Shape := ⟨2, ![640, 1024]⟩
abbrev S1x704x1024 : Shape := ⟨3, ![1, 704, 1024]⟩
abbrev S640x1 : Shape := ⟨2, ![640, 1]⟩
abbrev S1x640x704 : Shape := ⟨3, ![1, 640, 704]⟩
abbrev S704x1024 : Shape := ⟨2, ![704, 1024]⟩
abbrev S640x704 : Shape := ⟨2, ![640, 704]⟩
abbrev S640 : Shape := ⟨1, ![640]⟩

abbrev nBuf : Space → Nat
  | .hbm => 19
  | .vmem => 22
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S2816x1024, .bf16⟩
  | .hbm, ⟨8, _⟩ => ⟨S4x704x1024, .bf16⟩
  | .hbm, ⟨9, _⟩ => ⟨S1024x2816, .bf16⟩
  | .hbm, ⟨10, _⟩ => ⟨S2816x1024, .bf16⟩
  | .hbm, ⟨11, _⟩ => ⟨S4x704x1024, .bf16⟩
  | .hbm, ⟨12, _⟩ => ⟨S2816x1024, .bf16⟩
  | .hbm, ⟨13, _⟩ => ⟨S4x704x1024, .bf16⟩
  | .hbm, ⟨14, _⟩ => ⟨S8320x1024, .f32⟩
  | .hbm, ⟨15, _⟩ => ⟨S8320x1, .f32⟩
  | .hbm, ⟨16, _⟩ => ⟨S8320x1024, .bf16⟩
  | .hbm, ⟨17, _⟩ => ⟨S4x8320x704, .bf16⟩
  | .hbm, ⟨18, _⟩ => ⟨S4x8320x704, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S640x1024, .f32⟩
  | .local _ .vmem, ⟨11, _⟩ => ⟨S640x1024, .f32⟩
  | .local _ .vmem, ⟨12, _⟩ => ⟨S640x1, .f32⟩
  | .local _ .vmem, ⟨13, _⟩ => ⟨S640x1, .f32⟩
  | .local _ .vmem, ⟨14, _⟩ => ⟨S640x1024, .bf16⟩
  | .local _ .vmem, ⟨15, _⟩ => ⟨S640x1024, .bf16⟩
  | .local _ .vmem, ⟨16, _⟩ => ⟨S1x640x704, .bf16⟩
  | .local _ .vmem, ⟨17, _⟩ => ⟨S1x640x704, .bf16⟩
  | .local _ .vmem, ⟨18, _⟩ => ⟨S1x640x704, .bf16⟩
  | .local _ .vmem, ⟨19, _⟩ => ⟨S1x640x704, .bf16⟩
  | .local _ .vmem, ⟨20, _⟩ => ⟨S640x1024, .f32⟩
  | .local _ .vmem, ⟨21, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![13, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_23 : BitVec 32 := 0#32
  let v32 : BitVec 1 := Scalar.cmpi .ne v31 c0_i32_23
  v32

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S640x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x640x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x640x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FwdReferenceIdeal.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S8320x2816 : Shape := ⟨2, ![8320, 2816]⟩
abbrev S_ : Shape := ⟨0, ![]⟩
abbrev S8320 : Shape := ⟨1, ![8320]⟩
abbrev S8320x1 : Shape := ⟨2, ![8320, 1]⟩
abbrev S8320x4x704 : Shape := ⟨3, ![8320, 4, 704]⟩
abbrev S4x8320x704 : Shape := ⟨3, ![4, 8320, 704]⟩

abbrev nBuf : Space → Nat
  | .hbm => 60
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S8320x2816, .f32⟩
  | .hbm, ⟨11, _⟩ => ⟨S8320x2816, .f32⟩
  | .hbm, ⟨12, _⟩ => ⟨S_, .f32⟩
  | .hbm, ⟨13, _⟩ => ⟨S8320x1024, .f32⟩
  | .hbm, ⟨14, _⟩ => ⟨S8320x1024, .f32⟩
  | .hbm, ⟨15, _⟩ => ⟨S8320x2816, .f32⟩
  | .hbm, ⟨16, _⟩ => ⟨S8320x2816, .f32⟩
  | .hbm, ⟨17, _⟩ => ⟨S_, .f32⟩
  | .hbm, ⟨18, _⟩ => ⟨S8320x2816, .f32⟩
  | .hbm, ⟨19, _⟩ => ⟨S8320x2816, .f32⟩
  | .hbm, ⟨20, _⟩ => ⟨S_, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S_, .f32⟩
  | .hbm, ⟨34, _⟩ => ⟨S8320x1, .f32⟩
  | .hbm, ⟨35, _⟩ => ⟨S8320x1, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S_, .f32⟩
  | .hbm, ⟨40, _⟩ => ⟨S8320, .f32⟩
  | .hbm, ⟨41, _⟩ => ⟨S8320x1, .f32⟩
  | .hbm, ⟨42, _⟩ => ⟨S_, .f32⟩
  | .hbm, ⟨43, _⟩ => ⟨S8320x1, .f32⟩
  | .hbm, ⟨44, _⟩ => ⟨S8320x1, .f32⟩
  | .hbm, ⟨45, _⟩ => ⟨S_, .f32⟩
  | .hbm, ⟨46, _⟩ => ⟨S8320x1, .f32⟩
  | .hbm, ⟨47, _⟩ => ⟨S8320x1, .f32⟩
  | .hbm, ⟨48, _⟩ => ⟨S8320x1, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .bf16⟩
  | .hbm, ⟨54, _⟩ => ⟨S8320x4x704, .f32⟩
  | .hbm, ⟨55, _⟩ => ⟨S4x8320x704, .f32⟩
  | .hbm, ⟨56, _⟩ => ⟨S4x8320x704, .bf16⟩
  | .hbm, ⟨57, _⟩ => ⟨S8320x4x704, .f32⟩
  | .hbm, ⟨58, _⟩ => ⟨S4x8320x704, .f32⟩
  | .hbm, ⟨59, _⟩ => ⟨S4x8320x704, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== OutGradKernel.lean ====
abbrev S8320x512 : Shape := ⟨2, ![8320, 512]⟩
abbrev S8320x1024 : Shape := ⟨2, ![8320, 1024]⟩
abbrev S512x1024 : Shape := ⟨2, ![512, 1024]⟩
abbrev S4160x512 : Shape := ⟨2, ![4160, 512]⟩
abbrev S4160x1024 : Shape := ⟨2, ![4160, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x512, .f32⟩
  | .hbm, ⟨1, _⟩ => ⟨S8320x1024, .f32⟩
  | .hbm, ⟨2, _⟩ => ⟨S8320x512, .bf16⟩
  | .hbm, ⟨3, _⟩ => ⟨S8320x1024, .bf16⟩
  | .hbm, ⟨4, _⟩ => ⟨S512x1024, .bf16⟩
  | .local _ .vmem, ⟨0, _⟩ => ⟨S4160x512, .bf16⟩
  | .local _ .vmem, ⟨1, _⟩ => ⟨S4160x512, .bf16⟩
  | .local _ .vmem, ⟨2, _⟩ => ⟨S4160x1024, .bf16⟩
  | .local _ .vmem, ⟨3, _⟩ => ⟨S4160x1024, .bf16⟩
  | .local _ .vmem, ⟨4, _⟩ => ⟨S512x1024, .bf16⟩
  | .local _ .vmem, ⟨5, _⟩ => ⟨S512x1024, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradReferenceIdeal.lean ====
abbrev S8320x512 : Shape := ⟨2, ![8320, 512]⟩
abbrev S8320x1024 : Shape := ⟨2, ![8320, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S8320x1024, .f32⟩
  | .hbm, ⟨2, _⟩ => ⟨S_, .f32⟩
  | .hbm, ⟨3, _⟩ => ⟨S512x1024, .f32⟩
  | .hbm, ⟨4, _⟩ => ⟨S8320x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InGradKernel.lean ====
abbrev S8320x2048 : Shape := ⟨2, ![8320, 2048]⟩
abbrev S8320x1024 : Shape := ⟨2, ![8320, 1024]⟩
abbrev S2048x1024 : Shape := ⟨2, ![2048, 1024]⟩
abbrev S4160x512 : Shape := ⟨2, ![4160, 512]⟩
abbrev S4160x1024 : Shape := ⟨2, ![4160, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S8320x2048, .bf16⟩
  | .hbm, ⟨3, _⟩ => ⟨S8320x1024, .bf16⟩
  | .hbm, ⟨4, _⟩ => ⟨S2048x1024, .bf16⟩
  | .local _ .vmem, ⟨0, _⟩ => ⟨S4160x512, .bf16⟩
  | .local _ .vmem, ⟨1, _⟩ => ⟨S4160x512, .bf16⟩
  | .local _ .vmem, ⟨2, _⟩ => ⟨S4160x1024, .bf16⟩
  | .local _ .vmem, ⟨3, _⟩ => ⟨S4160x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradReferenceIdeal.lean ====
abbrev S8320x2048 : Shape := ⟨2, ![8320, 2048]⟩
abbrev S8320x1024 : Shape := ⟨2, ![8320, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S_, .f32⟩
  | .hbm, ⟨3, _⟩ => ⟨S1024x2048, .f32⟩
  | .hbm, ⟨4, _⟩ => ⟨S8320x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InprojKernel.lean ====
abbrev S8320x1024 : Shape := ⟨2, ![8320, 1024]⟩
abbrev S8320x512 : Shape := ⟨2, ![8320, 512]⟩
abbrev S8320x256 : Shape := ⟨2, ![8320, 256]⟩
abbrev S8320x16 : Shape := ⟨2, ![8320, 16]⟩
abbrev S1024x2064 : Shape := ⟨2, ![1024, 2064]⟩
abbrev S2064x1024 : Shape := ⟨2, ![2064, 1024]⟩
abbrev S16x1024 : Shape := ⟨2, ![16, 1024]⟩
abbrev S_ : Shape := ⟨0, ![]⟩
abbrev S112x1024 : Shape := ⟨2, ![112, 1024]⟩
abbrev S128x1024 : Shape := ⟨2, ![128, 1024]⟩
abbrev S8320x112 : Shape := ⟨2, ![8320, 112]⟩
abbrev S8320x128 : Shape := ⟨2, ![8320, 128]⟩
abbrev S2048x1024 : Shape := ⟨2, ![2048, 1024]⟩
abbrev S8320x2048 : Shape := ⟨2, ![8320, 2048]⟩
abbrev S640x1024 : Shape := ⟨2, ![640, 1024]⟩
abbrev S640x512 : Shape := ⟨2, ![640, 512]⟩
abbrev S640x256 : Shape := ⟨2, ![640, 256]⟩
abbrev S640x128 : Shape := ⟨2, ![640, 128]⟩
abbrev S640x2048 : Shape := ⟨2, ![640, 2048]⟩
abbrev S512x1024 : Shape := ⟨2, ![512, 1024]⟩
abbrev S256x1024 : Shape := ⟨2, ![256, 1024]⟩

abbrev nBuf : Space → Nat
  | .hbm => 26
  | .vmem => 20
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S8320x256, .f32⟩
  | .hbm, ⟨3, _⟩ => ⟨S8320x256, .f32⟩
  | .hbm, ⟨4, _⟩ => ⟨S8320x512, .f32⟩
  | .hbm, ⟨5, _⟩ => ⟨S8320x512, .f32⟩
  | .hbm, ⟨6, _⟩ => ⟨S8320x16, .f32⟩
  | .hbm, ⟨7, _⟩ => ⟨S1024x2064, .f32⟩
  | .hbm, ⟨8, _⟩ => ⟨S1024x2064, .bf16⟩
  | .hbm, ⟨9, _⟩ => ⟨S2064x1024, .bf16⟩
  | .hbm, ⟨10, _⟩ => ⟨S16x1024, .bf16⟩
  | .hbm, ⟨11, _⟩ => ⟨S_, .bf16⟩
  | .hbm, ⟨12, _⟩ => ⟨S112x1024, .bf16⟩
  | .hbm, ⟨13, _⟩ => ⟨S128x1024, .bf16⟩
  | .hbm, ⟨14, _⟩ => ⟨S8320x16, .bf16⟩
  | .hbm, ⟨15, _⟩ => ⟨S_, .bf16⟩
  | .hbm, ⟨16, _⟩ => ⟨S8320x112, .bf16⟩
  | .hbm, ⟨17, _⟩ => ⟨S8320x128, .bf16⟩
  | .hbm, ⟨18, _⟩ => ⟨S8320x512, .bf16⟩
  | .hbm, ⟨19, _⟩ => ⟨S8320x256, .bf16⟩
  | .hbm, ⟨20, _⟩ => ⟨S8320x256, .bf16⟩
  | .hbm, ⟨21, _⟩ => ⟨S8320x512, .bf16⟩
  | .hbm, ⟨22, _⟩ => ⟨S8320x512, .bf16⟩
  | .hbm, ⟨23, _⟩ => ⟨S2048x1024, .bf16⟩
  | .hbm, ⟨24, _⟩ => ⟨S8320x1024, .f32⟩
  | .hbm, ⟨25, _⟩ => ⟨S8320x2048, .bf16⟩
  | .local _ .vmem, ⟨0, _⟩ => ⟨S640x1024, .f32⟩
  | .local _ .vmem, ⟨1, _⟩ => ⟨S640x1024, .f32⟩
  | .local _ .vmem, ⟨2, _⟩ => ⟨S640x512, .bf16⟩
  | .local _ .vmem, ⟨3, _⟩ => ⟨S640x512, .bf16⟩
  | .local _ .vmem, ⟨4, _⟩ => ⟨S640x256, .bf16⟩
  | .local _ .vmem, ⟨5, _⟩ => ⟨S640x256, .bf16⟩
  | .local _ .vmem, ⟨6, _⟩ => ⟨S640x256, .bf16⟩
  | .local _ .vmem, ⟨7, _⟩ => ⟨S640x256, .bf16⟩
  | .local _ .vmem, ⟨8, _⟩ => ⟨S640x512, .bf16⟩
  | .local _ .vmem, ⟨9, _⟩ => ⟨S640x512, .bf16⟩
  | .local _ .vmem, ⟨10, _⟩ => ⟨S640x512, .bf16⟩
  | .local _ .vmem, ⟨11, _⟩ => ⟨S640x512, .bf16⟩
  | .local _ .vmem, ⟨12, _⟩ => ⟨S640x128, .bf16⟩
  | .local _ .vmem, ⟨13, _⟩ => ⟨S640x128, .bf16⟩
  | .local _ .vmem, ⟨14, _⟩ => ⟨S2048x1024, .bf16⟩
  | .local _ .vmem, ⟨15, _⟩ => ⟨S128x1024, .bf16⟩
  | .local _ .vmem, ⟨16, _⟩ => ⟨S640x1024, .f32⟩
  | .local _ .vmem, ⟨17, _⟩ => ⟨S640x1024, .f32⟩
  | .local _ .vmem, ⟨18, _⟩ => ⟨S640x2048, .bf16⟩
  | .local _ .vmem, ⟨19, _⟩ => ⟨S640x2048, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojReferenceIdeal.lean ====
abbrev S8320x1024 : Shape := ⟨2, ![8320, 1024]⟩
abbrev S8320x512 : Shape := ⟨2, ![8320, 512]⟩
abbrev S8320x256 : Shape := ⟨2, ![8320, 256]⟩
abbrev S8320x16 : Shape := ⟨2, ![8320, 16]⟩
abbrev S1024x2064 : Shape := ⟨2, ![1024, 2064]⟩
abbrev S8320x2064 : Shape := ⟨2, ![8320, 2064]⟩
abbrev S_ : Shape := ⟨0, ![]⟩
abbrev S8320x2048 : Shape := ⟨2, ![8320, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S8320x256, .f32⟩
  | .hbm, ⟨3, _⟩ => ⟨S8320x256, .f32⟩
  | .hbm, ⟨4, _⟩ => ⟨S8320x512, .f32⟩
  | .hbm, ⟨5, _⟩ => ⟨S8320x512, .f32⟩
  | .hbm, ⟨6, _⟩ => ⟨S8320x16, .f32⟩
  | .hbm, ⟨7, _⟩ => ⟨S1024x2064, .f32⟩
  | .hbm, ⟨8, _⟩ => ⟨S8320x2064, .f32⟩
  | .hbm, ⟨9, _⟩ => ⟨S_, .f32⟩
  | .hbm, ⟨10, _⟩ => ⟨S8320x1024, .f32⟩
  | .hbm, ⟨11, _⟩ => ⟨S8320x2064, .f32⟩
  | .hbm, ⟨12, _⟩ => ⟨S8320x1024, .f32⟩
  | .hbm, ⟨13, _⟩ => ⟨S8320x1024, .f32⟩
  | .hbm, ⟨14, _⟩ => ⟨S8320x2048, .f32⟩
  | .hbm, ⟨15, _⟩ => ⟨S8320x2048, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== OutprojKernel.lean ====
abbrev S8320x512 : Shape := ⟨2, ![8320, 512]⟩
abbrev S1024x1024 : Shape := ⟨2, ![1024, 1024]⟩
abbrev S8320x1024 : Shape := ⟨2, ![8320, 1024]⟩
abbrev S1x1024 : Shape := ⟨2, ![1, 1024]⟩
abbrev S8320x1 : Shape := ⟨2, ![8320, 1]⟩
abbrev S640x512 : Shape := ⟨2, ![640, 512]⟩
abbrev S640x1024 : Shape := ⟨2, ![640, 1024]⟩
abbrev S640x1 : Shape := ⟨2, ![640, 1]⟩
abbrev S320x1024 : Shape := ⟨2, ![320, 1024]⟩
abbrev S320x512 : Shape := ⟨2, ![320, 512]⟩
abbrev S512x1024 : Shape := ⟨2, ![512, 1024]⟩
abbrev S320 : Shape := ⟨1, ![320]⟩
abbrev S320x1 : Shape := ⟨2, ![320, 1]⟩

abbrev nBuf : Space → Nat
  | .hbm => 11
  | .vmem => 13
  | .smem => 0
  | _ => 0

abbrev bufTy : (tb : Table) → Fin (tcTables nBuf tb) → BufTy
  | .hbm, ⟨0, _⟩ => ⟨S8320x512, .f32⟩
  | .hbm, ⟨1, _⟩ => ⟨S8320x512, .f32⟩
  | .hbm, ⟨2, _⟩ => ⟨S1024x1024, .f32⟩
  | .hbm, ⟨3, _⟩ => ⟨S8320x1024, .f32⟩
  | .hbm, ⟨4, _⟩ => ⟨S1x1024, .f32⟩
  | .hbm, ⟨5, _⟩ => ⟨S1x1024, .f32⟩
  | .hbm, ⟨6, _⟩ => ⟨S8320x512, .bf16⟩
  | .hbm, ⟨7, _⟩ => ⟨S8320x512, .bf16⟩
  | .hbm, ⟨8, _⟩ => ⟨S1024x1024, .bf16⟩
  | .hbm, ⟨9, _⟩ => ⟨S8320x1024, .f32⟩
  | .hbm, ⟨10, _⟩ => ⟨S8320x1, .f32⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S1024x1024, .bf16⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S1x1024, .f32⟩
  | .local _ .vmem, ⟨9, _⟩ => ⟨S640x1024, .f32⟩
  | .local _ .vmem, ⟨10, _⟩ => ⟨S640x1024, .f32⟩
  | .local _ .vmem, ⟨11, _⟩ => ⟨S640x1, .f32⟩
  | .local _ .vmem, ⟨12, _⟩ => ⟨S640x1, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojReferenceIdeal.lean ====
abbrev S8320x512 : Shape := ⟨2, ![8320, 512]⟩
abbrev S1024x1024 : Shape := ⟨2, ![1024, 1024]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩

abbrev nBuf : Space → Nat
  | .hbm => 39
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S8320x512, .f32⟩
  | .hbm, ⟨2, _⟩ => ⟨S1024x1024, .f32⟩
  | .hbm, ⟨3, _⟩ => ⟨S8320x1024, .f32⟩
  | .hbm, ⟨4, _⟩ => ⟨S1x1024, .f32⟩
  | .hbm, ⟨5, _⟩ => ⟨S1x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S_, .f32⟩
  | .hbm, ⟨17, _⟩ => ⟨S8320, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S_, .f32⟩
  | .hbm, ⟨26, _⟩ => ⟨S8320, .f32⟩
  | .hbm, ⟨27, _⟩ => ⟨S8320x1, .f32⟩
  | .hbm, ⟨28, _⟩ => ⟨S_, .f32⟩
  | .hbm, ⟨29, _⟩ => ⟨S8320x1, .f32⟩
  | .hbm, ⟨30, _⟩ => ⟨S8320x1, .f32⟩
  | .hbm, ⟨31, _⟩ => ⟨S_, .f32⟩
  | .hbm, ⟨32, _⟩ => ⟨S8320x1, .f32⟩
  | .hbm, ⟨33, _⟩ => ⟨S8320x1, .f32⟩
  | .hbm, ⟨34, _⟩ => ⟨S8320x1, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .f32⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.FfnRuns.lean ====
/-
The conditions of the feed-forward backward body and the table of points at which an output buffer is fresh.
-/
module

public import Idealize.ShloMosaic.Lib.Pipeline.TableIdle
public import proofs.«01_k».proof.Proof.Gen.FfnKernelIdeal.Points
public import proofs.«01_k».proof.Proof.Gen.FfnKernelIdeal.Skeleton
public import proofs.«01_k».proof.Proof.Gen.FfnKernelIdeal.Frame

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid is at the first chunk of a block of rows. -/
abbrev cond0 (i : grid0.Coords) : Prop := k0_cond1 i = 1#1
/-- The grid is at the first block of rows. -/
abbrev cond1 (i : grid0.Coords) : Prop := k0_cond2 i = 1#1

theorem cond0_iff : ∀ t : Fin cfg0.N, cond0 (grid0.coords t) ↔ t.val % 4 = 0 := by decide +kernel
theorem cond1_iff : ∀ t : Fin cfg0.N, cond1 (grid0.coords t) ↔ t.val < 4 := by decide +kernel

theorem idle10 : ∀ t : Fin cfg0.N, cfg0.idle 10 (grid0.coords t) = true → ¬ t.val % 4 = 0 := by decide +kernel
theorem idle14 : ∀ t : Fin cfg0.N, cfg0.idle 14 (grid0.coords t) = true → ¬ t.val % 4 = 0 := by decide +kernel
theorem idle15 : ∀ t : Fin cfg0.N, cfg0.idle 15 (grid0.coords t) = true → ¬ t.val % 4 = 0 := by decide +kernel
theorem live10 : ∀ t : Fin cfg0.N, t.val % 4 = 0 → cfg0.idle 10 (grid0.coords t) = false := by decide +kernel
theorem live14 : ∀ t : Fin cfg0.N, t.val % 4 = 0 → cfg0.idle 14 (grid0.coords t) = false := by decide +kernel
theorem live15 : ∀ t : Fin cfg0.N, t.val % 4 = 0 → cfg0.idle 15 (grid0.coords t) = false := by decide +kernel

/-- Output 10's buffer is fresh at the first chunk of every block of rows. -/
def tab10 (n : ℕ) : Bool := decide (n % 4 = 0)
/-- The two accumulated outputs' buffers are fresh at the first point only. -/
def tab14 (n : ℕ) : Bool := decide (n % 52 = 0)

theorem tab10_step : ∀ t : Fin cfg0.N, tab10 (t.val + 1) = ((cfg0.win 10).flush t || (cfg0.idle 10 (cfg0.grid.coords t) && tab10 t.val)) := by decide +kernel
theorem tab14_step : ∀ t : Fin cfg0.N, tab14 (t.val + 1) = ((cfg0.win 14).flush t || (cfg0.idle 14 (cfg0.grid.coords t) && tab14 t.val)) := by decide +kernel
theorem tab15_step : ∀ t : Fin cfg0.N, tab14 (t.val + 1) = ((cfg0.win 15).flush t || (cfg0.idle 15 (cfg0.grid.coords t) && tab14 t.val)) := by decide +kernel

theorem fresh10 (t : Fin cfg0.N) : cfg0.fresh 10 t.val = tab10 t.val :=
  Pipeline.Cfg.fresh_tab cfg0 10 tab10 rfl tab10_step t.val (Nat.le_of_lt t.isLt)
theorem fresh14 (t : Fin cfg0.N) : cfg0.fresh 14 t.val = tab14 t.val :=
  Pipeline.Cfg.fresh_tab cfg0 14 tab14 rfl tab14_step t.val (Nat.le_of_lt t.isLt)
theorem fresh15 (t : Fin cfg0.N) : cfg0.fresh 15 t.val = tab14 t.val :=
  Pipeline.Cfg.fresh_tab cfg0 15 tab14 rfl tab15_step t.val (Nat.le_of_lt t.isLt)

end Cert.FfnKernelIdeal.Hand

end
-- ==== Proof.FfnRunB.lean ====
/-
The run of the feed-forward backward body at a later chunk of a block of rows.
-/
module

public import proofs.«01_k».proof.Proof.FfnRuns

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {a0 : Memref sig .tc .vmem S640x1024 .f32} (h0 : a0.IsWhole)
  {a1 : Memref sig .tc .vmem S640x1024 .f32} (h1 : a1.IsWhole)
  {a2 : Memref sig .tc .vmem S640x1 .f32} (h2 : a2.IsWhole)
  {a3 : Memref sig .tc .vmem S1x1024 .f32} (h3 : a3.IsWhole)
  {a4 : Memref sig .tc .vmem S1x640x704 .bf16} (h4 : a4.IsWhole)
  {a5 : Memref sig .tc .vmem S1x640x704 .bf16} (h5 : a5.IsWhole)
  {a6 : Memref sig .tc .vmem S1x704x1024 .bf16} (h6 : a6.IsWhole)
  {a7 : Memref sig .tc .vmem S1x704x1024 .bf16} (h7 : a7.IsWhole)
  {a8 : Memref sig .tc .vmem S1x704x1024 .bf16} (h8 : a8.IsWhole)
  {a9 : Memref sig .tc .vmem S640x1024 .f32} (h9 : a9.IsWhole)
  {a10 : Memref sig .tc .vmem S640x1024 .bf16} (h10 : a10.IsWhole)
  {a11 : Memref sig .tc .vmem S1x640x704 .bf16} (h11 : a11.IsWhole)
  {a12 : Memref sig .tc .vmem S1x640x704 .bf16} (h12 : a12.IsWhole)
  {a13 : Memref sig .tc .vmem S1x640x704 .bf16} (h13 : a13.IsWhole)
  {a14 : Memref sig .tc .vmem S1x1024 .f32} (h14 : a14.IsWhole)
  {a15 : Memref sig .tc .vmem S1x1024 .f32} (h15 : a15.IsWhole)
  {a16 : Memref sig .tc .vmem S640x1024 .bf16} (h16 : a16.IsWhole)

set_option maxHeartbeats 1000000 in
/-- What the body's stores leave at a later chunk of a block of rows: per buffer stored into, the pieces written (last first), with the
    body's triple. -/
noncomputable def runB (hc0 : ¬cond0 i)
    (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) :
    Σ' (L9 : List (View.Piece (Elt F) S640x1024 .f32)), Σ' (L11 : List (View.Piece (Elt F) S1x640x704 .bf16)), Σ' (L12 : List (View.Piece (Elt F) S1x640x704 .bf16)), { L13 : List (View.Piece (Elt F) S1x640x704 .bf16) //
      ∀ (E : Set ℕ) (K : PUnit → sProp 𝕄),
        iprop(owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a11 fullShare d) ∗ (∃ d, owns (c : Thread nD τ) a12 fullShare d) ∗ (∃ d, owns (c : Thread nD τ) a13 fullShare d) ∗ owns (c : Thread nD τ) a16 fullShare x16
            ∗ (iprop(owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ owns (c : Thread nD τ) a16 fullShare x16) -∗ K ⟨⟩))
          ⊢ wp frame (wpE (defs₀ (F := F)) Variants.none c none) E (cc0_ffn_bwd i a0 h0 a1 h1 a2 h2 a3 h3 a4 h4 a5 h5 a6 h6 a7 h7 a8 h8 a9 h9 a10 h10 a11 h11 a12 h12 a13 h13 a14 h14 a15 h15 a16 h16) K } := by
  refine ⟨?_, ?_, ?_, ?_, fun E K => ?run⟩
  case run =>
    simp only [cc0_ffn_bwd_eq_skeleton]; unfold cc0_ffn_bwd_skel
    simp only [k0_part2_eq_skeleton, k0_part3_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%f16, %hf16, H16⟩, Hk⟩
    obtain rfl := h4.eq_unread hf4; obtain rfl := h5.eq_unread hf5; obtain rfl := h6.eq_unread hf6; obtain rfl := h7.eq_unread hf7; obtain rfl := h8.eq_unread hf8; obtain rfl := h9.eq_unread hf9; obtain rfl := h16.eq_unread hf16
    sl_exec (disch := sl_exact hc0)
    sl_step
    iapply Hk
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H11]; · iexists _; iexact H11
    isplitl [H12]; · iexists _; iexact H12
    isplitl [H13]; · iexists _; iexact H13
    iexists _; isplitr; · ipureintro; exact h16.read_unread _
    iexact H16

end Cert.FfnKernelIdeal.Hand

end
-- ==== Proof.FfnRunA.lean ====
/-
The run of the feed-forward backward body at the first point of the grid.
-/
module

public import proofs.«01_k».proof.Proof.FfnRunB

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {a0 : Memref sig .tc .vmem S640x1024 .f32} (h0 : a0.IsWhole)
  {a1 : Memref sig .tc .vmem S640x1024 .f32} (h1 : a1.IsWhole)
  {a2 : Memref sig .tc .vmem S640x1 .f32} (h2 : a2.IsWhole)
  {a3 : Memref sig .tc .vmem S1x1024 .f32} (h3 : a3.IsWhole)
  {a4 : Memref sig .tc .vmem S1x640x704 .bf16} (h4 : a4.IsWhole)
  {a5 : Memref sig .tc .vmem S1x640x704 .bf16} (h5 : a5.IsWhole)
  {a6 : Memref sig .tc .vmem S1x704x1024 .bf16} (h6 : a6.IsWhole)
  {a7 : Memref sig .tc .vmem S1x704x1024 .bf16} (h7 : a7.IsWhole)
  {a8 : Memref sig .tc .vmem S1x704x1024 .bf16} (h8 : a8.IsWhole)
  {a9 : Memref sig .tc .vmem S640x1024 .f32} (h9 : a9.IsWhole)
  {a10 : Memref sig .tc .vmem S640x1024 .bf16} (h10 : a10.IsWhole)
  {a11 : Memref sig .tc .vmem S1x640x704 .bf16} (h11 : a11.IsWhole)
  {a12 : Memref sig .tc .vmem S1x640x704 .bf16} (h12 : a12.IsWhole)
  {a13 : Memref sig .tc .vmem S1x640x704 .bf16} (h13 : a13.IsWhole)
  {a14 : Memref sig .tc .vmem S1x1024 .f32} (h14 : a14.IsWhole)
  {a15 : Memref sig .tc .vmem S1x1024 .f32} (h15 : a15.IsWhole)
  {a16 : Memref sig .tc .vmem S640x1024 .bf16} (h16 : a16.IsWhole)

set_option maxHeartbeats 1000000 in
/-- What the body's stores leave at the first point of the grid: per buffer stored into, the pieces written (last first), with the
    body's triple. -/
noncomputable def runA (hc0 : cond0 i) (hc1 : cond1 i)
    (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    Σ' (L9 : List (View.Piece (Elt F) S640x1024 .f32)), Σ' (L10 : List (View.Piece (Elt F) S640x1024 .bf16)), Σ' (L11 : List (View.Piece (Elt F) S1x640x704 .bf16)), Σ' (L12 : List (View.Piece (Elt F) S1x640x704 .bf16)), Σ' (L13 : List (View.Piece (Elt F) S1x640x704 .bf16)), Σ' (L14 : List (View.Piece (Elt F) S1x1024 .f32)), Σ' (L15 : List (View.Piece (Elt F) S1x1024 .f32)), { L16 : List (View.Piece (Elt F) S640x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (∃ f, a16.view.loc (c : Thread nD τ) ↦[a16.view.set]{fullShare} a16.view.writes (Elt F) f L16)) -∗ K ⟨⟩))
          ⊢ wp frame (wpE (defs₀ (F := F)) Variants.none c none) E (cc0_ffn_bwd i a0 h0 a1 h1 a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, fun E K => ?run⟩
  case run =>
    simp only [cc0_ffn_bwd_eq_skeleton]; unfold cc0_ffn_bwd_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.FfnKernelIdeal.Hand

end
-- ==== Proof.FfnRunC.lean ====
/-
The run of the feed-forward backward body at the first chunk of a later block of rows.
-/
module

public import proofs.«01_k».proof.Proof.FfnRunA

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {a0 : Memref sig .tc .vmem S640x1024 .f32} (h0 : a0.IsWhole)
  {a1 : Memref sig .tc .vmem S640x1024 .f32} (h1 : a1.IsWhole)
  {a2 : Memref sig .tc .vmem S640x1 .f32} (h2 : a2.IsWhole)
  {a3 : Memref sig .tc .vmem S1x1024 .f32} (h3 : a3.IsWhole)
  {a4 : Memref sig .tc .vmem S1x640x704 .bf16} (h4 : a4.IsWhole)
  {a5 : Memref sig .tc .vmem S1x640x704 .bf16} (h5 : a5.IsWhole)
  {a6 : Memref sig .tc .vmem S1x704x1024 .bf16} (h6 : a6.IsWhole)
  {a7 : Memref sig .tc .vmem S1x704x1024 .bf16} (h7 : a7.IsWhole)
  {a8 : Memref sig .tc .vmem S1x704x1024 .bf16} (h8 : a8.IsWhole)
  {a9 : Memref sig .tc .vmem S640x1024 .f32} (h9 : a9.IsWhole)
  {a10 : Memref sig .tc .vmem S640x1024 .bf16} (h10 : a10.IsWhole)
  {a11 : Memref sig .tc .vmem S1x640x704 .bf16} (h11 : a11.IsWhole)
  {a12 : Memref sig .tc .vmem S1x640x704 .bf16} (h12 : a12.IsWhole)
  {a13 : Memref sig .tc .vmem S1x640x704 .bf16} (h13 : a13.IsWhole)
  {a14 : Memref sig .tc .vmem S1x1024 .f32} (h14 : a14.IsWhole)
  {a15 : Memref sig .tc .vmem S1x1024 .f32} (h15 : a15.IsWhole)
  {a16 : Memref sig .tc .vmem S640x1024 .bf16} (h16 : a16.IsWhole)

set_option maxHeartbeats 1000000 in
/-- What the body's stores leave at the first chunk of a later block of rows: per buffer stored into, the pieces written (last first), with the
    body's triple. -/
noncomputable def runC (hc0 : cond0 i) (hc1 : ¬cond1 i)
    (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    Σ' (L9 : List (View.Piece (Elt F) S640x1024 .f32)), Σ' (L10 : List (View.Piece (Elt F) S640x1024 .bf16)), Σ' (L11 : List (View.Piece (Elt F) S1x640x704 .bf16)), Σ' (L12 : List (View.Piece (Elt F) S1x640x704 .bf16)), Σ' (L13 : List (View.Piece (Elt F) S1x640x704 .bf16)), Σ' (L14 : List (View.Piece (Elt F) S1x1024 .f32)), Σ' (L15 : List (View.Piece (Elt F) S1x1024 .f32)), { L16 : List (View.Piece (Elt F) S640x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ owns (c : Thread nD τ) a14 fullShare x14 ∗ owns (c : Thread nD τ) a15 fullShare x15 ∗ (∃ d, owns (c : Thread nD τ) a16 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (∃ f, a16.view.loc (c : Thread nD τ) ↦[a16.view.set]{fullShare} a16.view.writes (Elt F) f L16)) -∗ K ⟨⟩))
          ⊢ wp frame (wpE (defs₀ (F := F)) Variants.none c none) E (cc0_ffn_bwd i a0 h0 a1 h1 a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, fun E K => ?run⟩
  case run =>
    simp only [cc0_ffn_bwd_eq_skeleton]; unfold cc0_ffn_bwd_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%d16, %f16, -, H16⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h14.eq_unread hf14; obtain rfl := h15.eq_unread hf15
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.FfnKernelIdeal.Hand

end
-- ==== Proof.FfnFrame0.lean ====
/-
The frame of the feed-forward backward kernel: what each buffer holds after each point of the grid, and the
pipeline run from it.
-/
module

public import proofs.«01_k».proof.Proof.FfnRunC

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The staging buffers at a point, each whole. -/

abbrev ms0_0 (t : Fin cfg0.N) : Memref sig .tc .vmem S640x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640x704 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x704x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x704x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x704x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S640x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S640x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x640x704 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x640x704 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x640x704 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev scM : Memref sig .tc .vmem S640x1024 .bf16 := Memref.whole cc0_scratch0

abbrev VO9 : View sig .tc .vmem S640x1024 .f32 := (Memref.whole cc0_stg9_0 : Memref sig .tc .vmem S640x1024 .f32).view
abbrev VO10 : View sig .tc .vmem S640x1024 .bf16 := (Memref.whole cc0_stg10_0 : Memref sig .tc .vmem S640x1024 .bf16).view
abbrev VO11 : View sig .tc .vmem S1x640x704 .bf16 := (Memref.whole cc0_stg11_0 : Memref sig .tc .vmem S1x640x704 .bf16).view
abbrev VO12 : View sig .tc .vmem S1x640x704 .bf16 := (Memref.whole cc0_stg12_0 : Memref sig .tc .vmem S1x640x704 .bf16).view
abbrev VO13 : View sig .tc .vmem S1x640x704 .bf16 := (Memref.whole cc0_stg13_0 : Memref sig .tc .vmem S1x640x704 .bf16).view
abbrev VO14 : View sig .tc .vmem S1x1024 .f32 := (Memref.whole cc0_stg14_0 : Memref sig .tc .vmem S1x1024 .f32).view
abbrev VO15 : View sig .tc .vmem S1x1024 .f32 := (Memref.whole cc0_stg15_0 : Memref sig .tc .vmem S1x1024 .f32).view
abbrev VO16 : View sig .tc .vmem S640x1024 .bf16 := scM.view

def outA_9 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S640x1024 .f32 :=
  VO9.read (Elt F) (VO9.writes (Elt F) VO9.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).1)

theorem covA_9 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).1, y ∈ p.1.set :=
  fun y => View.cover_of_tiledBy (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).1 ![320, 1024] (by sl_kernel_rfl) y

def outA_10 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S640x1024 .bf16 :=
  VO10.read (Elt F) (VO10.writes (Elt F) VO10.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.1)

theorem covA_10 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.1 S640x1024.size (by sl_kernel_rfl) y

def outA_11 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S1x640x704 .bf16 :=
  VO11.read (Elt F) (VO11.writes (Elt F) VO11.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.1)

theorem covA_11 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.1 S1x320x704.size (by sl_kernel_rfl) y

def outA_12 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S1x640x704 .bf16 :=
  VO12.read (Elt F) (VO12.writes (Elt F) VO12.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.1)

theorem covA_12 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.1 S1x320x704.size (by sl_kernel_rfl) y

def outA_13 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S1x640x704 .bf16 :=
  VO13.read (Elt F) (VO13.writes (Elt F) VO13.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.1)

theorem covA_13 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.1 S1x320x704.size (by sl_kernel_rfl) y

def outA_14 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S1x1024 .f32 :=
  VO14.read (Elt F) (VO14.writes (Elt F) VO14.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.1)

theorem covA_14 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.1 S1x1024.size (by sl_kernel_rfl) y

def outA_15 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S1x1024 .f32 :=
  VO15.read (Elt F) (VO15.writes (Elt F) VO15.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.2.1)

theorem covA_15 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.2.1 S1x1024.size (by sl_kernel_rfl) y

def outA_16 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) : Vec F S640x1024 .bf16 :=
  VO16.read (Elt F) (VO16.writes (Elt F) VO16.junk (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.2.2.1)

theorem covA_16 (c : Dev nD) (t : Fin cfg0.N) (hc0 : cond0 (grid0.coords t)) (hc1 : cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8).2.2.2.2.2.2.2.1 S640x1024.size (by sl_kernel_rfl) y

def outB_9 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) : Vec F S640x1024 .f32 :=
  VO9.read (Elt F) (VO9.writes (Elt F) VO9.junk (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).1)

theorem covB_9 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) :
    ∀ y, ∃ p ∈ (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).1, y ∈ p.1.set :=
  fun y => View.cover_of_tiledL (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).1 S320x1024.size (by sl_kernel_rfl) y

def outB_11 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) : Vec F S1x640x704 .bf16 :=
  VO11.read (Elt F) (VO11.writes (Elt F) VO11.junk (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.1)

theorem covB_11 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) :
    ∀ y, ∃ p ∈ (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.1, y ∈ p.1.set :=
  fun y => View.cover_of_tiledL (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.1 S1x320x704.size (by sl_kernel_rfl) y

def outB_12 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) : Vec F S1x640x704 .bf16 :=
  VO12.read (Elt F) (VO12.writes (Elt F) VO12.junk (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.2.1)

theorem covB_12 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) :
    ∀ y, ∃ p ∈ (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.2.1, y ∈ p.1.set :=
  fun y => View.cover_of_tiledL (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.2.1 S1x320x704.size (by sl_kernel_rfl) y

def outB_13 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) : Vec F S1x640x704 .bf16 :=
  VO13.read (Elt F) (VO13.writes (Elt F) VO13.junk (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.2.2.1)

theorem covB_13 (c : Dev nD) (t : Fin cfg0.N) (hc0 : ¬cond0 (grid0.coords t)) (x4 : Vec F S1x640x704 .bf16) (x5 : Vec F S1x640x704 .bf16) (x6 : Vec F S1x704x1024 .bf16) (x7 : Vec F S1x704x1024 .bf16) (x8 : Vec F S1x704x1024 .bf16) (x9 : Vec F S640x1024 .f32) (x16 : Vec F S640x1024 .bf16) :
    ∀ y, ∃ p ∈ (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.2.2.1, y ∈ p.1.set :=
  fun y => View.cover_of_tiledL (runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 x4 x5 x6 x7 x8 x9 x16).2.2.2.1 S1x320x704.size (by sl_kernel_rfl) y

def outC_9 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S640x1024 .f32 :=
  VO9.read (Elt F) (VO9.writes (Elt F) VO9.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).1)

theorem covC_9 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).1, y ∈ p.1.set :=
  fun y => View.cover_of_tiledBy (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).1 ![320, 1024] (by sl_kernel_rfl) y

def outC_10 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S640x1024 .bf16 :=
  VO10.read (Elt F) (VO10.writes (Elt F) VO10.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.1)

theorem covC_10 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.1 S640x1024.size (by sl_kernel_rfl) y

def outC_11 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S1x640x704 .bf16 :=
  VO11.read (Elt F) (VO11.writes (Elt F) VO11.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.1)

theorem covC_11 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.1 S1x320x704.size (by sl_kernel_rfl) y

def outC_12 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S1x640x704 .bf16 :=
  VO12.read (Elt F) (VO12.writes (Elt F) VO12.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.1)

theorem covC_12 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.1 S1x320x704.size (by sl_kernel_rfl) y

def outC_13 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S1x640x704 .bf16 :=
  VO13.read (Elt F) (VO13.writes (Elt F) VO13.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.1)

theorem covC_13 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.1 S1x320x704.size (by sl_kernel_rfl) y

def outC_14 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S1x1024 .f32 :=
  VO14.read (Elt F) (VO14.writes (Elt F) VO14.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.1)

theorem covC_14 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.1 S1x1024.size (by sl_kernel_rfl) y

def outC_15 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S1x1024 .f32 :=
  VO15.read (Elt F) (VO15.writes (Elt F) VO15.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.2.1)

theorem covC_15 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.2.1 S1x1024.size (by sl_kernel_rfl) y

def outC_16 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) : Vec F S640x1024 .bf16 :=
  VO16.read (Elt F) (VO16.writes (Elt F) VO16.junk (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.2.2.1)

theorem covC_16 (c : Dev nD) (t : Fin cfg0.N) (hc0 : cond0 (grid0.coords t)) (hc1 : ¬cond1 (grid0.coords t)) (x0 : Vec F S640x1024 .f32) (x1 : Vec F S640x1024 .f32) (x2 : Vec F S640x1 .f32) (x3 : Vec F S1x1024 .f32) (x4 : Vec F S1x640x704 .bf16) (x5 : Vec F S1x640x704 .bf16) (x6 : Vec F S1x704x1024 .bf16) (x7 : Vec F S1x704x1024 .bf16) (x8 : Vec F S1x704x1024 .bf16) (x14 : Vec F S1x1024 .f32) (x15 : Vec F S1x1024 .f32) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 x0 x1 x2 x3 x4 x5 x6 x7 x8 x14 x15).2.2.2.2.2.2.2.1 S640x1024.size (by sl_kernel_rfl) y

end Cert.FfnKernelIdeal.Hand

end
-- ==== Proof.FfnFrame.lean ====
/-
The proof data of the feed-forward backward pipeline, its body obligation at every point, the run and the frame.
-/
module

public import Idealize.ShloMosaic.Lib.Claim
public import proofs.«01_k».proof.Proof.FfnFrame0

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the seven output buffers and the scratch hold. -/
abbrev St (F : FTy → Type) : Type := Vec F S640x1024 .f32 × Vec F S640x1024 .bf16 × Vec F S1x640x704 .bf16 × Vec F S1x640x704 .bf16 × Vec F S1x640x704 .bf16 × Vec F S1x1024 .f32 × Vec F S1x1024 .f32 × Vec F S640x1024 .bf16

def ptA (c : Dev nD) (t : Fin cfg0.N) (hc0 : cond0 (grid0.coords t)) (hc1 : cond1 (grid0.coords t)) : St F :=
  (outA_9 c t hc0 hc1 (iblk m c 0 t) (iblk m c 1 t) (iblk m c 2 t) (iblk m c 3 t) (iblk m c 4 t) (iblk m c 5 t) (iblk m c 6 t) (iblk m c 7 t) (iblk m c 8 t),
   outA_10 c t hc0 hc1 (iblk m c 0 t) (iblk m c 1 t) (iblk m c 2 t) (iblk m c 3 t) (iblk m c 4 t) (iblk m c 5 t) (iblk m c 6 t) (iblk m c 7 t) (iblk m c 8 t),
   outA_11 c t hc0 hc1 (iblk m c 0 t) (iblk m c 1 t) (iblk m c 2 t) (iblk m c 3 t) (iblk m c 4 t) (iblk m c 5 t) (iblk m c 6 t) (iblk m c 7 t) (iblk m c 8 t),
   outA_12 c t hc0 hc1 (iblk m c 0 t) (iblk m c 1 t) (iblk m c 2 t) (iblk m c 3 t) (iblk m c 4 t) (iblk m c 5 t) (iblk m c 6 t) (iblk m c 7 t) (iblk m c 8 t),
   outA_13 c t hc0 hc1 (iblk m c 0 t) (iblk m c 1 t) (iblk m c 2 t) (iblk m c 3 t) (iblk m c 4 t) (iblk m c 5 t) (iblk m c 6 t) (iblk m c 7 t) (iblk m c 8 t),
   outA_14 c t hc0 hc1 (iblk m c 0 t) (iblk m c 1 t) (iblk m c 2 t) (iblk m c 3 t) (iblk m c 4 t) (iblk m c 5 t) (iblk m c 6 t) (iblk m c 7 t) (iblk m c 8 t),
   outA_15 c t hc0 hc1 (iblk m c 0 t) (iblk m c 1 t) (iblk m c 2 t) (iblk m c 3 t) (iblk m c 4 t) (iblk m c 5 t) (iblk m c 6 t) (iblk m c 7 t) (iblk m c 8 t),
   outA_16 c t hc0 hc1 (iblk m c 0 t) (iblk m c 1 t) (iblk m c 2 t) (iblk m c 3 t) (iblk m c 4 t) (iblk m c 5 t) (iblk m c 6 t) (iblk m c 7 t) (iblk m c 8 t))

def ptC (c : Dev nD) (t : Fin cfg0.N) (hc0 : cond0 (grid0.coords t)) (hc1 : ¬cond1 (grid0.coords t)) (p : St F) : St F :=
  (outC_9 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1,
   outC_10 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1,
   outC_11 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1,
   outC_12 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1,
   outC_13 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1,
   outC_14 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1,
   outC_15 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1,
   outC_16 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)

def ptB (c : Dev nD) (t : Fin cfg0.N) (hc0 : ¬cond0 (grid0.coords t)) (p : St F) : St F :=
  (outB_9 c t hc0 (iblk m c 4 t) (iblk m c 5 t) (iblk m c 6 t) (iblk m c 7 t) (iblk m c 8 t) p.1 p.2.2.2.2.2.2.2,
   p.2.1,
   outB_11 c t hc0 (iblk m c 4 t) (iblk m c 5 t) (iblk m c 6 t) (iblk m c 7 t) (iblk m c 8 t) p.1 p.2.2.2.2.2.2.2,
   outB_12 c t hc0 (iblk m c 4 t) (iblk m c 5 t) (iblk m c 6 t) (iblk m c 7 t) (iblk m c 8 t) p.1 p.2.2.2.2.2.2.2,
   outB_13 c t hc0 (iblk m c 4 t) (iblk m c 5 t) (iblk m c 6 t) (iblk m c 7 t) (iblk m c 8 t) p.1 p.2.2.2.2.2.2.2,
   p.2.2.2.2.2.1,
   p.2.2.2.2.2.2.1,
   p.2.2.2.2.2.2.2)

theorem cond0_zero (h : 0 < cfg0.N) : cond0 (grid0.coords ⟨0, h⟩) := (cond0_iff ⟨0, h⟩).mpr rfl
theorem cond1_zero (h : 0 < cfg0.N) : cond1 (grid0.coords ⟨0, h⟩) := (cond1_iff ⟨0, h⟩).mpr (by decide : (0 : ℕ) < 4)
theorem cond1_not (n : ℕ) (h : n + 1 < cfg0.N) (h0 : (n + 1) % 4 = 0) : ¬cond1 (grid0.coords ⟨n + 1, h⟩) :=
  fun q => by have := (cond1_iff ⟨n + 1, h⟩).mp q; dsimp only at this; omega

/-- What the buffers hold after each point. -/
def outs (c : Dev nD) : (n : ℕ) → n < cfg0.N → St F
  | 0, hn => ptA m c ⟨0, hn⟩ (cond0_zero hn) (cond1_zero hn)
  | n + 1, hn =>
    if h0 : (n + 1) % 4 = 0 then
      ptC m c ⟨n + 1, hn⟩ ((cond0_iff ⟨n + 1, hn⟩).mpr h0) (cond1_not n hn h0) (outs c n (Nat.lt_of_succ_lt hn))
    else
      ptB m c ⟨n + 1, hn⟩ (fun q => h0 ((cond0_iff ⟨n + 1, hn⟩).mp q)) (outs c n (Nat.lt_of_succ_lt hn))

theorem outs_A (c : Dev nD) (t : Fin cfg0.N) (h : t.val = 0) (hc0 : cond0 (grid0.coords t)) (hc1 : cond1 (grid0.coords t)) :
    outs m c t.val t.isLt = ptA m c t hc0 hc1 := by
  obtain ⟨n, hn⟩ := t
  cases n with
  | zero => rfl
  | succ n => exact absurd h (Nat.succ_ne_zero n)

theorem outs_C (c : Dev nD) (t : Fin cfg0.N) (hz : t.val ≠ 0) (hc0 : cond0 (grid0.coords t)) (hc1 : ¬cond1 (grid0.coords t)) :
    outs m c t.val t.isLt = ptC m c t hc0 hc1 (outs m c (t.val - 1) (Nat.lt_of_le_of_lt (Nat.sub_le _ _) t.isLt)) := by
  obtain ⟨n, hn⟩ := t
  cases n with
  | zero => exact absurd rfl hz
  | succ n => exact (dif_pos ((cond0_iff ⟨n + 1, hn⟩).mp hc0)).trans rfl

theorem outs_B (c : Dev nD) (t : Fin cfg0.N) (hc0 : ¬cond0 (grid0.coords t)) :
    outs m c t.val t.isLt = ptB m c t hc0 (outs m c (t.val - 1) (Nat.lt_of_le_of_lt (Nat.sub_le _ _) t.isLt)) := by
  obtain ⟨n, hn⟩ := t
  cases n with
  | zero => exact absurd ((cond0_iff ⟨0, hn⟩).mpr rfl) hc0
  | succ n => exact (dif_neg (fun q => hc0 ((cond0_iff ⟨n + 1, hn⟩).mpr q))).trans rfl

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: the scratch as the point before left it. -/
def Inv (c : Dev nD) : (n : ℕ) → n ≤ cfg0.N → sProp 𝕄
  | 0, _ => Pipeline.ΦA spec0 c
  | n + 1, hn => iprop(iprop(owns (c : Thread nD τ) scM fullShare ((outs m c n hn).2.2.2.2.2.2.2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scM fullShare ((outs m c n hn).2.2.2.2.2.2.2)) ∗ (∃ r, prngReg c r)) := rfl

theorem Inv_pos (c : Dev nD) (n : ℕ) (h : n ≤ cfg0.N) (hz : n ≠ 0) :
    Inv m c n h = iprop(iprop(owns (c : Thread nD τ) scM fullShare ((outs m c (n - 1) (by omega)).2.2.2.2.2.2.2)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val t.isLt).1
    | ⟨10, _⟩ => (outs m c t.val t.isLt).2.1
    | ⟨11, _⟩ => (outs m c t.val t.isLt).2.2.1
    | ⟨12, _⟩ => (outs m c t.val t.isLt).2.2.2.1
    | ⟨13, _⟩ => (outs m c t.val t.isLt).2.2.2.2.1
    | ⟨14, _⟩ => (outs m c t.val t.isLt).2.2.2.2.2.1
    | ⟨15, _⟩ => (outs m c t.val t.isLt).2.2.2.2.2.2.1
    | ⟨_ + 16, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outs m c t.val t.isLt).1 := by dsimp only [dats]
theorem after0_10 (c : Dev nD) (t : Fin cfg0.N) : (dats m 0 c).after 10 t = (outs m c t.val t.isLt).2.1 := by dsimp only [dats]
theorem after0_11 (c : Dev nD) (t : Fin cfg0.N) : (dats m 0 c).after 11 t = (outs m c t.val t.isLt).2.2.1 := by dsimp only [dats]
theorem after0_12 (c : Dev nD) (t : Fin cfg0.N) : (dats m 0 c).after 12 t = (outs m c t.val t.isLt).2.2.2.1 := by dsimp only [dats]
theorem after0_13 (c : Dev nD) (t : Fin cfg0.N) : (dats m 0 c).after 13 t = (outs m c t.val t.isLt).2.2.2.2.1 := by dsimp only [dats]
theorem after0_14 (c : Dev nD) (t : Fin cfg0.N) : (dats m 0 c).after 14 t = (outs m c t.val t.isLt).2.2.2.2.2.1 := by dsimp only [dats]
theorem after0_15 (c : Dev nD) (t : Fin cfg0.N) : (dats m 0 c).after 15 t = (outs m c t.val t.isLt).2.2.2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Where output 10 is not stored into, its contents are the point before's. -/
theorem keep10 (c : Dev nD) (t : Fin cfg0.N) (h : ¬t.val % 4 = 0) :
    (dats m 0 c).after 10 t = (outs m c (t.val - 1) (Nat.lt_of_le_of_lt (Nat.sub_le _ _) t.isLt)).2.1 := by
  rw [after0_10, outs_B m c t (fun q => h ((cond0_iff t).mp q))]; unfold ptB; dsimp only

theorem carry10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  rw [keep10 m c t (idle10 t hi), after0_10]

theorem before0_10 (c : Dev nD) (t : Fin cfg0.N) (h : tab10 t.val = false) (d) :
    (dats m 0 c).before 10 t d = (outs m c (t.val - 1) (Nat.lt_of_le_of_lt (Nat.sub_le _ _) t.isLt)).2.1 := by
  rw [Dat.before_out_traj _ 10 rfl (fun _ _ => rfl) (carry10 m c) t.val t rfl d,
    if_neg (by rw [fresh10 t, h]; exact Bool.false_ne_true)]
  dsimp only [dats]

/-- Where output 14 is not stored into, its contents are the point before's. -/
theorem keep14 (c : Dev nD) (t : Fin cfg0.N) (h : ¬t.val % 4 = 0) :
    (dats m 0 c).after 14 t = (outs m c (t.val - 1) (Nat.lt_of_le_of_lt (Nat.sub_le _ _) t.isLt)).2.2.2.2.2.1 := by
  rw [after0_14, outs_B m c t (fun q => h ((cond0_iff t).mp q))]; unfold ptB; dsimp only

theorem carry14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  rw [keep14 m c t (idle14 t hi), after0_14]

theorem before0_14 (c : Dev nD) (t : Fin cfg0.N) (h : tab14 t.val = false) (d) :
    (dats m 0 c).before 14 t d = (outs m c (t.val - 1) (Nat.lt_of_le_of_lt (Nat.sub_le _ _) t.isLt)).2.2.2.2.2.1 := by
  rw [Dat.before_out_traj _ 14 rfl (fun _ _ => rfl) (carry14 m c) t.val t rfl d,
    if_neg (by rw [fresh14 t, h]; exact Bool.false_ne_true)]
  dsimp only [dats]

/-- Where output 15 is not stored into, its contents are the point before's. -/
theorem keep15 (c : Dev nD) (t : Fin cfg0.N) (h : ¬t.val % 4 = 0) :
    (dats m 0 c).after 15 t = (outs m c (t.val - 1) (Nat.lt_of_le_of_lt (Nat.sub_le _ _) t.isLt)).2.2.2.2.2.2.1 := by
  rw [after0_15, outs_B m c t (fun q => h ((cond0_iff t).mp q))]; unfold ptB; dsimp only

theorem carry15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  rw [keep15 m c t (idle15 t hi), after0_15]

theorem before0_15 (c : Dev nD) (t : Fin cfg0.N) (h : tab14 t.val = false) (d) :
    (dats m 0 c).before 15 t d = (outs m c (t.val - 1) (Nat.lt_of_le_of_lt (Nat.sub_le _ _) t.isLt)).2.2.2.2.2.2.1 := by
  rw [Dat.before_out_traj _ 15 rfl (fun _ _ => rfl) (carry15 m c) t.val t rfl d,
    if_neg (by rw [fresh15 t, h]; exact Bool.false_ne_true)]
  dsimp only [dats]

theorem before0_9 (c : Dev nD) (t : Fin cfg0.N) (h : ¬t.val % 4 = 0) (d) :
    (dats m 0 c).before 9 t d = (outs m c (t.val - 1) (Nat.lt_of_le_of_lt (Nat.sub_le _ _) t.isLt)).1 := by
  have hN : t.val < 52 := lt_of_lt_of_eq t.isLt (show cfg0.N = 52 from N_0)
  rw [Dat.before_out_kept _ 9 rfl t (by omega) (Bool.eq_false_iff.mpr fun h => by have := (flush0_9 _).mp h; dsimp only at this; omega)
    (fun _ => rfl) (fun _ _ => rfl)]
  dsimp only [dats]

theorem tab10_not (t : Fin cfg0.N) (h : ¬t.val % 4 = 0) : tab10 t.val = false := decide_eq_false h
theorem tab14_not (t : Fin cfg0.N) (h : t.val ≠ 0) : tab14 t.val = false := by
  have hN : t.val < 52 := lt_of_lt_of_eq t.isLt (show cfg0.N = 52 from N_0)
  exact decide_eq_false (by omega)

/-- A buffer the point stores into is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- A buffer that held the proof data's contents before the point and is not stored into still does. -/
theorem leaves_keep (c : Dev nD) (w : Fin cfg0.W) (t : Fin cfg0.N) (d)
    (hb : (dats m 0 c).before w t d = (dats m 0 c).after w t) :
    (owns (c : Thread nD τ) ((cfg0.win w).stage (cfg0.slots t w)) fullShare ((dats m 0 c).after w t) : sProp 𝕄)
      ⊢ (dats m 0 c).leavesExact w t := by
  unfold Dat.leavesExact
  cases hi : cfg0.idle w (cfg0.grid.coords t)
  · iintro H; iexact H
  · cases hf : (cfg0.win w).flush t
    · iintro H; iexists d; rw [hb]; iexact H
    · iintro H; iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
theorem soundA (c : Dev nD) (t : Fin cfg0.N) (hz : t.val = 0) :
    bodyPre m c t ⊢ wp frame (wpE (defs₀ (F := F)) Variants.none c none) Set.univ (bodyAt0 t) (fun _ => bodyPost m c t) := by
  have h0 : t.val % 4 = 0 := by omega
  have hc0 := (cond0_iff t).mpr h0
  have hc1 := (cond1_iff t).mpr (by omega)
  have ho := outs_A m c t hz hc0 hc1
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = Inv m c (t.val + 1) t.isLt from rfl, Inv_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 7 t rfl, after0_7]
  rw [leaves_live m c 8 t rfl, after0_8]
  rw [leaves_live m c 9 t rfl, after0_9]
  rw [leaves_live m c 10 t (live10 t h0), after0_10]
  rw [leaves_live m c 11 t rfl, after0_11]
  rw [leaves_live m c 12 t rfl, after0_12]
  rw [leaves_live m c 13 t rfl, after0_13]
  rw [leaves_live m c 14 t (live14 t h0), after0_14]
  rw [leaves_live m c 15 t (live15 t h0), after0_15]
  rw [Inv_castSucc m c t, Inv_zero m c _ _ hz, PhiA_eq]
  rw [ho]
  unfold ptA; dsimp only
  unfold outA_9 outA_10 outA_11 outA_12 outA_13 outA_14 outA_15 outA_16
  iintro ⟨⟨H16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 (iblk m c 0 t) (iblk m c 1 t) (iblk m c 2 t) (iblk m c 3 t) (iblk m c 4 t) (iblk m c 5 t) (iblk m c 6 t) (iblk m c 7 t) (iblk m c 8 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩⟩
  isplitl [H16 Hg]
  · isplitl [H16]
    · unfold owns; iexists _; isplitr
      swap; · iexact H16
      ipureintro; exact View.read_writes_of_cover _ _ _ _ _ (covA_16 c t hc0 hc1 (iblk m c 0 t) (iblk m c 1 t) (iblk m c 2 t) (iblk m c 3 t) (iblk m c 4 t) (iblk m c 5 t) (iblk m c 6 t) (iblk m c 7 t) (iblk m c 8 t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covA_9 c t hc0 hc1 (iblk m c 0 t) (iblk m c 1 t) (iblk m c 2 t) (iblk m c 3 t) (iblk m c 4 t) (iblk m c 5 t) (iblk m c 6 t) (iblk m c 7 t) (iblk m c 8 t))
  isplitl [H10]
  · unfold owns; iexists _; isplitr
    swap; · iexact H10
    ipureintro; exact View.read_writes_of_cover _ _ _ _ _ (covA_10 c t hc0 hc1 (iblk m c 0 t) (iblk m c 1 t) (iblk m c 2 t) (iblk m c 3 t) (iblk m c 4 t) (iblk m c 5 t) (iblk m c 6 t) (iblk m c 7 t) (iblk m c 8 t))
  isplitl [H11]
  · unfold owns; iexists _; isplitr
    swap; · iexact H11
    ipureintro; exact View.read_writes_of_cover _ _ _ _ _ (covA_11 c t hc0 hc1 (iblk m c 0 t) (iblk m c 1 t) (iblk m c 2 t) (iblk m c 3 t) (iblk m c 4 t) (iblk m c 5 t) (iblk m c 6 t) (iblk m c 7 t) (iblk m c 8 t))
  isplitl [H12]
  · unfold owns; iexists _; isplitr
    swap; · iexact H12
    ipureintro; exact View.read_writes_of_cover _ _ _ _ _ (covA_12 c t hc0 hc1 (iblk m c 0 t) (iblk m c 1 t) (iblk m c 2 t) (iblk m c 3 t) (iblk m c 4 t) (iblk m c 5 t) (iblk m c 6 t) (iblk m c 7 t) (iblk m c 8 t))
  isplitl [H13]
  · unfold owns; iexists _; isplitr
    swap; · iexact H13
    ipureintro; exact View.read_writes_of_cover _ _ _ _ _ (covA_13 c t hc0 hc1 (iblk m c 0 t) (iblk m c 1 t) (iblk m c 2 t) (iblk m c 3 t) (iblk m c 4 t) (iblk m c 5 t) (iblk m c 6 t) (iblk m c 7 t) (iblk m c 8 t))
  isplitl [H14]
  · unfold owns; iexists _; isplitr
    swap; · iexact H14
    ipureintro; exact View.read_writes_of_cover _ _ _ _ _ (covA_14 c t hc0 hc1 (iblk m c 0 t) (iblk m c 1 t) (iblk m c 2 t) (iblk m c 3 t) (iblk m c 4 t) (iblk m c 5 t) (iblk m c 6 t) (iblk m c 7 t) (iblk m c 8 t))
  unfold owns; iexists _; isplitr
  swap; · iexact H15
  ipureintro; exact View.read_writes_of_cover _ _ _ _ _ (covA_15 c t hc0 hc1 (iblk m c 0 t) (iblk m c 1 t) (iblk m c 2 t) (iblk m c 3 t) (iblk m c 4 t) (iblk m c 5 t) (iblk m c 6 t) (iblk m c 7 t) (iblk m c 8 t))

set_option maxHeartbeats 8000000 in
theorem soundC (c : Dev nD) (t : Fin cfg0.N) (hz : t.val ≠ 0) (h0 : t.val % 4 = 0) :
    bodyPre m c t ⊢ wp frame (wpE (defs₀ (F := F)) Variants.none c none) Set.univ (bodyAt0 t) (fun _ => bodyPost m c t) := by
  have hc0 := (cond0_iff t).mpr h0
  have hc1 : ¬cond1 (grid0.coords t) := fun q => by have := (cond1_iff t).mp q; omega
  have ho := outs_C m c t hz hc0 hc1
  have b14 := before0_14 m c t (tab14_not t hz)
  have b15 := before0_15 m c t (tab14_not t hz)
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = Inv m c (t.val + 1) t.isLt from rfl, Inv_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 7 t rfl, after0_7]
  rw [leaves_live m c 8 t rfl, after0_8]
  rw [leaves_live m c 9 t rfl, after0_9]
  rw [leaves_live m c 10 t (live10 t h0), after0_10]
  rw [leaves_live m c 11 t rfl, after0_11]
  rw [leaves_live m c 12 t rfl, after0_12]
  rw [leaves_live m c 13 t rfl, after0_13]
  rw [leaves_live m c 14 t (live14 t h0), after0_14]
  rw [leaves_live m c 15 t (live15 t h0), after0_15]
  rw [Inv_castSucc m c t, Inv_pos m c _ _ hz]
  simp only [b14, b15]
  rw [ho]
  generalize hp : outs m c (t.val - 1) (Nat.lt_of_le_of_lt (Nat.sub_le _ _) t.isLt) = p
  unfold ptC; dsimp only
  unfold outC_9 outC_10 outC_11 outC_12 outC_13 outC_14 outC_15 outC_16
  iintro ⟨⟨H16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexists _; iexact H16
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩⟩
  isplitl [H16 Hg]
  · isplitl [H16]
    · unfold owns; iexists _; isplitr
      swap; · iexact H16
      ipureintro; exact View.read_writes_of_cover _ _ _ _ _ (covC_16 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covC_9 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)
  isplitl [H10]
  · unfold owns; iexists _; isplitr
    swap; · iexact H10
    ipureintro; exact View.read_writes_of_cover _ _ _ _ _ (covC_10 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)
  isplitl [H11]
  · unfold owns; iexists _; isplitr
    swap; · iexact H11
    ipureintro; exact View.read_writes_of_cover _ _ _ _ _ (covC_11 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)
  isplitl [H12]
  · unfold owns; iexists _; isplitr
    swap; · iexact H12
    ipureintro; exact View.read_writes_of_cover _ _ _ _ _ (covC_12 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)
  isplitl [H13]
  · unfold owns; iexists _; isplitr
    swap; · iexact H13
    ipureintro; exact View.read_writes_of_cover _ _ _ _ _ (covC_13 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)
  isplitl [H14]
  · unfold owns; iexists _; isplitr
    swap; · iexact H14
    ipureintro; exact View.read_writes_of_cover _ _ _ _ _ (covC_14 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)
  unfold owns; iexists _; isplitr
  swap; · iexact H15
  ipureintro; exact View.read_writes_of_cover _ _ _ _ _ (covC_15 c t hc0 hc1 (iblk m c 0 t) (iblk m c 1 t) (iblk m c 2 t) (iblk m c 3 t) (iblk m c 4 t) (iblk m c 5 t) (iblk m c 6 t) (iblk m c 7 t) (iblk m c 8 t) p.2.2.2.2.2.1 p.2.2.2.2.2.2.1)

set_option maxHeartbeats 8000000 in
theorem soundB (c : Dev nD) (t : Fin cfg0.N) (h0 : ¬t.val % 4 = 0) :
    bodyPre m c t ⊢ wp frame (wpE (defs₀ (F := F)) Variants.none c none) Set.univ (bodyAt0 t) (fun _ => bodyPost m c t) := by
  have hz : t.val ≠ 0 := by omega
  have hc0 : ¬cond0 (grid0.coords t) := fun q => h0 ((cond0_iff t).mp q)
  have ho := outs_B m c t hc0
  have b9 := before0_9 m c t h0
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = Inv m c (t.val + 1) t.isLt from rfl, Inv_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 7 t rfl, after0_7]
  rw [leaves_live m c 8 t rfl, after0_8]
  rw [leaves_live m c 9 t rfl, after0_9]
  rw [leaves_live m c 11 t rfl, after0_11]
  rw [leaves_live m c 12 t rfl, after0_12]
  rw [leaves_live m c 13 t rfl, after0_13]
  rw [Inv_castSucc m c t, Inv_pos m c _ _ hz]
  simp only [b9]
  rw [ho]
  generalize hp : outs m c (t.val - 1) (Nat.lt_of_le_of_lt (Nat.sub_le _ _) t.isLt) = p
  unfold ptB; dsimp only
  unfold outB_9 outB_11 outB_12 outB_13
  iintro ⟨⟨H16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (Memref.isWhole_whole cc0_scratch0) hc0 (iblk m c 4 t) (iblk m c 5 t) (iblk m c 6 t) (iblk m c 7 t) (iblk m c 8 t) p.1 p.2.2.2.2.2.2.2).2.2.2.2 Set.univ _)
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  isplitl [H12]; · iexists _; iexact H12
  isplitl [H13]; · iexists _; iexact H13
  isplitl [H16]; · iexact H16
  iintro ⟨H4, H5, H6, H7, H8, ⟨%e9, H9⟩, ⟨%e11, H11⟩, ⟨%e12, H12⟩, ⟨%e13, H13⟩, H16⟩
  isplitl [H16 Hg]
  · isplitl [H16]
    · iexact H16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covB_9 c t hc0 (iblk m c 4 t) (iblk m c 5 t) (iblk m c 6 t) (iblk m c 7 t) (iblk m c 8 t) p.1 p.2.2.2.2.2.2.2)
  isplitl [H10]
  · iapply (leaves_keep m c 10 t d10 (by rw [before0_10 m c t (tab10_not t h0), keep10 m c t h0]))
    rw [keep10 m c t h0, ← before0_10 m c t (tab10_not t h0) d10]; iexact H10
  isplitl [H11]
  · unfold owns; iexists _; isplitr
    swap; · iexact H11
    ipureintro; exact View.read_writes_of_cover _ _ _ _ _ (covB_11 c t hc0 (iblk m c 4 t) (iblk m c 5 t) (iblk m c 6 t) (iblk m c 7 t) (iblk m c 8 t) p.1 p.2.2.2.2.2.2.2)
  isplitl [H12]
  · unfold owns; iexists _; isplitr
    swap; · iexact H12
    ipureintro; exact View.read_writes_of_cover _ _ _ _ _ (covB_12 c t hc0 (iblk m c 4 t) (iblk m c 5 t) (iblk m c 6 t) (iblk m c 7 t) (iblk m c 8 t) p.1 p.2.2.2.2.2.2.2)
  isplitl [H13]
  · unfold owns; iexists _; isplitr
    swap; · iexact H13
    ipureintro; exact View.read_writes_of_cover _ _ _ _ _ (covB_13 c t hc0 (iblk m c 4 t) (iblk m c 5 t) (iblk m c 6 t) (iblk m c 7 t) (iblk m c 8 t) p.1 p.2.2.2.2.2.2.2)
  isplitl [H14]
  · iapply (leaves_keep m c 14 t d14 (by rw [before0_14 m c t (tab14_not t hz), keep14 m c t h0]))
    rw [keep14 m c t h0, ← before0_14 m c t (tab14_not t hz) d14]; iexact H14
  iapply (leaves_keep m c 15 t d15 (by rw [before0_15 m c t (tab14_not t hz), keep15 m c t h0]))
  rw [keep15 m c t h0, ← before0_15 m c t (tab14_not t hz) d15]; iexact H15

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases hz : t.val = 0
    · exact soundA m c t hz
    · exact soundC m c t hz h0
  · exact soundB m c t h0

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 52 := N_0; omega
  rw [show (dats m 0 c).Φ (Fin.last cfg0.N) = Inv m c (Fin.last cfg0.N).val (Nat.le_of_lt_succ (Fin.last cfg0.N).isLt) from rfl,
    Inv_pos m c _ _ hN, PhiA_eq]
  iintro ⟨H, Hg⟩
  isplitl [H]
  · iexists _; iexact H
  iexact Hg

set_option backward.isDefEq.respectTransparency.types false in
/-- The launch: every array of the pipeline as the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnKernelIdeal.Hand

end
-- ==== Proof.FfnBits.lean ====
/-
The feed-forward backward program over bit patterns: its text is the ideal program's, so its frame is the ideal program's run, at the bit patterns.
-/
module

public import proofs.«01_k».proof.Proof.FfnFrame
public import proofs.«01_k».proof.Proof.Gen.FfnKernel
public import proofs.«01_k».proof.Defs

@[expose] public section

set_option maxRecDepth 16384

noncomputable section

open Idealize.ShloMosaic Idealize.ShloMosaic.TcCoe Idealize.SL.Sem

namespace Cert.FfnKernel.Hand

open Cert.FfnKernel Cert.FfnKernel.Gen

set_option maxHeartbeats 2000000 in
/-- The two bodies are one term. -/
theorem body_eq : @FfnKernel.cc0_ffn_bwd Bits _ _ = @FfnKernelIdeal.cc0_ffn_bwd Bits _ _ := rfl

set_option maxHeartbeats 2000000 in
theorem defs₀_eq : @FfnKernel.defs₀ Bits _ _ = @FfnKernelIdeal.defs₀ Bits _ _ := by
  unfold FfnKernel.defs₀ FfnKernelIdeal.defs₀
  refine congrArg Defs.onTc ?_
  funext l x
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _) _
  | ⟨_ + 1, h⟩, _ => exact absurd h (Nat.not_lt.2 (Nat.le_add_left _ _))

set_option maxHeartbeats 2000000 in
theorem defs_eq : @FfnKernel.defs Bits _ _ = @FfnKernelIdeal.defs Bits _ _ := by
  unfold FfnKernel.defs FfnKernelIdeal.defs
  rw [defs₀_eq]
  rfl

variable (m : (ℓ : Loc nD τ sig) → Buf (Elt Bits) ℓ) (ρ : Dev nD → PrngReg)

set_option maxHeartbeats 2000000 in
theorem frame_all : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (congrArg (fun d => θ_run d (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)) defs_eq).mpr (FfnKernelIdeal.Hand.frame_all (F := Bits) m ρ)

end Cert.FfnKernel.Hand

end
-- ==== Proof.PoolSpec.lean ====
/- The pooling gradient's sums: a running sum from the last row, and what is left when a shifted sequence is taken away. -/
module

public import Idealize.ShloMosaic.Lib.Pointwise
public import Idealize.ShloMosaic.PureOps.Ideal

@[expose] public section

noncomputable section

open Idealize.ShloMosaic

namespace Cert.PoolSpec

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem foldl_add {ι : Type} (f : ι → EReal) (l : List ι) (z : EReal) : l.foldl (fun r n => r + f n) z = z + (l.map f).sum := by
  induction l generalizing z with
  | nil => simp
  | cons a l ih => rw [List.foldl_cons, ih, List.map_cons, List.sum_cons, add_assoc]

/-- A window of all the rows, padded behind: the sum of the rows from `t` on. -/
theorem revsum {u : Shape} (x : FVec Ideal ⟨2, ![8320, 512]⟩ .f32) (init : u.Idx → Ideal .f32)
    (h : Shape.ReduceWindows ⟨2, ![8320, 512]⟩ ![8320, 1] ![1, 1] ![0, 0] ![8319, 0] ⟨2, ![8320, 512]⟩) (hu : 0 < u.numel)
    (hv : init (Shape.Idx.first hu) = (0 : EReal)) (t : Fin 8320) (q : Fin 512) :
    (Host.reduceWindowAdd (F := Ideal) ![8320, 1] ![1, 1] ![0, 0] ![8319, 0] x init h hu (ix2 t q) : EReal)
      = ∑ n : Fin 8320, if h : t.val + n.val < 8320 then (x (ix2 ⟨t.val + n.val, h⟩ q) : EReal) else 0 := by
  let W : Shape := ⟨2, ![8320, 1]⟩
  let G : W.Idx → EReal := fun w => if h : t.val + (w 0).val < 8320 then (x (ix2 ⟨t.val + (w 0).val, h⟩ q) : EReal) else 0
  have e : (Host.reduceWindowAdd (F := Ideal) ![8320, 1] ![1, 1] ![0, 0] ![8319, 0] x init h hu (ix2 t q) : EReal)
      = (List.finRange W.numel).foldl (fun r n => r + G (W.rowMajor.symm n)) (0 : EReal) := by
    rw [← hv]
    unfold Host.reduceWindowAdd
    rw [Ideal.hostReduceWindowAdd_def]
    unfold Ideal.hostReduceWindowAdd Host.reduceWindow
    dsimp only
    congr 1
    funext r n
    refine congrArg (r + ·) ?_
    have hw1 : (W.rowMajor.symm n 1).val = 0 := by have := (W.rowMajor.symm n 1).isLt; change _ < 1 at this; omega
    by_cases hh : t.val + (W.rowMajor.symm n 0).val < 8320
    · rw [dif_pos (fun a => by
        match a with
        | 0 => exact ⟨Nat.zero_le _, by show t.val * 1 + (W.rowMajor.symm n 0).val - 0 < 8320; omega⟩
        | 1 => exact ⟨Nat.zero_le _, by show q.val * 1 + (W.rowMajor.symm n 1).val - 0 < 512; omega⟩)]
      refine Eq.trans ?_ (dif_pos hh).symm
      refine congrArg x (funext fun a => ?_)
      match a with
      | 0 => exact Fin.ext (by show t.val * 1 + (W.rowMajor.symm n 0).val - 0 = t.val + (W.rowMajor.symm n 0).val; omega)
      | 1 => exact Fin.ext (by show q.val * 1 + (W.rowMajor.symm n 1).val - 0 = q.val; omega)
    · rw [dif_neg (fun hin => hh (by
        have := (hin 0).2; change t.val * 1 + (W.rowMajor.symm n 0).val - 0 < 8320 at this; omega))]
      exact hv.trans (by show (0 : EReal) = G (W.rowMajor.symm n); show (0 : EReal) = dite _ _ _; rw [dif_neg hh])
  rw [e, foldl_add, zero_add, ← Fin.sum_univ_def]
  refine (Equiv.sum_comp W.rowMajor.symm G).trans ?_
  refine Finset.sum_nbij' (fun w : W.Idx => (w 0 : Fin 8320)) (fun n => (ix2 n (0 : Fin 1) : W.Idx)) ?_ ?_ ?_ ?_ ?_
  · intro _ _; exact Finset.mem_univ _
  · intro _ _; exact Finset.mem_univ _
  · intro w _
    funext a
    match a with
    | 0 => rfl
    | 1 => exact Fin.ext (by have := (w 1).isLt; change _ < 1 at this; show 0 = (w 1).val; omega)
  · intro n _; rfl
  · intro w _; rfl

/-- Finite numbers that end before `N`: what the sum of `q` from `t` on has over the same sum `w` rows later is its first
    `w` rows. -/
theorem telescope (N t w : ℕ) (q : ℕ → EReal) (hz : ∀ n, N ≤ n → q n = 0) (hf : ∀ n, ∃ r : ℝ, q n = (r : EReal)) :
    ∑ n ∈ Finset.range N, (q (t + n) + -q (t + n + w)) = ∑ k ∈ Finset.range w, q (t + k) := by
  choose r hr using hf
  have hr0 : ∀ n, N ≤ n → r n = 0 := fun n hn => by
    have := (hr n).symm.trans (hz n hn)
    exact_mod_cast this
  have step : ∀ w, ∑ n ∈ Finset.range N, r (t + n) = ∑ k ∈ Finset.range w, r (t + k) + ∑ n ∈ Finset.range N, r (t + n + w) := by
    intro w
    induction w with
    | zero => simp
    | succ w ih =>
      have a := Finset.sum_range_succ (fun n => r (t + n + w)) N
      have b := Finset.sum_range_succ' (fun n => r (t + n + w)) N
      rw [hr0 (t + N + w) (by omega), add_zero] at a
      rw [ih, Finset.sum_range_succ, ← a, b]
      simp only [Nat.add_zero, show ∀ n, t + (n + 1) + w = t + n + (w + 1) from fun n => by omega]
      ring
  simp only [hr]
  have c1 : ∑ n ∈ Finset.range N, (((r (t + n) : ℝ) : EReal) + -((r (t + n + w) : ℝ) : EReal)) = ((∑ n ∈ Finset.range N, (r (t + n) - r (t + n + w)) : ℝ) : EReal) := by
    rw [coe_sum]
    exact Finset.sum_congr rfl fun n _ => by rw [EReal.coe_sub, sub_eq_add_neg]
  rw [c1]
  have c2 : ∑ k ∈ Finset.range w, ((r (t + k) : ℝ) : EReal) = ((∑ k ∈ Finset.range w, r (t + k) : ℝ) : EReal) := (coe_sum _ _).symm
  rw [c2, Finset.sum_sub_distrib, step w, add_sub_cancel_right]

end Cert.PoolSpec
-- ==== Proof.FfnMath.lean ====
/- The layer norm's gradient on one row, in the reference's order and in the kernel's, and the gate's derivative. -/
module

public import proofs.«01_k».proof.Proof.PoolSpec
public import Idealize.ShloMosaic.Lib.IdealHost
public import Idealize.ShloMosaic.PureOps.Ideal.Laws

@[expose] public section

noncomputable section

open Idealize.ShloMosaic

namespace Cert.FfnMath

theorem ofBits_1024 : Ideal.ofBits .f32 0x44800000#32 = ((1024 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_half : Ideal.ofBits .f32 0x3F000000#32 = (((1 : ℝ) / 2 : ℝ) : EReal) := by
  simp [Ideal.ofBits, Ideal.ieee, -EReal.coe_mul]; norm_num

theorem ofBits_neg_half : Ideal.ofBits .f32 0xBF000000#32 = ((-(1 / 2 : ℝ) : ℝ) : EReal) := by
  simp [Ideal.ofBits, Ideal.ieee, -EReal.coe_mul, -EReal.coe_neg]; norm_num

theorem ofBits_one : Ideal.ofBits .f32 0x3F800000#32 = ((1 : ℝ) : EReal) := by
  simp [Ideal.ofBits, Ideal.ieee, -EReal.coe_mul]; norm_num

theorem ofBits_alpha : ∃ a : ℝ, Ideal.ofBits .f32 0x3FB504F3#32 = (a : EReal) :=
  ⟨_, by simp [Ideal.ofBits, Ideal.ieee, -EReal.coe_mul]; rfl⟩

theorem ofBits_eps : ∃ a : ℝ, 0 < a ∧ Ideal.ofBits .f32 0x3727C5AC#32 = (a : EReal) :=
  ⟨(2748779 : ℝ) / 274877906944, by norm_num, by simp [Ideal.ofBits, Ideal.ieee, -EReal.coe_mul]; norm_num⟩

/-! ## One row of the normalisation, over the reals -/

variable (ε : ℝ) (x A : Fin 1024 → ℝ)

def mu : ℝ := (∑ k, x k) * (1 / 1024)
def dv (k : Fin 1024) : ℝ := x k - mu x
def ev : ℝ := (∑ k, dv x k * dv x k) * (1 / 1024) + ε
def sv : ℝ := (Real.sqrt (ev ε x))⁻¹
/-- The part of the gradient that comes through the variance, before the last factor. -/
def tv : ℝ := (∑ k, dv x k * A k) * (-(1 / 2) * (sv ε x * (1 / ev ε x))) * (1 / 1024)
/-- The part that comes through the mean. -/
def mv : ℝ := ((∑ k, -(A k * sv ε x)) + ∑ k, -(tv ε x A * (2 * dv x k))) * (1 / 1024)
/-- The gradient of one row, as differentiating the plain lines gives it. -/
def dR (q : Fin 1024) : ℝ := A q * sv ε x + tv ε x A * (2 * dv x q) + mv ε x A
/-- The gradient of one row, as the kernel forms it. -/
def dK (q : Fin 1024) : ℝ :=
  sv ε x * (A q - (∑ k, A k) * (1 / 1024) - dv x q * sv ε x * ((∑ k, A k * (dv x k * sv ε x)) * (1 / 1024)))

variable {ε}

theorem ev_pos (hε : 0 < ε) : 0 < ev ε x :=
  add_pos_of_nonneg_of_pos (mul_nonneg (Finset.sum_nonneg fun k _ => mul_self_nonneg _) (by norm_num)) hε

theorem sum_dv : ∑ k, dv x k = 0 := by
  unfold dv mu
  rw [Finset.sum_sub_distrib, Finset.sum_const, Finset.card_univ, Fintype.card_fin, nsmul_eq_mul]
  push_cast
  ring

theorem sv_sq (hε : 0 < ε) : 1 / ev ε x = sv ε x * sv ε x := by
  unfold sv
  rw [← mul_inv, Real.mul_self_sqrt (ev_pos x hε).le, one_div]

theorem row_id (hε : 0 < ε) (q : Fin 1024) : dR ε x A q = dK ε x A q := by
  have h1 : ∑ k, -(A k * sv ε x) = -(sv ε x * ∑ k, A k) := by
    rw [Finset.sum_neg_distrib, ← Finset.sum_mul, mul_comm]
  have h2 : ∑ k, -(tv ε x A * (2 * dv x k)) = 0 := by
    rw [Finset.sum_neg_distrib, ← Finset.mul_sum, ← Finset.mul_sum, sum_dv]
    ring
  have h3 : ∑ k, A k * (dv x k * sv ε x) = sv ε x * ∑ k, dv x k * A k := by
    rw [Finset.mul_sum]
    exact Finset.sum_congr rfl fun k _ => by ring
  unfold dR dK mv
  rw [h1, h2, h3]
  unfold tv
  rw [sv_sq x hε]
  ring

/-- A reduction of reals that starts at zero. -/
theorem red {n : ℕ} (f : Fin n → EReal) (r : Fin n → ℝ) (h : ∀ k, f k = (r k : EReal)) :
    Ideal.ofBits .f32 0x00000000#32 + ∑ k, f k = ((∑ k, r k : ℝ) : EReal) := by
  rw [Ideal.ofBits_zero_f32, zero_add, Cert.PoolSpec.coe_sum]
  exact Finset.sum_congr rfl fun k _ => h k

/-- A sum of products of reals. -/
theorem dotr {n : ℕ} (f g : Fin n → EReal) (a b : Fin n → ℝ) (hf : ∀ k, f k = (a k : EReal)) (hg : ∀ k, g k = (b k : EReal)) :
    ∑ k, f k * g k = ((∑ k, a k * b k : ℝ) : EReal) := by
  rw [Cert.PoolSpec.coe_sum]
  exact Finset.sum_congr rfl fun k _ => by rw [hf, hg, EReal.coe_mul]

theorem div_1024 (r : ℝ) : Ideal.div (r : EReal) (Ideal.ofBits .f32 0x44800000#32) = ((r * (1 / 1024) : ℝ) : EReal) := by
  rw [ofBits_1024, Ideal.div_coe (by norm_num), EReal.coe_mul]

end Cert.FfnMath

end
-- ==== Proof.FfnPay.lean ====
/- The feed-forward backward kernel's payloads read at an index. -/
module

public import proofs.«01_k».proof.Proof.Gen.FfnKernelIdeal.Skeleton
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnKernelIdeal.Pay

open Cert.FfnKernelIdeal Cert.FfnKernelIdeal.Gen

/-- The constants of the step, as the programs spell them. -/
def c1024 : EReal := Ideal.ofBits .f32 0x44800000#32
def cAlpha : EReal := Ideal.ofBits .f32 0x3FB504F3#32
def cHalf : EReal := Ideal.ofBits .f32 0x3F000000#32
def cOne : EReal := Ideal.ofBits .f32 0x3F800000#32

/-- The gradient that enters the normalised sum, at an index of a block. -/
def drv (x0 x1 : FVec Ideal S640x1024 .f32) (x2 : FVec Ideal S640x1 .f32) (x3 : FVec Ideal S1x1024 .f32) (p : Fin 640) (q : Fin 1024) : EReal :=
  x2 (ix2 p 0) * (x0 (ix2 p q) * x3 (ix2 0 q) - Ideal.div (∑ k : Fin 1024, x0 (ix2 p k) * x3 (ix2 0 k)) c1024
    - x1 (ix2 p q) * Ideal.div (∑ k : Fin 1024, x0 (ix2 p k) * x3 (ix2 0 k) * x1 (ix2 p k)) c1024)

theorem pay8_apply (x0 x1 : FVec Ideal S640x1024 .f32) (x2 : FVec Ideal S640x1 .f32) (x3 : FVec Ideal S1x1024 .f32) (p : Fin 640) (q : Fin 1024) :
    k0_pay8 (F := Ideal) x0 x1 x2 x3 (ix2 p q) = drv x0 x1 x2 x3 p q := by
  unfold drv
  pointwise [k0_pay8, k0_pay7, c1024]

theorem pay9_apply (x0 x1 : FVec Ideal S640x1024 .f32) (x2 : FVec Ideal S640x1 .f32) (x3 : FVec Ideal S1x1024 .f32) (p : Fin 640) (q : Fin 1024) :
    k0_pay9 (F := Ideal) x0 x1 x2 x3 (ix2 p q) = cAlpha * drv x0 x1 x2 x3 p q := by
  rw [← pay8_apply]
  pointwise [k0_pay9, cAlpha]

theorem pay10_apply (x0 x1 : FVec Ideal S640x1024 .f32) (x2 : FVec Ideal S640x1 .f32) (x3 : FVec Ideal S1x1024 .f32) (p : Fin 640) (q : Fin 1024) :
    k0_pay10 (F := Ideal) x0 x1 x2 x3 (ix2 p q) = cHalf * drv x0 x1 x2 x3 p q := by
  rw [← pay8_apply]
  pointwise [k0_pay10, cHalf]

theorem pay11_apply (x0 x1 : FVec Ideal S640x1024 .f32) (x2 : FVec Ideal S640x1 .f32) (x3 : FVec Ideal S1x1024 .f32) (p : Fin 640) (q : Fin 1024) :
    k0_pay11 (F := Ideal) x0 x1 x2 x3 (ix2 p q) = cHalf * drv x0 x1 x2 x3 p q := by
  rw [← pay10_apply]
  pointwise [k0_pay11]

theorem pay14_apply (x0 x1 : FVec Ideal S640x1024 .f32) (xo : FVec Ideal S1x1024 .f32) (q : Fin 1024) :
    k0_pay14 (F := Ideal) x0 (k0_pay7 x1) xo (ix2 0 q) = xo (ix2 0 q) + ∑ p : Fin 640, x0 (ix2 p q) * x1 (ix2 p q) := by
  pointwise [k0_pay14, k0_pay7]

theorem pay15_apply (x0 : FVec Ideal S640x1024 .f32) (xo : FVec Ideal S1x1024 .f32) (q : Fin 1024) :
    k0_pay15 (F := Ideal) x0 xo (ix2 0 q) = xo (ix2 0 q) + ∑ p : Fin 640, x0 (ix2 p q) := by
  pointwise [k0_pay15]

/-- The gradients of the gate and the up projection from a row's gradient `d` of the activation. -/
def dgE (d g u : EReal) : EReal := d * u * (Ideal.logistic g * (cOne + g * (cOne - Ideal.logistic g)))
def duE (d g : EReal) : EReal := d * (g * Ideal.logistic g)
def actE (g u : EReal) : EReal := g * Ideal.logistic g * u

/-- A half block's gradient of the activation. -/
def dactH (xd : FVec Ideal S320x1024 .bf16) (x8 : FVec Ideal S1x704x1024 .bf16) (p : Fin 320) (f : Fin 704) : EReal :=
  ∑ k : Fin 1024, xd (ix2 p k) * x8 (ix3 0 f k)

theorem pay16_apply (xd : FVec Ideal S320x1024 .bf16) (x8 : FVec Ideal S1x704x1024 .bf16) (p : Fin 320) (f : Fin 704) :
    k0_pay16 (F := Ideal) xd x8 (ix2 p f) = dactH xd x8 p f := by
  unfold dactH
  pointwise [k0_pay16]

theorem pay28_apply (xd : FVec Ideal S320x1024 .bf16) (x8 : FVec Ideal S1x704x1024 .bf16) (p : Fin 320) (f : Fin 704) :
    k0_pay28 (F := Ideal) xd x8 (ix2 p f) = dactH xd x8 p f := by
  unfold dactH
  pointwise [k0_pay28]

theorem pay21_apply (xd : FVec Ideal S320x1024 .bf16) (x8 : FVec Ideal S1x704x1024 .bf16) (g u : FVec Ideal S1x320x704 .bf16) (p : Fin 320) (f : Fin 704) :
    k0_pay21 (F := Ideal) xd x8 g u (ix2 p f) = dgE (dactH xd x8 p f) (g (ix3 0 p f)) (u (ix3 0 p f)) := by
  rw [← pay16_apply]; unfold dgE
  pointwise [k0_pay21, k0_pay18, k0_pay19, k0_pay17, cOne]

theorem pay22_apply (xd : FVec Ideal S320x1024 .bf16) (x8 : FVec Ideal S1x704x1024 .bf16) (g : FVec Ideal S1x320x704 .bf16) (p : Fin 320) (f : Fin 704) :
    k0_pay22 (F := Ideal) xd x8 g (ix2 p f) = duE (dactH xd x8 p f) (g (ix3 0 p f)) := by
  rw [← pay16_apply]; unfold duE
  pointwise [k0_pay22, k0_pay20, k0_pay19, k0_pay17]

theorem pay23_apply (xd : FVec Ideal S320x1024 .bf16) (x8 : FVec Ideal S1x704x1024 .bf16) (g u : FVec Ideal S1x320x704 .bf16) (p : Fin 320) (f : Fin 704) :
    k0_pay23 (F := Ideal) xd x8 g u (ix3 0 p f) = dgE (dactH xd x8 p f) (g (ix3 0 p f)) (u (ix3 0 p f)) := by
  rw [← pay21_apply]
  pointwise [k0_pay23]

theorem pay24_apply (xd : FVec Ideal S320x1024 .bf16) (x8 : FVec Ideal S1x704x1024 .bf16) (g : FVec Ideal S1x320x704 .bf16) (p : Fin 320) (f : Fin 704) :
    k0_pay24 (F := Ideal) xd x8 g (ix3 0 p f) = duE (dactH xd x8 p f) (g (ix3 0 p f)) := by
  rw [← pay22_apply]
  pointwise [k0_pay24]

theorem pay26_apply (g u : FVec Ideal S1x320x704 .bf16) (p : Fin 320) (f : Fin 704) :
    k0_pay26 (F := Ideal) (k0_pay25 g u) (ix3 0 p f) = actE (g (ix3 0 p f)) (u (ix3 0 p f)) := by
  unfold actE
  pointwise [k0_pay26, k0_pay25, k0_pay20, k0_pay19, k0_pay17, k0_pay18]

theorem pay1_apply (xd : FVec Ideal S320x1024 .bf16) (x8 : FVec Ideal S1x704x1024 .bf16) (g u : FVec Ideal S1x320x704 .bf16) (p : Fin 320) (f : Fin 704) :
    k0_pay1 (F := Ideal) (k0_pay29 g) (k0_pay31 g) (k0_pay33 xd x8 u) (k0_pay34 g) (ix2 p f)
      = dgE (dactH xd x8 p f) (g (ix3 0 p f)) (u (ix3 0 p f)) := by
  rw [← pay28_apply]; unfold dgE
  pointwise [k0_pay1, k0_pay29, k0_pay31, k0_pay33, k0_pay34, k0_pay30, cOne]

theorem pay2_apply (xd : FVec Ideal S320x1024 .bf16) (x8 : FVec Ideal S1x704x1024 .bf16) (g : FVec Ideal S1x320x704 .bf16) (p : Fin 320) (f : Fin 704) :
    k0_pay2 (F := Ideal) (k0_pay28 xd x8) (k0_pay32 g) (ix2 p f) = duE (dactH xd x8 p f) (g (ix3 0 p f)) := by
  rw [← pay28_apply]; unfold duE
  pointwise [k0_pay2, k0_pay32, k0_pay31, k0_pay29]

theorem pay3_apply (xd : FVec Ideal S320x1024 .bf16) (x8 : FVec Ideal S1x704x1024 .bf16) (g u : FVec Ideal S1x320x704 .bf16) (p : Fin 320) (f : Fin 704) :
    k0_pay3 (F := Ideal) (k0_pay29 g) (k0_pay31 g) (k0_pay33 xd x8 u) (k0_pay34 g) (ix3 0 p f)
      = dgE (dactH xd x8 p f) (g (ix3 0 p f)) (u (ix3 0 p f)) := by
  rw [← pay1_apply]
  pointwise [k0_pay3]

theorem pay4_apply (xd : FVec Ideal S320x1024 .bf16) (x8 : FVec Ideal S1x704x1024 .bf16) (g : FVec Ideal S1x320x704 .bf16) (p : Fin 320) (f : Fin 704) :
    k0_pay4 (F := Ideal) (k0_pay28 xd x8) (k0_pay32 g) (ix3 0 p f) = duE (dactH xd x8 p f) (g (ix3 0 p f)) := by
  rw [← pay2_apply]
  pointwise [k0_pay4]

theorem pay5_apply (g u : FVec Ideal S1x320x704 .bf16) (p : Fin 320) (f : Fin 704) :
    k0_pay5 (F := Ideal) (k0_pay30 u) (k0_pay32 g) (ix3 0 p f) = actE (g (ix3 0 p f)) (u (ix3 0 p f)) := by
  unfold actE
  pointwise [k0_pay5, k0_pay30, k0_pay32, k0_pay31, k0_pay29]

/-- A half block's two data products. -/
def dpr (xd : FVec Ideal S320x1024 .bf16) (x8 x6 x7 : FVec Ideal S1x704x1024 .bf16) (g u : FVec Ideal S1x320x704 .bf16) (p : Fin 320) (q : Fin 1024) : EReal :=
  (∑ f : Fin 704, dgE (dactH xd x8 p f) (g (ix3 0 p f)) (u (ix3 0 p f)) * x6 (ix3 0 f q))
    + ∑ f : Fin 704, duE (dactH xd x8 p f) (g (ix3 0 p f)) * x7 (ix3 0 f q)

theorem pay27_apply (xd : FVec Ideal S320x1024 .bf16) (x8 x6 x7 : FVec Ideal S1x704x1024 .bf16) (g u : FVec Ideal S1x320x704 .bf16) (xo : FVec Ideal S320x1024 .f32) (p : Fin 320) (q : Fin 1024) :
    k0_pay27 (F := Ideal) (k0_pay21 (F := Ideal) xd x8 g u) (k0_pay22 (F := Ideal) xd x8 g) xo x6 x7 (ix2 p q) = xo (ix2 p q) + dpr xd x8 x6 x7 g u p q := by
  unfold dpr
  simp only [← pay21_apply, ← pay22_apply]
  generalize k0_pay21 (F := Ideal) xd x8 g u = a
  generalize k0_pay22 (F := Ideal) xd x8 g = b
  pointwise [k0_pay27]

theorem pay6_apply (xd : FVec Ideal S320x1024 .bf16) (x8 x6 x7 : FVec Ideal S1x704x1024 .bf16) (g u : FVec Ideal S1x320x704 .bf16) (xo : FVec Ideal S320x1024 .f32) (p : Fin 320) (q : Fin 1024) :
    k0_pay6 (F := Ideal) (k0_pay28 (F := Ideal) xd x8) (k0_pay29 (F := Ideal) g) (k0_pay31 (F := Ideal) g) (k0_pay32 (F := Ideal) g) (k0_pay33 (F := Ideal) xd x8 u) (k0_pay34 (F := Ideal) g) xo x6 x7 (ix2 p q) = xo (ix2 p q) + dpr xd x8 x6 x7 g u p q := by
  unfold dpr
  simp only [← pay1_apply, ← pay2_apply]
  unfold k0_pay6
  generalize k0_pay1 (F := Ideal) (k0_pay29 (F := Ideal) g) (k0_pay31 (F := Ideal) g) (k0_pay33 (F := Ideal) xd x8 u) (k0_pay34 (F := Ideal) g) = a
  generalize k0_pay2 (F := Ideal) (k0_pay28 (F := Ideal) xd x8) (k0_pay32 (F := Ideal) g) = b
  pointwise

end Cert.FfnKernelIdeal.Pay

end
-- ==== Proof.FfnPoint.lean ====
/- What one grid point of the feed-forward backward kernel leaves in its outputs and its scratch, read at an index. -/
module

public import proofs.«01_k».proof.Proof.FfnFrame
public import proofs.«01_k».proof.Proof.FfnPay
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.FfnKernelIdeal.Hand

open Cert.FfnKernelIdeal Cert.FfnKernelIdeal.Gen Cert.FfnKernelIdeal.Pay

/-- The gradient of the activation at a row of the whole block. -/
def dactF (xs : FVec Ideal S640x1024 .bf16) (x8 : FVec Ideal S1x704x1024 .bf16) (p : Fin 640) (f : Fin 704) : EReal :=
  ∑ k : Fin 1024, xs (ix2 p k) * x8 (ix3 0 f k)

/-- The whole block's two data products. -/
def dprF (xs : FVec Ideal S640x1024 .bf16) (g u : FVec Ideal S1x640x704 .bf16) (x6 x7 x8 : FVec Ideal S1x704x1024 .bf16) (p : Fin 640) (q : Fin 1024) : EReal :=
  (∑ f : Fin 704, dgE (dactF xs x8 p f) (g (ix3 0 p f)) (u (ix3 0 p f)) * x6 (ix3 0 f q))
    + ∑ f : Fin 704, duE (dactF xs x8 p f) (g (ix3 0 p f)) * x7 (ix3 0 f q)

/-- A row of the first and of the second half, as a row of the whole block. -/
def lo (p : Fin 320) : Fin 640 := ⟨p.val, by omega⟩
def hi (p : Fin 320) : Fin 640 := ⟨320 + p.val, by omega⟩

theorem dact_of (xd : FVec Ideal S320x1024 .bf16) (x8 : FVec Ideal S1x704x1024 .bf16) (XS : FVec Ideal S640x1024 .bf16) (r : Fin 320 → Fin 640)
    (hd : ∀ p k, xd (ix2 p k) = XS (ix2 (r p) k)) (p : Fin 320) (f : Fin 704) : dactH xd x8 p f = dactF XS x8 (r p) f := by
  simp only [dactH, dactF, hd]

theorem dg_of (xd : FVec Ideal S320x1024 .bf16) (x8 : FVec Ideal S1x704x1024 .bf16) (g u : FVec Ideal S1x320x704 .bf16)
    (XS : FVec Ideal S640x1024 .bf16) (G U : FVec Ideal S1x640x704 .bf16) (r : Fin 320 → Fin 640)
    (hd : ∀ p k, xd (ix2 p k) = XS (ix2 (r p) k)) (hg : ∀ p f, g (ix3 0 p f) = G (ix3 0 (r p) f)) (hu : ∀ p f, u (ix3 0 p f) = U (ix3 0 (r p) f))
    (p : Fin 320) (f : Fin 704) :
    dgE (dactH xd x8 p f) (g (ix3 0 p f)) (u (ix3 0 p f)) = dgE (dactF XS x8 (r p) f) (G (ix3 0 (r p) f)) (U (ix3 0 (r p) f)) := by
  rw [dact_of xd x8 XS r hd, hg, hu]

theorem du_of (xd : FVec Ideal S320x1024 .bf16) (x8 : FVec Ideal S1x704x1024 .bf16) (g : FVec Ideal S1x320x704 .bf16)
    (XS : FVec Ideal S640x1024 .bf16) (G : FVec Ideal S1x640x704 .bf16) (r : Fin 320 → Fin 640)
    (hd : ∀ p k, xd (ix2 p k) = XS (ix2 (r p) k)) (hg : ∀ p f, g (ix3 0 p f) = G (ix3 0 (r p) f)) (p : Fin 320) (f : Fin 704) :
    duE (dactH xd x8 p f) (g (ix3 0 p f)) = duE (dactF XS x8 (r p) f) (G (ix3 0 (r p) f)) := by
  rw [dact_of xd x8 XS r hd, hg]

theorem act_of (g u : FVec Ideal S1x320x704 .bf16) (G U : FVec Ideal S1x640x704 .bf16) (r : Fin 320 → Fin 640)
    (hg : ∀ p f, g (ix3 0 p f) = G (ix3 0 (r p) f)) (hu : ∀ p f, u (ix3 0 p f) = U (ix3 0 (r p) f)) (p : Fin 320) (f : Fin 704) :
    actE (g (ix3 0 p f)) (u (ix3 0 p f)) = actE (G (ix3 0 (r p) f)) (U (ix3 0 (r p) f)) := by
  rw [hg, hu]

theorem dpr_of (xd : FVec Ideal S320x1024 .bf16) (x8 x6 x7 : FVec Ideal S1x704x1024 .bf16) (g u : FVec Ideal S1x320x704 .bf16)
    (XS : FVec Ideal S640x1024 .bf16) (G U : FVec Ideal S1x640x704 .bf16) (r : Fin 320 → Fin 640)
    (hd : ∀ p k, xd (ix2 p k) = XS (ix2 (r p) k)) (hg : ∀ p f, g (ix3 0 p f) = G (ix3 0 (r p) f)) (hu : ∀ p f, u (ix3 0 p f) = U (ix3 0 (r p) f))
    (p : Fin 320) (q : Fin 1024) : dpr xd x8 x6 x7 g u p q = dprF XS G U x6 x7 x8 (r p) q := by
  simp only [dpr, dprF, dactH, dactF, hd, hg, hu]

/-- The carried scratch, read back. -/
theorem read_scr (x : Vec Ideal S640x1024 .bf16) :
    View.read (Elt Ideal) (View.whole cc0_scratch0) ((Memref.isWhole_whole cc0_scratch0).unread x) = x :=
  Memref.IsWhole.read_unread (Memref.isWhole_whole cc0_scratch0) x

section
variable {e : EltTy}

theorem ld_lo2 (X : S640x1024.Idx → Elt Ideal e) (h) (p : Fin 320) (q : Fin 1024) :
    View.ld X (Rect.unit (s := S640x1024) ![0, 0] ![320, 1024] h) (ix2 p q) = X (ix2 (lo p) q) :=
  View.ld_unit_apply_of X ![0, 0] ![320, 1024] h _ _ fun a => by
    match a with
    | 0 => exact (Nat.zero_add _).symm
    | 1 => exact (Nat.zero_add _).symm

theorem ld_lo3 (X : S1x640x704.Idx → Elt Ideal e) (h) (p : Fin 320) (q : Fin 704) :
    View.ld X (Rect.unit (s := S1x640x704) ![0, 0, 0] ![1, 320, 704] h) (ix3 0 p q) = X (ix3 0 (lo p) q) :=
  View.ld_unit_apply_of X ![0, 0, 0] ![1, 320, 704] h _ _ fun a => by
    match a with
    | 0 => rfl
    | 1 => exact (Nat.zero_add _).symm
    | 2 => exact (Nat.zero_add _).symm

theorem ld_hi2 (X : S640x1024.Idx → Elt Ideal e) (h) (p : Fin 320) (q : Fin 1024) :
    View.ld X (Rect.unit (s := S640x1024) ![320, 0] ![320, 1024] h) (ix2 p q) = X (ix2 (hi p) q) :=
  View.ld_unit_apply_of X ![320, 0] ![320, 1024] h _ _ fun a => by
    match a with
    | 0 => rfl
    | 1 => exact (Nat.zero_add _).symm

theorem ld_hi3 (X : S1x640x704.Idx → Elt Ideal e) (h) (p : Fin 320) (q : Fin 704) :
    View.ld X (Rect.unit (s := S1x640x704) ![0, 320, 0] ![1, 320, 704] h) (ix3 0 p q) = X (ix3 0 (hi p) q) :=
  View.ld_unit_apply_of X ![0, 320, 0] ![1, 320, 704] h _ _ fun a => by
    match a with
    | 0 => rfl
    | 1 => rfl
    | 2 => exact (Nat.zero_add _).symm

/-- The last store, where it holds the index. -/
theorem canon_mem {S : Shape} {off size : Fin S.rank → ℕ} (inb : ∀ a, off a + size a ≤ S.size a)
    (w : (Rect.unit off size inb).shape.Idx → Elt Ideal e) (L : List (View.Piece (Elt Ideal) S e)) (y : S.Idx)
    (x : (Rect.unit off size inb).shape.Idx) (hx : ∀ a, (y a).val = off a + (x a).val) :
    View.canon ((⟨Rect.unit off size inb, w⟩ : View.Piece (Elt Ideal) S e) :: L) y = w x := by
  have hy : (Rect.unit off size inb).emb x = y := funext fun a => Fin.ext (by
    show off a + 1 * (x a).val = (y a).val
    rw [hx a, Nat.one_mul])
  rw [← hy]
  exact View.canon_cons_emb _ w L x

/-- The last store, where it does not hold the index. -/
theorem canon_nmem {S : Shape} {off size : Fin S.rank → ℕ} (inb : ∀ a, off a + size a ≤ S.size a)
    (w : (Rect.unit off size inb).shape.Idx → Elt Ideal e) (L : List (View.Piece (Elt Ideal) S e)) (y : S.Idx)
    (a : Fin S.rank) (ha : (y a).val < off a ∨ off a + size a ≤ (y a).val) :
    View.canon ((⟨Rect.unit off size inb, w⟩ : View.Piece (Elt Ideal) S e) :: L) y = View.canon L y :=
  View.canon_cons_of_not_mem _ L (by
    rw [Rect.mem_set_unit]
    intro h
    have := h a
    omega)

/-- A block stored in two halves, read at a row. -/
theorem halves2 (P Q : S320x1024.Idx → Elt Ideal e) (R : Fin 640 → Fin 1024 → Elt Ideal e) (h0 h1)
    (L : List (View.Piece (Elt Ideal) S640x1024 e))
    (hP : ∀ p q, P (ix2 p q) = R (lo p) q) (hQ : ∀ p q, Q (ix2 p q) = R (hi p) q) (p : Fin 640) (q : Fin 1024) :
    View.canon ((⟨Rect.unit (s := S640x1024) ![320, 0] ![320, 1024] h1, Q⟩ : View.Piece (Elt Ideal) S640x1024 e)
      :: ⟨Rect.unit (s := S640x1024) ![0, 0] ![320, 1024] h0, P⟩ :: L) (ix2 p q) = R p q := by
  by_cases hp : p.val < 320
  · rw [canon_nmem (a := 0) (ha := Or.inl hp), canon_mem (x := ix2 (⟨p.val, hp⟩ : Fin 320) q) (hx := fun a => by
        match a with
        | 0 => exact (Nat.zero_add _).symm
        | 1 => exact (Nat.zero_add _).symm)]
    exact hP ⟨p.val, hp⟩ q
  · have hl := p.isLt
    rw [canon_mem (x := ix2 (⟨p.val - 320, by omega⟩ : Fin 320) q) (hx := fun a => by
        match a with
        | 0 => exact (Nat.add_sub_of_le (Nat.le_of_not_lt hp)).symm
        | 1 => exact (Nat.zero_add _).symm)]
    rw [hQ ⟨p.val - 320, by omega⟩ q]
    exact congrArg (fun r => R r q) (Fin.ext (Nat.add_sub_of_le (Nat.le_of_not_lt hp)))

/-- A chunk stored in two halves, read at a row. -/
theorem halves3 (P Q : S1x320x704.Idx → Elt Ideal e) (R : Fin 640 → Fin 704 → Elt Ideal e) (h0 h1)
    (L : List (View.Piece (Elt Ideal) S1x640x704 e))
    (hP : ∀ p q, P (ix3 0 p q) = R (lo p) q) (hQ : ∀ p q, Q (ix3 0 p q) = R (hi p) q) (p : Fin 640) (q : Fin 704) :
    View.canon ((⟨Rect.unit (s := S1x640x704) ![0, 320, 0] ![1, 320, 704] h1, Q⟩ : View.Piece (Elt Ideal) S1x640x704 e)
      :: ⟨Rect.unit (s := S1x640x704) ![0, 0, 0] ![1, 320, 704] h0, P⟩ :: L) (ix3 0 p q) = R p q := by
  by_cases hp : p.val < 320
  · rw [canon_nmem (a := 1) (ha := Or.inl hp), canon_mem (x := ix3 0 (⟨p.val, hp⟩ : Fin 320) q) (hx := fun a => by
        match a with
        | 0 => rfl
        | 1 => exact (Nat.zero_add _).symm
        | 2 => exact (Nat.zero_add _).symm)]
    exact hP ⟨p.val, hp⟩ q
  · have hl := p.isLt
    rw [canon_mem (x := ix3 0 (⟨p.val - 320, by omega⟩ : Fin 320) q) (hx := fun a => by
        match a with
        | 0 => rfl
        | 1 => exact (Nat.add_sub_of_le (Nat.le_of_not_lt hp)).symm
        | 2 => exact (Nat.zero_add _).symm)]
    rw [hQ ⟨p.val - 320, by omega⟩ q]
    exact congrArg (fun r => R r q) (Fin.ext (Nat.add_sub_of_le (Nat.le_of_not_lt hp)))

end

theorem outB_9_at (c : Dev nD) (t : Fin cfg0.N) (hc0 : ¬cond0 (grid0.coords t)) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x9 : Vec Ideal S640x1024 .f32) (x16 : Vec Ideal S640x1024 .bf16) (p : Fin 640) (q : Fin 1024) :
    outB_9 (F := Ideal) c t hc0 x4 x5 x6 x7 x8 x9 x16 (ix2 p q) = x9 (ix2 p q) + dprF x16 x4 x5 x6 x7 x8 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  simp only [read_scr]
  refine halves2 (e := .f32) _ _ (fun p q => x9 (ix2 p q) + dprF x16 x4 x5 x6 x7 x8 p q) _ _ _ ?_ ?_ p q
  · intro p q
    exact (pay27_apply _ _ _ _ _ _ _ p q).trans (congrArg₂ (fun a b : EReal => a + b) (ld_lo2 (e := .f32) x9 _ p q) (dpr_of _ _ _ _ _ _ _ _ _ lo (ld_lo2 (e := .bf16) x16 _) (ld_lo3 (e := .bf16) x4 _) (ld_lo3 (e := .bf16) x5 _) p q))
  · intro p q
    exact (pay6_apply _ _ _ _ _ _ _ p q).trans (congrArg₂ (fun a b : EReal => a + b) (ld_hi2 (e := .f32) x9 _ p q) (dpr_of _ _ _ _ _ _ _ _ _ hi (ld_hi2 (e := .bf16) x16 _) (ld_hi3 (e := .bf16) x4 _) (ld_hi3 (e := .bf16) x5 _) p q))

theorem outB_11_at (c : Dev nD) (t : Fin cfg0.N) (hc0 : ¬cond0 (grid0.coords t)) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x9 : Vec Ideal S640x1024 .f32) (x16 : Vec Ideal S640x1024 .bf16) (p : Fin 640) (q : Fin 704) :
    outB_11 (F := Ideal) c t hc0 x4 x5 x6 x7 x8 x9 x16 (ix3 0 p q) = dgE (dactF x16 x8 p q) (x4 (ix3 0 p q)) (x5 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  simp only [read_scr]
  refine halves3 (e := .bf16) _ _ (fun p q => dgE (dactF x16 x8 p q) (x4 (ix3 0 p q)) (x5 (ix3 0 p q))) _ _ _ ?_ ?_ p q
  · intro p q
    exact (pay23_apply _ _ _ _ p q).trans (dg_of _ _ _ _ _ _ _ lo (ld_lo2 (e := .bf16) x16 _) (ld_lo3 (e := .bf16) x4 _) (ld_lo3 (e := .bf16) x5 _) p q)
  · intro p q
    exact (pay3_apply _ _ _ _ p q).trans (dg_of _ _ _ _ _ _ _ hi (ld_hi2 (e := .bf16) x16 _) (ld_hi3 (e := .bf16) x4 _) (ld_hi3 (e := .bf16) x5 _) p q)

theorem outB_12_at (c : Dev nD) (t : Fin cfg0.N) (hc0 : ¬cond0 (grid0.coords t)) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x9 : Vec Ideal S640x1024 .f32) (x16 : Vec Ideal S640x1024 .bf16) (p : Fin 640) (q : Fin 704) :
    outB_12 (F := Ideal) c t hc0 x4 x5 x6 x7 x8 x9 x16 (ix3 0 p q) = duE (dactF x16 x8 p q) (x4 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  simp only [read_scr]
  refine halves3 (e := .bf16) _ _ (fun p q => duE (dactF x16 x8 p q) (x4 (ix3 0 p q))) _ _ _ ?_ ?_ p q
  · intro p q
    exact (pay24_apply _ _ _ p q).trans (du_of _ _ _ _ _ lo (ld_lo2 (e := .bf16) x16 _) (ld_lo3 (e := .bf16) x4 _) p q)
  · intro p q
    exact (pay4_apply _ _ _ p q).trans (du_of _ _ _ _ _ hi (ld_hi2 (e := .bf16) x16 _) (ld_hi3 (e := .bf16) x4 _) p q)

theorem outB_13_at (c : Dev nD) (t : Fin cfg0.N) (hc0 : ¬cond0 (grid0.coords t)) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x9 : Vec Ideal S640x1024 .f32) (x16 : Vec Ideal S640x1024 .bf16) (p : Fin 640) (q : Fin 704) :
    outB_13 (F := Ideal) c t hc0 x4 x5 x6 x7 x8 x9 x16 (ix3 0 p q) = actE (x4 (ix3 0 p q)) (x5 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves3 (e := .bf16) _ _ (fun p q => actE (x4 (ix3 0 p q)) (x5 (ix3 0 p q))) _ _ _ ?_ ?_ p q
  · intro p q
    exact (pay26_apply _ _ p q).trans (act_of _ _ _ _ lo (ld_lo3 (e := .bf16) x4 _) (ld_lo3 (e := .bf16) x5 _) p q)
  · intro p q
    exact (pay5_apply _ _ p q).trans (act_of _ _ _ _ hi (ld_hi3 (e := .bf16) x4 _) (ld_hi3 (e := .bf16) x5 _) p q)

theorem outA_9_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (p : Fin 640) (q : Fin 1024) :
    outA_9 (F := Ideal) c t hc0 hc1 x0 x1 x2 x3 x4 x5 x6 x7 x8 (ix2 p q) = cAlpha * drv x0 x1 x2 x3 p q + dprF (k0_pay11 (F := Ideal) x0 x1 x2 x3) x4 x5 x6 x7 x8 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves2 (e := .f32) _ _ (fun p q => cAlpha * drv x0 x1 x2 x3 p q + dprF (k0_pay11 (F := Ideal) x0 x1 x2 x3) x4 x5 x6 x7 x8 p q) _ _ _ ?_ ?_ p q
  · intro p q
    exact (pay27_apply _ _ _ _ _ _ _ p q).trans (congrArg₂ (fun a b : EReal => a + b) ((ld_lo2 (e := .f32) (k0_pay9 (F := Ideal) x0 x1 x2 x3) _ p q).trans (pay9_apply x0 x1 x2 x3 (lo p) q)) (dpr_of _ _ _ _ _ _ _ _ _ lo (ld_lo2 (e := .bf16) (k0_pay11 (F := Ideal) x0 x1 x2 x3) _) (ld_lo3 (e := .bf16) x4 _) (ld_lo3 (e := .bf16) x5 _) p q))
  · intro p q
    exact (pay6_apply _ _ _ _ _ _ _ p q).trans (congrArg₂ (fun a b : EReal => a + b) ((ld_hi2 (e := .f32) (k0_pay9 (F := Ideal) x0 x1 x2 x3) _ p q).trans (pay9_apply x0 x1 x2 x3 (hi p) q)) (dpr_of _ _ _ _ _ _ _ _ _ hi (ld_hi2 (e := .bf16) (k0_pay11 (F := Ideal) x0 x1 x2 x3) _) (ld_hi3 (e := .bf16) x4 _) (ld_hi3 (e := .bf16) x5 _) p q))

theorem outA_11_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (p : Fin 640) (q : Fin 704) :
    outA_11 (F := Ideal) c t hc0 hc1 x0 x1 x2 x3 x4 x5 x6 x7 x8 (ix3 0 p q) = dgE (dactF (k0_pay11 (F := Ideal) x0 x1 x2 x3) x8 p q) (x4 (ix3 0 p q)) (x5 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves3 (e := .bf16) _ _ (fun p q => dgE (dactF (k0_pay11 (F := Ideal) x0 x1 x2 x3) x8 p q) (x4 (ix3 0 p q)) (x5 (ix3 0 p q))) _ _ _ ?_ ?_ p q
  · intro p q
    exact (pay23_apply _ _ _ _ p q).trans (dg_of _ _ _ _ _ _ _ lo (ld_lo2 (e := .bf16) (k0_pay11 (F := Ideal) x0 x1 x2 x3) _) (ld_lo3 (e := .bf16) x4 _) (ld_lo3 (e := .bf16) x5 _) p q)
  · intro p q
    exact (pay3_apply _ _ _ _ p q).trans (dg_of _ _ _ _ _ _ _ hi (ld_hi2 (e := .bf16) (k0_pay11 (F := Ideal) x0 x1 x2 x3) _) (ld_hi3 (e := .bf16) x4 _) (ld_hi3 (e := .bf16) x5 _) p q)

theorem outA_12_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (p : Fin 640) (q : Fin 704) :
    outA_12 (F := Ideal) c t hc0 hc1 x0 x1 x2 x3 x4 x5 x6 x7 x8 (ix3 0 p q) = duE (dactF (k0_pay11 (F := Ideal) x0 x1 x2 x3) x8 p q) (x4 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves3 (e := .bf16) _ _ (fun p q => duE (dactF (k0_pay11 (F := Ideal) x0 x1 x2 x3) x8 p q) (x4 (ix3 0 p q))) _ _ _ ?_ ?_ p q
  · intro p q
    exact (pay24_apply _ _ _ p q).trans (du_of _ _ _ _ _ lo (ld_lo2 (e := .bf16) (k0_pay11 (F := Ideal) x0 x1 x2 x3) _) (ld_lo3 (e := .bf16) x4 _) p q)
  · intro p q
    exact (pay4_apply _ _ _ p q).trans (du_of _ _ _ _ _ hi (ld_hi2 (e := .bf16) (k0_pay11 (F := Ideal) x0 x1 x2 x3) _) (ld_hi3 (e := .bf16) x4 _) p q)

theorem outA_13_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (p : Fin 640) (q : Fin 704) :
    outA_13 (F := Ideal) c t hc0 hc1 x0 x1 x2 x3 x4 x5 x6 x7 x8 (ix3 0 p q) = actE (x4 (ix3 0 p q)) (x5 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves3 (e := .bf16) _ _ (fun p q => actE (x4 (ix3 0 p q)) (x5 (ix3 0 p q))) _ _ _ ?_ ?_ p q
  · intro p q
    exact (pay26_apply _ _ p q).trans (act_of _ _ _ _ lo (ld_lo3 (e := .bf16) x4 _) (ld_lo3 (e := .bf16) x5 _) p q)
  · intro p q
    exact (pay5_apply _ _ p q).trans (act_of _ _ _ _ hi (ld_hi3 (e := .bf16) x4 _) (ld_hi3 (e := .bf16) x5 _) p q)

theorem outA_10_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (p : Fin 640) (q : Fin 1024) :
    outA_10 (F := Ideal) c t hc0 hc1 x0 x1 x2 x3 x4 x5 x6 x7 x8 (ix2 p q) = cHalf * drv x0 x1 x2 x3 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  exact pay10_apply x0 x1 x2 x3 p q

theorem outA_16_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (p : Fin 640) (q : Fin 1024) :
    outA_16 (F := Ideal) c t hc0 hc1 x0 x1 x2 x3 x4 x5 x6 x7 x8 (ix2 p q) = cHalf * drv x0 x1 x2 x3 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  exact pay11_apply x0 x1 x2 x3 p q

theorem outA_14_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (q : Fin 1024) :
    outA_14 (F := Ideal) c t hc0 hc1 x0 x1 x2 x3 x4 x5 x6 x7 x8 (ix2 0 q) = 0 + ∑ p : Fin 640, x0 (ix2 p q) * x1 (ix2 p q) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  rw [pay14_apply]
  congr 1
  pointwise [k0_pay12]

theorem outA_15_at (c : Dev nD) (t : Fin cfg0.N) (hc0 : cond0 (grid0.coords t)) (hc1 : cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (q : Fin 1024) :
    outA_15 (F := Ideal) c t hc0 hc1 x0 x1 x2 x3 x4 x5 x6 x7 x8 (ix2 0 q) = 0 + ∑ p : Fin 640, x0 (ix2 p q) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  rw [pay15_apply]
  congr 1
  pointwise [k0_pay13]

theorem outC_9_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (p : Fin 640) (q : Fin 1024) :
    outC_9 (F := Ideal) c t hc0 hc1 x0 x1 x2 x3 x4 x5 x6 x7 x8 x14 x15 (ix2 p q) = cAlpha * drv x0 x1 x2 x3 p q + dprF (k0_pay11 (F := Ideal) x0 x1 x2 x3) x4 x5 x6 x7 x8 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves2 (e := .f32) _ _ (fun p q => cAlpha * drv x0 x1 x2 x3 p q + dprF (k0_pay11 (F := Ideal) x0 x1 x2 x3) x4 x5 x6 x7 x8 p q) _ _ _ ?_ ?_ p q
  · intro p q
    exact (pay27_apply _ _ _ _ _ _ _ p q).trans (congrArg₂ (fun a b : EReal => a + b) ((ld_lo2 (e := .f32) (k0_pay9 (F := Ideal) x0 x1 x2 x3) _ p q).trans (pay9_apply x0 x1 x2 x3 (lo p) q)) (dpr_of _ _ _ _ _ _ _ _ _ lo (ld_lo2 (e := .bf16) (k0_pay11 (F := Ideal) x0 x1 x2 x3) _) (ld_lo3 (e := .bf16) x4 _) (ld_lo3 (e := .bf16) x5 _) p q))
  · intro p q
    exact (pay6_apply _ _ _ _ _ _ _ p q).trans (congrArg₂ (fun a b : EReal => a + b) ((ld_hi2 (e := .f32) (k0_pay9 (F := Ideal) x0 x1 x2 x3) _ p q).trans (pay9_apply x0 x1 x2 x3 (hi p) q)) (dpr_of _ _ _ _ _ _ _ _ _ hi (ld_hi2 (e := .bf16) (k0_pay11 (F := Ideal) x0 x1 x2 x3) _) (ld_hi3 (e := .bf16) x4 _) (ld_hi3 (e := .bf16) x5 _) p q))

theorem outC_11_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (p : Fin 640) (q : Fin 704) :
    outC_11 (F := Ideal) c t hc0 hc1 x0 x1 x2 x3 x4 x5 x6 x7 x8 x14 x15 (ix3 0 p q) = dgE (dactF (k0_pay11 (F := Ideal) x0 x1 x2 x3) x8 p q) (x4 (ix3 0 p q)) (x5 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves3 (e := .bf16) _ _ (fun p q => dgE (dactF (k0_pay11 (F := Ideal) x0 x1 x2 x3) x8 p q) (x4 (ix3 0 p q)) (x5 (ix3 0 p q))) _ _ _ ?_ ?_ p q
  · intro p q
    exact (pay23_apply _ _ _ _ p q).trans (dg_of _ _ _ _ _ _ _ lo (ld_lo2 (e := .bf16) (k0_pay11 (F := Ideal) x0 x1 x2 x3) _) (ld_lo3 (e := .bf16) x4 _) (ld_lo3 (e := .bf16) x5 _) p q)
  · intro p q
    exact (pay3_apply _ _ _ _ p q).trans (dg_of _ _ _ _ _ _ _ hi (ld_hi2 (e := .bf16) (k0_pay11 (F := Ideal) x0 x1 x2 x3) _) (ld_hi3 (e := .bf16) x4 _) (ld_hi3 (e := .bf16) x5 _) p q)

theorem outC_12_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (p : Fin 640) (q : Fin 704) :
    outC_12 (F := Ideal) c t hc0 hc1 x0 x1 x2 x3 x4 x5 x6 x7 x8 x14 x15 (ix3 0 p q) = duE (dactF (k0_pay11 (F := Ideal) x0 x1 x2 x3) x8 p q) (x4 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves3 (e := .bf16) _ _ (fun p q => duE (dactF (k0_pay11 (F := Ideal) x0 x1 x2 x3) x8 p q) (x4 (ix3 0 p q))) _ _ _ ?_ ?_ p q
  · intro p q
    exact (pay24_apply _ _ _ p q).trans (du_of _ _ _ _ _ lo (ld_lo2 (e := .bf16) (k0_pay11 (F := Ideal) x0 x1 x2 x3) _) (ld_lo3 (e := .bf16) x4 _) p q)
  · intro p q
    exact (pay4_apply _ _ _ p q).trans (du_of _ _ _ _ _ hi (ld_hi2 (e := .bf16) (k0_pay11 (F := Ideal) x0 x1 x2 x3) _) (ld_hi3 (e := .bf16) x4 _) p q)

theorem outC_13_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (p : Fin 640) (q : Fin 704) :
    outC_13 (F := Ideal) c t hc0 hc1 x0 x1 x2 x3 x4 x5 x6 x7 x8 x14 x15 (ix3 0 p q) = actE (x4 (ix3 0 p q)) (x5 (ix3 0 p q)) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  refine halves3 (e := .bf16) _ _ (fun p q => actE (x4 (ix3 0 p q)) (x5 (ix3 0 p q))) _ _ _ ?_ ?_ p q
  · intro p q
    exact (pay26_apply _ _ p q).trans (act_of _ _ _ _ lo (ld_lo3 (e := .bf16) x4 _) (ld_lo3 (e := .bf16) x5 _) p q)
  · intro p q
    exact (pay5_apply _ _ p q).trans (act_of _ _ _ _ hi (ld_hi3 (e := .bf16) x4 _) (ld_hi3 (e := .bf16) x5 _) p q)

theorem outC_10_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (p : Fin 640) (q : Fin 1024) :
    outC_10 (F := Ideal) c t hc0 hc1 x0 x1 x2 x3 x4 x5 x6 x7 x8 x14 x15 (ix2 p q) = cHalf * drv x0 x1 x2 x3 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  exact pay10_apply x0 x1 x2 x3 p q

theorem outC_16_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (p : Fin 640) (q : Fin 1024) :
    outC_16 (F := Ideal) c t hc0 hc1 x0 x1 x2 x3 x4 x5 x6 x7 x8 x14 x15 (ix2 p q) = cHalf * drv x0 x1 x2 x3 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  exact pay11_apply x0 x1 x2 x3 p q

theorem outC_14_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (q : Fin 1024) :
    outC_14 (F := Ideal) c t hc0 hc1 x0 x1 x2 x3 x4 x5 x6 x7 x8 x14 x15 (ix2 0 q) = x14 (ix2 0 q) + ∑ p : Fin 640, x0 (ix2 p q) * x1 (ix2 p q) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  rw [pay14_apply]

theorem outC_15_at (c : Dev nD) (t : Fin cfg0.N) (hc0 : cond0 (grid0.coords t)) (hc1 : ¬cond1 (grid0.coords t)) (x0 : Vec Ideal S640x1024 .f32) (x1 : Vec Ideal S640x1024 .f32) (x2 : Vec Ideal S640x1 .f32) (x3 : Vec Ideal S1x1024 .f32) (x4 : Vec Ideal S1x640x704 .bf16) (x5 : Vec Ideal S1x640x704 .bf16) (x6 : Vec Ideal S1x704x1024 .bf16) (x7 : Vec Ideal S1x704x1024 .bf16) (x8 : Vec Ideal S1x704x1024 .bf16) (x14 : Vec Ideal S1x1024 .f32) (x15 : Vec Ideal S1x1024 .f32) (q : Fin 1024) :
    outC_15 (F := Ideal) c t hc0 hc1 x0 x1 x2 x3 x4 x5 x6 x7 x8 x14 x15 (ix2 0 q) = x15 (ix2 0 q) + ∑ p : Fin 640, x0 (ix2 p q) := by
  frame_open
  try simp (disch := decide) only [↓ View.readCov_skip, ↓ View.readCov_cons_toLoadRect, ↓ View.readCov_fill]
  try frame_out
  try simp only [View.readAt_eq_ld, Memref.IsWhole.read_unread, View.read_writes_junk_eq_canon]
  rw [pay15_apply]

end Cert.FfnKernelIdeal.Hand

end
-- ==== Proof.FfnState.lean ====
/- What the feed-forward backward kernel's outputs and its scratch hold after every grid point. -/
module

public import proofs.«01_k».proof.Proof.FfnPoint
public import Idealize.ShloMosaic.Lib.Pipeline.ValueKit

@[expose] public section

set_option maxRecDepth 16384

noncomputable section

open Idealize.ShloMosaic Idealize.ShloMosaic.TcCoe Idealize.SL.Sem

namespace Cert.FfnKernelIdeal.Hand

open Cert.FfnKernelIdeal Cert.FfnKernelIdeal.Gen Cert.FfnKernelIdeal.Pay

/-- The staged arrays the kernel reads. -/
structure In where
  dy : FVec Ideal S8320x1024 .f32
  xh : FVec Ideal S8320x1024 .f32
  rs : FVec Ideal S8320x1 .f32
  gam : FVec Ideal S1x1024 .f32
  g : FVec Ideal S4x8320x704 .bf16
  u : FVec Ideal S4x8320x704 .bf16
  wg : FVec Ideal S4x704x1024 .bf16
  wu : FVec Ideal S4x704x1024 .bf16
  wd : FVec Ideal S4x704x1024 .bf16

namespace In
variable (a : In)

/-- The gradient that enters the normalised sum. -/
def dr (r : Fin 8320) (q : Fin 1024) : EReal :=
  a.rs (ix2 r 0) * (a.dy (ix2 r q) * a.gam (ix2 0 q) - Ideal.div (∑ k : Fin 1024, a.dy (ix2 r k) * a.gam (ix2 0 k)) c1024
    - a.xh (ix2 r q) * Ideal.div (∑ k : Fin 1024, a.dy (ix2 r k) * a.gam (ix2 0 k) * a.xh (ix2 r k)) c1024)

def df (r : Fin 8320) (q : Fin 1024) : EReal := cHalf * a.dr r q
def dact (j : Fin 4) (r : Fin 8320) (f : Fin 704) : EReal := ∑ k : Fin 1024, a.df r k * a.wd (ix3 j f k)
def dg (j : Fin 4) (r : Fin 8320) (f : Fin 704) : EReal := dgE (a.dact j r f) (a.g (ix3 j r f)) (a.u (ix3 j r f))
def du (j : Fin 4) (r : Fin 8320) (f : Fin 704) : EReal := duE (a.dact j r f) (a.g (ix3 j r f))
def act (j : Fin 4) (r : Fin 8320) (f : Fin 704) : EReal := actE (a.g (ix3 j r f)) (a.u (ix3 j r f))

/-- One chunk's part of the two data products. -/
def dp (j : Fin 4) (r : Fin 8320) (q : Fin 1024) : EReal :=
  (∑ f : Fin 704, a.dg j r f * a.wg (ix3 j f q)) + ∑ f : Fin 704, a.du j r f * a.wu (ix3 j f q)

/-- The gradient of the layer's input after the chunks up to one of them. -/
def dh (r : Fin 8320) (q : Fin 1024) : ℕ → EReal
  | 0 => cAlpha * a.dr r q + a.dp 0 r q
  | j + 1 => dh r q j + (if h : j + 1 < 4 then a.dp ⟨j + 1, h⟩ r q else 0)

/-- The sums over the rows, after the row blocks up to one of them. -/
def dgam (q : Fin 1024) : ℕ → EReal
  | 0 => 0 + ∑ p : Fin 640, a.dy (ix2 ⟨0 * 640 + p.val, by omega⟩ q) * a.xh (ix2 ⟨0 * 640 + p.val, by omega⟩ q)
  | i + 1 => dgam q i + (if h : i + 1 < 13 then
      ∑ p : Fin 640, a.dy (ix2 ⟨(i + 1) * 640 + p.val, by omega⟩ q) * a.xh (ix2 ⟨(i + 1) * 640 + p.val, by omega⟩ q) else 0)

def dbet (q : Fin 1024) : ℕ → EReal
  | 0 => 0 + ∑ p : Fin 640, a.dy (ix2 ⟨0 * 640 + p.val, by omega⟩ q)
  | i + 1 => dbet q i + (if h : i + 1 < 13 then ∑ p : Fin 640, a.dy (ix2 ⟨(i + 1) * 640 + p.val, by omega⟩ q) else 0)

end In

variable (m : (ℓ : Loc nD τ sig) → Buf (Elt Ideal) ℓ)

/-- The arrays as the program stages them. -/
def inp (c : Dev nD) : In where
  dy := V m c (Pipeline.arrRef spec0 0)
  xh := V m c (Pipeline.arrRef spec0 1)
  rs := V m c (Pipeline.arrRef spec0 2)
  gam := V m c (Pipeline.arrRef spec0 3)
  g := V m c (Pipeline.arrRef spec0 4)
  u := V m c (Pipeline.arrRef spec0 5)
  wg := V m c (Pipeline.arrRef spec0 6)
  wu := V m c (Pipeline.arrRef spec0 7)
  wd := V m c (Pipeline.arrRef spec0 8)

theorem idx : ∀ t : Fin cfg0.N, win0_0.index t = ![t.val / 4, 0] ∧ win0_1.index t = ![t.val / 4, 0] ∧ win0_2.index t = ![t.val / 4, 0] ∧ win0_3.index t = ![0, 0]
    ∧ win0_4.index t = ![t.val % 4, t.val / 4, 0] ∧ win0_5.index t = ![t.val % 4, t.val / 4, 0]
    ∧ win0_6.index t = ![t.val % 4, 0, 0] ∧ win0_7.index t = ![t.val % 4, 0, 0] ∧ win0_8.index t = ![t.val % 4, 0, 0] :=
  (by decide +kernel : ∀ t : Fin grid0.N, _)

/-- The row of the array behind a row of the point's block, and the point's chunk. -/
def row (t : Fin cfg0.N) (p : Fin 640) : Fin 8320 := ⟨t.val / 4 * 640 + p.val, by have := lt_of_lt_of_eq t.isLt N_0; omega⟩
def chk (t : Fin cfg0.N) : Fin 4 := ⟨t.val % 4, Nat.mod_lt _ (by decide)⟩

theorem ib0 (c : Dev nD) (t : Fin cfg0.N) (p : Fin 640) (q : Fin 1024) : (iblk m c 0 t : FVec Ideal S640x1024 .f32) (ix2 p q) = (inp m c).dy (ix2 (row t p) q) := by
  unfold inp row
  blk_ext! [iblk, idx t]

theorem ib1 (c : Dev nD) (t : Fin cfg0.N) (p : Fin 640) (q : Fin 1024) : (iblk m c 1 t : FVec Ideal S640x1024 .f32) (ix2 p q) = (inp m c).xh (ix2 (row t p) q) := by
  unfold inp row
  blk_ext! [iblk, idx t]

theorem ib2 (c : Dev nD) (t : Fin cfg0.N) (p : Fin 640) : (iblk m c 2 t : FVec Ideal S640x1 .f32) (ix2 p 0) = (inp m c).rs (ix2 (row t p) 0) := by
  unfold inp row
  blk_ext! [iblk, idx t]

theorem ib3 (c : Dev nD) (t : Fin cfg0.N) (q : Fin 1024) : (iblk m c 3 t : FVec Ideal S1x1024 .f32) (ix2 0 q) = (inp m c).gam (ix2 0 q) := by
  unfold inp
  blk_ext! [iblk, idx t]

theorem ib4 (c : Dev nD) (t : Fin cfg0.N) (p : Fin 640) (f : Fin 704) : (iblk m c 4 t : FVec Ideal S1x640x704 .bf16) (ix3 0 p f) = (inp m c).g (ix3 (chk t) (row t p) f) := by
  unfold inp row chk
  blk_ext! [iblk, idx t]

theorem ib5 (c : Dev nD) (t : Fin cfg0.N) (p : Fin 640) (f : Fin 704) : (iblk m c 5 t : FVec Ideal S1x640x704 .bf16) (ix3 0 p f) = (inp m c).u (ix3 (chk t) (row t p) f) := by
  unfold inp row chk
  blk_ext! [iblk, idx t]

theorem ib6 (c : Dev nD) (t : Fin cfg0.N) (f : Fin 704) (q : Fin 1024) : (iblk m c 6 t : FVec Ideal S1x704x1024 .bf16) (ix3 0 f q) = (inp m c).wg (ix3 (chk t) f q) := by
  unfold inp chk
  blk_ext! [iblk, idx t]

theorem ib7 (c : Dev nD) (t : Fin cfg0.N) (f : Fin 704) (q : Fin 1024) : (iblk m c 7 t : FVec Ideal S1x704x1024 .bf16) (ix3 0 f q) = (inp m c).wu (ix3 (chk t) f q) := by
  unfold inp chk
  blk_ext! [iblk, idx t]

theorem ib8 (c : Dev nD) (t : Fin cfg0.N) (f : Fin 704) (q : Fin 1024) : (iblk m c 8 t : FVec Ideal S1x704x1024 .bf16) (ix3 0 f q) = (inp m c).wd (ix3 (chk t) f q) := by
  unfold inp chk
  blk_ext! [iblk, idx t]

theorem drv_at (c : Dev nD) (t : Fin cfg0.N) (p : Fin 640) (q : Fin 1024) :
    drv (iblk m c 0 t) (iblk m c 1 t) (iblk m c 2 t) (iblk m c 3 t) p q = (inp m c).dr (row t p) q := by
  simp only [drv, In.dr, ib0, ib1, ib2, ib3]

theorem dact_at (c : Dev nD) (t : Fin cfg0.N) (xs : FVec Ideal S640x1024 .bf16) (hx : ∀ p q, xs (ix2 p q) = (inp m c).df (row t p) q)
    (p : Fin 640) (f : Fin 704) : dactF xs (iblk m c 8 t) p f = (inp m c).dact (chk t) (row t p) f := by
  simp only [dactF, In.dact, hx, ib8]

theorem dpr_at (c : Dev nD) (t : Fin cfg0.N) (xs : FVec Ideal S640x1024 .bf16) (hx : ∀ p q, xs (ix2 p q) = (inp m c).df (row t p) q)
    (p : Fin 640) (q : Fin 1024) :
    dprF xs (iblk m c 4 t) (iblk m c 5 t) (iblk m c 6 t) (iblk m c 7 t) (iblk m c 8 t) p q = (inp m c).dp (chk t) (row t p) q := by
  simp only [dprF, In.dp, In.dg, In.du, dact_at m c t xs hx, ib4, ib5, ib6, ib7]

/-- What the outputs and the scratch hold after a point. -/
structure Good (c : Dev nD) (t : Fin cfg0.N) (s : St Ideal) : Prop where
  dh : ∀ (p : Fin 640) (q : Fin 1024), s.1 (ix2 p q) = (inp m c).dh (row t p) q (t.val % 4)
  df : ∀ (p : Fin 640) (q : Fin 1024), s.2.1 (ix2 p q) = (inp m c).df (row t p) q
  dg : ∀ (p : Fin 640) (f : Fin 704), s.2.2.1 (ix3 0 p f) = (inp m c).dg (chk t) (row t p) f
  du : ∀ (p : Fin 640) (f : Fin 704), s.2.2.2.1 (ix3 0 p f) = (inp m c).du (chk t) (row t p) f
  act : ∀ (p : Fin 640) (f : Fin 704), s.2.2.2.2.1 (ix3 0 p f) = (inp m c).act (chk t) (row t p) f
  gam : ∀ q : Fin 1024, s.2.2.2.2.2.1 (ix2 0 q) = (inp m c).dgam q (t.val / 4)
  bet : ∀ q : Fin 1024, s.2.2.2.2.2.2.1 (ix2 0 q) = (inp m c).dbet q (t.val / 4)
  scr : ∀ (p : Fin 640) (q : Fin 1024), s.2.2.2.2.2.2.2 (ix2 p q) = (inp m c).df (row t p) q

theorem scr_at (c : Dev nD) (t : Fin cfg0.N) (p : Fin 640) (q : Fin 1024) :
    k0_pay11 (F := Ideal) (iblk m c 0 t) (iblk m c 1 t) (iblk m c 2 t) (iblk m c 3 t) (ix2 p q) = (inp m c).df (row t p) q := by
  rw [pay11_apply, drv_at]
  rfl

end Cert.FfnKernelIdeal.Hand

end
-- ==== Proof.FfnRef.lean ====
/- The plain backward pass of the normalisation, at an index: every stage is a real number, and the last is the gradient of one row. -/
module

public import proofs.«01_k».proof.Proof.FfnMath
public import proofs.«01_k».proof.Proof.FfnState
public import proofs.«01_k».proof.Proof.Gen.FfnReferenceIdeal.Read

@[expose] public section

set_option maxRecDepth 16384

noncomputable section

open Idealize.ShloMosaic Idealize.ShloMosaic.TcCoe Idealize.SL.Sem

namespace Cert.FfnRef

open Cert.FfnReferenceIdeal Cert.FfnReferenceIdeal.Read Cert.FfnMath

variable (x0 x1 : FVec Ideal S8320x1024 .f32) (x2 x3 : FVec Ideal S1024x2816 .f32) (x4 : FVec Ideal S2816x1024 .f32) (x5 : FVec Ideal S1x1024 .f32)
variable (ε : ℝ) (hε : Ideal.ofBits .f32 0x3727C5AC#32 = (ε : EReal)) (hp : 0 < ε)
variable (rr A : Fin 8320 → Fin 1024 → ℝ)
variable (h9 : ∀ i : S8320x1024.Idx, val_main_v9 (F := Ideal) x1 x2 x3 x4 i = ((rr (i 0) (i 1) : ℝ) : EReal))
variable (h44 : ∀ i : S8320x1024.Idx, val_main_v44 (F := Ideal) x0 x5 i = ((A (i 0) (i 1) : ℝ) : EReal))

theorem col (i : S8320x1.Idx) (j : S8320.Idx) (h : (j 0).val = (i 0).val * 1 + (i 1).val) : (j 0 : Fin 8320) = i 0 :=
  Fin.ext (by have h1 : (i 1).val < 1 := (i 1).isLt; omega)

include h9

theorem L13 (i : S8320x1.Idx) : val_main_v13 (F := Ideal) x1 x2 x3 x4 i = ((mu (rr (i 0)) : ℝ) : EReal) := by
  rw [val_main_v13_apply, val_main_v11_apply, val_main_v10_apply, val_main_v12_apply]
  exact (congrArg (Ideal.div · (Ideal.ofBits .f32 0x44800000#32)) (red _ (rr (i 0)) fun k => h9 _)).trans (div_1024 _)

theorem L15 (i : S8320x1024.Idx) : val_main_v15 (F := Ideal) x1 x2 x3 x4 i = ((dv (rr (i 0)) (i 1) : ℝ) : EReal) := by
  rw [val_main_v15_apply, val_main_v14_apply, h9, L13 x1 x2 x3 x4 rr h9]
  exact (EReal.coe_sub _ _).symm

theorem L24 (i : S8320x1024.Idx) : val_main_v24 (F := Ideal) x1 x2 x3 x4 i = ((dv (rr (i 0)) (i 1) : ℝ) : EReal) := by
  rw [val_main_v24_apply, val_main_v23_apply, h9, L13 x1 x2 x3 x4 rr h9]
  exact (EReal.coe_sub _ _).symm

theorem L18 (i : S8320x1024.Idx) : val_main_v18 (F := Ideal) x1 x2 x3 x4 i = ((2 * dv (rr (i 0)) (i 1) : ℝ) : EReal) := by
  rw [val_main_v18_apply, val_main_v17_apply, L15 x1 x2 x3 x4 rr h9]
  exact (congrArg (· * _) ofBits_2).trans (EReal.coe_mul _ _).symm

include hε

theorem L26 (i : S8320x1.Idx) : val_main_v26 (F := Ideal) x1 x2 x3 x4 i = ((ev ε (rr (i 0)) : ℝ) : EReal) := by
  rw [val_main_v26_apply, val_main_v22_apply, val_main_v20_apply, val_main_v19_apply, val_main_v21_apply, val_main_v25_apply]
  have e : ∀ k : Fin 1024, val_main_v16 (F := Ideal) x1 x2 x3 x4 (idx_main_v19 (idx_main_v20 i) k) = ((dv (rr (i 0)) k * dv (rr (i 0)) k : ℝ) : EReal) := fun k => by
    rw [val_main_v16_apply, L15 x1 x2 x3 x4 rr h9]
    exact (EReal.coe_mul _ _).symm
  exact (congrArg₂ (· + ·) ((congrArg (Ideal.div · (Ideal.ofBits .f32 0x44800000#32)) (red _ _ e)).trans (div_1024 _)) hε).trans (EReal.coe_add _ _).symm

include hp

theorem L27 (i : S8320x1.Idx) : val_main_v27 (F := Ideal) x1 x2 x3 x4 i = ((sv ε (rr (i 0)) : ℝ) : EReal) := by
  rw [val_main_v27_apply, L26 x1 x2 x3 x4 ε hε rr h9]
  rw [Ideal.hostUnary_rsqrt_def, Ideal.rsqrt_coe, if_neg (ev_pos (rr (i 0)) hp).not_gt, if_neg (ev_pos (rr (i 0)) hp).ne']
  rfl

theorem L30 (i : S8320x1.Idx) : val_main_v30 (F := Ideal) x1 x2 x3 x4 i = ((-(1 / 2) * (sv ε (rr (i 0)) * (1 / ev ε (rr (i 0)))) : ℝ) : EReal) := by
  rw [val_main_v30_apply, val_main_v29_apply, val_main_v28_apply, L27 x1 x2 x3 x4 ε hε hp rr h9, L26 x1 x2 x3 x4 ε hε rr h9]
  refine (congrArg₂ (· * ·) ofBits_neg_half (Ideal.div_coe (ev_pos (rr (i 0)) hp).ne' _)).trans ?_
  rw [← EReal.coe_mul, ← EReal.coe_mul]

theorem L32 (i : S8320x1024.Idx) : val_main_v32 (F := Ideal) x1 x2 x3 x4 i = ((dv (rr (i 0)) (i 1) * sv ε (rr (i 0)) : ℝ) : EReal) := by
  rw [val_main_v32_apply, val_main_v31_apply, L24 x1 x2 x3 x4 rr h9, L27 x1 x2 x3 x4 ε hε hp rr h9]
  exact (EReal.coe_mul _ _).symm

omit hε hp
include h44

theorem L46 (i : S8320.Idx) : val_main_v46 (F := Ideal) x0 x1 x2 x3 x4 x5 i = ((∑ k, dv (rr (i 0)) k * A (i 0) k : ℝ) : EReal) := by
  rw [val_main_v46_apply]
  refine red _ _ fun k => ?_
  rw [val_main_v45_apply, L24 x1 x2 x3 x4 rr h9, h44]
  exact (EReal.coe_mul _ _).symm

theorem L47 (i : S8320x1.Idx) : val_main_v47 (F := Ideal) x0 x1 x2 x3 x4 x5 i = ((∑ k, dv (rr (i 0)) k * A (i 0) k : ℝ) : EReal) := by
  rw [val_main_v47_apply, L46 x0 x1 x2 x3 x4 x5 rr A h9 h44]
  rw [show ((idx_main_v47 i) 0 : Fin 8320) = i 0 from col i _ rfl]

include hε hp

theorem L49 (i : S8320x1024.Idx) : val_main_v49 (F := Ideal) x0 x1 x2 x3 x4 x5 i = ((A (i 0) (i 1) * sv ε (rr (i 0)) : ℝ) : EReal) := by
  rw [val_main_v49_apply, val_main_v48_apply, h44, L27 x1 x2 x3 x4 ε hε hp rr h9]
  exact (EReal.coe_mul _ _).symm

theorem L57 (i : S8320x1024.Idx) : val_main_v57 (F := Ideal) x0 x1 x2 x3 x4 x5 i = ((tv ε (rr (i 0)) (A (i 0)) : ℝ) : EReal) := by
  rw [val_main_v57_apply, val_main_v56_apply]
  refine (red _ (fun _ => tv ε (rr (i 0)) (A (i 0))) fun k => ?_).trans (by rw [Fin.sum_univ_one])
  rw [val_main_v55_apply, val_main_v54_apply, val_main_v50_apply, L47 x0 x1 x2 x3 x4 x5 rr A h9 h44, L30 x1 x2 x3 x4 ε hε hp rr h9]
  refine (congrArg (Ideal.div · (Ideal.ofBits .f32 0x44800000#32)) (EReal.coe_mul _ _).symm).trans (div_1024 _)

theorem L58 (i : S8320x1024.Idx) : val_main_v58 (F := Ideal) x0 x1 x2 x3 x4 x5 i = ((tv ε (rr (i 0)) (A (i 0)) * (2 * dv (rr (i 0)) (i 1)) : ℝ) : EReal) := by
  rw [val_main_v58_apply, L57 x0 x1 x2 x3 x4 x5 ε hε hp rr A h9 h44, L18 x1 x2 x3 x4 rr h9]
  exact (EReal.coe_mul _ _).symm

theorem L52 (i : S8320.Idx) : val_main_v52 (F := Ideal) x0 x1 x2 x3 x4 x5 i = ((∑ k, -(A (i 0) k * sv ε (rr (i 0))) : ℝ) : EReal) := by
  rw [val_main_v52_apply]
  refine red _ (fun k => -(A (i 0) k * sv ε (rr (i 0)))) fun k => ?_
  rw [val_main_v51_apply, L49 x0 x1 x2 x3 x4 x5 ε hε hp rr A h9 h44]
  exact (EReal.coe_neg _).symm

theorem L53 (i : S8320x1.Idx) : val_main_v53 (F := Ideal) x0 x1 x2 x3 x4 x5 i = ((∑ k, -(A (i 0) k * sv ε (rr (i 0))) : ℝ) : EReal) := by
  rw [val_main_v53_apply, L52 x0 x1 x2 x3 x4 x5 ε hε hp rr A h9 h44]
  rw [show ((idx_main_v53 i) 0 : Fin 8320) = i 0 from col i _ rfl]

theorem L60 (i : S8320.Idx) : val_main_v60 (F := Ideal) x0 x1 x2 x3 x4 x5 i = ((∑ k, -(tv ε (rr (i 0)) (A (i 0)) * (2 * dv (rr (i 0)) k)) : ℝ) : EReal) := by
  rw [val_main_v60_apply]
  refine red _ (fun k => -(tv ε (rr (i 0)) (A (i 0)) * (2 * dv (rr (i 0)) k))) fun k => ?_
  rw [val_main_v59_apply, L58 x0 x1 x2 x3 x4 x5 ε hε hp rr A h9 h44]
  exact (EReal.coe_neg _).symm

theorem L61 (i : S8320x1.Idx) : val_main_v61 (F := Ideal) x0 x1 x2 x3 x4 x5 i = ((∑ k, -(tv ε (rr (i 0)) (A (i 0)) * (2 * dv (rr (i 0)) k)) : ℝ) : EReal) := by
  rw [val_main_v61_apply, L60 x0 x1 x2 x3 x4 x5 ε hε hp rr A h9 h44]
  rw [show ((idx_main_v61 i) 0 : Fin 8320) = i 0 from col i _ rfl]

theorem L67 (i : S8320x1024.Idx) : val_main_v67 (F := Ideal) x0 x1 x2 x3 x4 x5 i = ((mv ε (rr (i 0)) (A (i 0)) : ℝ) : EReal) := by
  rw [val_main_v67_apply, val_main_v66_apply]
  refine (red _ (fun _ => mv ε (rr (i 0)) (A (i 0))) fun k => ?_).trans (by rw [Fin.sum_univ_one])
  rw [val_main_v65_apply, val_main_v64_apply, val_main_v63_apply, L53 x0 x1 x2 x3 x4 x5 ε hε hp rr A h9 h44, L61 x0 x1 x2 x3 x4 x5 ε hε hp rr A h9 h44]
  exact (congrArg (Ideal.div · (Ideal.ofBits .f32 0x44800000#32)) (EReal.coe_add _ _).symm).trans (div_1024 _)

theorem L68 (i : S8320x1024.Idx) : val_main_v68 (F := Ideal) x0 x1 x2 x3 x4 x5 i = ((dR ε (rr (i 0)) (A (i 0)) (i 1) : ℝ) : EReal) := by
  rw [val_main_v68_apply, val_main_v62_apply, L49 x0 x1 x2 x3 x4 x5 ε hε hp rr A h9 h44, L58 x0 x1 x2 x3 x4 x5 ε hε hp rr A h9 h44, L67 x0 x1 x2 x3 x4 x5 ε hε hp rr A h9 h44]
  exact (congrArg (· + _) (EReal.coe_add _ _).symm).trans (EReal.coe_add _ _).symm

omit h9 h44 hε hp

/-- The kernel's form of the gradient, as the real number it is. -/
theorem dr_real (a : Cert.FfnKernelIdeal.Hand.In) (hA : ∀ r q, a.dy (ix2 r q) * a.gam (ix2 0 q) = ((A r q : ℝ) : EReal))
    (hs : ∀ r, a.rs (ix2 r 0) = ((sv ε (rr r) : ℝ) : EReal)) (hx : ∀ r q, a.xh (ix2 r q) = ((dv (rr r) q * sv ε (rr r) : ℝ) : EReal))
    (r : Fin 8320) (q : Fin 1024) : a.dr r q = ((dK ε (rr r) (A r) q : ℝ) : EReal) := by
  unfold Cert.FfnKernelIdeal.Hand.In.dr Cert.FfnKernelIdeal.Pay.c1024
  have s1 : ∑ k : Fin 1024, a.dy (ix2 r k) * a.gam (ix2 0 k) = ((∑ k, A r k : ℝ) : EReal) := by
    rw [Cert.PoolSpec.coe_sum]
    exact Finset.sum_congr rfl fun k _ => hA r k
  have s2 : ∑ k : Fin 1024, a.dy (ix2 r k) * a.gam (ix2 0 k) * a.xh (ix2 r k) = ((∑ k, A r k * (dv (rr r) k * sv ε (rr r)) : ℝ) : EReal) :=
    dotr _ _ _ _ (hA r) (hx r)
  rw [s1, s2, div_1024, div_1024, hA, hs, hx, ← EReal.coe_sub, ← EReal.coe_mul, ← EReal.coe_sub, ← EReal.coe_mul]
  rfl

end Cert.FfnRef

end
-- ==== Proof.FfnHost.lean ====
/- What the feed-forward backward program stages for its kernel: the arguments, and the reference's own arrays. -/
module

public import Idealize.ShloMosaic.Lib.StableHlo.RunRead
public import proofs.«01_k».proof.Proof.Gen.FfnKernelIdeal.Frame
public import proofs.«01_k».proof.Proof.Gen.FfnReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnKernelIdeal.Hand

open Cert.FfnKernelIdeal Cert.FfnKernelIdeal.Gen

variable (m : (ℓ : Loc nD τ sig) → Buf (Elt Ideal) ℓ)

abbrev a0 (c : Dev nD) : FVec Ideal S8320x1024 .f32 := m ((c : Thread nD τ).loc main_arg0)
abbrev a1 (c : Dev nD) : FVec Ideal S8320x1024 .f32 := m ((c : Thread nD τ).loc main_arg1)
abbrev a2 (c : Dev nD) : FVec Ideal S1024x2816 .f32 := m ((c : Thread nD τ).loc main_arg2)
abbrev a3 (c : Dev nD) : FVec Ideal S1024x2816 .f32 := m ((c : Thread nD τ).loc main_arg3)
abbrev a4 (c : Dev nD) : FVec Ideal S2816x1024 .f32 := m ((c : Thread nD τ).loc main_arg4)
abbrev a5 (c : Dev nD) : FVec Ideal S1x1024 .f32 := m ((c : Thread nD τ).loc main_arg5)

/-- The chunk's column in the whole array. -/
def cat (j : Fin 4) (f : Fin 704) : Fin 2816 := ⟨j.val * 704 + f.val, by omega⟩

theorem W6 (c : Dev nD) (j : Fin 4) (f : Fin 704) (q : Fin 1024) :
    (V m c (Pipeline.arrRef spec0 6) : FVec Ideal S4x704x1024 .bf16) (ix3 j f q) = a2 m c (ix2 q (cat j f)) := by
  have e : (V m c (Pipeline.arrRef spec0 6) : FVec Ideal S4x704x1024 .bf16)
      = shapeCast S4x704x1024 (transpose S2816x1024 [1, 0] (truncf .bf16 (a2 m c) bitsLt_bf16_f32) transposes_S1024x2816_S2816x1024_1_0) shapeCasts_S2816x1024_S4x704x1024 := by
    show StableHlo.after (hostOps0 ++ (hostOps0_1 ++ (hostOps0_2 ++ []))) _ _ = _
    after_reads_simp
    rfl
  rw [e]
  generalize a2 m c = y
  unfold cat
  pointwise

theorem W7 (c : Dev nD) (j : Fin 4) (f : Fin 704) (q : Fin 1024) :
    (V m c (Pipeline.arrRef spec0 7) : FVec Ideal S4x704x1024 .bf16) (ix3 j f q) = a3 m c (ix2 q (cat j f)) := by
  have e : (V m c (Pipeline.arrRef spec0 7) : FVec Ideal S4x704x1024 .bf16)
      = shapeCast S4x704x1024 (transpose S2816x1024 [1, 0] (truncf .bf16 (a3 m c) bitsLt_bf16_f32) transposes_S1024x2816_S2816x1024_1_0) shapeCasts_S2816x1024_S4x704x1024 := by
    show StableHlo.after (hostOps0 ++ (hostOps0_1 ++ (hostOps0_2 ++ []))) _ _ = _
    after_reads_simp
    rfl
  rw [e]
  generalize a3 m c = y
  unfold cat
  pointwise

theorem W8 (c : Dev nD) (j : Fin 4) (f : Fin 704) (q : Fin 1024) :
    (V m c (Pipeline.arrRef spec0 8) : FVec Ideal S4x704x1024 .bf16) (ix3 j f q) = a4 m c (ix2 (cat j f) q) := by
  have e : (V m c (Pipeline.arrRef spec0 8) : FVec Ideal S4x704x1024 .bf16)
      = shapeCast S4x704x1024 (truncf .bf16 (a4 m c) bitsLt_bf16_f32) shapeCasts_S2816x1024_S4x704x1024 := by
    show StableHlo.after (hostOps0 ++ (hostOps0_1 ++ (hostOps0_2 ++ []))) _ _ = _
    after_reads_simp
    rfl
  rw [e]
  generalize a4 m c = y
  unfold cat
  pointwise

theorem W4 (c : Dev nD) (j : Fin 4) (r : Fin 8320) (f : Fin 704) :
    (V m c (Pipeline.arrRef spec0 4) : FVec Ideal S4x8320x704 .bf16) (ix3 j r f)
      = Cert.FfnReferenceIdeal.Read.val_main_v0 (F := Ideal) (a1 m c) (a2 m c) (ix2 r (cat j f)) := by
  have e : (V m c (Pipeline.arrRef spec0 4) : FVec Ideal S4x8320x704 .bf16)
      = (transpose S4x8320x704 [1, 0, 2] (shapeCast S8320x4x704 (truncf (F := Ideal) .bf16 (Cert.FfnReferenceIdeal.Read.val_main_v0 (F := Ideal) (a1 m c) (a2 m c) : FVec Ideal S8320x2816 .f32) bitsLt_bf16_f32) shapeCasts_S8320x2816_S8320x4x704) transposes_S8320x4x704_S4x8320x704_1_0_2 : FVec Ideal S4x8320x704 .bf16) := by
    show StableHlo.after (hostOps0 ++ (hostOps0_1 ++ (hostOps0_2 ++ []))) _ _ = _
    after_reads_simp
    rfl
  rw [e]
  generalize Cert.FfnReferenceIdeal.Read.val_main_v0 (F := Ideal) (a1 m c) (a2 m c) = y
  unfold cat
  pointwise

theorem W5 (c : Dev nD) (j : Fin 4) (r : Fin 8320) (f : Fin 704) :
    (V m c (Pipeline.arrRef spec0 5) : FVec Ideal S4x8320x704 .bf16) (ix3 j r f)
      = Cert.FfnReferenceIdeal.Read.val_main_v1 (F := Ideal) (a1 m c) (a3 m c) (ix2 r (cat j f)) := by
  have e : (V m c (Pipeline.arrRef spec0 5) : FVec Ideal S4x8320x704 .bf16)
      = (transpose S4x8320x704 [1, 0, 2] (shapeCast S8320x4x704 (truncf (F := Ideal) .bf16 (Cert.FfnReferenceIdeal.Read.val_main_v1 (F := Ideal) (a1 m c) (a3 m c) : FVec Ideal S8320x2816 .f32) bitsLt_bf16_f32) shapeCasts_S8320x2816_S8320x4x704) transposes_S8320x4x704_S4x8320x704_1_0_2 : FVec Ideal S4x8320x704 .bf16) := by
    show StableHlo.after (hostOps0 ++ (hostOps0_1 ++ (hostOps0_2 ++ []))) _ _ = _
    after_reads_simp
    rfl
  rw [e]
  generalize Cert.FfnReferenceIdeal.Read.val_main_v1 (F := Ideal) (a1 m c) (a3 m c) = y
  unfold cat
  pointwise

theorem W0 (c : Dev nD) : V m c (Pipeline.arrRef spec0 0) = a0 m c := V_main_arg0 m c
theorem W3 (c : Dev nD) : V m c (Pipeline.arrRef spec0 3) = a5 m c := V_main_arg5 m c

theorem W2 (c : Dev nD) : (V m c (Pipeline.arrRef spec0 2) : FVec Ideal S8320x1 .f32)
    = Cert.FfnReferenceIdeal.Read.val_main_v27 (F := Ideal) (a1 m c) (a2 m c) (a3 m c) (a4 m c) := by
  show StableHlo.after (hostOps0 ++ (hostOps0_1 ++ (hostOps0_2 ++ []))) _ _ = _
  after_reads_simp
  rfl

theorem W1 (c : Dev nD) : (V m c (Pipeline.arrRef spec0 1) : FVec Ideal S8320x1024 .f32)
    = Cert.FfnReferenceIdeal.Read.val_main_v32 (F := Ideal) (a1 m c) (a2 m c) (a3 m c) (a4 m c) := by
  show StableHlo.after (hostOps0 ++ (hostOps0_1 ++ (hostOps0_2 ++ []))) _ _ = _
  after_reads_simp
  rfl

end Cert.FfnKernelIdeal.Hand

end
-- ==== Proof.FfnAlg.lean ====
/- The feed-forward backward kernel's result arrays are the reference's, where the arguments are real. -/
module

public import proofs.«01_k».proof.Proof.FfnRef
public import proofs.«01_k».proof.Proof.FfnHost

@[expose] public section

set_option maxRecDepth 16384

noncomputable section

open Idealize.ShloMosaic Idealize.ShloMosaic.TcCoe Idealize.SL.Sem

namespace Cert.FfnAlg

open Cert.FfnReferenceIdeal Cert.FfnReferenceIdeal.Read Cert.FfnMath Cert.FfnKernelIdeal.Hand Cert.FfnKernelIdeal.Pay

/-! ## Real numbers are closed under the operations -/

def R (x : EReal) : Prop := ∃ r : ℝ, x = (r : EReal)

theorem R.mul {x y : EReal} (hx : R x) (hy : R y) : R (x * y) := by
  obtain ⟨a, rfl⟩ := hx
  obtain ⟨b, rfl⟩ := hy
  exact ⟨a * b, (EReal.coe_mul a b).symm⟩

theorem R.add {x y : EReal} (hx : R x) (hy : R y) : R (x + y) := by
  obtain ⟨a, rfl⟩ := hx
  obtain ⟨b, rfl⟩ := hy
  exact ⟨a + b, (EReal.coe_add a b).symm⟩

theorem R.sum {n : ℕ} {f : Fin n → EReal} (h : ∀ k, R (f k)) : R (∑ k, f k) := by
  choose r hr using h
  exact ⟨∑ k, r k, by rw [Cert.PoolSpec.coe_sum]; exact Finset.sum_congr rfl fun k _ => hr k⟩

theorem R.logistic {x : EReal} (hx : R x) : R (Ideal.logistic x) := by
  obtain ⟨a, rfl⟩ := hx
  exact ⟨_, Ideal.logistic_coe a⟩

/-! ## The reference's stages are real -/

section real
variable (x0 x1 : FVec Ideal S8320x1024 .f32) (x2 x3 : FVec Ideal S1024x2816 .f32) (x4 : FVec Ideal S2816x1024 .f32) (x5 : FVec Ideal S1x1024 .f32)
variable (h0 : ∀ i, R (x0 i)) (h1 : ∀ i, R (x1 i)) (h2 : ∀ i, R (x2 i)) (h3 : ∀ i, R (x3 i)) (h4 : ∀ i, R (x4 i)) (h5 : ∀ i, R (x5 i))

/-- The reference's sigmoid is the logistic function. -/
theorem sig (i : S8320x2816.Idx) : val_main_v2_2 (F := Ideal) x1 x2 i = Ideal.logistic (val_main_v0 (F := Ideal) x1 x2 i) := by
  rw [val_main_v2_2_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-_)) = _
  rw [ofBits_one, EReal.coe_one]
  rfl

include h1 h2 in
theorem R0 (i : S8320x2816.Idx) : R (val_main_v0 (F := Ideal) x1 x2 i) := by
  rw [val_main_v0_apply]
  exact R.sum fun k => (h1 _).mul (h2 _)

include h1 h3 in
theorem R1 (i : S8320x2816.Idx) : R (val_main_v1 (F := Ideal) x1 x3 i) := by
  rw [val_main_v1_apply]
  exact R.sum fun k => (h1 _).mul (h3 _)

include h1 h2 h3 h4 in
theorem R9 (i : S8320x1024.Idx) : R (val_main_v9 (F := Ideal) x1 x2 x3 x4 i) := by
  rw [val_main_v9_apply, val_main_v6_apply, val_main_v8_apply, val_main_v5_apply, val_main_v7_apply, val_main_v4_apply]
  refine R.add (R.mul ofBits_alpha (h1 i)) (R.mul ⟨_, ofBits_half⟩ (R.sum fun k => R.mul ?_ (h4 _)))
  rw [val_main_v3_apply, val_main_v2_0_apply, sig]
  exact R.mul (R.mul (R0 x1 x2 h1 h2 _) (R.logistic (R0 x1 x2 h1 h2 _))) (R1 x1 x3 h1 h3 _)

include h0 h5 in
theorem R44 (i : S8320x1024.Idx) : R (val_main_v44 (F := Ideal) x0 x5 i) := by
  rw [val_main_v44_apply, val_main_v37_apply, val_main_v43_apply]
  exact R.mul (h0 _) (h5 _)

end real

/-! ## The kernel's values -/

variable (m : (ℓ : Loc Cert.FfnKernelIdeal.nD Cert.FfnKernelIdeal.τ Cert.FfnKernelIdeal.sig) → Buf (Elt Ideal) ℓ) (c : Dev Cert.FfnKernelIdeal.nD)
variable (h0 : ∀ i, R (a0 m c i)) (h1 : ∀ i, R (a1 m c i)) (h2 : ∀ i, R (a2 m c i)) (h3 : ∀ i, R (a3 m c i)) (h4 : ∀ i, R (a4 m c i)) (h5 : ∀ i, R (a5 m c i))

theorem eta2 {a b : ℕ} (i : (⟨2, ![a, b]⟩ : Shape).Idx) : i = ix2 (i 0) (i 1) := by
  funext k
  match k with
  | 0 => rfl
  | 1 => rfl

theorem v37_ix (x : FVec Ideal S8320x1024 .f32) (r : Fin 8320) (q : Fin 1024) : val_main_v37 (F := Ideal) x (ix2 r q) = x (ix2 r q) := by
  rw [val_main_v37_apply]
  refine congrArg x ?_
  funext k
  match k with
  | 0 => exact Fin.ext (by show (r.val * 1024 + q.val) / 1024 = r.val; omega)
  | 1 => exact Fin.ext (by show (r.val * 1024 + q.val) % 1024 = q.val; omega)

theorem v44_ix (r : Fin 8320) (q : Fin 1024) :
    val_main_v44 (F := Ideal) (a0 m c) (a5 m c) (ix2 r q) = a0 m c (ix2 r q) * a5 m c (ix2 0 q) := by
  rw [val_main_v44_apply, v37_ix, val_main_v43_apply]
  refine congrArg (fun y : EReal => a0 m c (ix2 r q) * y) (congrArg (a5 m c) ?_)
  funext k
  match k with
  | 0 => rfl
  | 1 => rfl

theorem xh_ix (r : Fin 8320) (q : Fin 1024) :
    (inp m c).xh (ix2 r q) = val_main_v32 (F := Ideal) (a1 m c) (a2 m c) (a3 m c) (a4 m c) (ix2 r q) := congrFun (W1 m c) _

theorem rs_ix (r : Fin 8320) :
    (inp m c).rs (ix2 r 0) = val_main_v27 (F := Ideal) (a1 m c) (a2 m c) (a3 m c) (a4 m c) (ix2 r 0) := congrFun (W2 m c) _

include h0 h1 h2 h3 h4 h5

theorem dr_eq : (∀ (r : Fin 8320) (q : Fin 1024), (inp m c).dr r q = val_main_v68 (F := Ideal) (a0 m c) (a1 m c) (a2 m c) (a3 m c) (a4 m c) (a5 m c) (ix2 r q))
    ∧ ∀ i, R (val_main_v68 (F := Ideal) (a0 m c) (a1 m c) (a2 m c) (a3 m c) (a4 m c) (a5 m c) i) := by
  obtain ⟨ε, hp, hε⟩ := ofBits_eps
  choose r9 e9 using R9 (a1 m c) (a2 m c) (a3 m c) (a4 m c) h1 h2 h3 h4
  choose r44 e44 using R44 (a0 m c) (a5 m c) h0 h5
  have h9 : ∀ i : S8320x1024.Idx, val_main_v9 (F := Ideal) (a1 m c) (a2 m c) (a3 m c) (a4 m c) i = ((r9 (ix2 (i 0) (i 1)) : ℝ) : EReal) := fun i => by
    exact (e9 i).trans (congrArg (fun z => ((r9 z : ℝ) : EReal)) (eta2 i))
  have h44 : ∀ i : S8320x1024.Idx, val_main_v44 (F := Ideal) (a0 m c) (a5 m c) i = ((r44 (ix2 (i 0) (i 1)) : ℝ) : EReal) := fun i => by
    exact (e44 i).trans (congrArg (fun z => ((r44 z : ℝ) : EReal)) (eta2 i))
  have L := Cert.FfnRef.L68 (a0 m c) (a1 m c) (a2 m c) (a3 m c) (a4 m c) (a5 m c) ε hε hp (fun r q => r9 (ix2 r q)) (fun r q => r44 (ix2 r q)) h9 h44
  refine ⟨fun r q => ?_, fun i => ⟨_, L i⟩⟩
  refine Eq.trans ?_ ((L (ix2 r q)).trans (congrArg _ (row_id (fun k => r9 (ix2 r k)) (fun k => r44 (ix2 r k)) hp q))).symm
  refine Cert.FfnRef.dr_real ε (fun r q => r9 (ix2 r q)) (fun r q => r44 (ix2 r q)) (inp m c) (fun r q => ?_) (fun r => ?_) (fun r q => ?_) r q
  · refine (congrArg₂ (fun x y : EReal => x * y) (congrFun (W0 m c) (ix2 r q)) (congrFun (W3 m c) (ix2 0 q))).trans ?_
    rw [← v44_ix]
    exact e44 _
  · rw [rs_ix]
    exact (Cert.FfnRef.L27 (a1 m c) (a2 m c) (a3 m c) (a4 m c) ε hε hp (fun r q => r9 (ix2 r q)) h9 (ix2 r 0))
  · rw [xh_ix]
    exact (Cert.FfnRef.L32 (a1 m c) (a2 m c) (a3 m c) (a4 m c) ε hε hp (fun r q => r9 (ix2 r q)) h9 (ix2 r q))

theorem df_eq (r : Fin 8320) (q : Fin 1024) :
    (inp m c).df r q = val_main_v70 (F := Ideal) (a0 m c) (a1 m c) (a2 m c) (a3 m c) (a4 m c) (a5 m c) (ix2 r q) := by
  rw [val_main_v70_apply, val_main_v69_apply, ← (dr_eq m c h0 h1 h2 h3 h4 h5).1]
  rfl

theorem dact_eq (j : Fin 4) (r : Fin 8320) (f : Fin 704) :
    (inp m c).dact j r f = val_main_v73 (F := Ideal) (a0 m c) (a1 m c) (a2 m c) (a3 m c) (a4 m c) (a5 m c) (ix2 r (cat j f)) := by
  rw [val_main_v73_apply]
  refine Finset.sum_congr rfl fun k _ => congrArg₂ (fun x y : EReal => x * y) ?_ ((W8 m c j f k).trans (congrArg (a4 m c) ?_))
  · rw [df_eq m c h0 h1 h2 h3 h4 h5]
    refine congrArg (val_main_v70 (F := Ideal) (a0 m c) (a1 m c) (a2 m c) (a3 m c) (a4 m c) (a5 m c)) ?_
    funext k
    match k with
    | 0 => rfl
    | 1 => rfl
  · funext k
    match k with
    | 0 => rfl
    | 1 => rfl

theorem R73 (i : S8320x2816.Idx) : R (val_main_v73 (F := Ideal) (a0 m c) (a1 m c) (a2 m c) (a3 m c) (a4 m c) (a5 m c) i) := by
  rw [val_main_v73_apply]
  refine R.sum fun k => R.mul ?_ (h4 _)
  rw [val_main_v70_apply, val_main_v69_apply]
  exact R.mul ⟨_, ofBits_half⟩ ((dr_eq m c h0 h1 h2 h3 h4 h5).2 _)

omit h0 h1 h2 h3 h4 h5 in
theorem g_eq (j : Fin 4) (r : Fin 8320) (f : Fin 704) : (inp m c).g (ix3 j r f) = val_main_v0 (F := Ideal) (a1 m c) (a2 m c) (ix2 r (cat j f)) := W4 m c j r f

omit h0 h1 h2 h3 h4 h5 in
theorem u_eq (j : Fin 4) (r : Fin 8320) (f : Fin 704) : (inp m c).u (ix3 j r f) = val_main_v1 (F := Ideal) (a1 m c) (a3 m c) (ix2 r (cat j f)) := W5 m c j r f

omit h0 h1 h2 h3 h4 h5 in
theorem act_eq (j : Fin 4) (r : Fin 8320) (f : Fin 704) :
    (inp m c).act j r f = val_main_v3 (F := Ideal) (a1 m c) (a2 m c) (a3 m c) (ix2 r (cat j f)) := by
  rw [val_main_v3_apply, val_main_v2_0_apply, sig]
  unfold In.act
  rw [g_eq, u_eq]
  rfl

theorem du_eq (j : Fin 4) (r : Fin 8320) (f : Fin 704) :
    (inp m c).du j r f = val_main_v74 (F := Ideal) (a0 m c) (a1 m c) (a2 m c) (a3 m c) (a4 m c) (a5 m c) (ix2 r (cat j f)) := by
  rw [val_main_v74_apply, val_main_v2_0_apply, sig]
  unfold In.du
  rw [g_eq, dact_eq m c h0 h1 h2 h3 h4 h5]
  exact mul_comm (G := EReal) _ _

omit h0 h1 h2 h3 h4 h5 in
/-- The derivative of the gated unit, in the kernel's form and in the plain one. -/
theorem silu {d g u : EReal} (hd : R d) (hg : R g) (hu : R u) :
    dgE d g u = d * u * Ideal.logistic g + g * (d * u) * (Ideal.logistic g * (Ideal.ofBits .f32 0x3F800000#32 - Ideal.logistic g)) := by
  obtain ⟨l, hl⟩ := hg.logistic
  obtain ⟨d, rfl⟩ := hd
  obtain ⟨g, rfl⟩ := hg
  obtain ⟨u, rfl⟩ := hu
  unfold dgE cOne
  rw [hl, ofBits_one]
  simp only [← EReal.coe_mul, ← EReal.coe_sub, ← EReal.coe_add]
  exact congrArg _ (by ring)

theorem dg_eq (j : Fin 4) (r : Fin 8320) (f : Fin 704) :
    (inp m c).dg j r f = val_main_v76 (F := Ideal) (a0 m c) (a1 m c) (a2 m c) (a3 m c) (a4 m c) (a5 m c) (ix2 r (cat j f)) := by
  unfold In.dg
  rw [g_eq, u_eq, dact_eq m c h0 h1 h2 h3 h4 h5, silu (R73 m c h0 h1 h2 h3 h4 h5 _) (R0 _ _ h1 h2 _) (R1 _ _ h1 h3 _)]
  rw [val_main_v76_apply, val_main_call1_v1_apply, val_main_call1_v2_apply, val_main_call1_v0_apply, val_main_v75_apply, val_main_v2_1_apply,
    val_main_call0_v7_apply, val_main_call0_v6_apply, sig]
  rfl

omit h0 h1 h2 h3 h4 h5 in
/-- The chunks of one data product add up to the product. -/
theorem tiles (f : Fin 2816 → EReal) : ∑ k, f k = ∑ j : Fin 4, ∑ k : Fin 704, f (cat j k) := by
  rw [Fin.sum_univ_tiles 4 704 rfl f]
  rfl

theorem dh_eq (r : Fin 8320) (q : Fin 1024) :
    (inp m c).dh r q 3 = val_main_v80 (F := Ideal) (a0 m c) (a1 m c) (a2 m c) (a3 m c) (a4 m c) (a5 m c) (ix2 r q) := by
  rw [val_main_v80_apply, val_main_v78_apply, val_main_v77_apply, val_main_v79_apply, val_main_v72_apply, val_main_v71_apply]
  have e : (inp m c).dh r q 3 = cAlpha * (inp m c).dr r q + (∑ j : Fin 4, ∑ f : Fin 704, (inp m c).dg j r f * (inp m c).wg (ix3 j f q))
      + ∑ j : Fin 4, ∑ f : Fin 704, (inp m c).du j r f * (inp m c).wu (ix3 j f q) := by
    rw [add_assoc, ← Finset.sum_add_distrib, Fin.sum_univ_four]
    show cAlpha * (inp m c).dr r q + (inp m c).dp 0 r q + (inp m c).dp 1 r q + (inp m c).dp 2 r q + (inp m c).dp 3 r q = _
    rw [add_assoc, add_assoc, add_assoc, add_assoc, add_assoc]
    rfl
  rw [e]
  refine congrArg₂ (fun x y : EReal => x + y) (congrArg₂ (fun x y : EReal => x + y) (congrArg (fun x : EReal => cAlpha * x) ((dr_eq m c h0 h1 h2 h3 h4 h5).1 r q)) ?_) ?_
  · rw [tiles]
    refine Finset.sum_congr rfl fun j _ => Finset.sum_congr rfl fun f _ => congrArg₂ (fun x y : EReal => x * y) ?_ ((W6 m c j f q).trans (congrArg (a2 m c) ?_))
    · rw [dg_eq m c h0 h1 h2 h3 h4 h5]
      refine congrArg (val_main_v76 (F := Ideal) (a0 m c) (a1 m c) (a2 m c) (a3 m c) (a4 m c) (a5 m c)) ?_
      funext k
      match k with
      | 0 => rfl
      | 1 => rfl
    · funext k
      match k with
      | 0 => rfl
      | 1 => rfl
  · rw [tiles]
    refine Finset.sum_congr rfl fun j _ => Finset.sum_congr rfl fun f _ => congrArg₂ (fun x y : EReal => x * y) ?_ ((W7 m c j f q).trans (congrArg (a3 m c) ?_))
    · rw [du_eq m c h0 h1 h2 h3 h4 h5]
      refine congrArg (val_main_v74 (F := Ideal) (a0 m c) (a1 m c) (a2 m c) (a3 m c) (a4 m c) (a5 m c)) ?_
      funext k
      match k with
      | 0 => rfl
      | 1 => rfl
    · funext k
      match k with
      | 0 => rfl
      | 1 => rfl

omit h0 h1 h2 h3 h4 h5

/-! ## The sums over the rows -/

/-- A sum over all the rows, by the blocks of rows. -/
theorem rows (f : Fin 8320 → EReal) : ∑ k, f k = ∑ i : Fin 13, ∑ p : Fin 640, f ⟨i.val * 640 + p.val, by omega⟩ := by
  rw [Fin.sum_univ_tiles 13 640 rfl f]

/-- What a sum taken block by block holds. -/
theorem fold (g : Fin 13 → EReal) (s : ℕ → EReal) (hz : s 0 = 0 + g 0) (hs : ∀ i, s (i + 1) = s i + (if h : i + 1 < 13 then g ⟨i + 1, h⟩ else 0)) :
    s 12 = ∑ i, g i := by
  have e : ∀ n (hn : n < 13), s n = ∑ i : Fin (n + 1), g ⟨i.val, by omega⟩ := by
    intro n
    induction n with
    | zero => intro hn; rw [hz, zero_add, Fin.sum_univ_one]; rfl
    | succ n ih =>
      intro hn
      rw [hs, ih (by omega), dif_pos hn]
      exact (Fin.sum_univ_castSucc (fun i : Fin (n + 1 + 1) => g ⟨i.val, by omega⟩)).symm
  exact e 12 (by omega)

theorem dbet_eq (q : Fin 1024) : (inp m c).dbet q 12 = val_main_v39 (F := Ideal) (a0 m c) (ix2 0 q) := by
  rw [val_main_v39_apply, val_main_v38_apply]
  refine (fold (fun i => ∑ p : Fin 640, (inp m c).dy (ix2 ⟨i.val * 640 + p.val, by omega⟩ q)) _ rfl fun i => rfl).trans ?_
  refine Eq.trans ?_ ((congrArg (fun x : EReal => x + _) Ideal.ofBits_zero_f32).trans (zero_add _)).symm
  rw [rows]
  refine Finset.sum_congr rfl fun i _ => Finset.sum_congr rfl fun p _ => (congrFun (W0 m c) _).trans (congrArg (a0 m c) ?_)
  funext k
  match k with
  | 0 => rfl
  | 1 => exact Fin.ext (by show q.val = 0 * 1024 + q.val; omega)

theorem v40_ix (r : Fin 8320) (q : Fin 1024) : val_main_v40 (F := Ideal) (a0 m c) (a1 m c) (a2 m c) (a3 m c) (a4 m c) (ix2 r q)
    = (inp m c).dy (ix2 r q) * (inp m c).xh (ix2 r q) := by
  have e : (inp m c).xh (ix2 r q) = val_main_v32 (F := Ideal) (a1 m c) (a2 m c) (a3 m c) (a4 m c) (ix2 r q) := congrFun (W1 m c) _
  have e' : (inp m c).dy (ix2 r q) = a0 m c (ix2 r q) := congrFun (W0 m c) _
  rw [val_main_v40_apply, v37_ix, e, e']
  generalize val_main_v32 (F := Ideal) (a1 m c) (a2 m c) (a3 m c) (a4 m c) (ix2 r q) = x
  exact mul_comm (G := EReal) _ _

theorem dgam_eq (q : Fin 1024) : (inp m c).dgam q 12 = val_main_v42 (F := Ideal) (a0 m c) (a1 m c) (a2 m c) (a3 m c) (a4 m c) (ix2 0 q) := by
  rw [val_main_v42_apply, val_main_v41_apply]
  refine (fold (fun i => ∑ p : Fin 640, (inp m c).dy (ix2 ⟨i.val * 640 + p.val, by omega⟩ q) * (inp m c).xh (ix2 ⟨i.val * 640 + p.val, by omega⟩ q)) _ rfl fun i => rfl).trans ?_
  refine Eq.trans ?_ ((congrArg (fun x : EReal => x + _) Ideal.ofBits_zero_f32).trans (zero_add _)).symm
  rw [rows]
  refine Finset.sum_congr rfl fun i _ => Finset.sum_congr rfl fun p _ => ?_
  rw [← v40_ix]
  generalize val_main_v40 (F := Ideal) (a0 m c) (a1 m c) (a2 m c) (a3 m c) (a4 m c) = y
  refine congrArg y ?_
  funext k
  match k with
  | 0 => rfl
  | 1 => exact Fin.ext (by show q.val = 0 * 1024 + q.val; omega)

end Cert.FfnAlg

end
-- ==== Proof.FfnGood.lean ====
/- What the feed-forward backward kernel's outputs and its scratch hold after every grid point. -/
module

public import proofs.«01_k».proof.Proof.FfnState
public import Idealize.ShloMosaic.Lib.Pipeline.ValueKit

@[expose] public section

set_option maxRecDepth 16384

noncomputable section

open Idealize.ShloMosaic Idealize.ShloMosaic.TcCoe Idealize.SL.Sem

namespace Cert.FfnKernelIdeal.Hand

open Cert.FfnKernelIdeal Cert.FfnKernelIdeal.Gen Cert.FfnKernelIdeal.Pay

variable (m : (ℓ : Loc nD τ sig) → Buf (Elt Ideal) ℓ)

theorem good_A (c : Dev nD) (t : Fin cfg0.N) (h0 : t.val = 0) (hc0 : cond0 (grid0.coords t)) (hc1 : cond1 (grid0.coords t)) : Good m c t (ptA m c t hc0 hc1) := by
  have hm : t.val % 4 = 0 := by omega
  have hd : t.val / 4 = 0 := by omega
  have hk : chk t = 0 := Fin.ext hm
  unfold ptA
  refine ⟨fun p q => ?_, fun p q => ?_, fun p f => ?_, fun p f => ?_, fun p f => ?_, fun q => ?_, fun q => ?_, fun p q => ?_⟩
  · dsimp only; rw [outA_9_at]
    rw [dpr_at m c t _ (scr_at m c t), drv_at, hm, hk]
    rfl
  · dsimp only; rw [outA_10_at]
    rw [drv_at]
    rfl
  · dsimp only; rw [outA_11_at]
    rw [dact_at m c t _ (scr_at m c t), ib4, ib5]
    rfl
  · dsimp only; rw [outA_12_at]
    rw [dact_at m c t _ (scr_at m c t), ib4]
    rfl
  · dsimp only; rw [outA_13_at]
    rw [ib4, ib5]
    rfl
  · dsimp only; rw [outA_14_at]
    rw [hd]
    refine congrArg (fun x : EReal => 0 + x) (Finset.sum_congr rfl fun p _ => ?_)
    rw [ib0, ib1, show row t p = ⟨0 * 640 + p.val, by omega⟩ from Fin.ext (by show t.val / 4 * 640 + p.val = _; rw [hd])]
  · dsimp only; rw [outA_15_at]
    rw [hd]
    refine congrArg (fun x : EReal => 0 + x) (Finset.sum_congr rfl fun p _ => ?_)
    rw [ib0, show row t p = ⟨0 * 640 + p.val, by omega⟩ from Fin.ext (by show t.val / 4 * 640 + p.val = _; rw [hd])]
  · dsimp only; rw [outA_16_at]
    rw [drv_at]
    rfl

theorem good_C (c : Dev nD) (t : Fin cfg0.N) (hz : t.val ≠ 0) (hm : t.val % 4 = 0) (hc0 : cond0 (grid0.coords t)) (hc1 : ¬cond1 (grid0.coords t)) (u : Fin cfg0.N) (hu : t.val = u.val + 1) (s : St Ideal) (hg : Good m c u s) :
    Good m c t (ptC m c t hc0 hc1 s) := by
  have hN := lt_of_lt_of_eq t.isLt N_0
  have hk : chk t = 0 := Fin.ext hm
  have hd : t.val / 4 = u.val / 4 + 1 := by omega
  unfold ptC
  refine ⟨fun p q => ?_, fun p q => ?_, fun p f => ?_, fun p f => ?_, fun p f => ?_, fun q => ?_, fun q => ?_, fun p q => ?_⟩
  · dsimp only; rw [outC_9_at]
    rw [dpr_at m c t _ (scr_at m c t), drv_at, hm, hk]
    rfl
  · dsimp only; rw [outC_10_at]
    rw [drv_at]
    rfl
  · dsimp only; rw [outC_11_at]
    rw [dact_at m c t _ (scr_at m c t), ib4, ib5]
    rfl
  · dsimp only; rw [outC_12_at]
    rw [dact_at m c t _ (scr_at m c t), ib4]
    rfl
  · dsimp only; rw [outC_13_at]
    rw [ib4, ib5]
    rfl
  · dsimp only; rw [outC_14_at]
    have h13 : u.val / 4 + 1 < 13 := by omega
    rw [hd, hg.gam]
    simp only [In.dgam, dif_pos h13]
    refine congrArg (fun x : EReal => (inp m c).dgam q (u.val / 4) + x) (Finset.sum_congr rfl fun p _ => ?_)
    rw [ib0, ib1, show row t p = ⟨(u.val / 4 + 1) * 640 + p.val, by omega⟩ from Fin.ext (by show t.val / 4 * 640 + p.val = _; rw [hd])]
  · dsimp only; rw [outC_15_at]
    have h13 : u.val / 4 + 1 < 13 := by omega
    rw [hd, hg.bet]
    simp only [In.dbet, dif_pos h13]
    refine congrArg (fun x : EReal => (inp m c).dbet q (u.val / 4) + x) (Finset.sum_congr rfl fun p _ => ?_)
    rw [ib0, show row t p = ⟨(u.val / 4 + 1) * 640 + p.val, by omega⟩ from Fin.ext (by show t.val / 4 * 640 + p.val = _; rw [hd])]
  · dsimp only; rw [outC_16_at]
    rw [drv_at]
    rfl

theorem good_B (c : Dev nD) (t : Fin cfg0.N) (hm : ¬t.val % 4 = 0) (hc0 : ¬cond0 (grid0.coords t)) (u : Fin cfg0.N) (hu : t.val = u.val + 1) (s : St Ideal) (hg : Good m c u s) :
    Good m c t (ptB m c t hc0 s) := by
  have hr : ∀ p, row t p = row u p := fun p => Fin.ext (by show t.val / 4 * 640 + p.val = u.val / 4 * 640 + p.val; omega)
  have hd : t.val / 4 = u.val / 4 := by omega
  have hk : t.val % 4 = u.val % 4 + 1 := by omega
  have hs : ∀ p q, s.2.2.2.2.2.2.2 (ix2 p q) = (inp m c).df (row t p) q := fun p q => by rw [hg.scr, hr]
  unfold ptB
  refine ⟨fun p q => ?_, fun p q => ?_, fun p f => ?_, fun p f => ?_, fun p f => ?_, fun q => ?_, fun q => ?_, fun p q => ?_⟩
  · dsimp only; rw [outB_9_at]
    rw [dpr_at m c t _ hs, hg.dh, hk, hr]
    have h3 : u.val % 4 + 1 < 4 := by omega
    simp only [In.dh, dif_pos h3]
    rw [show chk t = ⟨u.val % 4 + 1, h3⟩ from Fin.ext hk]
  · exact (hg.df p q).trans (by rw [hr])
  · dsimp only; rw [outB_11_at]
    rw [dact_at m c t _ hs, ib4, ib5]
    rfl
  · dsimp only; rw [outB_12_at]
    rw [dact_at m c t _ hs, ib4]
    rfl
  · dsimp only; rw [outB_13_at]
    rw [ib4, ib5]
    rfl
  · exact (hg.gam q).trans (by rw [hd])
  · exact (hg.bet q).trans (by rw [hd])
  · exact hs p q

theorem good_all (c : Dev nD) : ∀ (n : ℕ) (h : n < cfg0.N), Good m c ⟨n, h⟩ (outs m c n h)
  | 0, h => by
    have e := outs_A m c ⟨0, h⟩ rfl (cond0_zero h) (cond1_zero h)
    have := good_A m c ⟨0, h⟩ rfl (cond0_zero h) (cond1_zero h)
    rw [← e] at this
    exact this
  | n + 1, h => by
    have ih := good_all c n (Nat.lt_of_succ_lt h)
    by_cases hm : (n + 1) % 4 = 0
    · have h0 : cond0 (grid0.coords ⟨n + 1, h⟩) := (cond0_iff ⟨n + 1, h⟩).mpr hm
      have h1 := cond1_not n h hm
      have e := outs_C m c ⟨n + 1, h⟩ (Nat.succ_ne_zero n) h0 h1
      have := good_C m c ⟨n + 1, h⟩ (Nat.succ_ne_zero n) hm h0 h1 ⟨n, Nat.lt_of_succ_lt h⟩ rfl _ ih
      exact e ▸ this
    · have h0 : ¬cond0 (grid0.coords ⟨n + 1, h⟩) := fun hc => hm ((cond0_iff ⟨n + 1, h⟩).mp hc)
      have e := outs_B m c ⟨n + 1, h⟩ h0
      have := good_B m c ⟨n + 1, h⟩ hm h0 ⟨n, Nat.lt_of_succ_lt h⟩ rfl _ ih
      exact e ▸ this

end Cert.FfnKernelIdeal.Hand

end
-- ==== Proof.FfnFinal.lean ====
/- The feed-forward backward kernel's seven result arrays after the run. -/
module

public import proofs.«01_k».proof.Proof.FfnGood

@[expose] public section

set_option maxRecDepth 16384

noncomputable section

open Idealize.ShloMosaic Idealize.ShloMosaic.TcCoe Idealize.SL.Sem

namespace Cert.FfnKernelIdeal.Hand

open Cert.FfnKernelIdeal Cert.FfnKernelIdeal.Gen

variable (m : (ℓ : Loc nD τ sig) → Buf (Elt Ideal) ℓ) (ρ : Dev nD → PrngReg)

theorem odx : ∀ t : Fin cfg0.N, win0_9.index t = ![t.val / 4, 0] ∧ win0_10.index t = ![t.val / 4, 0]
    ∧ win0_11.index t = ![t.val % 4, t.val / 4, 0] ∧ win0_12.index t = ![t.val % 4, t.val / 4, 0] ∧ win0_13.index t = ![t.val % 4, t.val / 4, 0]
    ∧ win0_14.index t = ![0, 0] ∧ win0_15.index t = ![0, 0] :=
  (by decide +kernel : ∀ t : Fin grid0.N, _)

set_option maxHeartbeats 1000000 in
theorem final9 (c : Dev nD) : (dats m 0 c).arrAt 9 cfg0.N
    = (fun y : S8320x1024.Idx => (inp m c).dh (y 0) (y 1) 3 : FVec Ideal S8320x1024 .f32) := by
  refine (dats m 0 c).arrAt_eq_of_covers 9 _ (by decide +kernel) fun t hf y => ?_
  have hm : t.val % 4 = 3 := (flush0_9 t).mp hf
  have hN := lt_of_lt_of_eq t.isLt N_0
  blk_simp
  rw [after0_9]
  obtain ⟨p, q, rfl⟩ : ∃ (p : Fin 640) (q : Fin 1024), y = ix2 p q := ⟨y 0, y 1, by funext k; match k with | 0 => rfl | 1 => rfl⟩
  have hi := (odx t).1
  have e0 : ((win0_9.blk t).view.emb (ix2 p q) 0 : Fin 8320) = row t p := Fin.ext (by unfold row; blk_simp [hi])
  have e1 : ((win0_9.blk t).view.emb (ix2 p q) 1 : Fin 1024) = q := Fin.ext (by blk_simp [hi])
  rw [e0, e1]
  exact ((good_all m c t.val t.isLt).dh p q).trans (by rw [hm])

set_option maxHeartbeats 1000000 in
theorem final10 (c : Dev nD) : (dats m 0 c).arrAt 10 cfg0.N
    = (fun y : S8320x1024.Idx => (inp m c).df (y 0) (y 1) : FVec Ideal S8320x1024 .bf16) := by
  refine (dats m 0 c).arrAt_eq_of_covers 10 _ (by decide +kernel) fun t hf y => ?_
  have hm : t.val % 4 = 3 := (flush0_10 t).mp hf
  have hN := lt_of_lt_of_eq t.isLt N_0
  blk_simp
  rw [after0_10]
  obtain ⟨p, q, rfl⟩ : ∃ (p : Fin 640) (q : Fin 1024), y = ix2 p q := ⟨y 0, y 1, by funext k; match k with | 0 => rfl | 1 => rfl⟩
  have hi := (odx t).2.1
  have e0 : ((win0_10.blk t).view.emb (ix2 p q) 0 : Fin 8320) = row t p := Fin.ext (by unfold row; blk_simp [hi])
  have e1 : ((win0_10.blk t).view.emb (ix2 p q) 1 : Fin 1024) = q := Fin.ext (by blk_simp [hi])
  rw [e0, e1]
  exact ((good_all m c t.val t.isLt).df p q)

set_option maxHeartbeats 1000000 in
theorem final11 (c : Dev nD) : (dats m 0 c).arrAt 11 cfg0.N
    = (fun y : S4x8320x704.Idx => (inp m c).dg (y 0) (y 1) (y 2) : FVec Ideal S4x8320x704 .bf16) := by
  refine (dats m 0 c).arrAt_eq_of_covers 11 _ (by decide +kernel) fun t hf y => ?_
  have hN := lt_of_lt_of_eq t.isLt N_0
  blk_simp
  rw [after0_11]
  obtain ⟨p, f, rfl⟩ : ∃ (p : Fin 640) (f : Fin 704), y = ix3 0 p f :=
    ⟨y 1, y 2, by funext k; match k with | 0 => exact Fin.ext (by have h : (y 0).val < 1 := (y 0).isLt; show (y 0).val = 0; omega) | 1 => rfl | 2 => rfl⟩
  have hi := (odx t).2.2.1
  have e0 : ((win0_11.blk t).view.emb (ix3 0 p f) 0 : Fin 4) = chk t := Fin.ext (by unfold chk; blk_simp [hi]; rfl)
  have e1 : ((win0_11.blk t).view.emb (ix3 0 p f) 1 : Fin 8320) = row t p := Fin.ext (by unfold row; blk_simp [hi])
  have e2 : ((win0_11.blk t).view.emb (ix3 0 p f) 2 : Fin 704) = f := Fin.ext (by blk_simp [hi])
  rw [e0, e1, e2]
  exact (good_all m c t.val t.isLt).dg p f

set_option maxHeartbeats 1000000 in
theorem final12 (c : Dev nD) : (dats m 0 c).arrAt 12 cfg0.N
    = (fun y : S4x8320x704.Idx => (inp m c).du (y 0) (y 1) (y 2) : FVec Ideal S4x8320x704 .bf16) := by
  refine (dats m 0 c).arrAt_eq_of_covers 12 _ (by decide +kernel) fun t hf y => ?_
  have hN := lt_of_lt_of_eq t.isLt N_0
  blk_simp
  rw [after0_12]
  obtain ⟨p, f, rfl⟩ : ∃ (p : Fin 640) (f : Fin 704), y = ix3 0 p f :=
    ⟨y 1, y 2, by funext k; match k with | 0 => exact Fin.ext (by have h : (y 0).val < 1 := (y 0).isLt; show (y 0).val = 0; omega) | 1 => rfl | 2 => rfl⟩
  have hi := (odx t).2.2.2.1
  have e0 : ((win0_12.blk t).view.emb (ix3 0 p f) 0 : Fin 4) = chk t := Fin.ext (by unfold chk; blk_simp [hi]; rfl)
  have e1 : ((win0_12.blk t).view.emb (ix3 0 p f) 1 : Fin 8320) = row t p := Fin.ext (by unfold row; blk_simp [hi])
  have e2 : ((win0_12.blk t).view.emb (ix3 0 p f) 2 : Fin 704) = f := Fin.ext (by blk_simp [hi])
  rw [e0, e1, e2]
  exact (good_all m c t.val t.isLt).du p f

set_option maxHeartbeats 1000000 in
theorem final13 (c : Dev nD) : (dats m 0 c).arrAt 13 cfg0.N
    = (fun y : S4x8320x704.Idx => (inp m c).act (y 0) (y 1) (y 2) : FVec Ideal S4x8320x704 .bf16) := by
  refine (dats m 0 c).arrAt_eq_of_covers 13 _ (by decide +kernel) fun t hf y => ?_
  have hN := lt_of_lt_of_eq t.isLt N_0
  blk_simp
  rw [after0_13]
  obtain ⟨p, f, rfl⟩ : ∃ (p : Fin 640) (f : Fin 704), y = ix3 0 p f :=
    ⟨y 1, y 2, by funext k; match k with | 0 => exact Fin.ext (by have h : (y 0).val < 1 := (y 0).isLt; show (y 0).val = 0; omega) | 1 => rfl | 2 => rfl⟩
  have hi := (odx t).2.2.2.2.1
  have e0 : ((win0_13.blk t).view.emb (ix3 0 p f) 0 : Fin 4) = chk t := Fin.ext (by unfold chk; blk_simp [hi]; rfl)
  have e1 : ((win0_13.blk t).view.emb (ix3 0 p f) 1 : Fin 8320) = row t p := Fin.ext (by unfold row; blk_simp [hi])
  have e2 : ((win0_13.blk t).view.emb (ix3 0 p f) 2 : Fin 704) = f := Fin.ext (by blk_simp [hi])
  rw [e0, e1, e2]
  exact (good_all m c t.val t.isLt).act p f

set_option maxHeartbeats 1000000 in
theorem final14 (c : Dev nD) : (dats m 0 c).arrAt 14 cfg0.N
    = (fun y : S1x1024.Idx => (inp m c).dgam (y 1) 12 : FVec Ideal S1x1024 .f32) := by
  refine (dats m 0 c).arrAt_eq_of_covers 14 _ (by decide +kernel) fun t hf y => ?_
  have hm : t.val % 52 = 51 := (flush0_14 t).mp hf
  have hN := lt_of_lt_of_eq t.isLt N_0
  have hd : t.val / 4 = 12 := by omega
  blk_simp
  rw [after0_14]
  obtain ⟨q, rfl⟩ : ∃ q : Fin 1024, y = ix2 0 q :=
    ⟨y 1, by funext k; match k with | 0 => exact Fin.ext (by have h : (y 0).val < 1 := (y 0).isLt; show (y 0).val = 0; omega) | 1 => rfl⟩
  have hi := (odx t).2.2.2.2.2.1
  have e1 : ((win0_14.blk t).view.emb (ix2 0 q) 1 : Fin 1024) = q := Fin.ext (by blk_simp [hi])
  rw [e1]
  exact ((good_all m c t.val t.isLt).gam q).trans (by rw [hd])

set_option maxHeartbeats 1000000 in
theorem final15 (c : Dev nD) : (dats m 0 c).arrAt 15 cfg0.N
    = (fun y : S1x1024.Idx => (inp m c).dbet (y 1) 12 : FVec Ideal S1x1024 .f32) := by
  refine (dats m 0 c).arrAt_eq_of_covers 15 _ (by decide +kernel) fun t hf y => ?_
  have hm : t.val % 52 = 51 := (flush0_15 t).mp hf
  have hN := lt_of_lt_of_eq t.isLt N_0
  have hd : t.val / 4 = 12 := by omega
  blk_simp
  rw [after0_15]
  obtain ⟨q, rfl⟩ : ∃ q : Fin 1024, y = ix2 0 q :=
    ⟨y 1, by funext k; match k with | 0 => exact Fin.ext (by have h : (y 0).val < 1 := (y 0).isLt; show (y 0).val = 0; omega) | 1 => rfl⟩
  have hi := (odx t).2.2.2.2.2.2
  have e1 : ((win0_15.blk t).view.emb (ix2 0 q) 1 : Fin 1024) = q := Fin.ext (by blk_simp [hi])
  rw [e1]
  exact ((good_all m c t.val t.isLt).bet q).trans (by rw [hd])

/-- The run: the seven result arrays, and the arguments as they were. -/
theorem run_arrays : θ_run defs (onTc (τ := τ) (main (F := Ideal))) ⟨m, fun _ => 0, ρ⟩ fun r => ∀ c : Dev nD,
      r.2.mem ((c : Thread nD τ).loc main_v42_0) = (dats m 0 c).arrAt 9 cfg0.N
      ∧ r.2.mem ((c : Thread nD τ).loc main_v42_1) = (dats m 0 c).arrAt 10 cfg0.N
      ∧ r.2.mem ((c : Thread nD τ).loc main_v42_2) = (dats m 0 c).arrAt 11 cfg0.N
      ∧ r.2.mem ((c : Thread nD τ).loc main_v42_3) = (dats m 0 c).arrAt 12 cfg0.N
      ∧ r.2.mem ((c : Thread nD τ).loc main_v42_4) = (dats m 0 c).arrAt 13 cfg0.N
      ∧ r.2.mem ((c : Thread nD τ).loc main_v42_5) = (dats m 0 c).arrAt 14 cfg0.N
      ∧ r.2.mem ((c : Thread nD τ).loc main_v42_6) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 9, (h c).1 10, (h c).1 11, (h c).1 12, (h c).1 13, (h c).1 14, (h c).1 15,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).2 main_arg6 (Pipeline.mem_restRefs_of main_arg6 (by decide) (by decide))).trans (V_main_arg6 m c)⟩)
    (run_main m ρ)

end Cert.FfnKernelIdeal.Hand

end
-- ==== Proof.PoolHost.lean ====
/- The pooling gradient's kernel: the pooled rows it is given, as its host writes them. -/
module

public import proofs.«01_k».proof.Proof.Gen.PoolKernelIdeal.Value
public import Idealize.ShloMosaic.Lib.Claim
public import Idealize.ShloMosaic.Lib.StableHlo.RunRead
public import proofs.«01_k».proof.Proof.Gen.PoolReferenceIdeal.Read

@[expose] public section

set_option maxRecDepth 16384

noncomputable section

open Idealize.ShloMosaic Idealize.ShloMosaic.TcCoe Idealize.SL.Sem

namespace Cert.PoolKernelIdeal.Ker

open Cert.PoolKernelIdeal Cert.PoolKernelIdeal.Gen

variable (m : (ℓ : Loc nD τ sig) → Buf (Elt Ideal) ℓ)

set_option maxHeartbeats 4000000 in
/-- The rows staged for the kernel are the reference's pooled rows, a group's channels side by side. -/
theorem aP_eq (c : Dev nD) : (V m c main_v68 : FVec Ideal S8320x512 .bf16)
     = (truncf (F := Ideal) .bf16 (shapeCast S8320x512 (Cert.PoolReferenceIdeal.Read.val_main_v70 (F := Ideal) (m ((c : Thread nD τ).loc main_arg1)) : FVec Ideal S8320x4x128 .f32) shapeCasts_S8320x4x128_S8320x512) bitsLt_bf16_f32 : FVec Ideal S8320x512 .bf16) := by
  show StableHlo.after (hostOps0 ++ (hostOps0_1 ++ [])) _ _ = _
  after_reads_simp
  rfl

end Cert.PoolKernelIdeal.Ker
-- ==== Proof.PoolPay.lean ====
/- The pooling gradient's kernel: what each stored payload holds, read at an index. -/
module

public import proofs.«01_k».proof.Proof.Gen.PoolKernelIdeal.Skeleton
public import Idealize.ShloMosaic.Lib.Pointwise
public import Idealize.ShloMosaic.Lib.WordArith

@[expose] public section

set_option maxRecDepth 16384

noncomputable section

open Idealize.ShloMosaic Idealize.ShloMosaic.TcCoe Idealize.SL.Sem

namespace Cert.PoolKernelIdeal.Pay

open Cert.PoolKernelIdeal Cert.PoolKernelIdeal.Gen

/-- The column `d` of group `g`. -/
def col (g : Fin 4) (d : Fin 128) : Fin 512 := ⟨g.val * 128 + d.val, by omega⟩

/-- How many rows the window of width `w` holds at row `r` of tile `τ`. -/
def cnt (τ w r : ℕ) : EReal := ((min (τ * 640 + r + 1) w : ℕ) : ℝ)

/-- The gradient of the pooled input at a row `r` of a tile, group `g`, channel `c`. -/
def dp (x0 : FVec Ideal S640x512 .f32) (x2 : FVec Ideal S4x128x128 .bf16) (x3 : FVec Ideal S1x512 .f32)
    (g : Fin 4) (r : Fin 640) (c : Fin 128) : EReal :=
  ∑ d : Fin 128, x0 (ix2 r (col g d)) * x3 (ix2 0 (col g d)) * x2 (ix3 g c d)

/-- The tile's number at grid point `i`, as the kernel computes it. -/
def tileW (i : ℕ) : BitVec 32 := Scalar.subi 12#32 (BitVec.ofNat 32 i)

theorem cnt_word (i r w : ℕ) (hi : i < 13) (hr : r < 640) (hw : w < 2 ^ 31) :
    (((Scalar.minsi (Scalar.addi (Scalar.addi (Scalar.muli (tileW i) 640#32) (BitVec.ofNat 32 r)) 1#32) (BitVec.ofNat 32 w)).toInt : ℝ) : EReal)
      = cnt (12 - i) w r := by
  have h1 : Scalar.addi (Scalar.addi (Scalar.muli (tileW i) 640#32) (BitVec.ofNat 32 r)) 1#32
      = BitVec.ofNat 32 ((12 - i) * 640 + r + 1) := by
    apply BitVec.eq_of_toNat_eq
    simp only [tileW, Scalar.addi, Scalar.muli, Scalar.subi]
    simp only [IntOp.addi, IntOp.muli, IntOp.subi, BitVec.toNat_add, BitVec.toNat_mul, BitVec.toNat_sub, BitVec.toNat_ofNat]
    omega
  rw [h1]
  have h2 : (Scalar.minsi (BitVec.ofNat 32 ((12 - i) * 640 + r + 1)) (BitVec.ofNat 32 w)).toNat = min ((12 - i) * 640 + r + 1) w := by
    show (IntOp.minsi _ _).toNat = _
    rw [WordArith.toNat_minsi_of_lt _ _ (by rw [BitVec.toNat_ofNat]; exact Nat.lt_of_le_of_lt (Nat.mod_le _ _) (by omega)) (by rw [BitVec.toNat_ofNat]; omega)]
    simp only [BitVec.toNat_ofNat]
    omega
  unfold cnt
  rw [BitVec.toInt_eq_toNat_of_lt (by rw [h2]; omega), h2]
  norm_cast

theorem pay11_apply (i : ℕ) (hi : i < 13) (x0 : FVec Ideal S640x128 .f32) (x3 : FVec Ideal S1x128 .f32) (x2 : FVec Ideal S1x128x128 .bf16)
    (r : Fin 640) (c : Fin 128) :
    k0_pay11 (F := Ideal) (tileW i) (k0_pay7 x0 x3) x2 (ix2 r c)
      = Ideal.div (∑ d : Fin 128, x0 (ix2 r d) * x3 (ix2 0 d) * x2 (ix3 0 c d)) (cnt (12 - i) 2 r.val) := by
  rw [← cnt_word i r.val 2 hi r.isLt (by decide)]
  pointwise [k0_pay11, k0_pay10, k0_pay7]
  rfl

theorem pay17_apply (i : ℕ) (hi : i < 13) (x0 : FVec Ideal S640x128 .f32) (x3 : FVec Ideal S1x128 .f32) (x2 : FVec Ideal S1x128x128 .bf16)
    (r : Fin 640) (c : Fin 128) :
    k0_pay17 (F := Ideal) (tileW i) (k0_pay13 x0 x3) x2 (ix2 r c)
      = Ideal.div (∑ d : Fin 128, x0 (ix2 r d) * x3 (ix2 0 d) * x2 (ix3 0 c d)) (cnt (12 - i) 4 r.val) := by
  rw [← cnt_word i r.val 4 hi r.isLt (by decide)]
  pointwise [k0_pay17, k0_pay16, k0_pay13]
  rfl

theorem pay24_apply (i : ℕ) (hi : i < 13) (x0 : FVec Ideal S640x128 .f32) (x3 : FVec Ideal S1x128 .f32) (x2 : FVec Ideal S1x128x128 .bf16)
    (r : Fin 640) (c : Fin 128) :
    k0_pay24 (F := Ideal) (tileW i) (k0_pay19 x0 x3) x2 (ix2 r c)
      = Ideal.div (∑ d : Fin 128, x0 (ix2 r d) * x3 (ix2 0 d) * x2 (ix3 0 c d)) (cnt (12 - i) 8 r.val) := by
  rw [← cnt_word i r.val 8 hi r.isLt (by decide)]
  pointwise [k0_pay24, k0_pay23, k0_pay19]
  rfl

theorem pay31_apply (i : ℕ) (hi : i < 13) (x0 : FVec Ideal S640x128 .f32) (x3 : FVec Ideal S1x128 .f32) (x2 : FVec Ideal S1x128x128 .bf16)
    (r : Fin 640) (c : Fin 128) :
    k0_pay31 (F := Ideal) (k0_pay29 x0 x3 x2) (k0_pay30 (tileW i)) (ix2 r c)
      = Ideal.div (∑ d : Fin 128, x0 (ix2 r d) * x3 (ix2 0 d) * x2 (ix3 0 c d)) (cnt (12 - i) 16 r.val) := by
  rw [← cnt_word i r.val 16 hi r.isLt (by decide)]
  pointwise [k0_pay31, k0_pay30, k0_pay29, k0_pay26]
  rfl

theorem pay10_apply (x0 : FVec Ideal S640x128 .f32) (x3 : FVec Ideal S1x128 .f32) (x2 : FVec Ideal S1x128x128 .bf16)
    (r : Fin 640) (c : Fin 128) :
    k0_pay10 (F := Ideal) (k0_pay7 x0 x3) x2 (ix2 r c) = ∑ d : Fin 128, x0 (ix2 r d) * x3 (ix2 0 d) * x2 (ix3 0 c d) := by
  pointwise [k0_pay10, k0_pay7]

theorem pay16_apply (x0 : FVec Ideal S640x128 .f32) (x3 : FVec Ideal S1x128 .f32) (x2 : FVec Ideal S1x128x128 .bf16)
    (r : Fin 640) (c : Fin 128) :
    k0_pay16 (F := Ideal) (k0_pay13 x0 x3) x2 (ix2 r c) = ∑ d : Fin 128, x0 (ix2 r d) * x3 (ix2 0 d) * x2 (ix3 0 c d) := by
  pointwise [k0_pay16, k0_pay13]

theorem pay23_apply (x0 : FVec Ideal S640x128 .f32) (x3 : FVec Ideal S1x128 .f32) (x2 : FVec Ideal S1x128x128 .bf16)
    (r : Fin 640) (c : Fin 128) :
    k0_pay23 (F := Ideal) (k0_pay19 x0 x3) x2 (ix2 r c) = ∑ d : Fin 128, x0 (ix2 r d) * x3 (ix2 0 d) * x2 (ix3 0 c d) := by
  pointwise [k0_pay23, k0_pay19]

theorem pay29_apply (x0 : FVec Ideal S640x128 .f32) (x3 : FVec Ideal S1x128 .f32) (x2 : FVec Ideal S1x128x128 .bf16)
    (r : Fin 640) (c : Fin 128) :
    k0_pay29 (F := Ideal) x0 x3 x2 (ix2 r c) = ∑ d : Fin 128, x0 (ix2 r d) * x3 (ix2 0 d) * x2 (ix3 0 c d) := by
  pointwise [k0_pay29, k0_pay26]

theorem pay9_apply (x0 : FVec Ideal S640x128 .f32) (x1 : FVec Ideal S640x128 .bf16) (x3 : FVec Ideal S1x128 .f32) (xo : FVec Ideal S1x128x128 .f32)
    (z : Fin 1) (c d : Fin 128) :
    k0_pay9 (F := Ideal) x0 x1 x3 xo (ix3 z c d) = xo (ix3 0 c d) + ∑ r : Fin 640, x1 (ix2 r c) * (x0 (ix2 r d) * x3 (ix2 0 d)) := by
  pointwise [k0_pay9, k0_pay7, k0_pay6]

theorem pay15_apply (x0 : FVec Ideal S640x128 .f32) (x1 : FVec Ideal S640x128 .bf16) (x3 : FVec Ideal S1x128 .f32) (xo : FVec Ideal S1x128x128 .f32)
    (z : Fin 1) (c d : Fin 128) :
    k0_pay15 (F := Ideal) (k0_pay12 x1) (k0_pay13 x0 x3) xo (ix3 z c d) = xo (ix3 0 c d) + ∑ r : Fin 640, x1 (ix2 r c) * (x0 (ix2 r d) * x3 (ix2 0 d)) := by
  pointwise [k0_pay15, k0_pay12, k0_pay13]

theorem pay22_apply (x0 : FVec Ideal S640x128 .f32) (x1 : FVec Ideal S640x128 .bf16) (x3 : FVec Ideal S1x128 .f32) (xo : FVec Ideal S1x128x128 .f32)
    (z : Fin 1) (c d : Fin 128) :
    k0_pay22 (F := Ideal) (k0_pay18 x1) (k0_pay19 x0 x3) xo (ix3 z c d) = xo (ix3 0 c d) + ∑ r : Fin 640, x1 (ix2 r c) * (x0 (ix2 r d) * x3 (ix2 0 d)) := by
  pointwise [k0_pay22, k0_pay18, k0_pay19]

theorem pay28_apply (x0 : FVec Ideal S640x128 .f32) (x1 : FVec Ideal S640x128 .bf16) (x3 : FVec Ideal S1x128 .f32) (xo : FVec Ideal S1x128x128 .f32)
    (z : Fin 1) (c d : Fin 128) :
    k0_pay28 (F := Ideal) x0 x1 x3 xo (ix3 z c d) = xo (ix3 0 c d) + ∑ r : Fin 640, x1 (ix2 r c) * (x0 (ix2 r d) * x3 (ix2 0 d)) := by
  pointwise [k0_pay28, k0_pay25, k0_pay26]

theorem pay8_apply (x0 : FVec Ideal S640x128 .f32) (x1 : FVec Ideal S640x128 .bf16) (x2 : FVec Ideal S1x128x128 .bf16) (xo : FVec Ideal S1x128 .f32)
    (z : Fin 1) (d : Fin 128) :
    k0_pay8 (F := Ideal) x0 x1 xo x2 (ix2 z d) = xo (ix2 z d) + ∑ r : Fin 640, x0 (ix2 r d) * ∑ c : Fin 128, x1 (ix2 r c) * x2 (ix3 0 c d) := by
  pointwise [k0_pay8, k0_pay6]

theorem pay14_apply (x0 : FVec Ideal S640x128 .f32) (x1 : FVec Ideal S640x128 .bf16) (x2 : FVec Ideal S1x128x128 .bf16) (xo : FVec Ideal S1x128 .f32)
    (z : Fin 1) (d : Fin 128) :
    k0_pay14 (F := Ideal) x0 x1 xo x2 (ix2 z d) = xo (ix2 z d) + ∑ r : Fin 640, x0 (ix2 r d) * ∑ c : Fin 128, x1 (ix2 r c) * x2 (ix3 0 c d) := by
  pointwise [k0_pay14, k0_pay12]

theorem pay21_apply (x0 : FVec Ideal S640x128 .f32) (x1 : FVec Ideal S640x128 .bf16) (x2 : FVec Ideal S1x128x128 .bf16) (xo : FVec Ideal S1x128 .f32)
    (z : Fin 1) (d : Fin 128) :
    k0_pay21 (F := Ideal) x0 (k0_pay18 x1) (k0_pay20 xo) x2 (ix2 z d) = xo (ix2 z d) + ∑ r : Fin 640, x0 (ix2 r d) * ∑ c : Fin 128, x1 (ix2 r c) * x2 (ix3 0 c d) := by
  pointwise [k0_pay21, k0_pay18, k0_pay20]

theorem pay27_apply (x0 : FVec Ideal S640x128 .f32) (x1 : FVec Ideal S640x128 .bf16) (x2 : FVec Ideal S1x128x128 .bf16) (xo : FVec Ideal S1x128 .f32)
    (z : Fin 1) (d : Fin 128) :
    k0_pay27 (F := Ideal) x0 x1 xo x2 (ix2 z d) = xo (ix2 z d) + ∑ r : Fin 640, x0 (ix2 r d) * ∑ c : Fin 128, x1 (ix2 r c) * x2 (ix3 0 c d) := by
  pointwise [k0_pay27, k0_pay25]

end Cert.PoolKernelIdeal.Pay
-- ==== Proof.PoolPoint.lean ====
/- The pooling gradient's kernel: what one grid point leaves in its outputs and in the scratch it carries. -/
module

public import proofs.«01_k».proof.Proof.PoolPay
public import proofs.«01_k».proof.Proof.Gen.PoolKernelIdeal.Frame
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.PoolKernelIdeal.Pay

open Cert.PoolKernelIdeal Cert.PoolKernelIdeal.Gen

/-- The scaled gradient that the scratch holds: a row's gradient of the pooled input over its window's count. -/
def qb (i : ℕ) (x0 : FVec Ideal S640x512 .f32) (x2 : FVec Ideal S4x128x128 .bf16) (x3 : FVec Ideal S1x512 .f32)
    (g : Fin 4) (r : Fin 640) (c : Fin 128) : EReal :=
  Ideal.div (dp x0 x2 x3 g r c) (cnt (12 - i) (2 ^ (g.val + 1)) r.val)

/-- The scratch while the sums are taken: the tile's own rows, then the rows the tile after it left. -/
def ext (i : ℕ) (x0 : FVec Ideal S640x512 .f32) (x2 : FVec Ideal S4x128x128 .bf16) (x3 : FVec Ideal S1x512 .f32)
    (halo : FVec Ideal S656x512 .f32) (r : ℕ) (g : Fin 4) (c : Fin 128) : EReal :=
  if h : r < 640 then qb i x0 x2 x3 g ⟨r, h⟩ c else if h : r < 656 then halo (ix2 ⟨r, h⟩ (col g c)) else 0

theorem col_zero (d : Fin 128) : col 0 d = ⟨d.val, by omega⟩ := Fin.ext (by simp [col])

/-- The last store, where it holds the index. -/
theorem canon_mem {S : Shape} {e : EltTy} {off size : Fin S.rank → ℕ} (inb : ∀ a, off a + size a ≤ S.size a)
    (w : (Rect.unit off size inb).shape.Idx → Elt Ideal e) (L : List (View.Piece (Elt Ideal) S e)) (y : S.Idx)
    (x : (Rect.unit off size inb).shape.Idx) (hx : ∀ a, (y a).val = off a + (x a).val) :
    View.canon ((⟨Rect.unit off size inb, w⟩ : View.Piece (Elt Ideal) S e) :: L) y = w x := by
  have hy : (Rect.unit off size inb).emb x = y := funext fun a => Fin.ext (by
    show off a + 1 * (x a).val = (y a).val
    rw [hx a, Nat.one_mul])
  rw [← hy]
  exact View.canon_cons_emb _ w L x

/-- The last store, where it does not hold the index. -/
theorem canon_nmem {S : Shape} {e : EltTy} {off size : Fin S.rank → ℕ} (inb : ∀ a, off a + size a ≤ S.size a)
    (w : (Rect.unit off size inb).shape.Idx → Elt Ideal e) (L : List (View.Piece (Elt Ideal) S e)) (y : S.Idx)
    (a : Fin S.rank) (ha : (y a).val < off a ∨ off a + size a ≤ (y a).val) :
    View.canon ((⟨Rect.unit off size inb, w⟩ : View.Piece (Elt Ideal) S e) :: L) y = View.canon L y :=
  View.canon_cons_of_not_mem _ L (by
    rw [Rect.mem_set_unit]
    intro h
    have := h a
    omega)

theorem read_pcs (f : (View.whole cc0_scratch0).ty.Contents (Elt Ideal)) (P0 P1 P2 P3 : FVec Ideal S640x128 .f32) (h0 h1 h2 h3)
    (q : ℕ → Fin 4 → Fin 128 → EReal)
    (q0 : ∀ (r : Fin 640) d, P0 (ix2 r d) = q r.val 0 d) (q1 : ∀ (r : Fin 640) d, P1 (ix2 r d) = q r.val 1 d)
    (q2 : ∀ (r : Fin 640) d, P2 (ix2 r d) = q r.val 2 d) (q3 : ∀ (r : Fin 640) d, P3 (ix2 r d) = q r.val 3 d)
    (qf : ∀ (r : Fin 656) g d, 640 ≤ r.val → View.read (Elt Ideal) (View.whole cc0_scratch0) f (ix2 r (col g d)) = q r.val g d)
    (r : Fin 656) (g : Fin 4) (d : Fin 128) :
    View.read (Elt Ideal) (View.whole cc0_scratch0) ((View.whole cc0_scratch0).writes (Elt Ideal) f
      [(⟨Rect.unit (s := S656x512) ![0, 384] ![640, 128] h3, P3⟩ : View.Piece (Elt Ideal) S656x512 .f32),
       ⟨Rect.unit (s := S656x512) ![0, 256] ![640, 128] h2, P2⟩,
       ⟨Rect.unit (s := S656x512) ![0, 128] ![640, 128] h1, P1⟩,
       ⟨Rect.unit (s := S656x512) ![0, 0] ![640, 128] h0, P0⟩]) (ix2 r (col g d))
    = q r.val g d := by
  by_cases hr : r.val < 640
  · obtain ⟨r, hr'⟩ := r
    rcases g with ⟨g, hg⟩
    interval_cases g
    · rw [View.read_writes_cons_unit_of_not_mem (heq := rfl) (a := 1) (ha := by left; show 0 * 128 + d.val < 384; omega)]
      rw [View.read_writes_cons_unit_of_not_mem (heq := rfl) (a := 1) (ha := by left; show 0 * 128 + d.val < 256; omega)]
      rw [View.read_writes_cons_unit_of_not_mem (heq := rfl) (a := 1) (ha := by left; show 0 * 128 + d.val < 128; omega)]
      rw [View.read_writes_cons_unit_of_mem (heq := rfl) (x := ix2 (⟨r, hr⟩ : Fin 640) d) (hx := fun a => by
        match a with
        | 0 => exact (Nat.zero_add _).symm
        | 1 => rfl)]
      exact q0 ⟨r, hr⟩ d
    · rw [View.read_writes_cons_unit_of_not_mem (heq := rfl) (a := 1) (ha := by left; show 1 * 128 + d.val < 384; omega)]
      rw [View.read_writes_cons_unit_of_not_mem (heq := rfl) (a := 1) (ha := by left; show 1 * 128 + d.val < 256; omega)]
      rw [View.read_writes_cons_unit_of_mem (heq := rfl) (x := ix2 (⟨r, hr⟩ : Fin 640) d) (hx := fun a => by
        match a with
        | 0 => exact (Nat.zero_add _).symm
        | 1 => rfl)]
      exact q1 ⟨r, hr⟩ d
    · rw [View.read_writes_cons_unit_of_not_mem (heq := rfl) (a := 1) (ha := by left; show 2 * 128 + d.val < 384; omega)]
      rw [View.read_writes_cons_unit_of_mem (heq := rfl) (x := ix2 (⟨r, hr⟩ : Fin 640) d) (hx := fun a => by
        match a with
        | 0 => exact (Nat.zero_add _).symm
        | 1 => rfl)]
      exact q2 ⟨r, hr⟩ d
    · rw [View.read_writes_cons_unit_of_mem (heq := rfl) (x := ix2 (⟨r, hr⟩ : Fin 640) d) (hx := fun a => by
        match a with
        | 0 => exact (Nat.zero_add _).symm
        | 1 => rfl)]
      exact q3 ⟨r, hr⟩ d
  · rw [View.read_writes_cons_unit_of_not_mem (heq := rfl) (a := 0) (ha := by right; show 0 + 640 ≤ r.val; omega),
      View.read_writes_cons_unit_of_not_mem (heq := rfl) (a := 0) (ha := by right; show 0 + 640 ≤ r.val; omega),
      View.read_writes_cons_unit_of_not_mem (heq := rfl) (a := 0) (ha := by right; show 0 + 640 ≤ r.val; omega),
      View.read_writes_cons_unit_of_not_mem (heq := rfl) (a := 0) (ha := by right; show 0 + 640 ≤ r.val; omega)]
    exact qf r g d (by omega)

theorem canon_pcs (P0 P1 P2 P3 : FVec Ideal S640x128 .f32) (h0 h1 h2 h3)
    (q : ℕ → Fin 4 → Fin 128 → EReal)
    (q0 : ∀ (r : Fin 640) d, P0 (ix2 r d) = q r.val 0 d) (q1 : ∀ (r : Fin 640) d, P1 (ix2 r d) = q r.val 1 d)
    (q2 : ∀ (r : Fin 640) d, P2 (ix2 r d) = q r.val 2 d) (q3 : ∀ (r : Fin 640) d, P3 (ix2 r d) = q r.val 3 d)
    (r : Fin 656) (hr : r.val < 640) (g : Fin 4) (d : Fin 128) (L : List (View.Piece (Elt Ideal) S656x512 .f32)) :
    View.canon
      ((⟨Rect.unit (s := S656x512) ![0, 384] ![640, 128] h3, P3⟩ : View.Piece (Elt Ideal) S656x512 .f32) ::
       ⟨Rect.unit (s := S656x512) ![0, 256] ![640, 128] h2, P2⟩ ::
       ⟨Rect.unit (s := S656x512) ![0, 128] ![640, 128] h1, P1⟩ ::
       ⟨Rect.unit (s := S656x512) ![0, 0] ![640, 128] h0, P0⟩ :: L) (ix2 r (col g d))
    = q r.val g d := by
  obtain ⟨r, hr'⟩ := r
  rcases g with ⟨g, hg⟩
  interval_cases g
  · rw [canon_nmem (a := 1) (ha := by left; show 0 * 128 + d.val < 384; omega)]
    rw [canon_nmem (a := 1) (ha := by left; show 0 * 128 + d.val < 256; omega)]
    rw [canon_nmem (a := 1) (ha := by left; show 0 * 128 + d.val < 128; omega)]
    rw [canon_mem (x := ix2 (⟨r, hr⟩ : Fin 640) d) (hx := fun a => by
      match a with
      | 0 => exact (Nat.zero_add _).symm
      | 1 => rfl)]
    exact q0 ⟨r, hr⟩ d
  · rw [canon_nmem (a := 1) (ha := by left; show 1 * 128 + d.val < 384; omega)]
    rw [canon_nmem (a := 1) (ha := by left; show 1 * 128 + d.val < 256; omega)]
    rw [canon_mem (x := ix2 (⟨r, hr⟩ : Fin 640) d) (hx := fun a => by
      match a with
      | 0 => exact (Nat.zero_add _).symm
      | 1 => rfl)]
    exact q1 ⟨r, hr⟩ d
  · rw [canon_nmem (a := 1) (ha := by left; show 2 * 128 + d.val < 384; omega)]
    rw [canon_mem (x := ix2 (⟨r, hr⟩ : Fin 640) d) (hx := fun a => by
      match a with
      | 0 => exact (Nat.zero_add _).symm
      | 1 => rfl)]
    exact q2 ⟨r, hr⟩ d
  · rw [canon_mem (x := ix2 (⟨r, hr⟩ : Fin 640) d) (hx := fun a => by
      match a with
      | 0 => exact (Nat.zero_add _).symm
      | 1 => rfl)]
    exact q3 ⟨r, hr⟩ d

theorem core2 (D Z : FVec Ideal S640x128 .f32) (E : FVec Ideal S656x512 .f32) (e : ℕ → Fin 4 → Fin 128 → EReal)
    (hE : ∀ (r : Fin 656) (d : Fin 128), E (ix2 r (col 0 d)) = e r.val 0 d)
    (hZ : ∀ (r : Fin 640) (d : Fin 128), Z (ix2 r d) = e r.val 0 d)
    h1 (r : Fin 640) (d : Fin 128) :
    k0_pay32 (F := Ideal) D Z (View.ld E (Rect.unit (s := S656x512) ![1, 0] ![640, 128] h1)) (ix2 r d)
      = (∑ k ∈ Finset.range (2 ^ ((0 : Fin 4).val + 1)), e (r.val + k) 0 d) - D (ix2 r d) := by
  have hk : ∀ k : ℕ, (hk : k < 17) → e (r.val + k) 0 d = E (ix2 ⟨k + r.val, by omega⟩ (col 0 d)) := fun k hk => by
    rw [Nat.add_comm]
    exact (hE ⟨k + r.val, by omega⟩ _).symm
  rw [show (2 ^ ((0 : Fin 4).val + 1)) = 2 from rfl]
  simp only [Finset.sum_range_succ, Finset.sum_range_zero, zero_add]
  rw [hk 1 (by decide), Nat.add_zero, ← hZ]
  try simp only [col_zero]
  pointwise [k0_pay32, k0_pay33, k0_pay34, k0_pay35, k0_pay36, k0_pay1]
  try rfl

theorem core4 (D Z : FVec Ideal S640x128 .f32) (E : FVec Ideal S656x512 .f32) (e : ℕ → Fin 4 → Fin 128 → EReal)
    (hE : ∀ (r : Fin 656) (d : Fin 128), E (ix2 r (col 1 d)) = e r.val 1 d)
    (hZ : ∀ (r : Fin 640) (d : Fin 128), Z (ix2 r d) = e r.val 1 d)
    h1 h2 h3 (r : Fin 640) (d : Fin 128) :
    k0_pay33 (F := Ideal) D Z (View.ld E (Rect.unit (s := S656x512) ![1, 128] ![640, 128] h1)) (View.ld E (Rect.unit (s := S656x512) ![2, 128] ![640, 128] h2)) (View.ld E (Rect.unit (s := S656x512) ![3, 128] ![640, 128] h3)) (ix2 r d)
      = (∑ k ∈ Finset.range (2 ^ ((1 : Fin 4).val + 1)), e (r.val + k) 1 d) - D (ix2 r d) := by
  have hk : ∀ k : ℕ, (hk : k < 17) → e (r.val + k) 1 d = E (ix2 ⟨k + r.val, by omega⟩ (col 1 d)) := fun k hk => by
    rw [Nat.add_comm]
    exact (hE ⟨k + r.val, by omega⟩ _).symm
  rw [show (2 ^ ((1 : Fin 4).val + 1)) = 4 from rfl]
  simp only [Finset.sum_range_succ, Finset.sum_range_zero, zero_add]
  rw [hk 1 (by decide), hk 2 (by decide), hk 3 (by decide), Nat.add_zero, ← hZ]
  try simp only [col_zero]
  pointwise [k0_pay32, k0_pay33, k0_pay34, k0_pay35, k0_pay36, k0_pay1]
  try rfl

theorem core8 (D Z : FVec Ideal S640x128 .f32) (E : FVec Ideal S656x512 .f32) (e : ℕ → Fin 4 → Fin 128 → EReal)
    (hE : ∀ (r : Fin 656) (d : Fin 128), E (ix2 r (col 2 d)) = e r.val 2 d)
    (hZ : ∀ (r : Fin 640) (d : Fin 128), Z (ix2 r d) = e r.val 2 d)
    h1 h2 h3 h4 h5 h6 h7 (r : Fin 640) (d : Fin 128) :
    k0_pay35 (F := Ideal) D (k0_pay34 Z (View.ld E (Rect.unit (s := S656x512) ![1, 256] ![640, 128] h1)) (View.ld E (Rect.unit (s := S656x512) ![2, 256] ![640, 128] h2)) (View.ld E (Rect.unit (s := S656x512) ![3, 256] ![640, 128] h3))) (View.ld E (Rect.unit (s := S656x512) ![4, 256] ![640, 128] h4)) (View.ld E (Rect.unit (s := S656x512) ![5, 256] ![640, 128] h5)) (View.ld E (Rect.unit (s := S656x512) ![6, 256] ![640, 128] h6)) (View.ld E (Rect.unit (s := S656x512) ![7, 256] ![640, 128] h7)) (ix2 r d)
      = (∑ k ∈ Finset.range (2 ^ ((2 : Fin 4).val + 1)), e (r.val + k) 2 d) - D (ix2 r d) := by
  have hk : ∀ k : ℕ, (hk : k < 17) → e (r.val + k) 2 d = E (ix2 ⟨k + r.val, by omega⟩ (col 2 d)) := fun k hk => by
    rw [Nat.add_comm]
    exact (hE ⟨k + r.val, by omega⟩ _).symm
  rw [show (2 ^ ((2 : Fin 4).val + 1)) = 8 from rfl]
  simp only [Finset.sum_range_succ, Finset.sum_range_zero, zero_add]
  rw [hk 1 (by decide), hk 2 (by decide), hk 3 (by decide), hk 4 (by decide), hk 5 (by decide), hk 6 (by decide), hk 7 (by decide), Nat.add_zero, ← hZ]
  try simp only [col_zero]
  pointwise [k0_pay32, k0_pay33, k0_pay34, k0_pay35, k0_pay36, k0_pay1]
  try rfl

theorem core16 (D Z : FVec Ideal S640x128 .f32) (E : FVec Ideal S656x512 .f32) (e : ℕ → Fin 4 → Fin 128 → EReal)
    (hE : ∀ (r : Fin 656) (d : Fin 128), E (ix2 r (col 3 d)) = e r.val 3 d)
    (hZ : ∀ (r : Fin 640) (d : Fin 128), Z (ix2 r d) = e r.val 3 d)
    h1 h2 h3 h4 h5 h6 h7 h8 h9 h10 h11 h12 h13 h14 h15 (r : Fin 640) (d : Fin 128) :
    k0_pay1 (F := Ideal) D (k0_pay36 Z (View.ld E (Rect.unit (s := S656x512) ![1, 384] ![640, 128] h1)) (View.ld E (Rect.unit (s := S656x512) ![2, 384] ![640, 128] h2)) (View.ld E (Rect.unit (s := S656x512) ![3, 384] ![640, 128] h3)) (View.ld E (Rect.unit (s := S656x512) ![4, 384] ![640, 128] h4)) (View.ld E (Rect.unit (s := S656x512) ![5, 384] ![640, 128] h5)) (View.ld E (Rect.unit (s := S656x512) ![6, 384] ![640, 128] h6)) (View.ld E (Rect.unit (s := S656x512) ![7, 384] ![640, 128] h7)) (View.ld E (Rect.unit (s := S656x512) ![8, 384] ![640, 128] h8)) (View.ld E (Rect.unit (s := S656x512) ![9, 384] ![640, 128] h9))) (View.ld E (Rect.unit (s := S656x512) ![10, 384] ![640, 128] h10)) (View.ld E (Rect.unit (s := S656x512) ![11, 384] ![640, 128] h11)) (View.ld E (Rect.unit (s := S656x512) ![12, 384] ![640, 128] h12)) (View.ld E (Rect.unit (s := S656x512) ![13, 384] ![640, 128] h13)) (View.ld E (Rect.unit (s := S656x512) ![14, 384] ![640, 128] h14)) (View.ld E (Rect.unit (s := S656x512) ![15, 384] ![640, 128] h15)) (ix2 r d)
      = (∑ k ∈ Finset.range (2 ^ ((3 : Fin 4).val + 1)), e (r.val + k) 3 d) - D (ix2 r d) := by
  have hk : ∀ k : ℕ, (hk : k < 17) → e (r.val + k) 3 d = E (ix2 ⟨k + r.val, by omega⟩ (col 3 d)) := fun k hk => by
    rw [Nat.add_comm]
    exact (hE ⟨k + r.val, by omega⟩ _).symm
  rw [show (2 ^ ((3 : Fin 4).val + 1)) = 16 from rfl]
  simp only [Finset.sum_range_succ, Finset.sum_range_zero, zero_add]
  rw [hk 1 (by decide), hk 2 (by decide), hk 3 (by decide), hk 4 (by decide), hk 5 (by decide), hk 6 (by decide), hk 7 (by decide), hk 8 (by decide), hk 9 (by decide), hk 10 (by decide), hk 11 (by decide), hk 12 (by decide), hk 13 (by decide), hk 14 (by decide), hk 15 (by decide), Nat.add_zero, ← hZ]
  try simp only [col_zero]
  pointwise [k0_pay32, k0_pay33, k0_pay34, k0_pay35, k0_pay36, k0_pay1]
  try rfl

theorem q0_at (i : ℕ) (hi : i < 13) (x0 : FVec Ideal S640x512 .f32) (x2 : FVec Ideal S4x128x128 .bf16) (x3 : FVec Ideal S1x512 .f32)
    (h0 h1 h2) (r : Fin 640) (d : Fin 128) :
    k0_pay11 (F := Ideal) (tileW i) (k0_pay7 (View.ld x0 (Rect.unit (s := S640x512) ![0, 0] ![640, 128] h0)) (View.ld x3 (Rect.unit (s := S1x512) ![0, 0] ![1, 128] h1))) (View.ld x2 (Rect.unit (s := S4x128x128) ![0, 0, 0] ![1, 128, 128] h2)) (ix2 r d) = qb i x0 x2 x3 0 r d := by
  rw [pay11_apply i hi]
  unfold qb dp
  refine congrArg (fun s => Ideal.div s _) (Finset.sum_congr rfl fun k _ => ?_)
  simp only [col_zero]
  pointwise

theorem p0_at (x0 : FVec Ideal S640x512 .f32) (x2 : FVec Ideal S4x128x128 .bf16) (x3 : FVec Ideal S1x512 .f32)
    (h0 h1 h2) (r : Fin 640) (d : Fin 128) :
    k0_pay10 (F := Ideal) (k0_pay7 (View.ld x0 (Rect.unit (s := S640x512) ![0, 0] ![640, 128] h0)) (View.ld x3 (Rect.unit (s := S1x512) ![0, 0] ![1, 128] h1))) (View.ld x2 (Rect.unit (s := S4x128x128) ![0, 0, 0] ![1, 128, 128] h2)) (ix2 r d) = dp x0 x2 x3 0 r d := by
  rw [pay10_apply]
  unfold dp
  refine Finset.sum_congr rfl fun k _ => ?_
  simp only [col_zero]
  pointwise

theorem q1_at (i : ℕ) (hi : i < 13) (x0 : FVec Ideal S640x512 .f32) (x2 : FVec Ideal S4x128x128 .bf16) (x3 : FVec Ideal S1x512 .f32)
    (h0 h1 h2) (r : Fin 640) (d : Fin 128) :
    k0_pay17 (F := Ideal) (tileW i) (k0_pay13 (View.ld x0 (Rect.unit (s := S640x512) ![0, 128] ![640, 128] h0)) (View.ld x3 (Rect.unit (s := S1x512) ![0, 128] ![1, 128] h1))) (View.ld x2 (Rect.unit (s := S4x128x128) ![1, 0, 0] ![1, 128, 128] h2)) (ix2 r d) = qb i x0 x2 x3 1 r d := by
  rw [pay17_apply i hi]
  unfold qb dp
  refine congrArg (fun s => Ideal.div s _) (Finset.sum_congr rfl fun k _ => ?_)
  pointwise
  rfl

theorem p1_at (x0 : FVec Ideal S640x512 .f32) (x2 : FVec Ideal S4x128x128 .bf16) (x3 : FVec Ideal S1x512 .f32)
    (h0 h1 h2) (r : Fin 640) (d : Fin 128) :
    k0_pay16 (F := Ideal) (k0_pay13 (View.ld x0 (Rect.unit (s := S640x512) ![0, 128] ![640, 128] h0)) (View.ld x3 (Rect.unit (s := S1x512) ![0, 128] ![1, 128] h1))) (View.ld x2 (Rect.unit (s := S4x128x128) ![1, 0, 0] ![1, 128, 128] h2)) (ix2 r d) = dp x0 x2 x3 1 r d := by
  rw [pay16_apply]
  unfold dp
  refine Finset.sum_congr rfl fun k _ => ?_
  pointwise
  rfl

theorem q2_at (i : ℕ) (hi : i < 13) (x0 : FVec Ideal S640x512 .f32) (x2 : FVec Ideal S4x128x128 .bf16) (x3 : FVec Ideal S1x512 .f32)
    (h0 h1 h2) (r : Fin 640) (d : Fin 128) :
    k0_pay24 (F := Ideal) (tileW i) (k0_pay19 (View.ld x0 (Rect.unit (s := S640x512) ![0, 256] ![640, 128] h0)) (View.ld x3 (Rect.unit (s := S1x512) ![0, 256] ![1, 128] h1))) (View.ld x2 (Rect.unit (s := S4x128x128) ![2, 0, 0] ![1, 128, 128] h2)) (ix2 r d) = qb i x0 x2 x3 2 r d := by
  rw [pay24_apply i hi]
  unfold qb dp
  refine congrArg (fun s => Ideal.div s _) (Finset.sum_congr rfl fun k _ => ?_)
  pointwise
  rfl

theorem p2_at (x0 : FVec Ideal S640x512 .f32) (x2 : FVec Ideal S4x128x128 .bf16) (x3 : FVec Ideal S1x512 .f32)
    (h0 h1 h2) (r : Fin 640) (d : Fin 128) :
    k0_pay23 (F := Ideal) (k0_pay19 (View.ld x0 (Rect.unit (s := S640x512) ![0, 256] ![640, 128] h0)) (View.ld x3 (Rect.unit (s := S1x512) ![0, 256] ![1, 128] h1))) (View.ld x2 (Rect.unit (s := S4x128x128) ![2, 0, 0] ![1, 128, 128] h2)) (ix2 r d) = dp x0 x2 x3 2 r d := by
  rw [pay23_apply]
  unfold dp
  refine Finset.sum_congr rfl fun k _ => ?_
  pointwise
  rfl

theorem q3_at (i : ℕ) (hi : i < 13) (x0 : FVec Ideal S640x512 .f32) (x2 : FVec Ideal S4x128x128 .bf16) (x3 : FVec Ideal S1x512 .f32)
    (h0 h1 h2) (r : Fin 640) (d : Fin 128) :
    k0_pay31 (F := Ideal) (k0_pay29 (View.ld x0 (Rect.unit (s := S640x512) ![0, 384] ![640, 128] h0)) (View.ld x3 (Rect.unit (s := S1x512) ![0, 384] ![1, 128] h1)) (View.ld x2 (Rect.unit (s := S4x128x128) ![3, 0, 0] ![1, 128, 128] h2))) (k0_pay30 (tileW i)) (ix2 r d) = qb i x0 x2 x3 3 r d := by
  rw [pay31_apply i hi]
  unfold qb dp
  refine congrArg (fun s => Ideal.div s _) (Finset.sum_congr rfl fun k _ => ?_)
  pointwise
  rfl

theorem p3_at (x0 : FVec Ideal S640x512 .f32) (x2 : FVec Ideal S4x128x128 .bf16) (x3 : FVec Ideal S1x512 .f32)
    (h0 h1 h2) (r : Fin 640) (d : Fin 128) :
    k0_pay29 (F := Ideal) (View.ld x0 (Rect.unit (s := S640x512) ![0, 384] ![640, 128] h0)) (View.ld x3 (Rect.unit (s := S1x512) ![0, 384] ![1, 128] h1)) (View.ld x2 (Rect.unit (s := S4x128x128) ![3, 0, 0] ![1, 128, 128] h2)) (ix2 r d) = dp x0 x2 x3 3 r d := by
  rw [pay29_apply]
  unfold dp
  refine Finset.sum_congr rfl fun k _ => ?_
  pointwise
  rfl

theorem ext_own (i : ℕ) (x0 : FVec Ideal S640x512 .f32) (x2 : FVec Ideal S4x128x128 .bf16) (x3 : FVec Ideal S1x512 .f32)
    (halo : FVec Ideal S656x512 .f32) (r : Fin 640) (g : Fin 4) (d : Fin 128) : qb i x0 x2 x3 g r d = ext i x0 x2 x3 halo r.val g d := by
  unfold ext
  rw [dif_pos r.isLt]

/-- The scratch after the four column blocks are stored, read anywhere. -/
theorem read_ext (i : ℕ) (hi : i < 13) (x0 : FVec Ideal S640x512 .f32) (x2 : FVec Ideal S4x128x128 .bf16) (x3 : FVec Ideal S1x512 .f32)
    (halo : FVec Ideal S656x512 .f32) (f : (View.whole cc0_scratch0).ty.Contents (Elt Ideal))
    (hf : ∀ (r : Fin 656) g d, 640 ≤ r.val → View.read (Elt Ideal) (View.whole cc0_scratch0) f (ix2 r (col g d)) = halo (ix2 r (col g d)))
    h0 a0 b0 c0 h1 a1 b1 c1 h2 a2 b2 c2 h3 a3 b3 c3 (r : Fin 656) (g : Fin 4) (d : Fin 128) :
    View.read (Elt Ideal) (View.whole cc0_scratch0) ((View.whole cc0_scratch0).writes (Elt Ideal) f
      [(⟨Rect.unit (s := S656x512) ![0, 384] ![640, 128] h3, k0_pay31 (F := Ideal) (k0_pay29 (View.ld x0 (Rect.unit (s := S640x512) ![0, 384] ![640, 128] a3)) (View.ld x3 (Rect.unit (s := S1x512) ![0, 384] ![1, 128] b3)) (View.ld x2 (Rect.unit (s := S4x128x128) ![3, 0, 0] ![1, 128, 128] c3))) (k0_pay30 (tileW i))⟩ : View.Piece (Elt Ideal) S656x512 .f32),
       ⟨Rect.unit (s := S656x512) ![0, 256] ![640, 128] h2, k0_pay24 (F := Ideal) (tileW i) (k0_pay19 (View.ld x0 (Rect.unit (s := S640x512) ![0, 256] ![640, 128] a2)) (View.ld x3 (Rect.unit (s := S1x512) ![0, 256] ![1, 128] b2))) (View.ld x2 (Rect.unit (s := S4x128x128) ![2, 0, 0] ![1, 128, 128] c2))⟩,
       ⟨Rect.unit (s := S656x512) ![0, 128] ![640, 128] h1, k0_pay17 (F := Ideal) (tileW i) (k0_pay13 (View.ld x0 (Rect.unit (s := S640x512) ![0, 128] ![640, 128] a1)) (View.ld x3 (Rect.unit (s := S1x512) ![0, 128] ![1, 128] b1))) (View.ld x2 (Rect.unit (s := S4x128x128) ![1, 0, 0] ![1, 128, 128] c1))⟩,
       ⟨Rect.unit (s := S656x512) ![0, 0] ![640, 128] h0, k0_pay11 (F := Ideal) (tileW i) (k0_pay7 (View.ld x0 (Rect.unit (s := S640x512) ![0, 0] ![640, 128] a0)) (View.ld x3 (Rect.unit (s := S1x512) ![0, 0] ![1, 128] b0))) (View.ld x2 (Rect.unit (s := S4x128x128) ![0, 0, 0] ![1, 128, 128] c0))⟩]) (ix2 r (col g d))
    = ext i x0 x2 x3 halo r.val g d := by
  have hq : ∀ (r : Fin 640) g d, qb i x0 x2 x3 g r d = ext i x0 x2 x3 halo r.val g d := fun r g d => ext_own ..
  refine read_pcs f _ _ _ _ _ _ _ _ (ext i x0 x2 x3 halo) (fun r d => (q0_at i hi x0 x2 x3 _ _ _ r d).trans (hq r 0 d))
    (fun r d => (q1_at i hi x0 x2 x3 _ _ _ r d).trans (hq r 1 d)) (fun r d => (q2_at i hi x0 x2 x3 _ _ _ r d).trans (hq r 2 d))
    (fun r d => (q3_at i hi x0 x2 x3 _ _ _ r d).trans (hq r 3 d)) (fun r g d hr => ?_) r g d
  unfold ext
  rw [dif_neg (by omega), dif_pos r.isLt]
  exact hf r g d hr

theorem hcoord : ∀ t : Fin cfg0.N, ((grid0.coords t 0 : Fin _) : ℕ) = t.val := by decide +kernel

theorem out4_B (c : Dev nD) (t : Fin cfg0.N) (hc0 : ¬cond0_0 (grid0.coords t)) (x0 : Vec Ideal S640x512 .f32) (x1 : Vec Ideal S640x512 .bf16) (x2 : Vec Ideal S4x128x128 .bf16) (x3 : Vec Ideal S1x512 .f32)
   (xo5 : Vec Ideal S4x128x128 .f32) (xo6 : Vec Ideal S1x512 .f32) (xs0 : Vec Ideal S656x512 .f32) (r : Fin 640) (g : Fin 4) (d : Fin 128) :
   out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 xo5 xo6 xs0 (ix2 r (col g d))
     = (∑ k ∈ Finset.range (2 ^ (g.val + 1)), ext t.val x0 x2 x3 xs0 (r.val + k) g d) - dp x0 x2 x3 g r d := by
  have ht : t.val < 13 := lt_of_lt_of_eq t.isLt N_0
  have htile : Scalar.subi 12#32 (BitVec.ofNat 32 (grid0.coords t 0 : Fin _)) = tileW t.val := by rw [hcoord]; rfl
  frame_open
  simp (disch := decide) only [↓ View.readCov_skip, ↓ View.readCov_cons_toLoadRect, ↓ View.readCov_fill]
  frame_out
  rw [htile]
  canon_tiles x hx
  case piece0 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = 384 + b.val := hx1
    obtain rfl : g = 3 := Fin.ext (show g.val = 3 by omega)
    obtain rfl : a = r := Fin.ext (by omega)
    obtain rfl : b = d := Fin.ext (by change 3 * 128 + d.val = _ at e1; omega)
    refine (core16 _ _ _ (ext t.val x0 x2 x3 xs0) (fun r d => read_ext t.val ht x0 x2 x3 xs0 _ (fun r g d _ => ?_) _ _ _ _ _ _ _ _ _ _ _ _ _ _ _ _ r 3 d) ?_ _ _ _ _ _ _ _ _ _ _ _ _ _ _ _ a b).trans ?_
    · rw [read_unread_whole]
    · exact fun r d => (q3_at t.val ht x0 x2 x3 _ _ _ r d).trans (ext_own ..)
    · exact congrArg (fun s => _ - s) (p3_at x0 x2 x3 _ _ _ a b)
  case piece1 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = 256 + b.val := hx1
    obtain rfl : g = 2 := Fin.ext (show g.val = 2 by omega)
    obtain rfl : a = r := Fin.ext (by omega)
    obtain rfl : b = d := Fin.ext (by change 2 * 128 + d.val = _ at e1; omega)
    refine (core8 _ _ _ (ext t.val x0 x2 x3 xs0) (fun r d => read_ext t.val ht x0 x2 x3 xs0 _ (fun r g d _ => ?_) _ _ _ _ _ _ _ _ _ _ _ _ _ _ _ _ r 2 d) ?_ _ _ _ _ _ _ _ a b).trans ?_
    · rw [read_unread_whole]
    · exact fun r d => (q2_at t.val ht x0 x2 x3 _ _ _ r d).trans (ext_own ..)
    · exact congrArg (fun s => _ - s) (p2_at x0 x2 x3 _ _ _ a b)
  case piece2 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = 128 + b.val := hx1
    obtain rfl : g = 1 := Fin.ext (show g.val = 1 by omega)
    obtain rfl : a = r := Fin.ext (by omega)
    obtain rfl : b = d := Fin.ext (by change 1 * 128 + d.val = _ at e1; omega)
    refine (core4 _ _ _ (ext t.val x0 x2 x3 xs0) (fun r d => read_ext t.val ht x0 x2 x3 xs0 _ (fun r g d _ => ?_) _ _ _ _ _ _ _ _ _ _ _ _ _ _ _ _ r 1 d) ?_ _ _ _ a b).trans ?_
    · rw [read_unread_whole]
    · exact fun r d => (q1_at t.val ht x0 x2 x3 _ _ _ r d).trans (ext_own ..)
    · exact congrArg (fun s => _ - s) (p1_at x0 x2 x3 _ _ _ a b)
  case piece3 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = b.val := hx1
    obtain rfl : g = 0 := Fin.ext (show g.val = 0 by omega)
    obtain rfl : a = r := Fin.ext (by omega)
    obtain rfl : b = d := Fin.ext (by change 0 * 128 + d.val = _ at e1; omega)
    refine (core2 _ _ _ (ext t.val x0 x2 x3 xs0) (fun r d => read_ext t.val ht x0 x2 x3 xs0 _ (fun r g d _ => ?_) _ _ _ _ _ _ _ _ _ _ _ _ _ _ _ _ r 0 d) ?_ _ a b).trans ?_
    · rw [read_unread_whole]
    · exact fun r d => (q0_at t.val ht x0 x2 x3 _ _ _ r d).trans (ext_own ..)
    · exact congrArg (fun s => _ - s) (p0_at x0 x2 x3 _ _ _ a b)

theorem sout_B (c : Dev nD) (t : Fin cfg0.N) (hc0 : ¬cond0_0 (grid0.coords t)) (x0 : Vec Ideal S640x512 .f32) (x1 : Vec Ideal S640x512 .bf16) (x2 : Vec Ideal S4x128x128 .bf16) (x3 : Vec Ideal S1x512 .f32)
   (xo5 : Vec Ideal S4x128x128 .f32) (xo6 : Vec Ideal S1x512 .f32) (xs0 : Vec Ideal S656x512 .f32) (r : Fin 656) (g : Fin 4) (d : Fin 128) :
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 xo5 xo6 xs0 (ix2 r (col g d))
     = if h : r.val < 640 then qb t.val x0 x2 x3 g ⟨r.val, h⟩ d else qb t.val x0 x2 x3 g ⟨r.val - 640, by omega⟩ d := by
  have ht : t.val < 13 := lt_of_lt_of_eq t.isLt N_0
  have htile : Scalar.subi 12#32 (BitVec.ofNat 32 (grid0.coords t 0 : Fin _)) = tileW t.val := by rw [hcoord]; rfl
  frame_open
  simp (disch := decide) only [↓ View.readCov_skip, ↓ View.readCov_cons_toLoadRect, ↓ View.readCov_fill]
  frame_out
  rw [htile]
  by_cases hr : r.val < 640
  · rw [dif_pos hr, canon_nmem (a := 0) (ha := by left; exact hr)]
    exact (canon_pcs _ _ _ _ _ _ _ _ (ext t.val x0 x2 x3 xs0) (fun r d => (q0_at t.val ht x0 x2 x3 _ _ _ r d).trans (ext_own ..))
      (fun r d => (q1_at t.val ht x0 x2 x3 _ _ _ r d).trans (ext_own ..)) (fun r d => (q2_at t.val ht x0 x2 x3 _ _ _ r d).trans (ext_own ..))
      (fun r d => (q3_at t.val ht x0 x2 x3 _ _ _ r d).trans (ext_own ..)) r hr g d _).trans (ext_own t.val x0 x2 x3 xs0 ⟨r.val, hr⟩ g d).symm
  · rw [dif_neg hr, canon_mem (x := ix2 (⟨r.val - 640, by omega⟩ : Fin 16) (col g d)) (hx := fun a => by
        match a with
        | 0 => show r.val = 640 + (r.val - 640); omega
        | 1 => exact (Nat.zero_add _).symm)]
    pointwise [k0_pay2]
    have hr' : r.val - 640 < 640 := by omega
    rw [View.readCov_eq_canon']
    refine (congrArg (View.canon _) (?_ : _ = ix2 (⟨r.val - 640, by omega⟩ : Fin 656) (col g d))).trans ?_
    · funext a
      match a with
      | 0 => exact Fin.ext (by show 0 + 1 * (r.val - 640) = r.val - 640; omega)
      | 1 => exact Fin.ext (by show 0 + 1 * (col g d).val = (col g d).val; omega)
    · exact (canon_pcs _ _ _ _ _ _ _ _ (ext t.val x0 x2 x3 xs0) (fun r d => (q0_at t.val ht x0 x2 x3 _ _ _ r d).trans (ext_own ..))
        (fun r d => (q1_at t.val ht x0 x2 x3 _ _ _ r d).trans (ext_own ..)) (fun r d => (q2_at t.val ht x0 x2 x3 _ _ _ r d).trans (ext_own ..))
        (fun r d => (q3_at t.val ht x0 x2 x3 _ _ _ r d).trans (ext_own ..)) ⟨r.val - 640, by omega⟩ hr' g d []).trans
        (ext_own t.val x0 x2 x3 xs0 ⟨r.val - 640, hr'⟩ g d).symm

theorem out5_B (c : Dev nD) (t : Fin cfg0.N) (hc0 : ¬cond0_0 (grid0.coords t)) (x0 : Vec Ideal S640x512 .f32) (x1 : Vec Ideal S640x512 .bf16) (x2 : Vec Ideal S4x128x128 .bf16) (x3 : Vec Ideal S1x512 .f32)
   (xo5 : Vec Ideal S4x128x128 .f32) (xo6 : Vec Ideal S1x512 .f32) (xs0 : Vec Ideal S656x512 .f32) (g : Fin 4) (k d : Fin 128) :
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 xo5 xo6 xs0 (ix3 g k d)
     = xo5 (ix3 g k d) + ∑ r : Fin 640, x1 (ix2 r (col g k)) * (x0 (ix2 r (col g d)) * x3 (ix2 0 (col g d))) := by
  frame_open
  simp (disch := decide) only [↓ View.readCov_skip, ↓ View.readCov_cons_toLoadRect, ↓ View.readCov_fill]
  frame_out
  canon_tiles x hx
  case piece0 =>
    obtain ⟨z, a, b, rfl⟩ : ∃ (z : Fin 1) (a b : Fin 128), x = ix3 z a b := ⟨x 0, x 1, x 2, by funext k; match k with | 0 => rfl | 1 => rfl | 2 => rfl⟩
    have e0 : g.val = 3 + z.val := hx0
    have e1 : k.val = a.val := hx1
    have e2 : d.val = b.val := hx2
    obtain rfl : g = 3 := Fin.ext (show g.val = 3 by omega)
    obtain rfl : a = k := Fin.ext e1.symm
    obtain rfl : b = d := Fin.ext e2.symm
    refine (pay28_apply _ _ _ _ z a b).trans ?_
    skip
    pointwise
    rfl
  case piece1 =>
    obtain ⟨z, a, b, rfl⟩ : ∃ (z : Fin 1) (a b : Fin 128), x = ix3 z a b := ⟨x 0, x 1, x 2, by funext k; match k with | 0 => rfl | 1 => rfl | 2 => rfl⟩
    have e0 : g.val = 2 + z.val := hx0
    have e1 : k.val = a.val := hx1
    have e2 : d.val = b.val := hx2
    obtain rfl : g = 2 := Fin.ext (show g.val = 2 by omega)
    obtain rfl : a = k := Fin.ext e1.symm
    obtain rfl : b = d := Fin.ext e2.symm
    refine (pay22_apply _ _ _ _ z a b).trans ?_
    skip
    pointwise
    rfl
  case piece2 =>
    obtain ⟨z, a, b, rfl⟩ : ∃ (z : Fin 1) (a b : Fin 128), x = ix3 z a b := ⟨x 0, x 1, x 2, by funext k; match k with | 0 => rfl | 1 => rfl | 2 => rfl⟩
    have e0 : g.val = 1 + z.val := hx0
    have e1 : k.val = a.val := hx1
    have e2 : d.val = b.val := hx2
    obtain rfl : g = 1 := Fin.ext (show g.val = 1 by omega)
    obtain rfl : a = k := Fin.ext e1.symm
    obtain rfl : b = d := Fin.ext e2.symm
    refine (pay15_apply _ _ _ _ z a b).trans ?_
    skip
    pointwise
    rfl
  case piece3 =>
    obtain ⟨z, a, b, rfl⟩ : ∃ (z : Fin 1) (a b : Fin 128), x = ix3 z a b := ⟨x 0, x 1, x 2, by funext k; match k with | 0 => rfl | 1 => rfl | 2 => rfl⟩
    have e0 : g.val = z.val := hx0
    have e1 : k.val = a.val := hx1
    have e2 : d.val = b.val := hx2
    obtain rfl : g = 0 := Fin.ext (show g.val = 0 by omega)
    obtain rfl : a = k := Fin.ext e1.symm
    obtain rfl : b = d := Fin.ext e2.symm
    refine (pay9_apply _ _ _ _ z a b).trans ?_
    simp only [col_zero]
    pointwise
    skip

theorem out6_B (c : Dev nD) (t : Fin cfg0.N) (hc0 : ¬cond0_0 (grid0.coords t)) (x0 : Vec Ideal S640x512 .f32) (x1 : Vec Ideal S640x512 .bf16) (x2 : Vec Ideal S4x128x128 .bf16) (x3 : Vec Ideal S1x512 .f32)
   (xo5 : Vec Ideal S4x128x128 .f32) (xo6 : Vec Ideal S1x512 .f32) (xs0 : Vec Ideal S656x512 .f32) (g : Fin 4) (d : Fin 128) :
   out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 xo5 xo6 xs0 (ix2 0 (col g d))
     = xo6 (ix2 0 (col g d)) + ∑ r : Fin 640, x0 (ix2 r (col g d)) * ∑ k : Fin 128, x1 (ix2 r (col g k)) * x2 (ix3 g k d) := by
  frame_open
  simp (disch := decide) only [↓ View.readCov_skip, ↓ View.readCov_cons_toLoadRect, ↓ View.readCov_fill]
  frame_out
  canon_tiles x hx
  case piece0 =>
    obtain ⟨z, b, rfl⟩ : ∃ (z : Fin 1) (b : Fin 128), x = ix2 z b := ⟨x 0, x 1, by funext k; match k with | 0 => rfl | 1 => rfl⟩
    have e1 : g.val * 128 + d.val = 384 + b.val := hx1
    obtain rfl : g = 3 := Fin.ext (show g.val = 3 by omega)
    obtain rfl : b = d := Fin.ext (by change 3 * 128 + d.val = _ at e1; omega)
    refine (pay27_apply _ _ _ _ z b).trans ?_
    skip
    pointwise
    rfl
  case piece1 =>
    obtain ⟨z, b, rfl⟩ : ∃ (z : Fin 1) (b : Fin 128), x = ix2 z b := ⟨x 0, x 1, by funext k; match k with | 0 => rfl | 1 => rfl⟩
    have e1 : g.val * 128 + d.val = 256 + b.val := hx1
    obtain rfl : g = 2 := Fin.ext (show g.val = 2 by omega)
    obtain rfl : b = d := Fin.ext (by change 2 * 128 + d.val = _ at e1; omega)
    refine (pay21_apply _ _ _ _ z b).trans ?_
    skip
    pointwise
    rfl
  case piece2 =>
    obtain ⟨z, b, rfl⟩ : ∃ (z : Fin 1) (b : Fin 128), x = ix2 z b := ⟨x 0, x 1, by funext k; match k with | 0 => rfl | 1 => rfl⟩
    have e1 : g.val * 128 + d.val = 128 + b.val := hx1
    obtain rfl : g = 1 := Fin.ext (show g.val = 1 by omega)
    obtain rfl : b = d := Fin.ext (by change 1 * 128 + d.val = _ at e1; omega)
    refine (pay14_apply _ _ _ _ z b).trans ?_
    skip
    pointwise
    rfl
  case piece3 =>
    obtain ⟨z, b, rfl⟩ : ∃ (z : Fin 1) (b : Fin 128), x = ix2 z b := ⟨x 0, x 1, by funext k; match k with | 0 => rfl | 1 => rfl⟩
    have e1 : g.val * 128 + d.val = b.val := hx1
    obtain rfl : g = 0 := Fin.ext (show g.val = 0 by omega)
    obtain rfl : b = d := Fin.ext (by change 0 * 128 + d.val = _ at e1; omega)
    refine (pay8_apply _ _ _ _ z b).trans ?_
    simp only [col_zero]
    pointwise
    skip

end Cert.PoolKernelIdeal.Pay
-- ==== Proof.PoolPointA.lean ====
/- The pooling gradient's kernel: what one grid point leaves in its outputs and in the scratch it carries. -/
module

public import proofs.«01_k».proof.Proof.PoolPoint
public import proofs.«01_k».proof.Proof.Gen.PoolKernelIdeal.Frame
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.PoolKernelIdeal.Pay

open Cert.PoolKernelIdeal Cert.PoolKernelIdeal.Gen

/-- A load of a box of what the stores left is the box of what they left. -/
theorem readCov_ld {sg : RefSig} {κ : Kind} {sp : Space} {S : Shape} {e : EltTy} (v : View sg κ sp S e) (L : List (View.Piece (Elt Ideal) S e)) (r : Rect S) :
    v.readCov L r.toLoadRect = View.ld (View.canon L) r := View.readCov_eq_canon' v L r.toLoadRect

/-- The rows set to nought at the first point. -/
theorem canon_nought (h1) (r : Fin 656) (hr : 640 ≤ r.val) (c : Fin 512) :
    View.canon [(⟨Rect.unit (s := S656x512) ![640, 0] ![16, 512] h1, k0_pay3 (F := Ideal)⟩ : View.Piece (Elt Ideal) S656x512 .f32)] (ix2 r c) = 0 := by
  rw [canon_mem (x := ix2 (⟨r.val - 640, by omega⟩ : Fin 16) c) (hx := fun a => by
        match a with
        | 0 => show r.val = 640 + (r.val - 640); omega
        | 1 => exact (Nat.zero_add _).symm)]
  pointwise [k0_pay3]

/-- A block of columns stored in the tile's rows holds none of the rows past them. -/
theorem canon_past (P : FVec Ideal S640x128 .f32) (o : ℕ) (h0) (L : List (View.Piece (Elt Ideal) S656x512 .f32)) (r : Fin 656) (hr : 640 ≤ r.val)
    (c : Fin 512) (h : View.canon L (ix2 r c) = 0) :
    View.canon ((⟨Rect.unit (s := S656x512) ![0, o] ![640, 128] h0, P⟩ : View.Piece (Elt Ideal) S656x512 .f32) :: L) (ix2 r c) = 0 := by
  rw [canon_nmem (a := 0) (ha := by right; show 0 + 640 ≤ r.val; omega)]
  exact h

/-- The first point's scratch, read in one block of columns: the tile's rows, then the rows set to nought. -/
theorem canon_first (P : FVec Ideal S640x128 .f32) (q : ℕ → EReal) (o : ℕ) (g : Fin 4) (hg : g.val * 128 = o) (h0)
    (L : List (View.Piece (Elt Ideal) S656x512 .f32)) (d : Fin 128)
    (hq : ∀ r : Fin 640, P (ix2 r d) = q r.val) (hz : ∀ r : ℕ, 640 ≤ r → q r = 0)
    (hL : ∀ r : Fin 656, 640 ≤ r.val → View.canon L (ix2 r (col g d)) = 0) (r : Fin 656) :
    View.canon ((⟨Rect.unit (s := S656x512) ![0, o] ![640, 128] h0, P⟩ : View.Piece (Elt Ideal) S656x512 .f32) :: L) (ix2 r (col g d)) = q r.val := by
  by_cases hr : r.val < 640
  · rw [canon_mem (x := ix2 (⟨r.val, hr⟩ : Fin 640) d) (hx := fun a => by
        match a with
        | 0 => exact (Nat.zero_add _).symm
        | 1 => show g.val * 128 + d.val = o + d.val; omega)]
    exact hq ⟨r.val, hr⟩
  · rw [canon_nmem (a := 0) (ha := by right; show 0 + 640 ≤ r.val; omega), hL r (by omega), hz _ (by omega)]

theorem ext_past (i : ℕ) (x0 : FVec Ideal S640x512 .f32) (x2 : FVec Ideal S4x128x128 .bf16) (x3 : FVec Ideal S1x512 .f32)
    (r : ℕ) (hr : 640 ≤ r) (g : Fin 4) (d : Fin 128) : ext i x0 x2 x3 (fun _ => 0) r g d = 0 := by
  unfold ext
  rw [dif_neg (by omega)]
  split <;> rfl

theorem out4_A (c : Dev nD) (t : Fin cfg0.N) (hc0 : cond0_0 (grid0.coords t)) (x0 : Vec Ideal S640x512 .f32) (x1 : Vec Ideal S640x512 .bf16) (x2 : Vec Ideal S4x128x128 .bf16) (x3 : Vec Ideal S1x512 .f32)
   (r : Fin 640) (g : Fin 4) (d : Fin 128) :
   out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 (ix2 r (col g d))
     = (∑ k ∈ Finset.range (2 ^ (g.val + 1)), ext t.val x0 x2 x3 (fun _ => 0) (r.val + k) g d) - dp x0 x2 x3 g r d := by
  have ht : t.val < 13 := lt_of_lt_of_eq t.isLt N_0
  have htile : Scalar.subi 12#32 (BitVec.ofNat 32 (grid0.coords t 0 : Fin _)) = tileW t.val := by rw [hcoord]; rfl
  frame_open
  simp (disch := decide) only [↓ View.readCov_skip, ↓ View.readCov_cons_toLoadRect, ↓ View.readCov_fill]
  frame_out
  rw [htile]
  canon_tiles x hx
  case piece0 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = 384 + b.val := hx1
    obtain rfl : g = 3 := Fin.ext (show g.val = 3 by omega)
    obtain rfl : a = r := Fin.ext (by omega)
    obtain rfl : b = d := Fin.ext (by change 3 * 128 + d.val = _ at e1; omega)
    simp only [readCov_ld]
    refine (core16 _ _ _ (ext t.val x0 x2 x3 (fun _ => 0)) (fun r d => canon_first _ (fun n => ext t.val x0 x2 x3 (fun _ => 0) n 3 d) 384 3 rfl _ _ d
      (fun r => (q3_at t.val ht x0 x2 x3 _ _ _ r d).trans (ext_own ..)) (fun r hr => ext_past _ _ _ _ r hr _ _) (fun r hr => canon_past _ _ _ _ r hr _ (canon_past _ _ _ _ r hr _ (canon_past _ _ _ _ r hr _ (canon_nought _ r hr _)))) r) ?_ _ _ _ _ _ _ _ _ _ _ _ _ _ _ _ a b).trans ?_
    · exact fun r d => (q3_at t.val ht x0 x2 x3 _ _ _ r d).trans (ext_own ..)
    · exact congrArg (fun s => _ - s) (p3_at x0 x2 x3 _ _ _ a b)
  case piece1 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = 256 + b.val := hx1
    obtain rfl : g = 2 := Fin.ext (show g.val = 2 by omega)
    obtain rfl : a = r := Fin.ext (by omega)
    obtain rfl : b = d := Fin.ext (by change 2 * 128 + d.val = _ at e1; omega)
    simp only [readCov_ld]
    refine (core8 _ _ _ (ext t.val x0 x2 x3 (fun _ => 0)) (fun r d => canon_first _ (fun n => ext t.val x0 x2 x3 (fun _ => 0) n 2 d) 256 2 rfl _ _ d
      (fun r => (q2_at t.val ht x0 x2 x3 _ _ _ r d).trans (ext_own ..)) (fun r hr => ext_past _ _ _ _ r hr _ _) (fun r hr => canon_past _ _ _ _ r hr _ (canon_past _ _ _ _ r hr _ (canon_nought _ r hr _))) r) ?_ _ _ _ _ _ _ _ a b).trans ?_
    · exact fun r d => (q2_at t.val ht x0 x2 x3 _ _ _ r d).trans (ext_own ..)
    · exact congrArg (fun s => _ - s) (p2_at x0 x2 x3 _ _ _ a b)
  case piece2 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = 128 + b.val := hx1
    obtain rfl : g = 1 := Fin.ext (show g.val = 1 by omega)
    obtain rfl : a = r := Fin.ext (by omega)
    obtain rfl : b = d := Fin.ext (by change 1 * 128 + d.val = _ at e1; omega)
    simp only [readCov_ld]
    refine (core4 _ _ _ (ext t.val x0 x2 x3 (fun _ => 0)) (fun r d => canon_first _ (fun n => ext t.val x0 x2 x3 (fun _ => 0) n 1 d) 128 1 rfl _ _ d
      (fun r => (q1_at t.val ht x0 x2 x3 _ _ _ r d).trans (ext_own ..)) (fun r hr => ext_past _ _ _ _ r hr _ _) (fun r hr => canon_past _ _ _ _ r hr _ (canon_nought _ r hr _)) r) ?_ _ _ _ a b).trans ?_
    · exact fun r d => (q1_at t.val ht x0 x2 x3 _ _ _ r d).trans (ext_own ..)
    · exact congrArg (fun s => _ - s) (p1_at x0 x2 x3 _ _ _ a b)
  case piece3 =>
    obtain ⟨a, b, rfl⟩ : ∃ (a : Fin 640) (b : Fin 128), x = ix2 a b := ⟨x 0, x 1, by funext k; match k with | 0 => rfl | 1 => rfl⟩
    have e0 : r.val = a.val := hx0
    have e1 : g.val * 128 + d.val = b.val := hx1
    obtain rfl : g = 0 := Fin.ext (show g.val = 0 by omega)
    obtain rfl : a = r := Fin.ext (by omega)
    obtain rfl : b = d := Fin.ext (by change 0 * 128 + d.val = _ at e1; omega)
    simp only [readCov_ld]
    refine (core2 _ _ _ (ext t.val x0 x2 x3 (fun _ => 0)) (fun r d => canon_first _ (fun n => ext t.val x0 x2 x3 (fun _ => 0) n 0 d) 0 0 rfl _ _ d
      (fun r => (q0_at t.val ht x0 x2 x3 _ _ _ r d).trans (ext_own ..)) (fun r hr => ext_past _ _ _ _ r hr _ _) (fun r hr => canon_nought _ r hr _) r) ?_ _ a b).trans ?_
    · exact fun r d => (q0_at t.val ht x0 x2 x3 _ _ _ r d).trans (ext_own ..)
    · exact congrArg (fun s => _ - s) (p0_at x0 x2 x3 _ _ _ a b)

theorem sout_A (c : Dev nD) (t : Fin cfg0.N) (hc0 : cond0_0 (grid0.coords t)) (x0 : Vec Ideal S640x512 .f32) (x1 : Vec Ideal S640x512 .bf16) (x2 : Vec Ideal S4x128x128 .bf16) (x3 : Vec Ideal S1x512 .f32)
   (r : Fin 656) (g : Fin 4) (d : Fin 128) :
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 (ix2 r (col g d))
     = if h : r.val < 640 then qb t.val x0 x2 x3 g ⟨r.val, h⟩ d else qb t.val x0 x2 x3 g ⟨r.val - 640, by omega⟩ d := by
  have ht : t.val < 13 := lt_of_lt_of_eq t.isLt N_0
  have htile : Scalar.subi 12#32 (BitVec.ofNat 32 (grid0.coords t 0 : Fin _)) = tileW t.val := by rw [hcoord]; rfl
  frame_open
  simp (disch := decide) only [↓ View.readCov_skip, ↓ View.readCov_cons_toLoadRect, ↓ View.readCov_fill]
  frame_out
  rw [htile]
  by_cases hr : r.val < 640
  · rw [dif_pos hr, canon_nmem (a := 0) (ha := by left; exact hr)]
    exact (canon_pcs _ _ _ _ _ _ _ _ (ext t.val x0 x2 x3 (fun _ => 0)) (fun r d => (q0_at t.val ht x0 x2 x3 _ _ _ r d).trans (ext_own ..))
      (fun r d => (q1_at t.val ht x0 x2 x3 _ _ _ r d).trans (ext_own ..)) (fun r d => (q2_at t.val ht x0 x2 x3 _ _ _ r d).trans (ext_own ..))
      (fun r d => (q3_at t.val ht x0 x2 x3 _ _ _ r d).trans (ext_own ..)) r hr g d _).trans (ext_own t.val x0 x2 x3 (fun _ => 0) ⟨r.val, hr⟩ g d).symm
  · rw [dif_neg hr, canon_mem (x := ix2 (⟨r.val - 640, by omega⟩ : Fin 16) (col g d)) (hx := fun a => by
        match a with
        | 0 => show r.val = 640 + (r.val - 640); omega
        | 1 => exact (Nat.zero_add _).symm)]
    pointwise [k0_pay2]
    have hr' : r.val - 640 < 640 := by omega
    rw [View.readCov_eq_canon']
    refine (congrArg (View.canon _) (?_ : _ = ix2 (⟨r.val - 640, by omega⟩ : Fin 656) (col g d))).trans ?_
    · funext a
      match a with
      | 0 => exact Fin.ext (by show 0 + 1 * (r.val - 640) = r.val - 640; omega)
      | 1 => exact Fin.ext (by show 0 + 1 * (col g d).val = (col g d).val; omega)
    · exact (canon_pcs _ _ _ _ _ _ _ _ (ext t.val x0 x2 x3 (fun _ => 0)) (fun r d => (q0_at t.val ht x0 x2 x3 _ _ _ r d).trans (ext_own ..))
        (fun r d => (q1_at t.val ht x0 x2 x3 _ _ _ r d).trans (ext_own ..)) (fun r d => (q2_at t.val ht x0 x2 x3 _ _ _ r d).trans (ext_own ..))
        (fun r d => (q3_at t.val ht x0 x2 x3 _ _ _ r d).trans (ext_own ..)) ⟨r.val - 640, by omega⟩ hr' g d _).trans
        (ext_own t.val x0 x2 x3 (fun _ => 0) ⟨r.val - 640, hr'⟩ g d).symm

theorem out5_A (c : Dev nD) (t : Fin cfg0.N) (hc0 : cond0_0 (grid0.coords t)) (x0 : Vec Ideal S640x512 .f32) (x1 : Vec Ideal S640x512 .bf16) (x2 : Vec Ideal S4x128x128 .bf16) (x3 : Vec Ideal S1x512 .f32)
   (g : Fin 4) (k d : Fin 128) :
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 (ix3 g k d)
     = ∑ r : Fin 640, x1 (ix2 r (col g k)) * (x0 (ix2 r (col g d)) * x3 (ix2 0 (col g d))) := by
  frame_open
  simp (disch := decide) only [↓ View.readCov_skip, ↓ View.readCov_cons_toLoadRect, ↓ View.readCov_fill]
  frame_out
  rcases g with ⟨g, hg⟩
  interval_cases g
  · rw [canon_nmem (a := 0) (ha := by left; show 0 < 3; omega)]
    rw [canon_nmem (a := 0) (ha := by left; show 0 < 2; omega)]
    rw [canon_nmem (a := 0) (ha := by left; show 0 < 1; omega)]
    rw [canon_mem (x := ix3 (0 : Fin 1) k d) (hx := fun a => by
        match a with
        | 0 => rfl
        | 1 => exact (Nat.zero_add _).symm
        | 2 => exact (Nat.zero_add _).symm)]
    refine (pay9_apply _ _ _ _ 0 k d).trans ?_
    change _ = ∑ r : Fin 640, x1 (ix2 r (col 0 k)) * (x0 (ix2 r (col 0 d)) * x3 (ix2 0 (col 0 d)))
    simp only [col_zero]
    pointwise [k0_pay4]
  · rw [canon_nmem (a := 0) (ha := by left; show 1 < 3; omega)]
    rw [canon_nmem (a := 0) (ha := by left; show 1 < 2; omega)]
    rw [canon_mem (x := ix3 (0 : Fin 1) k d) (hx := fun a => by
        match a with
        | 0 => rfl
        | 1 => exact (Nat.zero_add _).symm
        | 2 => exact (Nat.zero_add _).symm)]
    refine (pay15_apply _ _ _ _ 0 k d).trans ?_
    pointwise [k0_pay4]
    rfl
  · rw [canon_nmem (a := 0) (ha := by left; show 2 < 3; omega)]
    rw [canon_mem (x := ix3 (0 : Fin 1) k d) (hx := fun a => by
        match a with
        | 0 => rfl
        | 1 => exact (Nat.zero_add _).symm
        | 2 => exact (Nat.zero_add _).symm)]
    refine (pay22_apply _ _ _ _ 0 k d).trans ?_
    pointwise [k0_pay4]
    rfl
  · rw [canon_mem (x := ix3 (0 : Fin 1) k d) (hx := fun a => by
        match a with
        | 0 => rfl
        | 1 => exact (Nat.zero_add _).symm
        | 2 => exact (Nat.zero_add _).symm)]
    refine (pay28_apply _ _ _ _ 0 k d).trans ?_
    pointwise [k0_pay4]
    rfl

theorem out6_A (c : Dev nD) (t : Fin cfg0.N) (hc0 : cond0_0 (grid0.coords t)) (x0 : Vec Ideal S640x512 .f32) (x1 : Vec Ideal S640x512 .bf16) (x2 : Vec Ideal S4x128x128 .bf16) (x3 : Vec Ideal S1x512 .f32)
   (g : Fin 4) (d : Fin 128) :
   out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 x0 x1 x2 x3 (ix2 0 (col g d))
     = ∑ r : Fin 640, x0 (ix2 r (col g d)) * ∑ k : Fin 128, x1 (ix2 r (col g k)) * x2 (ix3 g k d) := by
  frame_open
  simp (disch := decide) only [↓ View.readCov_skip, ↓ View.readCov_cons_toLoadRect, ↓ View.readCov_fill]
  frame_out
  rcases g with ⟨g, hg⟩
  interval_cases g
  · rw [canon_nmem (a := 1) (ha := by left; show 0 * 128 + d.val < 384; omega)]
    rw [canon_nmem (a := 1) (ha := by left; show 0 * 128 + d.val < 256; omega)]
    rw [canon_nmem (a := 1) (ha := by left; show 0 * 128 + d.val < 128; omega)]
    rw [canon_mem (x := ix2 (0 : Fin 1) d) (hx := fun a => by
        match a with
        | 0 => rfl
        | 1 => rfl)]
    refine (pay8_apply _ _ _ _ 0 d).trans ?_
    change _ = ∑ r : Fin 640, x0 (ix2 r (col 0 d)) * ∑ k : Fin 128, x1 (ix2 r (col 0 k)) * x2 (ix3 0 k d)
    simp only [col_zero]
    pointwise [k0_pay5]
  · rw [canon_nmem (a := 1) (ha := by left; show 1 * 128 + d.val < 384; omega)]
    rw [canon_nmem (a := 1) (ha := by left; show 1 * 128 + d.val < 256; omega)]
    rw [canon_mem (x := ix2 (0 : Fin 1) d) (hx := fun a => by
        match a with
        | 0 => rfl
        | 1 => rfl)]
    refine (pay14_apply _ _ _ _ 0 d).trans ?_
    pointwise [k0_pay5]
    rfl
  · rw [canon_nmem (a := 1) (ha := by left; show 2 * 128 + d.val < 384; omega)]
    rw [canon_mem (x := ix2 (0 : Fin 1) d) (hx := fun a => by
        match a with
        | 0 => rfl
        | 1 => rfl)]
    refine (pay21_apply _ _ _ _ 0 d).trans ?_
    pointwise [k0_pay5]
    rfl
  · rw [canon_mem (x := ix2 (0 : Fin 1) d) (hx := fun a => by
        match a with
        | 0 => rfl
        | 1 => rfl)]
    refine (pay27_apply _ _ _ _ 0 d).trans ?_
    pointwise [k0_pay5]
    rfl

end Cert.PoolKernelIdeal.Pay
-- ==== Proof.PoolKer.lean ====
/- The pooling gradient's kernel: its three result arrays after the run, over the argument arrays. -/
module

public import proofs.«01_k».proof.Proof.PoolPointA
public import proofs.«01_k».proof.Proof.Gen.PoolKernelIdeal.Value
public import Idealize.ShloMosaic.Lib.Claim

@[expose] public section

set_option maxRecDepth 16384

noncomputable section

open Idealize.ShloMosaic Idealize.ShloMosaic.TcCoe Idealize.SL.Sem

namespace Cert.PoolKernelIdeal.Ker

open Cert.PoolKernelIdeal Cert.PoolKernelIdeal.Gen Cert.PoolKernelIdeal.Pay

variable (m : (ℓ : Loc nD τ sig) → Buf (Elt Ideal) ℓ)

/-- The pooled input's gradient: the scaled output gradient of a row against the group's weights. -/
def DP (D : FVec Ideal S8320x512 .f32) (W : FVec Ideal S4x128x128 .f32) (SC : FVec Ideal S1x512 .f32) (g : Fin 4) (c : Fin 128) (s : Fin 8320) : EReal :=
  ∑ d : Fin 128, D (ix2 s (col g d)) * SC (ix2 0 (col g d)) * W (ix3 g c d)

/-- That gradient over the row's window count, and nought past the last row. -/
def QN (D : FVec Ideal S8320x512 .f32) (W : FVec Ideal S4x128x128 .f32) (SC : FVec Ideal S1x512 .f32) (g : Fin 4) (c : Fin 128) (n : ℕ) : EReal :=
  if h : n < 8320 then Ideal.div (DP D W SC g c ⟨n, h⟩) ((((min (n + 1) (2 ^ (g.val + 1)) : ℕ) : ℝ) : EReal)) else 0

abbrev aD (c : Dev nD) : FVec Ideal S8320x512 .f32 := m ((c : Thread nD τ).loc main_arg0)
abbrev aP (c : Dev nD) : FVec Ideal S8320x512 .bf16 := V m c main_v68
abbrev aW (c : Dev nD) : FVec Ideal S4x128x128 .f32 := m ((c : Thread nD τ).loc main_arg2)
abbrev aS (c : Dev nD) : FVec Ideal S1x512 .f32 := m ((c : Thread nD τ).loc main_arg3)

theorem idx : ∀ t : Fin cfg0.N, win0_0.index t = ![12 - t.val, 0] ∧ win0_1.index t = ![12 - t.val, 0] ∧ win0_2.index t = ![0, 0, 0] ∧ win0_3.index t = ![0, 0]
    ∧ win0_4.index t = ![12 - t.val, 0] ∧ win0_5.index t = ![0, 0, 0] ∧ win0_6.index t = ![0, 0] :=
  (by decide +kernel : ∀ t : Fin grid0.N, _)

theorem row_lt (i : ℕ) (r : Fin 640) : (12 - i) * 640 + r.val < 8320 := by omega

theorem iblk0_at (c : Dev nD) (t : Fin cfg0.N) (r : Fin 640) (q : Fin 512) :
    (iblk m c 0 t : FVec Ideal S640x512 .f32) (ix2 r q) = aD m c (ix2 ⟨(12 - t.val) * 640 + r.val, row_lt ..⟩ q) := by
  blk_ext! [iblk, V, idx t]

theorem iblk1_at (c : Dev nD) (t : Fin cfg0.N) (r : Fin 640) (q : Fin 512) :
    (iblk m c 1 t : FVec Ideal S640x512 .bf16) (ix2 r q) = aP m c (ix2 ⟨(12 - t.val) * 640 + r.val, row_lt ..⟩ q) := by
  blk_ext! [iblk, idx t]

theorem aW_eq (c : Dev nD) (g : Fin 4) (k d : Fin 128) : (V m c main_v69 : FVec Ideal S4x128x128 .bf16) (ix3 g k d) = aW m c (ix3 g k d) := by
  unfold V
  simp only [List.flatten_cons, List.flatten_nil, List.append_nil, StableHlo.after_append]
  unfold hostOps0_1
  entry_read
  rfl

theorem iblk2_at (c : Dev nD) (t : Fin cfg0.N) (g : Fin 4) (k d : Fin 128) :
    (iblk m c 2 t : FVec Ideal S4x128x128 .bf16) (ix3 g k d) = aW m c (ix3 g k d) := by
  rw [← aW_eq m c g k d]
  blk_ext! [iblk, idx t]

theorem iblk3_at (c : Dev nD) (t : Fin cfg0.N) (z : Fin 1) (q : Fin 512) :
    (iblk m c 3 t : FVec Ideal S1x512 .f32) (ix2 z q) = aS m c (ix2 z q) := by
  blk_ext! [iblk, V, idx t]

theorem dp_at (c : Dev nD) (t : Fin cfg0.N) (g : Fin 4) (r : Fin 640) (k : Fin 128) :
    dp (iblk m c 0 t) (iblk m c 2 t) (iblk m c 3 t) g r k = DP (aD m c) (aW m c) (aS m c) g k ⟨(12 - t.val) * 640 + r.val, row_lt ..⟩ := by
  unfold dp DP
  exact Finset.sum_congr rfl fun d _ => by rw [iblk0_at, iblk2_at, iblk3_at]

theorem qb_at (c : Dev nD) (t : Fin cfg0.N) (g : Fin 4) (r : Fin 640) (k : Fin 128) :
    qb t.val (iblk m c 0 t) (iblk m c 2 t) (iblk m c 3 t) g r k = QN (aD m c) (aW m c) (aS m c) g k ((12 - t.val) * 640 + r.val) := by
  unfold qb QN
  rw [dif_pos (row_lt t.val r), dp_at]
  rfl

/-- What the scratch carries on: the point's rows, and the first of them again past the tile. -/
theorem scratch (c : Dev nD) (t : Fin cfg0.N) (r : Fin 656) (g : Fin 4) (d : Fin 128) :
    (outsAt0 m c t.val t.isLt).2.2.2 (ix2 r (col g d))
      = QN (aD m c) (aW m c) (aS m c) g d (if r.val < 640 then (12 - t.val) * 640 + r.val else (12 - t.val) * 640 + (r.val - 640)) := by
  by_cases h0 : t.val % 13 = 0
  · rw [outsAt0_A m c t h0]
    dsimp only
    refine (sout_A c t ((hcond0_0 t).mpr h0) (iblk m c 0 t) (iblk m c 1 t) (iblk m c 2 t) (iblk m c 3 t) r g d).trans ?_
    split
    · exact qb_at m c t g ⟨r.val, by assumption⟩ d
    · exact qb_at m c t g ⟨r.val - 640, by omega⟩ d
  · rw [outsAt0_B m c t h0]
    dsimp only
    refine (sout_B c t (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r g d).trans ?_
    split
    · exact qb_at m c t g ⟨r.val, by assumption⟩ d
    · exact qb_at m c t g ⟨r.val - 640, by omega⟩ d

/-- The rows the sums of a point are taken over are rows of the one array. -/
theorem ext_B (c : Dev nD) (t : Fin cfg0.N) (h0 : ¬t.val % 13 = 0) (g : Fin 4) (d : Fin 128) (r : ℕ) (hr : r < 656) :
    ext t.val (iblk m c 0 t) (iblk m c 2 t) (iblk m c 3 t) (outsAt0 m c (t.val - 1) (Nat.lt_of_le_of_lt (Nat.sub_le _ _) t.isLt)).2.2.2 r g d
      = QN (aD m c) (aW m c) (aS m c) g d ((12 - t.val) * 640 + r) := by
  have ht : t.val < 13 := lt_of_lt_of_eq t.isLt N_0
  unfold ext
  by_cases h : r < 640
  · rw [dif_pos h]
    exact qb_at m c t g ⟨r, h⟩ d
  · rw [dif_neg h, dif_pos hr]
    refine (scratch m c ⟨t.val - 1, Nat.lt_of_le_of_lt (Nat.sub_le _ _) t.isLt⟩ ⟨r, hr⟩ g d).trans ?_
    refine congrArg _ ?_
    show (if r < 640 then _ else (12 - (t.val - 1)) * 640 + (r - 640)) = _
    rw [if_neg h]
    omega

theorem ext_A (c : Dev nD) (t : Fin cfg0.N) (h0 : t.val % 13 = 0) (g : Fin 4) (d : Fin 128) (r : ℕ) :
    ext t.val (iblk m c 0 t) (iblk m c 2 t) (iblk m c 3 t) (fun _ => 0) r g d
      = QN (aD m c) (aW m c) (aS m c) g d ((12 - t.val) * 640 + r) := by
  have ht : t.val < 13 := lt_of_lt_of_eq t.isLt N_0
  by_cases h : r < 640
  · unfold ext
    rw [dif_pos h]
    exact qb_at m c t g ⟨r, h⟩ d
  · rw [ext_past _ _ _ _ _ (by omega)]
    unfold QN
    rw [dif_neg (by omega)]

/-- The input's gradient: the sum of the scaled gradients of the rows whose window holds the row, less the row's own. -/
def DU (D : FVec Ideal S8320x512 .f32) (W : FVec Ideal S4x128x128 .f32) (SC : FVec Ideal S1x512 .f32) (g : Fin 4) (d : Fin 128) (s : Fin 8320) : EReal :=
  (∑ k ∈ Finset.range (2 ^ (g.val + 1)), QN D W SC g d (s.val + k)) - DP D W SC g d s

theorem pow_le (g : Fin 4) : 2 ^ (g.val + 1) ≤ 16 := Nat.pow_le_pow_right (by decide) (by omega : g.val + 1 ≤ 4)

theorem out4_at (c : Dev nD) (t : Fin cfg0.N) (r : Fin 640) (g : Fin 4) (d : Fin 128) :
    (outsAt0 m c t.val t.isLt).1 (ix2 r (col g d)) = DU (aD m c) (aW m c) (aS m c) g d ⟨(12 - t.val) * 640 + r.val, row_lt ..⟩ := by
  have hw := pow_le g
  unfold DU
  by_cases h0 : t.val % 13 = 0
  · rw [outsAt0_A m c t h0]
    dsimp only
    refine (out4_A c t ((hcond0_0 t).mpr h0) (iblk m c 0 t) (iblk m c 1 t) (iblk m c 2 t) (iblk m c 3 t) r g d).trans ?_
    rw [dp_at]
    refine congrArg (fun s => s - _) (Finset.sum_congr rfl fun k hk => ?_)
    rw [ext_A m c t h0, Nat.add_assoc]
  · rw [outsAt0_B m c t h0]
    dsimp only
    refine (out4_B c t (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r g d).trans ?_
    rw [dp_at]
    refine congrArg (fun s => s - _) (Finset.sum_congr rfl fun k hk => ?_)
    rw [ext_B m c t h0 _ _ _ (by have := Finset.mem_range.mp hk; omega), Nat.add_assoc]

def grp (q : Fin 512) : Fin 4 := ⟨q.val / 128, by omega⟩
def loc (q : Fin 512) : Fin 128 := ⟨q.val % 128, by omega⟩
theorem col_grp (q : Fin 512) : col (grp q) (loc q) = q := Fin.ext (by show q.val / 128 * 128 + q.val % 128 = q.val; omega)
theorem grp_col (g : Fin 4) (d : Fin 128) : grp (col g d) = g := Fin.ext (by show (g.val * 128 + d.val) / 128 = g.val; omega)
theorem loc_col (g : Fin 4) (d : Fin 128) : loc (col g d) = d := Fin.ext (by show (g.val * 128 + d.val) % 128 = d.val; omega)

theorem final4 (c : Dev nD) : (dats m 0 c).arrAt 4 cfg0.N
    = (fun y : S8320x512.Idx => DU (aD m c) (aW m c) (aS m c) (grp (y 1)) (loc (y 1)) (y 0) : FVec Ideal S8320x512 .bf16) := by
  refine (dats m 0 c).arrAt_eq_of_covers 4 _ (by decide +kernel) fun t hf y => ?_
  blk_simp
  rw [after0_4]
  obtain ⟨r, q, rfl⟩ : ∃ (r : Fin 640) (q : Fin 512), y = ix2 r q := ⟨y 0, y 1, by funext k; match k with | 0 => rfl | 1 => rfl⟩
  have hi := (idx t).2.2.2.2.1
  have e0 : ((win0_4.blk t).view.emb (ix2 r q) 0 : Fin 8320) = ⟨(12 - t.val) * 640 + r.val, row_lt ..⟩ := Fin.ext (by blk_simp [hi])
  have e1 : ((win0_4.blk t).view.emb (ix2 r q) 1 : Fin 512) = q := Fin.ext (by blk_simp [hi])
  rw [e0, e1]
  conv_lhs => rw [← col_grp q]
  exact out4_at m c t r (grp q) (loc q)

theorem out5_step (c : Dev nD) (g : Fin 4) (k d : Fin 128) (n : ℕ) (hn : n < cfg0.N) :
    (outsAt0 m c n hn).2.1 (ix3 g k d) = ∑ i ∈ Finset.range (n + 1), ∑ r : Fin 640,
      aP m c (ix2 ⟨(12 - i) * 640 + r.val, row_lt ..⟩ (col g k)) * (aD m c (ix2 ⟨(12 - i) * 640 + r.val, row_lt ..⟩ (col g d)) * aS m c (ix2 0 (col g d))) := by
  have hN : cfg0.N = 13 := N_0
  induction n with
  | zero =>
    let t : Fin cfg0.N := ⟨0, hn⟩
    have h0 : t.val % 13 = 0 := rfl
    rw [show outsAt0 m c 0 hn = _ from outsAt0_A m c t h0]
    dsimp only
    refine (out5_A c t ((hcond0_0 t).mpr h0) (iblk m c 0 t) (iblk m c 1 t) (iblk m c 2 t) (iblk m c 3 t) g k d).trans ?_
    rw [Finset.sum_range_one]
    exact Finset.sum_congr rfl fun r _ => by rw [iblk0_at, iblk1_at, iblk3_at]
  | succ n ih =>
    let t : Fin cfg0.N := ⟨n + 1, hn⟩
    have h0 : ¬t.val % 13 = 0 := by show ¬(n + 1) % 13 = 0; omega
    rw [show outsAt0 m c (n + 1) hn = _ from outsAt0_B m c t h0]
    dsimp only
    refine (out5_B c t (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 g k d).trans ?_
    rw [Finset.sum_range_succ]
    refine congrArg₂ (· + ·) (ih (by omega)) ?_
    exact Finset.sum_congr rfl fun r _ => by rw [iblk0_at, iblk1_at, iblk3_at]

theorem out6_step (c : Dev nD) (g : Fin 4) (d : Fin 128) (n : ℕ) (hn : n < cfg0.N) :
    (outsAt0 m c n hn).2.2.1 (ix2 0 (col g d)) = ∑ i ∈ Finset.range (n + 1), ∑ r : Fin 640,
      aD m c (ix2 ⟨(12 - i) * 640 + r.val, row_lt ..⟩ (col g d)) * ∑ k : Fin 128, aP m c (ix2 ⟨(12 - i) * 640 + r.val, row_lt ..⟩ (col g k)) * aW m c (ix3 g k d) := by
  have hN : cfg0.N = 13 := N_0
  induction n with
  | zero =>
    let t : Fin cfg0.N := ⟨0, hn⟩
    have h0 : t.val % 13 = 0 := rfl
    rw [show outsAt0 m c 0 hn = _ from outsAt0_A m c t h0]
    dsimp only
    refine (out6_A c t ((hcond0_0 t).mpr h0) (iblk m c 0 t) (iblk m c 1 t) (iblk m c 2 t) (iblk m c 3 t) g d).trans ?_
    rw [Finset.sum_range_one]
    exact Finset.sum_congr rfl fun r _ => by
      rw [iblk0_at]
      exact congrArg (fun s => _ * s) (Finset.sum_congr rfl fun k _ => by rw [iblk1_at, iblk2_at])
  | succ n ih =>
    let t : Fin cfg0.N := ⟨n + 1, hn⟩
    have h0 : ¬t.val % 13 = 0 := by show ¬(n + 1) % 13 = 0; omega
    rw [show outsAt0 m c (n + 1) hn = _ from outsAt0_B m c t h0]
    dsimp only
    refine (out6_B c t (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 g d).trans ?_
    rw [Finset.sum_range_succ]
    refine congrArg₂ (· + ·) (ih (by omega)) ?_
    exact Finset.sum_congr rfl fun r _ => by
      rw [iblk0_at]
      exact congrArg (fun s => _ * s) (Finset.sum_congr rfl fun k _ => by rw [iblk1_at, iblk2_at])

/-- The rows of the tiles, taken from the last tile to the first, are all the rows. -/
theorem rows_sum (f : Fin 8320 → EReal) :
    ∑ i ∈ Finset.range 13, ∑ r : Fin 640, f ⟨(12 - i) * 640 + r.val, row_lt ..⟩ = ∑ s : Fin 8320, f s := by
  have h := Fin.sum_univ_tiles 13 640 rfl f
  rw [h, ← Finset.sum_range_reflect, Finset.sum_range]
  refine Finset.sum_congr rfl fun i _ => Finset.sum_congr rfl fun r _ => congrArg f (Fin.ext ?_)
  show (12 - (13 - 1 - i.val)) * 640 + r.val = i.val * 640 + r.val
  have := i.isLt
  rw [show 12 - (13 - 1 - i.val) = i.val by omega]

theorem final5 (c : Dev nD) (g : Fin 4) (k d : Fin 128) : ((dats m 0 c).arrAt 5 cfg0.N : FVec Ideal S4x128x128 .f32) (ix3 g k d)
    = ∑ s : Fin 8320, aP m c (ix2 s (col g k)) * (aD m c (ix2 s (col g d)) * aS m c (ix2 0 (col g d))) := by
  have h := (dats m 0 c).arrAt_emb_eq_after_last 5 t0_12 (by decide +kernel) (ix3 g k d)
  refine Eq.trans ?_ (h.trans ?_)
  · rfl
  · refine Eq.trans ?_ ((out5_step m c g k d 12 t0_12.isLt).trans
      (rows_sum fun s => aP m c (ix2 s (col g k)) * (aD m c (ix2 s (col g d)) * aS m c (ix2 0 (col g d)))))
    rw [after0_5]
    rfl

theorem final6 (c : Dev nD) (g : Fin 4) (d : Fin 128) : ((dats m 0 c).arrAt 6 cfg0.N : FVec Ideal S1x512 .f32) (ix2 0 (col g d))
    = ∑ s : Fin 8320, aD m c (ix2 s (col g d)) * ∑ k : Fin 128, aP m c (ix2 s (col g k)) * aW m c (ix3 g k d) := by
  have h := (dats m 0 c).arrAt_emb_eq_after_last 6 t0_12 (by decide +kernel) (ix2 0 (col g d))
  refine Eq.trans ?_ (h.trans ?_)
  · rfl
  · refine Eq.trans ?_ ((out6_step m c g d 12 t0_12.isLt).trans
      (rows_sum fun s => aD m c (ix2 s (col g d)) * ∑ k : Fin 128, aP m c (ix2 s (col g k)) * aW m c (ix3 g k d)))
    rw [after0_6]
    rfl

end Cert.PoolKernelIdeal.Ker
-- ==== Proof.PoolRef.lean ====
/- The pooling gradient's reference: its three results read at an index. -/
module

public import proofs.«01_k».proof.Proof.PoolKer
public import proofs.«01_k».proof.Proof.PoolSpec
public import proofs.«01_k».proof.Proof.Gen.PoolReferenceIdeal.Read
public import Idealize.ShloMosaic.Lib.KernelVsHost

@[expose] public section

set_option maxRecDepth 16384

noncomputable section

open Idealize.ShloMosaic Idealize.ShloMosaic.TcCoe Idealize.SL.Sem

namespace Cert.PoolReferenceIdeal.At

open Cert.PoolReferenceIdeal Cert.PoolReferenceIdeal.Gen Cert.PoolReferenceIdeal.Read
open Cert.PoolKernelIdeal.Pay (col)
open Cert.PoolKernelIdeal.Ker (DP QN DU)

variable (x0 x1 : FVec Ideal S8320x512 .f32) (x2 : FVec Ideal S4x128x128 .f32) (x3 : FVec Ideal S1x512 .f32)

theorem v82_at (g : Fin 4) (d : Fin 128) (s : Fin 8320) :
    val_main_v82 (F := Ideal) x0 x3 (ix3 g d s) = x0 (ix2 s (col g d)) * x3 (ix2 0 (col g d)) := by
  rw [val_main_v82_apply, val_main_v81_apply]
  have e : idx_main_v81 (idx_main_v82 (ix3 g d s)) = ix2 s (col g d) := funext fun a => match a with
    | 0 => Fin.ext (by show ((s.val * 4 + g.val) * 128 + d.val) / 512 = s.val; omega)
    | 1 => Fin.ext (by show ((s.val * 4 + g.val) * 128 + d.val) % 512 = g.val * 128 + d.val; omega)
  rw [e, val_main_v80_apply, val_main_v79_apply]
  have e' : idx_main_v79 (ix2 s (col g d)) = ix2 0 (col g d) := funext fun a => match a with
    | 0 => rfl
    | 1 => rfl
  rw [e']
  rfl

theorem v84_at (g : Fin 4) (c : Fin 128) (s : Fin 8320) : val_main_v84 (F := Ideal) x0 x2 x3 (ix3 s g c) = DP x0 x2 x3 g c s := by
  rw [val_main_v84_apply, val_main_v83_apply]
  refine Finset.sum_congr rfl fun d _ => ?_
  have e : lidx_main_v83 (idx_main_v84 (ix3 s g c)) d = ix3 g d s := funext fun a => match a with | 0 => rfl | 1 => rfl | 2 => rfl
  have e' : ridx_main_v83 (idx_main_v84 (ix3 s g c)) d = ix3 g c d := funext fun a => match a with | 0 => rfl | 1 => rfl | 2 => rfl
  rw [e, e', v82_at]

theorem v86_at (g : Fin 4) (k d : Fin 128) : val_main_v86 (F := Ideal) x0 x1 x3 (ix3 g k d)
    = ∑ s : Fin 8320, val_main_v70 (F := Ideal) x1 (ix3 s g k) * (x0 (ix2 s (col g d)) * x3 (ix2 0 (col g d))) := by
  rw [val_main_v86_apply, val_main_v85_apply]
  refine Finset.sum_congr rfl fun s _ => ?_
  have e : lidx_main_v85 (idx_main_v86 (ix3 g k d)) s = ix3 g d s := funext fun a => match a with | 0 => rfl | 1 => rfl | 2 => rfl
  have e' : ridx_main_v85 (idx_main_v86 (ix3 g k d)) s = ix3 s g k := funext fun a => match a with | 0 => rfl | 1 => rfl | 2 => rfl
  rw [e, e', v82_at]
  exact mul_comm _ _

theorem v78_at (g : Fin 4) (d : Fin 128) : val_main_v78 (F := Ideal) x0 x1 x2 (ix2 0 (col g d))
    = ∑ s : Fin 8320, x0 (ix2 s (col g d)) * ∑ k : Fin 128, val_main_v70 (F := Ideal) x1 (ix3 s g k) * x2 (ix3 g k d) := by
  rw [val_main_v78_apply, val_main_v77_apply, val_main_cst_14_apply]
  refine (congrArg₂ (· + ·) Ideal.ofBits_zero_f32 rfl).trans ((zero_add _).trans (Finset.sum_congr rfl fun s _ => ?_))
  have e : idx_main_v77 (idx_main_v78 (ix2 0 (col g d))) s = ix2 s (col g d) := funext fun a => match a with
    | 0 => rfl
    | 1 => Fin.ext (by show 0 * 512 + (g.val * 128 + d.val) = g.val * 128 + d.val; omega)
  rw [e, val_main_v76_apply, val_main_v73_apply]
  have e1 : idx_main_v73 (ix2 s (col g d)) = ix3 s g d := funext fun a => match a with
    | 0 => Fin.ext (by show (s.val * 512 + (g.val * 128 + d.val)) / 512 = s.val; omega)
    | 1 => Fin.ext (by show (s.val * 512 + (g.val * 128 + d.val)) / 128 % 4 = g.val; omega)
    | 2 => Fin.ext (by show (s.val * 512 + (g.val * 128 + d.val)) % 128 = d.val; omega)
  rw [e1, val_main_v72_apply, val_main_v71_apply]
  refine (mul_comm _ _).trans (congrArg (fun z => x0 (ix2 s (col g d)) * z) (Finset.sum_congr rfl fun k _ => ?_))
  have e2 : lidx_main_v71 (idx_main_v72 (ix3 s g d)) k = ix3 g k d := funext fun a => match a with | 0 => rfl | 1 => rfl | 2 => rfl
  have e3 : ridx_main_v71 (idx_main_v72 (ix3 s g d)) k = ix3 s g k := funext fun a => match a with | 0 => rfl | 1 => rfl | 2 => rfl
  rw [e2, e3]
  exact mul_comm _ _

/-- A row's window count, as the reference's words hold it. -/
theorem cnt_word (n w : ℕ) (hn : n < 8320) (hw : w < 2 ^ 31) :
    (((IntOp.minsi (IntOp.addi (BitVec.ofNat 32 n) 1#32) (BitVec.ofNat 32 w)).toInt : ℝ) : EReal) = (((min (n + 1) w : ℕ) : ℝ) : EReal) := by
  have h : (IntOp.minsi (IntOp.addi (BitVec.ofNat 32 n) 1#32) (BitVec.ofNat 32 w)).toInt = ((min (n + 1) w : ℕ) : ℤ) := by
    rw [show IntOp.addi (BitVec.ofNat 32 n) 1#32 = BitVec.ofNat 32 (n + 1) from (BitVec.ofNat_add n 1).symm]
    have h1 : (BitVec.ofNat 32 (n + 1)).toInt = n + 1 := by
      rw [BitVec.toInt_eq_toNat_of_lt (by rw [BitVec.toNat_ofNat]; omega), BitVec.toNat_ofNat, Nat.mod_eq_of_lt (by omega)]; push_cast; rfl
    have h2 : (BitVec.ofNat 32 w).toInt = w := by
      rw [BitVec.toInt_eq_toNat_of_lt (by rw [BitVec.toNat_ofNat]; omega), BitVec.toNat_ofNat, Nat.mod_eq_of_lt (by omega)]
    unfold IntOp.minsi
    rw [BitVec.slt]
    simp only [h1, h2]
    split <;> rename_i hh <;> simp at hh <;> simp only [h1, h2] <;> omega
  rw [h]
  norm_cast

theorem v97_at (s : Fin 8320) (d : Fin 128) : val_main_v97 (F := Ideal) (ix2 s d) = (((min (s.val + 1) 16 : ℕ) : ℝ) : EReal) := by
  rw [val_main_v97_apply, val_main_v61_apply]
  exact cnt_word s.val 16 s.isLt (by decide)
theorem v108_at (s : Fin 8320) (d : Fin 128) : val_main_v108 (F := Ideal) (ix2 s d) = (((min (s.val + 1) 8 : ℕ) : ℝ) : EReal) := by
  rw [val_main_v108_apply, val_main_v45_apply]
  exact cnt_word s.val 8 s.isLt (by decide)
theorem v120_at (s : Fin 8320) (d : Fin 128) : val_main_v120 (F := Ideal) (ix2 s d) = (((min (s.val + 1) 4 : ℕ) : ℝ) : EReal) := by
  rw [val_main_v120_apply, val_main_v29_apply]
  exact cnt_word s.val 4 s.isLt (by decide)
theorem v132_at (s : Fin 8320) (d : Fin 128) : val_main_v132 (F := Ideal) (ix2 s d) = (((min (s.val + 1) 2 : ℕ) : ℝ) : EReal) := by
  rw [val_main_v132_apply, val_main_v13_apply]
  exact cnt_word s.val 2 s.isLt (by decide)

/-- A group's columns set among noughts: its own columns, and nought in the others. -/
theorem pad_cols (g0 : Fin 4) (a b : ℕ) (ha : a = g0.val * 128) (x : FVec Ideal S8320x128 .f32) (v : FVec Ideal S_ .f32) (hv : ∀ i, v i = (0 : EReal))
    (h : S8320x128.Pads ![0, a] ![0, b] ![0, 0] S8320x512) (hu : 0 < S_.numel) (g : Fin 4) (s : Fin 8320) (d : Fin 128) :
    (pad S8320x512 ![0, a] ![0, b] ![0, 0] x v h hu (ix2 s (col g d)) : EReal) = if g = g0 then x (ix2 s d) else 0 := by
  by_cases hg : g = g0
  · rw [if_pos hg]
    refine pad_apply_of_inside _ _ _ x v h hu _ (ix2 s d) fun i => ?_
    match i with
    | 0 => show s.val = 0 + s.val * (0 + 1); omega
    | 1 => show g.val * 128 + d.val = a + d.val * (0 + 1); rw [ha, hg]; omega
  · rw [if_neg hg]
    refine (pad_apply_of_not_inside _ _ _ x v h hu _ 1 ?_).trans (hv _)
    show ¬(a ≤ g.val * 128 + d.val ∧ (g.val * 128 + d.val - a) % (0 + 1) = 0 ∧ (g.val * 128 + d.val - a) / (0 + 1) < 128)
    have : g.val ≠ g0.val := fun e => hg (Fin.ext e)
    omega

/-- Rows with noughts after them. -/
theorem pad_rows (M w : ℕ) (x : FVec Ideal ⟨2, ![M, 128]⟩ .f32) (v : FVec Ideal S_ .f32) (hv : ∀ i, v i = (0 : EReal))
    (h : Shape.Pads ⟨2, ![M, 128]⟩ ![0, 0] ![w, 0] ![0, 0] S8320x128) (hu : 0 < S_.numel) (s : Fin 8320) (d : Fin 128) :
    (pad S8320x128 ![0, 0] ![w, 0] ![0, 0] x v h hu (ix2 s d) : EReal) = if hs : s.val < M then x (ix2 ⟨s.val, hs⟩ d) else 0 := by
  by_cases hs : s.val < M
  · rw [dif_pos hs]
    refine pad_apply_of_inside _ _ _ x v h hu _ (ix2 ⟨s.val, hs⟩ d) fun i => ?_
    match i with
    | 0 => show s.val = 0 + s.val * (0 + 1); omega
    | 1 => show d.val = 0 + d.val * (0 + 1); omega
  · rw [dif_neg hs]
    refine (pad_apply_of_not_inside _ _ _ x v h hu _ 0 ?_).trans (hv _)
    show ¬(0 ≤ s.val ∧ (s.val - 0) % (0 + 1) = 0 ∧ (s.val - 0) / (0 + 1) < M)
    omega

theorem nought (i : S_.Idx) : (constant (F := Ideal) S_ .f32 0x00000000#32 : FVec Ideal S_ .f32) i = (0 : EReal) := Ideal.ofBits_zero_f32

theorem v88_at (s : Fin 8320) (d : Fin 128) : val_main_v88 (F := Ideal) x0 x2 x3 (ix2 s d) = DP x0 x2 x3 0 d s := by
  rw [val_main_v88_apply, val_main_v87_apply]
  have e : idx_main_v87 (idx_main_v88 (ix2 s d)) = ix3 s 0 d := funext fun a => match a with
    | 0 => Fin.ext (by show (s.val * 128 + d.val) / 128 = s.val; omega)
    | 1 => rfl
    | 2 => Fin.ext (by show (s.val * 128 + d.val) % 128 = d.val; omega)
  rw [e, v84_at]

theorem v133_at (s : Fin 8320) (d : Fin 128) : val_main_v133 (F := Ideal) x0 x2 x3 (ix2 s d) = QN x0 x2 x3 0 d s.val := by
  rw [val_main_v133_apply, v88_at, v132_at]
  unfold QN
  rw [dif_pos s.isLt]
  rfl

theorem v138_at (s : Fin 8320) (d : Fin 128) :
    (val_main_v138 (F := Ideal) x0 x2 x3 (ix2 s d) : EReal) = QN x0 x2 x3 0 d s.val + -QN x0 x2 x3 0 d (s.val + 2) := by
  rw [val_main_v138_apply, v133_at]
  refine congrArg (fun z : EReal => QN x0 x2 x3 0 d s.val + z) ?_
  unfold val_main_v137
  refine (pad_rows 8318 2 _ _ nought _ _ s d).trans ?_
  by_cases hs : s.val < 8318
  · rw [dif_pos hs, val_main_v136_apply, val_main_v134_apply]
    have e : idx_main_v136 (ix2 ⟨s.val, hs⟩ d) = ix2 (⟨s.val + 2, by omega⟩ : Fin 8320) d := funext fun a => match a with
      | 0 => Fin.ext (by show 2 + s.val = s.val + 2; omega)
      | 1 => rfl
    rw [e, v133_at]
    rfl
  · rw [dif_neg hs]
    unfold QN
    rw [dif_neg (show ¬s.val + 2 < 8320 by omega), neg_zero]

theorem v90_at (s : Fin 8320) (d : Fin 128) : val_main_v90 (F := Ideal) x0 x2 x3 (ix2 s d) = DP x0 x2 x3 1 d s := by
  rw [val_main_v90_apply, val_main_v89_apply]
  have e : idx_main_v89 (idx_main_v90 (ix2 s d)) = ix3 s 1 d := funext fun a => match a with
    | 0 => Fin.ext (by show (s.val * 128 + d.val) / 128 = s.val; omega)
    | 1 => rfl
    | 2 => Fin.ext (by show (s.val * 128 + d.val) % 128 = d.val; omega)
  rw [e, v84_at]

theorem v121_at (s : Fin 8320) (d : Fin 128) : val_main_v121 (F := Ideal) x0 x2 x3 (ix2 s d) = QN x0 x2 x3 1 d s.val := by
  rw [val_main_v121_apply, v90_at, v120_at]
  unfold QN
  rw [dif_pos s.isLt]
  rfl

theorem v126_at (s : Fin 8320) (d : Fin 128) :
    (val_main_v126 (F := Ideal) x0 x2 x3 (ix2 s d) : EReal) = QN x0 x2 x3 1 d s.val + -QN x0 x2 x3 1 d (s.val + 4) := by
  rw [val_main_v126_apply, v121_at]
  refine congrArg (fun z : EReal => QN x0 x2 x3 1 d s.val + z) ?_
  unfold val_main_v125
  refine (pad_rows 8316 4 _ _ nought _ _ s d).trans ?_
  by_cases hs : s.val < 8316
  · rw [dif_pos hs, val_main_v124_apply, val_main_v122_apply]
    have e : idx_main_v124 (ix2 ⟨s.val, hs⟩ d) = ix2 (⟨s.val + 4, by omega⟩ : Fin 8320) d := funext fun a => match a with
      | 0 => Fin.ext (by show 4 + s.val = s.val + 4; omega)
      | 1 => rfl
    rw [e, v121_at]
    rfl
  · rw [dif_neg hs]
    unfold QN
    rw [dif_neg (show ¬s.val + 4 < 8320 by omega), neg_zero]

theorem v92_at (s : Fin 8320) (d : Fin 128) : val_main_v92 (F := Ideal) x0 x2 x3 (ix2 s d) = DP x0 x2 x3 2 d s := by
  rw [val_main_v92_apply, val_main_v91_apply]
  have e : idx_main_v91 (idx_main_v92 (ix2 s d)) = ix3 s 2 d := funext fun a => match a with
    | 0 => Fin.ext (by show (s.val * 128 + d.val) / 128 = s.val; omega)
    | 1 => rfl
    | 2 => Fin.ext (by show (s.val * 128 + d.val) % 128 = d.val; omega)
  rw [e, v84_at]

theorem v109_at (s : Fin 8320) (d : Fin 128) : val_main_v109 (F := Ideal) x0 x2 x3 (ix2 s d) = QN x0 x2 x3 2 d s.val := by
  rw [val_main_v109_apply, v92_at, v108_at]
  unfold QN
  rw [dif_pos s.isLt]
  rfl

theorem v114_at (s : Fin 8320) (d : Fin 128) :
    (val_main_v114 (F := Ideal) x0 x2 x3 (ix2 s d) : EReal) = QN x0 x2 x3 2 d s.val + -QN x0 x2 x3 2 d (s.val + 8) := by
  rw [val_main_v114_apply, v109_at]
  refine congrArg (fun z : EReal => QN x0 x2 x3 2 d s.val + z) ?_
  unfold val_main_v113
  refine (pad_rows 8312 8 _ _ nought _ _ s d).trans ?_
  by_cases hs : s.val < 8312
  · rw [dif_pos hs, val_main_v112_apply, val_main_v110_apply]
    have e : idx_main_v112 (ix2 ⟨s.val, hs⟩ d) = ix2 (⟨s.val + 8, by omega⟩ : Fin 8320) d := funext fun a => match a with
      | 0 => Fin.ext (by show 8 + s.val = s.val + 8; omega)
      | 1 => rfl
    rw [e, v109_at]
    rfl
  · rw [dif_neg hs]
    unfold QN
    rw [dif_neg (show ¬s.val + 8 < 8320 by omega), neg_zero]

theorem v94_at (s : Fin 8320) (d : Fin 128) : val_main_v94 (F := Ideal) x0 x2 x3 (ix2 s d) = DP x0 x2 x3 3 d s := by
  rw [val_main_v94_apply, val_main_v93_apply]
  have e : idx_main_v93 (idx_main_v94 (ix2 s d)) = ix3 s 3 d := funext fun a => match a with
    | 0 => Fin.ext (by show (s.val * 128 + d.val) / 128 = s.val; omega)
    | 1 => rfl
    | 2 => Fin.ext (by show (s.val * 128 + d.val) % 128 = d.val; omega)
  rw [e, v84_at]

theorem v98_at (s : Fin 8320) (d : Fin 128) : val_main_v98 (F := Ideal) x0 x2 x3 (ix2 s d) = QN x0 x2 x3 3 d s.val := by
  rw [val_main_v98_apply, v94_at, v97_at]
  unfold QN
  rw [dif_pos s.isLt]
  rfl

theorem v103_at (s : Fin 8320) (d : Fin 128) :
    (val_main_v103 (F := Ideal) x0 x2 x3 (ix2 s d) : EReal) = QN x0 x2 x3 3 d s.val + -QN x0 x2 x3 3 d (s.val + 16) := by
  rw [val_main_v103_apply, v98_at]
  refine congrArg (fun z : EReal => QN x0 x2 x3 3 d s.val + z) ?_
  unfold val_main_v102
  refine (pad_rows 8304 16 _ _ nought _ _ s d).trans ?_
  by_cases hs : s.val < 8304
  · rw [dif_pos hs, val_main_v101_apply, val_main_v99_apply]
    have e : idx_main_v101 (ix2 ⟨s.val, hs⟩ d) = ix2 (⟨s.val + 16, by omega⟩ : Fin 8320) d := funext fun a => match a with
      | 0 => Fin.ext (by show 16 + s.val = s.val + 16; omega)
      | 1 => rfl
    rw [e, v98_at]
    rfl
  · rw [dif_neg hs]
    unfold QN
    rw [dif_neg (show ¬s.val + 16 < 8320 by omega), neg_zero]

/-- The rows the running sum runs over: a row's share of its window, and the share of the row the window leaves behind. -/
theorem v140_at (g : Fin 4) (s : Fin 8320) (d : Fin 128) : (val_main_v140 (F := Ideal) x0 x2 x3 (ix2 s (col g d)) : EReal)
    = QN x0 x2 x3 g d s.val + -QN x0 x2 x3 g d (s.val + 2 ^ (g.val + 1)) := by
  rw [val_main_v140_apply, val_main_v128_apply, val_main_v116_apply]
  unfold val_main_v104 val_main_v115 val_main_v127 val_main_v139
  have h3 := pad_cols 3 384 0 rfl (val_main_v103 (F := Ideal) x0 x2 x3) (val_main_cst_17 (F := Ideal)) nought pads_S8320x128_S8320x512_000_38400 h_S_ g s d
  have h2 := pad_cols 2 256 128 rfl (val_main_v114 (F := Ideal) x0 x2 x3) (val_main_cst_20 (F := Ideal)) nought pads_S8320x128_S8320x512_000_2561280 h_S_ g s d
  have h1 := pad_cols 1 128 256 rfl (val_main_v126 (F := Ideal) x0 x2 x3) (val_main_cst_23 (F := Ideal)) nought pads_S8320x128_S8320x512_000_1282560 h_S_ g s d
  have h0 := pad_cols 0 0 384 rfl (val_main_v138 (F := Ideal) x0 x2 x3) (val_main_cst_26 (F := Ideal)) nought pads_S8320x128_S8320x512_000_03840 h_S_ g s d
  refine (congrArg₂ (· + ·) (congrArg₂ (· + ·) (congrArg₂ (· + ·) h3 h2) h1) h0).trans ?_
  fin_cases g
  · exact (by simp : _ = _).trans (v138_at x0 x2 x3 s d)
  · exact (by simp : _ = _).trans (v126_at x0 x2 x3 s d)
  · exact (by simp : _ = _).trans (v114_at x0 x2 x3 s d)
  · exact (by simp : _ = _).trans (v103_at x0 x2 x3 s d)

theorem v131_at (g : Fin 4) (s : Fin 8320) (d : Fin 128) : (val_main_v131 (F := Ideal) x0 x2 x3 (ix2 s (col g d)) : EReal)
    = -DP x0 x2 x3 g d s := by
  rw [val_main_v131_apply, val_main_v119_apply, val_main_v107_apply]
  unfold val_main_v96 val_main_v106 val_main_v118 val_main_v130
  have h3 := pad_cols 3 384 0 rfl (val_main_v95 (F := Ideal) x0 x2 x3) (val_main_cst_15 (F := Ideal)) nought pads_S8320x128_S8320x512_000_38400 h_S_ g s d
  have h2 := pad_cols 2 256 128 rfl (val_main_v105 (F := Ideal) x0 x2 x3) (val_main_cst_18 (F := Ideal)) nought pads_S8320x128_S8320x512_000_2561280 h_S_ g s d
  have h1 := pad_cols 1 128 256 rfl (val_main_v117 (F := Ideal) x0 x2 x3) (val_main_cst_21 (F := Ideal)) nought pads_S8320x128_S8320x512_000_1282560 h_S_ g s d
  have h0 := pad_cols 0 0 384 rfl (val_main_v129 (F := Ideal) x0 x2 x3) (val_main_cst_24 (F := Ideal)) nought pads_S8320x128_S8320x512_000_03840 h_S_ g s d
  refine (congrArg₂ (· + ·) (congrArg₂ (· + ·) (congrArg₂ (· + ·) h3 h2) h1) h0).trans ?_
  rw [val_main_v95_apply, val_main_v105_apply, val_main_v117_apply, val_main_v129_apply, v94_at, v92_at, v90_at, v88_at]
  fin_cases g
  · exact (by simp : _ = _).trans (rfl : -DP x0 x2 x3 0 d s = _)
  · exact (by simp : _ = _).trans (rfl : -DP x0 x2 x3 1 d s = _)
  · exact (by simp : _ = _).trans (rfl : -DP x0 x2 x3 2 d s = _)
  · exact (by simp : _ = _).trans (rfl : -DP x0 x2 x3 3 d s = _)

theorem mul_real {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul _ _).symm⟩

variable (h0 : ∀ i, ∃ r : ℝ, x0 i = (r : EReal)) (h2 : ∀ i, ∃ r : ℝ, x2 i = (r : EReal)) (h3 : ∀ i, ∃ r : ℝ, x3 i = (r : EReal))

include h0 h2 h3 in
theorem DP_real (g : Fin 4) (c : Fin 128) (s : Fin 8320) : ∃ r : ℝ, DP x0 x2 x3 g c s = r := by
  choose f hf using fun d : Fin 128 => mul_real (mul_real (h0 (ix2 s (col g d))) (h3 (ix2 0 (col g d)))) (h2 (ix3 g c d))
  refine ⟨∑ d, f d, ?_⟩
  rw [PoolSpec.coe_sum]
  exact Finset.sum_congr rfl fun d _ => hf d

include h0 h2 h3 in
theorem QN_real (g : Fin 4) (c : Fin 128) (n : ℕ) : ∃ r : ℝ, QN x0 x2 x3 g c n = r := by
  unfold QN
  split
  · rename_i h
    obtain ⟨r, hr⟩ := DP_real x0 x2 x3 h0 h2 h3 g c ⟨n, h⟩
    rw [hr, Ideal.div_coe (by
      have : 0 < 2 ^ (g.val + 1) := Nat.two_pow_pos _
      exact_mod_cast (by omega : min (n + 1) (2 ^ (g.val + 1)) ≠ 0))]
    exact ⟨_, (EReal.coe_mul _ _).symm⟩
  · exact ⟨0, rfl⟩

include h0 h2 h3 in
/-- On finite arrays the reference's running sum is the kernel's window sum. -/
theorem v143_at (g : Fin 4) (s : Fin 8320) (d : Fin 128) : (val_main_v143 (F := Ideal) x0 x2 x3 (ix2 s (col g d)) : EReal) = DU x0 x2 x3 g d s := by
  rw [val_main_v143_apply, val_main_v142_apply]
  have hs : (val_main_v141 (F := Ideal) x0 x2 x3 (ix2 s (col g d)) : EReal)
      = ∑ k ∈ Finset.range (2 ^ (g.val + 1)), QN x0 x2 x3 g d (s.val + k) := by
    unfold val_main_v141
    refine (PoolSpec.revsum _ _ _ _ Ideal.ofBits_zero_f32 s (col g d)).trans ?_
    refine Eq.trans ?_ (PoolSpec.telescope 8320 s.val (2 ^ (g.val + 1)) (QN x0 x2 x3 g d)
      (fun n hn => dif_neg (by omega)) (QN_real x0 x2 x3 h0 h2 h3 g d))
    rw [Finset.sum_range]
    refine Finset.sum_congr rfl fun n _ => ?_
    by_cases h : s.val + n.val < 8320
    · rw [dif_pos h, v140_at]
    · rw [dif_neg h]
      unfold QN
      rw [dif_neg h, dif_neg (fun h' => h (lt_of_le_of_lt (Nat.le_add_right _ _) h')), neg_zero, add_zero]
  refine (congrArg₂ (· + ·) (v131_at x0 x2 x3 g s d) hs).trans ?_
  unfold DU
  rw [add_comm, sub_eq_add_neg]

end Cert.PoolReferenceIdeal.At
-- ==== Proof.PoolFinal.lean ====
/- The pooling gradient: on finite arrays the kernel's results are the reference's. -/
module

public import proofs.«01_k».proof.Proof.PoolHost
public import proofs.«01_k».proof.Proof.PoolRef
public import proofs.«01_k».proof.Proof.Gen.Pre_pool_finite

@[expose] public section

set_option maxRecDepth 16384

noncomputable section

open Idealize.ShloMosaic Idealize.ShloMosaic.TcCoe Idealize.SL.Sem

namespace Cert.PoolKernelIdeal.Ker

open Cert.PoolKernelIdeal Cert.PoolKernelIdeal.Gen Cert.PoolKernelIdeal.Pay
open Cert.PoolReferenceIdeal.Read Cert.PoolReferenceIdeal.At

/-- A number whose absolute value is below the infinite one is real. -/
theorem real_of_cmp (x : EReal) (h : FloatOps.cmpf (F := Ideal) (φ := .f32) .olt (FloatOps.hostAbsf (F := Ideal) (φ := .f32) x) (FloatOps.ofBits (F := Ideal) .f32 0x7F800000#32) = 1#1) : ∃ r : ℝ, x = r := by
  have e : Ideal.ofBits .f32 0x7F800000#32 = ⊤ := by simp [Ideal.ofBits, Ideal.ieee]
  change Ideal.cmp .olt (max x (-x)) (Ideal.ofBits .f32 0x7F800000#32) = 1#1 at h
  rw [e] at h
  induction x with
  | bot => simp [Ideal.cmp] at h
  | top => simp [Ideal.cmp] at h
  | coe r => exact ⟨r, rfl⟩

variable (m : (ℓ : Loc nD τ sig) → Buf (Elt Ideal) ℓ)

theorem P_at (c : Dev nD) (s : Fin 8320) (g : Fin 4) (k : Fin 128) : aP m c (ix2 s (col g k)) = val_main_v70 (F := Ideal) (m ((c : Thread nD τ).loc main_arg1)) (ix3 s g k) := by
  unfold aP
  rw [aP_eq]
  generalize (val_main_v70 (F := Ideal) (m ((c : Thread nD τ).loc main_arg1))) = y
  pointwise
  exact congrArg₂ (fun a b => y (ix3 s a b)) (grp_col g k) (loc_col g k)

theorem eq5 (c : Dev nD) : (dats m 0 c).arrAt 5 cfg0.N = val_main_v86 (F := Ideal) (m ((c : Thread nD τ).loc main_arg0)) (m ((c : Thread nD τ).loc main_arg1)) (m ((c : Thread nD τ).loc main_arg3)) := by
  funext y
  obtain ⟨g, k, d, rfl⟩ : ∃ (g : Fin 4) (k d : Fin 128), y = ix3 g k d := ⟨y 0, y 1, y 2, by funext k; match k with | 0 => rfl | 1 => rfl | 2 => rfl⟩
  have e : (∑ s : Fin 8320, aP m c (ix2 s (col g k)) * (aD m c (ix2 s (col g d)) * aS m c (ix2 0 (col g d))) : EReal)
      = (∑ s : Fin 8320, val_main_v70 (F := Ideal) (m ((c : Thread nD τ).loc main_arg1)) (ix3 s g k) * (aD m c (ix2 s (col g d)) * aS m c (ix2 0 (col g d))) : EReal) :=
    Finset.sum_congr rfl fun s _ => by rw [P_at]
  exact (final5 m c g k d).trans (e.trans (v86_at _ _ _ g k d).symm)

theorem eq6 (c : Dev nD) : (dats m 0 c).arrAt 6 cfg0.N = val_main_v78 (F := Ideal) (m ((c : Thread nD τ).loc main_arg0)) (m ((c : Thread nD τ).loc main_arg1)) (m ((c : Thread nD τ).loc main_arg2)) := by
  funext y
  obtain ⟨q, rfl⟩ : ∃ (q : Fin 512), y = ix2 (0 : Fin 1) q := ⟨y 1, by
    funext k
    match k with
    | 0 => exact Fin.ext (by have := (y 0).isLt; change _ < 1 at this; show (y 0).val = 0; omega)
    | 1 => rfl⟩
  rw [← col_grp q]
  have e : (∑ s : Fin 8320, aD m c (ix2 s (col (grp q) (loc q))) * ∑ k : Fin 128, aP m c (ix2 s (col (grp q) k)) * aW m c (ix3 (grp q) k (loc q)) : EReal)
      = (∑ s : Fin 8320, aD m c (ix2 s (col (grp q) (loc q))) * ∑ k : Fin 128, val_main_v70 (F := Ideal) (m ((c : Thread nD τ).loc main_arg1)) (ix3 s (grp q) k) * aW m c (ix3 (grp q) k (loc q)) : EReal) :=
    Finset.sum_congr rfl fun s _ => congrArg (fun z : EReal => aD m c (ix2 s (col (grp q) (loc q))) * z) (Finset.sum_congr rfl fun k _ => by rw [P_at])
  exact (final6 m c (grp q) (loc q)).trans (e.trans (v78_at _ _ _ (grp q) (loc q)).symm)

theorem eq4 (c : Dev nD) (h0 : ∀ i, ∃ r : ℝ, aD m c i = (r : EReal)) (h2 : ∀ i, ∃ r : ℝ, aW m c i = (r : EReal)) (h3 : ∀ i, ∃ r : ℝ, aS m c i = (r : EReal)) :
    (dats m 0 c).arrAt 4 cfg0.N = val_main_v143 (F := Ideal) (m ((c : Thread nD τ).loc main_arg0)) (m ((c : Thread nD τ).loc main_arg2)) (m ((c : Thread nD τ).loc main_arg3)) := by
  rw [final4]
  funext y
  obtain ⟨s, q, rfl⟩ : ∃ (s : Fin 8320) (q : Fin 512), y = ix2 s q := ⟨y 0, y 1, by funext k; match k with | 0 => rfl | 1 => rfl⟩
  refine Eq.trans ?_ ((congrArg (fun q => val_main_v143 (F := Ideal) (aD m c) (aW m c) (aS m c) (ix2 s q)) (col_grp q)))
  exact (v143_at _ _ _ h0 h2 h3 (grp q) s (loc q)).symm

theorem pre_real (a0 a1 : FVec Ideal S8320x512 .f32) (a2 : FVec Ideal S4x128x128 .f32) (a3 : FVec Ideal S1x512 .f32)
    (h : (Cert.Pre_pool_finite.fn (F := Ideal) a0 a1 a2 a3).1 = (fun _ => 1#1) ∧ (Cert.Pre_pool_finite.fn (F := Ideal) a0 a1 a2 a3).2.1 = (fun _ => 1#1)
      ∧ (Cert.Pre_pool_finite.fn (F := Ideal) a0 a1 a2 a3).2.2 = (fun _ => 1#1)) :
    (∀ i, ∃ r : ℝ, a0 i = (r : EReal)) ∧ (∀ i, ∃ r : ℝ, a2 i = (r : EReal)) ∧ (∀ i, ∃ r : ℝ, a3 i = (r : EReal)) :=
  ⟨fun i => real_of_cmp _ (congrFun h.1 i), fun i => real_of_cmp _ (congrFun h.2.1 i), fun i => real_of_cmp _ (congrFun h.2.2 i)⟩

end Cert.PoolKernelIdeal.Ker
-- ==== Proof.FfnEq.lean ====
/- The feed-forward backward kernel's result arrays, equal to the reference's. -/
module

public import proofs.«01_k».proof.Proof.FfnAlg
public import proofs.«01_k».proof.Proof.FfnFinal
public import proofs.«01_k».proof.Proof.PoolFinal
public import proofs.«01_k».proof.Proof.Gen.Pre_ffn_finite

@[expose] public section

set_option maxRecDepth 16384

noncomputable section

open Idealize.ShloMosaic Idealize.ShloMosaic.TcCoe Idealize.SL.Sem

namespace Cert.FfnAlg

open Cert.FfnReferenceIdeal Cert.FfnReferenceIdeal.Read Cert.FfnMath Cert.FfnKernelIdeal.Hand Cert.FfnKernelIdeal.Pay

variable (m : (ℓ : Loc Cert.FfnKernelIdeal.nD Cert.FfnKernelIdeal.τ Cert.FfnKernelIdeal.sig) → Buf (Elt Ideal) ℓ) (c : Dev Cert.FfnKernelIdeal.nD)

/-- An array cut into chunks of columns, read at a chunk's index. -/
theorem chunk (y : FVec Ideal S8320x2816 .f32) (j : Fin 4) (r : Fin 8320) (f : Fin 704) :
    y (idx_main_v82 (idx_main_v83 (ix3 j r f))) = y (ix2 r (cat j f)) := by
  refine congrArg y ?_
  funext k
  match k with
  | 0 => exact Fin.ext (by show ((r.val * 4 + j.val) * 704 + f.val) / 2816 = r.val; omega)
  | 1 => exact Fin.ext (by show ((r.val * 4 + j.val) * 704 + f.val) % 2816 = j.val * 704 + f.val; omega)

theorem eta3 {a b d : ℕ} (i : (⟨3, ![a, b, d]⟩ : Shape).Idx) : i = ix3 (i 0) (i 1) (i 2) := by
  funext k
  match k with
  | 0 => rfl
  | 1 => rfl
  | 2 => rfl

theorem eta1 (i : S1x1024.Idx) : i = ix2 0 (i 1) := by
  funext k
  match k with
  | 0 => exact Fin.ext (by have h : (i 0).val < 1 := (i 0).isLt; show (i 0).val = 0; omega)
  | 1 => rfl

theorem v84_ix (i : S4x8320x704.Idx) : val_main_v84 (F := Ideal) (a0 m c) (a1 m c) (a2 m c) (a3 m c) (a4 m c) (a5 m c) i
    = val_main_v76 (F := Ideal) (a0 m c) (a1 m c) (a2 m c) (a3 m c) (a4 m c) (a5 m c) (ix2 (i 1) (cat (i 0) (i 2))) := by
  rw [val_main_v84_apply, val_main_v83_apply, val_main_v82_apply]
  exact (congrArg (val_main_v76 (F := Ideal) (a0 m c) (a1 m c) (a2 m c) (a3 m c) (a4 m c) (a5 m c)) (congrArg (fun z => idx_main_v82 (idx_main_v83 z)) (eta3 i))).trans (chunk (val_main_v76 (F := Ideal) (a0 m c) (a1 m c) (a2 m c) (a3 m c) (a4 m c) (a5 m c)) (i 0) (i 1) (i 2))

theorem v87_ix (i : S4x8320x704.Idx) : val_main_v87 (F := Ideal) (a0 m c) (a1 m c) (a2 m c) (a3 m c) (a4 m c) (a5 m c) i
    = val_main_v74 (F := Ideal) (a0 m c) (a1 m c) (a2 m c) (a3 m c) (a4 m c) (a5 m c) (ix2 (i 1) (cat (i 0) (i 2))) := by
  rw [val_main_v87_apply, val_main_v86_apply, val_main_v85_apply]
  exact (congrArg (val_main_v74 (F := Ideal) (a0 m c) (a1 m c) (a2 m c) (a3 m c) (a4 m c) (a5 m c)) (congrArg (fun z => idx_main_v82 (idx_main_v83 z)) (eta3 i))).trans (chunk (val_main_v74 (F := Ideal) (a0 m c) (a1 m c) (a2 m c) (a3 m c) (a4 m c) (a5 m c)) (i 0) (i 1) (i 2))

theorem v90_ix (i : S4x8320x704.Idx) : val_main_v90 (F := Ideal) (a1 m c) (a2 m c) (a3 m c) i
    = val_main_v3 (F := Ideal) (a1 m c) (a2 m c) (a3 m c) (ix2 (i 1) (cat (i 0) (i 2))) := by
  rw [val_main_v90_apply, val_main_v89_apply, val_main_v88_apply]
  exact (congrArg (val_main_v3 (F := Ideal) (a1 m c) (a2 m c) (a3 m c)) (congrArg (fun z => idx_main_v82 (idx_main_v83 z)) (eta3 i))).trans (chunk (val_main_v3 (F := Ideal) (a1 m c) (a2 m c) (a3 m c)) (i 0) (i 1) (i 2))

theorem pre_real (x0 x1 : FVec Ideal S8320x1024 .f32) (x2 x3 : FVec Ideal S1024x2816 .f32) (x4 : FVec Ideal S2816x1024 .f32) (x5 x6 : FVec Ideal S1x1024 .f32)
    (h : (Cert.Pre_ffn_finite.fn (F := Ideal) x0 x1 x2 x3 x4 x5 x6).1 = (fun _ => 1#1) ∧ (Cert.Pre_ffn_finite.fn (F := Ideal) x0 x1 x2 x3 x4 x5 x6).2.1 = (fun _ => 1#1)
      ∧ (Cert.Pre_ffn_finite.fn (F := Ideal) x0 x1 x2 x3 x4 x5 x6).2.2.1 = (fun _ => 1#1) ∧ (Cert.Pre_ffn_finite.fn (F := Ideal) x0 x1 x2 x3 x4 x5 x6).2.2.2.1 = (fun _ => 1#1)
      ∧ (Cert.Pre_ffn_finite.fn (F := Ideal) x0 x1 x2 x3 x4 x5 x6).2.2.2.2.1 = (fun _ => 1#1) ∧ (Cert.Pre_ffn_finite.fn (F := Ideal) x0 x1 x2 x3 x4 x5 x6).2.2.2.2.2 = (fun _ => 1#1)) :
    (∀ i, R (x0 i)) ∧ (∀ i, R (x1 i)) ∧ (∀ i, R (x2 i)) ∧ (∀ i, R (x3 i)) ∧ (∀ i, R (x4 i)) ∧ (∀ i, R (x5 i)) :=
  ⟨fun i => Cert.PoolKernelIdeal.Ker.real_of_cmp _ (congrFun h.1 i), fun i => Cert.PoolKernelIdeal.Ker.real_of_cmp _ (congrFun h.2.1 i),
    fun i => Cert.PoolKernelIdeal.Ker.real_of_cmp _ (congrFun h.2.2.1 i), fun i => Cert.PoolKernelIdeal.Ker.real_of_cmp _ (congrFun h.2.2.2.1 i),
    fun i => Cert.PoolKernelIdeal.Ker.real_of_cmp _ (congrFun h.2.2.2.2.1 i), fun i => Cert.PoolKernelIdeal.Ker.real_of_cmp _ (congrFun h.2.2.2.2.2 i)⟩

/-! ## The result arrays -/

theorem eq13 : (dats m 0 c).arrAt 13 Cert.FfnKernelIdeal.cfg0.N = val_main_v90 (F := Ideal) (a1 m c) (a2 m c) (a3 m c) := by
  rw [final13]
  funext i
  exact (act_eq m c (i 0) (i 1) (i 2)).trans (v90_ix m c i).symm

theorem eq14 : (dats m 0 c).arrAt 14 Cert.FfnKernelIdeal.cfg0.N = val_main_v42 (F := Ideal) (a0 m c) (a1 m c) (a2 m c) (a3 m c) (a4 m c) := by
  rw [final14]
  funext i
  exact (dgam_eq m c (i 1)).trans (congrArg (val_main_v42 (F := Ideal) (a0 m c) (a1 m c) (a2 m c) (a3 m c) (a4 m c)) (eta1 i).symm)

theorem eq15 : (dats m 0 c).arrAt 15 Cert.FfnKernelIdeal.cfg0.N = val_main_v39 (F := Ideal) (a0 m c) := by
  rw [final15]
  funext i
  exact (dbet_eq m c (i 1)).trans (congrArg (val_main_v39 (F := Ideal) (a0 m c)) (eta1 i).symm)

variable (h0 : ∀ i, R (a0 m c i)) (h1 : ∀ i, R (a1 m c i)) (h2 : ∀ i, R (a2 m c i)) (h3 : ∀ i, R (a3 m c i)) (h4 : ∀ i, R (a4 m c i)) (h5 : ∀ i, R (a5 m c i))
include h0 h1 h2 h3 h4 h5

theorem eq9 : (dats m 0 c).arrAt 9 Cert.FfnKernelIdeal.cfg0.N = val_main_v80 (F := Ideal) (a0 m c) (a1 m c) (a2 m c) (a3 m c) (a4 m c) (a5 m c) := by
  rw [final9]
  funext i
  exact (dh_eq m c h0 h1 h2 h3 h4 h5 (i 0) (i 1)).trans (congrArg (val_main_v80 (F := Ideal) (a0 m c) (a1 m c) (a2 m c) (a3 m c) (a4 m c) (a5 m c)) (eta2 i).symm)

theorem eq10 : (dats m 0 c).arrAt 10 Cert.FfnKernelIdeal.cfg0.N = val_main_v81 (F := Ideal) (a0 m c) (a1 m c) (a2 m c) (a3 m c) (a4 m c) (a5 m c) := by
  rw [final10]
  funext i
  rw [val_main_v81_apply]
  exact (df_eq m c h0 h1 h2 h3 h4 h5 (i 0) (i 1)).trans (congrArg (val_main_v70 (F := Ideal) (a0 m c) (a1 m c) (a2 m c) (a3 m c) (a4 m c) (a5 m c)) (eta2 i).symm)

theorem eq11 : (dats m 0 c).arrAt 11 Cert.FfnKernelIdeal.cfg0.N = val_main_v84 (F := Ideal) (a0 m c) (a1 m c) (a2 m c) (a3 m c) (a4 m c) (a5 m c) := by
  rw [final11]
  funext i
  exact (dg_eq m c h0 h1 h2 h3 h4 h5 (i 0) (i 1) (i 2)).trans (v84_ix m c i).symm

theorem eq12 : (dats m 0 c).arrAt 12 Cert.FfnKernelIdeal.cfg0.N = val_main_v87 (F := Ideal) (a0 m c) (a1 m c) (a2 m c) (a3 m c) (a4 m c) (a5 m c) := by
  rw [final12]
  funext i
  exact (du_eq m c h0 h1 h2 h3 h4 h5 (i 0) (i 1) (i 2)).trans (v87_ix m c i).symm

end Cert.FfnAlg

end
-- ==== Proof.FwdRuns.lean ====
/-
The conditions of the feed-forward forward body and the table of points at which an output buffer is fresh.
-/
module

public import Idealize.ShloMosaic.Lib.Pipeline.TableIdle
public import proofs.«01_k».proof.Proof.Gen.FwdKernelIdeal.Points
public import proofs.«01_k».proof.Proof.Gen.FwdKernelIdeal.Skeleton
public import proofs.«01_k».proof.Proof.Gen.FwdKernelIdeal.Frame

@[expose] public section

set_option maxRecDepth 16384

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid is at the first chunk of a block of rows. -/
abbrev cond0 (i : grid0.Coords) : Prop := k0_cond1 i = 1#1
/-- The grid is at the last chunk of a block of rows. -/
abbrev cond1 (i : grid0.Coords) : Prop := k0_cond2 i = 1#1

theorem cond0_iff : ∀ t : Fin cfg0.N, cond0 (grid0.coords t) ↔ t.val % 4 = 0 := by decide +kernel
theorem cond1_iff : ∀ t : Fin cfg0.N, cond1 (grid0.coords t) ↔ t.val % 4 = 3 := by decide +kernel

theorem idle6 : ∀ t : Fin cfg0.N, ¬t.val % 4 = 3 → cfg0.idle 6 (grid0.coords t) = true := by decide +kernel
theorem idle7 : ∀ t : Fin cfg0.N, ¬t.val % 4 = 3 → cfg0.idle 7 (grid0.coords t) = true := by decide +kernel
theorem kept6 : ∀ t : Fin cfg0.N, ¬t.val % 4 = 3 → (cfg0.win 6).flush t = false := by decide +kernel
theorem kept7 : ∀ t : Fin cfg0.N, ¬t.val % 4 = 3 → (cfg0.win 7).flush t = false := by decide +kernel
theorem live6 : ∀ t : Fin cfg0.N, t.val % 4 = 3 → cfg0.idle 6 (grid0.coords t) = false := by decide +kernel
theorem live7 : ∀ t : Fin cfg0.N, t.val % 4 = 3 → cfg0.idle 7 (grid0.coords t) = false := by decide +kernel
theorem idle8 : ∀ t : Fin cfg0.N, cfg0.idle 8 (grid0.coords t) = true → ¬ t.val % 4 = 0 := by decide +kernel
theorem live8 : ∀ t : Fin cfg0.N, t.val % 4 = 0 → cfg0.idle 8 (grid0.coords t) = false := by decide +kernel

/-- Output 8's buffer is fresh at the first chunk of every block of rows. -/
def tab8 (n : ℕ) : Bool := decide (n % 4 = 0)

theorem tab8_step : ∀ t : Fin cfg0.N, tab8 (t.val + 1) = ((cfg0.win 8).flush t || (cfg0.idle 8 (cfg0.grid.coords t) && tab8 t.val)) := by decide +kernel

theorem fresh8 (t : Fin cfg0.N) : cfg0.fresh 8 t.val = tab8 t.val :=
  Pipeline.Cfg.fresh_tab cfg0 8 tab8 rfl tab8_step t.val (Nat.le_of_lt t.isLt)

end Cert.FwdKernelIdeal.Hand

end
-- ==== Proof.FwdRunA.lean ====
/-
The run of the feed-forward forward body at the first chunk of a block of rows.
-/
module

public import proofs.«01_k».proof.Proof.FwdRuns

@[expose] public section

set_option maxRecDepth 16384

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {a0 : Memref sig .tc .vmem S640x1024 .f32} (h0 : a0.IsWhole)
  {a1 : Memref sig .tc .vmem S1x1024 .f32} (h1 : a1.IsWhole)
  {a2 : Memref sig .tc .vmem S1x1024 .f32} (h2 : a2.IsWhole)
  {a3 : Memref sig .tc .vmem S1x704x1024 .bf16} (h3 : a3.IsWhole)
  {a4 : Memref sig .tc .vmem S1x704x1024 .bf16} (h4 : a4.IsWhole)
  {a5 : Memref sig .tc .vmem S1x704x1024 .bf16} (h5 : a5.IsWhole)
  {a6 : Memref sig .tc .vmem S640x1024 .f32} (h6 : a6.IsWhole)
  {a7 : Memref sig .tc .vmem S640x1 .f32} (h7 : a7.IsWhole)
  {a8 : Memref sig .tc .vmem S640x1024 .bf16} (h8 : a8.IsWhole)
  {a9 : Memref sig .tc .vmem S1x640x704 .bf16} (h9 : a9.IsWhole)
  {a10 : Memref sig .tc .vmem S1x640x704 .bf16} (h10 : a10.IsWhole)
  {a11 : Memref sig .tc .vmem S640x1024 .f32} (h11 : a11.IsWhole)
  {a12 : Memref sig .tc .vmem S640x1024 .bf16} (h12 : a12.IsWhole)

set_option maxHeartbeats 1000000 in
/-- What the body's stores leave at the first chunk of a block of rows: per buffer stored into, the pieces written (last first), with the
    body's triple. -/
noncomputable def runA (hc0 : cond0 i) (hc1 : ¬cond1 i)
    (x0 : Vec F S640x1024 .f32) (x1 : Vec F S1x1024 .f32) (x2 : Vec F S1x1024 .f32) (x3 : Vec F S1x704x1024 .bf16) (x4 : Vec F S1x704x1024 .bf16) (x5 : Vec F S1x704x1024 .bf16) :
    Σ' (L8 : List (View.Piece (Elt F) S640x1024 .bf16)), Σ' (L9 : List (View.Piece (Elt F) S1x640x704 .bf16)), Σ' (L10 : List (View.Piece (Elt F) S1x640x704 .bf16)), Σ' (L11 : List (View.Piece (Elt F) S640x1024 .f32)), { L12 : List (View.Piece (Elt F) S640x1024 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12)) -∗ K ⟨⟩))
          ⊢ wp frame (wpE (defs₀ (F := F)) Variants.none c none) E (cc0_ffn_fwd i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_ffn_fwd_eq_skeleton]; unfold cc0_ffn_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, ⟨%d12, %f12, -, H12⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H8]; · iexists _; iexact H8
    isplitl [H9]; · iexists _; iexact H9
    isplitl [H10]; · iexists _; iexact H10
    isplitl [H11]; · iexists _; iexact H11
    iexists _; iexact H12

end Cert.FwdKernelIdeal.Hand

end
-- ==== Proof.FwdRunB.lean ====
/-
The run of the feed-forward forward body at a middle chunk of a block of rows.
-/
module

public import proofs.«01_k».proof.Proof.FwdRunA

@[expose] public section

set_option maxRecDepth 16384

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {a0 : Memref sig .tc .vmem S640x1024 .f32} (h0 : a0.IsWhole)
  {a1 : Memref sig .tc .vmem S1x1024 .f32} (h1 : a1.IsWhole)
  {a2 : Memref sig .tc .vmem S1x1024 .f32} (h2 : a2.IsWhole)
  {a3 : Memref sig .tc .vmem S1x704x1024 .bf16} (h3 : a3.IsWhole)
  {a4 : Memref sig .tc .vmem S1x704x1024 .bf16} (h4 : a4.IsWhole)
  {a5 : Memref sig .tc .vmem S1x704x1024 .bf16} (h5 : a5.IsWhole)
  {a6 : Memref sig .tc .vmem S640x1024 .f32} (h6 : a6.IsWhole)
  {a7 : Memref sig .tc .vmem S640x1 .f32} (h7 : a7.IsWhole)
  {a8 : Memref sig .tc .vmem S640x1024 .bf16} (h8 : a8.IsWhole)
  {a9 : Memref sig .tc .vmem S1x640x704 .bf16} (h9 : a9.IsWhole)
  {a10 : Memref sig .tc .vmem S1x640x704 .bf16} (h10 : a10.IsWhole)
  {a11 : Memref sig .tc .vmem S640x1024 .f32} (h11 : a11.IsWhole)
  {a12 : Memref sig .tc .vmem S640x1024 .bf16} (h12 : a12.IsWhole)

set_option maxHeartbeats 1000000 in
/-- What the body's stores leave at a middle chunk of a block of rows: per buffer stored into, the pieces written (last first), with the
    body's triple. -/
noncomputable def runB (hc0 : ¬cond0 i) (hc1 : ¬cond1 i)
    (x3 : Vec F S1x704x1024 .bf16) (x4 : Vec F S1x704x1024 .bf16) (x5 : Vec F S1x704x1024 .bf16) (x11 : Vec F S640x1024 .f32) (x12 : Vec F S640x1024 .bf16) :
    Σ' (L9 : List (View.Piece (Elt F) S1x640x704 .bf16)), Σ' (L10 : List (View.Piece (Elt F) S1x640x704 .bf16)), { L11 : List (View.Piece (Elt F) S640x1024 .f32) //
      ∀ (E : Set ℕ) (K : PUnit → sProp 𝕄),
        iprop(owns (c : Thread nD τ) a3 fullShare x3 ∗ owns (c : Thread nD τ) a4 fullShare x4 ∗ owns (c : Thread nD τ) a5 fullShare x5 ∗ (∃ d, owns (c : Thread nD τ) a9 fullShare d) ∗ (∃ d, owns (c : Thread nD τ) a10 fullShare d) ∗ owns (c : Thread nD τ) a11 fullShare x11 ∗ owns (c : Thread nD τ) a12 fullShare x12
            ∗ (iprop(owns (c : Thread nD τ) a3 fullShare x3 ∗ owns (c : Thread nD τ) a4 fullShare x4 ∗ owns (c : Thread nD τ) a5 fullShare x5 ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ owns (c : Thread nD τ) a12 fullShare x12) -∗ K ⟨⟩))
          ⊢ wp frame (wpE (defs₀ (F := F)) Variants.none c none) E (cc0_ffn_fwd i a0 h0 a1 h1 a2 h2 a3 h3 a4 h4 a5 h5 a6 h6 a7 h7 a8 h8 a9 h9 a10 h10 a11 h11 a12 h12) K } := by
  refine ⟨?_, ?_, ?_, fun E K => ?run⟩
  case run =>
    simp only [cc0_ffn_fwd_eq_skeleton]; unfold cc0_ffn_fwd_skel
    simp only [k0_part1_eq_skeleton]
    unfold owns
    iintro ⟨⟨%f3, %hf3, H3⟩, ⟨%f4, %hf4, H4⟩, ⟨%f5, %hf5, H5⟩, ⟨%d9, %f9, -, H9⟩, ⟨%d10, %f10, -, H10⟩, ⟨%f11, %hf11, H11⟩, ⟨%f12, %hf12, H12⟩, Hk⟩
    obtain rfl := h3.eq_unread hf3; obtain rfl := h4.eq_unread hf4; obtain rfl := h5.eq_unread hf5; obtain rfl := h11.eq_unread hf11; obtain rfl := h12.eq_unread hf12
    sl_exec (disch := first | sl_exact hc0 | sl_exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H9]; · iexists _; iexact H9
    isplitl [H10]; · iexists _; iexact H10
    isplitl [H11]; · iexists _; iexact H11
    iexists _; isplitr; · ipureintro; exact h12.read_unread _
    iexact H12

end Cert.FwdKernelIdeal.Hand

end
-- ==== Proof.FwdRunC.lean ====
/-
The run of the feed-forward forward body at the last chunk of a block of rows.
-/
module

public import proofs.«01_k».proof.Proof.FwdRunB

@[expose] public section

set_option maxRecDepth 16384

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {a0 : Memref sig .tc .vmem S640x1024 .f32} (h0 : a0.IsWhole)
  {a1 : Memref sig .tc .vmem S1x1024 .f32} (h1 : a1.IsWhole)
  {a2 : Memref sig .tc .vmem S1x1024 .f32} (h2 : a2.IsWhole)
  {a3 : Memref sig .tc .vmem S1x704x1024 .bf16} (h3 : a3.IsWhole)
  {a4 : Memref sig .tc .vmem S1x704x1024 .bf16} (h4 : a4.IsWhole)
  {a5 : Memref sig .tc .vmem S1x704x1024 .bf16} (h5 : a5.IsWhole)
  {a6 : Memref sig .tc .vmem S640x1024 .f32} (h6 : a6.IsWhole)
  {a7 : Memref sig .tc .vmem S640x1 .f32} (h7 : a7.IsWhole)
  {a8 : Memref sig .tc .vmem S640x1024 .bf16} (h8 : a8.IsWhole)
  {a9 : Memref sig .tc .vmem S1x640x704 .bf16} (h9 : a9.IsWhole)
  {a10 : Memref sig .tc .vmem S1x640x704 .bf16} (h10 : a10.IsWhole)
  {a11 : Memref sig .tc .vmem S640x1024 .f32} (h11 : a11.IsWhole)
  {a12 : Memref sig .tc .vmem S640x1024 .bf16} (h12 : a12.IsWhole)

set_option maxHeartbeats 1000000 in
/-- What the body's stores leave at the last chunk of a block of rows: per buffer stored into, the pieces written (last first), with the
    body's triple. -/
noncomputable def runC (hc0 : ¬cond0 i) (hc1 : cond1 i)
    (x3 : Vec F S1x704x1024 .bf16) (x4 : Vec F S1x704x1024 .bf16) (x5 : Vec F S1x704x1024 .bf16) (x11 : Vec F S640x1024 .f32) (x12 : Vec F S640x1024 .bf16) :
    Σ' (L6 : List (View.Piece (Elt F) S640x1024 .f32)), Σ' (L7 : List (View.Piece (Elt F) S640x1 .f32)), Σ' (L9 : List (View.Piece (Elt F) S1x640x704 .bf16)), Σ' (L10 : List (View.Piece (Elt F) S1x640x704 .bf16)), { L11 : List (View.Piece (Elt F) S640x1024 .f32) //
      ∀ (E : Set ℕ) (K : PUnit → sProp 𝕄),
        iprop(owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ (∃ d, owns (c : Thread nD τ) a9 fullShare d) ∗ (∃ d, owns (c : Thread nD τ) a10 fullShare d) ∗ owns (c : Thread nD τ) a11 fullShare x11 ∗ owns (c : Thread nD τ) a12 fullShare x12
            ∗ (iprop(owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ owns (c : Thread nD τ) a12 fullShare x12) -∗ K ⟨⟩))
          ⊢ wp frame (wpE (defs₀ (F := F)) Variants.none c none) E (cc0_ffn_fwd i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_ffn_fwd_eq_skeleton]; unfold cc0_ffn_fwd_skel
    simp only [k0_part1_eq_skeleton]
    unfold owns
    iintro ⟨⟨%f3, %hf3, H3⟩, ⟨%f4, %hf4, H4⟩, ⟨%f5, %hf5, H5⟩, ⟨%d6, %f6, -, H6⟩, ⟨%d7, %f7, -, H7⟩, ⟨%d9, %f9, -, H9⟩, ⟨%d10, %f10, -, H10⟩, ⟨%f11, %hf11, H11⟩, ⟨%f12, %hf12, H12⟩, Hk⟩
    obtain rfl := h3.eq_unread hf3; obtain rfl := h4.eq_unread hf4; obtain rfl := h5.eq_unread hf5; obtain rfl := h11.eq_unread hf11; obtain rfl := h12.eq_unread hf12
    sl_exec (disch := first | sl_exact hc0 | sl_exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H9]; · iexists _; iexact H9
    isplitl [H10]; · iexists _; iexact H10
    isplitl [H11]; · iexists _; iexact H11
    iexists _; isplitr; · ipureintro; exact h12.read_unread _
    iexact H12

end Cert.FwdKernelIdeal.Hand

end
-- ==== Proof.FwdFrame0.lean ====
/-
The frame of the feed-forward forward kernel: what each buffer holds after each point of the grid, and the
pipeline run from it.
-/
module

public import proofs.«01_k».proof.Proof.FwdRunC

@[expose] public section

set_option maxRecDepth 16384

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The staging buffers at a point, each whole. -/

abbrev ms0_0 (t : Fin cfg0.N) : Memref sig .tc .vmem S640x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x704x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x704x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x704x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x640x704 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x640x704 .bf16 := win0_10.stage (cfg0.slots t 10)
abbrev hs0_10 (t : Fin cfg0.N) : (ms0_10 t).IsWhole := hstage0_10 ((cfg0.slots t 10).cast nbuf0_10)
abbrev scA : Memref sig .tc .vmem S640x1024 .f32 := Memref.whole cc0_scratch0
abbrev scM : Memref sig .tc .vmem S640x1024 .bf16 := Memref.whole cc0_scratch1

abbrev VO6 : View sig .tc .vmem S640x1024 .f32 := (Memref.whole cc0_stg6_0 : Memref sig .tc .vmem S640x1024 .f32).view
abbrev VO7 : View sig .tc .vmem S640x1 .f32 := (Memref.whole cc0_stg7_0 : Memref sig .tc .vmem S640x1 .f32).view
abbrev VO8 : View sig .tc .vmem S640x1024 .bf16 := (Memref.whole cc0_stg8_0 : Memref sig .tc .vmem S640x1024 .bf16).view
abbrev VO9 : View sig .tc .vmem S1x640x704 .bf16 := (Memref.whole cc0_stg9_0 : Memref sig .tc .vmem S1x640x704 .bf16).view
abbrev VO10 : View sig .tc .vmem S1x640x704 .bf16 := (Memref.whole cc0_stg10_0 : Memref sig .tc .vmem S1x640x704 .bf16).view
abbrev VO11 : View sig .tc .vmem S640x1024 .f32 := scA.view
abbrev VO12 : View sig .tc .vmem S640x1024 .bf16 := scM.view

def outA_8 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) : Vec F S640x1024 .bf16 :=
  VO8.read (Elt F) (VO8.writes (Elt F) VO8.junk (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).1)

theorem covA_8 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).1 S640x1024.size (by sl_kernel_rfl) y

def outA_9 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) : Vec F S1x640x704 .bf16 :=
  VO9.read (Elt F) (VO9.writes (Elt F) VO9.junk (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.1)

theorem covA_9 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.1 S1x640x704.size (by sl_kernel_rfl) y

def outA_10 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) : Vec F S1x640x704 .bf16 :=
  VO10.read (Elt F) (VO10.writes (Elt F) VO10.junk (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.1)

theorem covA_10 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.1 S1x640x704.size (by sl_kernel_rfl) y

def outA_11 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) : Vec F S640x1024 .f32 :=
  VO11.read (Elt F) (VO11.writes (Elt F) VO11.junk (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.2.1)

theorem covA_11 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.2.1 S640x1024.size (by sl_kernel_rfl) y

def outA_12 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) : Vec F S640x1024 .bf16 :=
  VO12.read (Elt F) (VO12.writes (Elt F) VO12.junk (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.2.2.1)

theorem covA_12 (c : Dev nD) (t : Fin cfg0.N) (hc0 : cond0 (grid0.coords t)) (hc1 : ¬cond1 (grid0.coords t)) (x0 : Vec F S640x1024 .f32) (x1 : Vec F S1x1024 .f32) (x2 : Vec F S1x1024 .f32) (x3 : Vec F S1x704x1024 .bf16) (x4 : Vec F S1x704x1024 .bf16) (x5 : Vec F S1x704x1024 .bf16) :
    ∀ y, ∃ p ∈ (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.2.2.1, y ∈ p.1.set :=
  fun y => View.cover_of_tiledL (runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x0 x1 x2 x3 x4 x5).2.2.2.2.1 S640x1024.size (by sl_kernel_rfl) y

def outB_9 (c : Dev nD) (t : Fin cfg0.N) (hc0 : ¬cond0 (grid0.coords t)) (hc1 : ¬cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S1x640x704 .bf16 :=
  VO9.read (Elt F) (VO9.writes (Elt F) VO9.junk (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).1)

theorem covB_9 (c : Dev nD) (t : Fin cfg0.N) (hc0 : ¬cond0 (grid0.coords t)) (hc1 : ¬cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).1, y ∈ p.1.set :=
  fun y => View.cover_of_tiledL (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).1 S1x640x704.size (by sl_kernel_rfl) y

def outB_10 (c : Dev nD) (t : Fin cfg0.N) (hc0 : ¬cond0 (grid0.coords t)) (hc1 : ¬cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S1x640x704 .bf16 :=
  VO10.read (Elt F) (VO10.writes (Elt F) VO10.junk (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.1)

theorem covB_10 (c : Dev nD) (t : Fin cfg0.N) (hc0 : ¬cond0 (grid0.coords t)) (hc1 : ¬cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.1, y ∈ p.1.set :=
  fun y => View.cover_of_tiledL (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.1 S1x640x704.size (by sl_kernel_rfl) y

def outB_11 (c : Dev nD) (t : Fin cfg0.N) (hc0 : ¬cond0 (grid0.coords t)) (hc1 : ¬cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S640x1024 .f32 :=
  VO11.read (Elt F) (VO11.writes (Elt F) VO11.junk (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.1)

theorem covB_11 (c : Dev nD) (t : Fin cfg0.N) (hc0 : ¬cond0 (grid0.coords t)) (hc1 : ¬cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.1, y ∈ p.1.set :=
  fun y => View.cover_of_tiledL (runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.1 S640x1024.size (by sl_kernel_rfl) y

def outC_6 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S640x1024 .f32 :=
  VO6.read (Elt F) (VO6.writes (Elt F) VO6.junk (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).1)

theorem covC_6 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).1 S640x1024.size (by sl_kernel_rfl) y

def outC_7 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S640x1 .f32 :=
  VO7.read (Elt F) (VO7.writes (Elt F) VO7.junk (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.1)

theorem covC_7 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.1 S640x1.size (by sl_kernel_rfl) y

def outC_9 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S1x640x704 .bf16 :=
  VO9.read (Elt F) (VO9.writes (Elt F) VO9.junk (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.1)

theorem covC_9 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.1 S1x640x704.size (by sl_kernel_rfl) y

def outC_10 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S1x640x704 .bf16 :=
  VO10.read (Elt F) (VO10.writes (Elt F) VO10.junk (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.2.1)

theorem covC_10 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.2.1 S1x640x704.size (by sl_kernel_rfl) y

def outC_11 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) : Vec F S640x1024 .f32 :=
  VO11.read (Elt F) (VO11.writes (Elt F) VO11.junk (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.2.2.1)

theorem covC_11 (c : Dev nD) (t : Fin cfg0.N) (hc0 : ¬cond0 (grid0.coords t)) (hc1 : cond1 (grid0.coords t)) (x3 : Vec F S1x704x1024 .bf16) (x4 : Vec F S1x704x1024 .bf16) (x5 : Vec F S1x704x1024 .bf16) (x11 : Vec F S640x1024 .f32) (x12 : Vec F S640x1024 .bf16) :
    ∀ y, ∃ p ∈ (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.2.2.1, y ∈ p.1.set :=
  fun y => View.cover_of_tiledL (runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 x3 x4 x5 x11 x12).2.2.2.2.1 S640x1024.size (by sl_kernel_rfl) y

end Cert.FwdKernelIdeal.Hand

end
-- ==== Proof.FwdFrame.lean ====
/-
The proof data of the feed-forward forward pipeline, its body obligation at every point, the run and the frame.
-/
module

public import Idealize.ShloMosaic.Lib.Claim
public import proofs.«01_k».proof.Proof.FwdFrame0

@[expose] public section

set_option maxRecDepth 16384

noncomputable section

namespace Cert.FwdKernelIdeal.Hand

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the five output buffers and the two scratch buffers hold. -/
abbrev St (F : FTy → Type) : Type := Vec F S640x1024 .f32 × Vec F S640x1 .f32 × Vec F S640x1024 .bf16 × Vec F S1x640x704 .bf16 × Vec F S1x640x704 .bf16 × Vec F S640x1024 .f32 × Vec F S640x1024 .bf16

def ptA (c : Dev nD) (t : Fin cfg0.N) (hc0 : cond0 (grid0.coords t)) (hc1 : ¬cond1 (grid0.coords t)) : St F :=
  (VO6.read (Elt F) VO6.junk,
   VO7.read (Elt F) VO7.junk,
   outA_8 c t hc0 hc1 (iblk m c 0 t) (iblk m c 1 t) (iblk m c 2 t) (iblk m c 3 t) (iblk m c 4 t) (iblk m c 5 t),
   outA_9 c t hc0 hc1 (iblk m c 0 t) (iblk m c 1 t) (iblk m c 2 t) (iblk m c 3 t) (iblk m c 4 t) (iblk m c 5 t),
   outA_10 c t hc0 hc1 (iblk m c 0 t) (iblk m c 1 t) (iblk m c 2 t) (iblk m c 3 t) (iblk m c 4 t) (iblk m c 5 t),
   outA_11 c t hc0 hc1 (iblk m c 0 t) (iblk m c 1 t) (iblk m c 2 t) (iblk m c 3 t) (iblk m c 4 t) (iblk m c 5 t),
   outA_12 c t hc0 hc1 (iblk m c 0 t) (iblk m c 1 t) (iblk m c 2 t) (iblk m c 3 t) (iblk m c 4 t) (iblk m c 5 t))

def ptB (c : Dev nD) (t : Fin cfg0.N) (hc0 : ¬cond0 (grid0.coords t)) (hc1 : ¬cond1 (grid0.coords t)) (p : St F) : St F :=
  (p.1,
   p.2.1,
   p.2.2.1,
   outB_9 c t hc0 hc1 (iblk m c 3 t) (iblk m c 4 t) (iblk m c 5 t) p.2.2.2.2.2.1 p.2.2.2.2.2.2,
   outB_10 c t hc0 hc1 (iblk m c 3 t) (iblk m c 4 t) (iblk m c 5 t) p.2.2.2.2.2.1 p.2.2.2.2.2.2,
   outB_11 c t hc0 hc1 (iblk m c 3 t) (iblk m c 4 t) (iblk m c 5 t) p.2.2.2.2.2.1 p.2.2.2.2.2.2,
   p.2.2.2.2.2.2)

def ptC (c : Dev nD) (t : Fin cfg0.N) (hc0 : ¬cond0 (grid0.coords t)) (hc1 : cond1 (grid0.coords t)) (p : St F) : St F :=
  (outC_6 c t hc0 hc1 (iblk m c 3 t) (iblk m c 4 t) (iblk m c 5 t) p.2.2.2.2.2.1 p.2.2.2.2.2.2,
   outC_7 c t hc0 hc1 (iblk m c 3 t) (iblk m c 4 t) (iblk m c 5 t) p.2.2.2.2.2.1 p.2.2.2.2.2.2,
   p.2.2.1,
   outC_9 c t hc0 hc1 (iblk m c 3 t) (iblk m c 4 t) (iblk m c 5 t) p.2.2.2.2.2.1 p.2.2.2.2.2.2,
   outC_10 c t hc0 hc1 (iblk m c 3 t) (iblk m c 4 t) (iblk m c 5 t) p.2.2.2.2.2.1 p.2.2.2.2.2.2,
   outC_11 c t hc0 hc1 (iblk m c 3 t) (iblk m c 4 t) (iblk m c 5 t) p.2.2.2.2.2.1 p.2.2.2.2.2.2,
   p.2.2.2.2.2.2)

/-- What the buffers hold after each point. -/
def outs (c : Dev nD) : (n : ℕ) → n < cfg0.N → St F
  | 0, hn => ptA m c ⟨0, hn⟩ ((cond0_iff ⟨0, hn⟩).mpr rfl) (fun q => absurd ((cond1_iff ⟨0, hn⟩).mp q) (by decide : ¬(0 % 4 = 3)))
  | n + 1, hn =>
    if h0 : (n + 1) % 4 = 0 then
      ptA m c ⟨n + 1, hn⟩ ((cond0_iff ⟨n + 1, hn⟩).mpr h0) (fun q => by have := (cond1_iff ⟨n + 1, hn⟩).mp q; dsimp only at this; omega)
    else if h3 : (n + 1) % 4 = 3 then
      ptC m c ⟨n + 1, hn⟩ (fun q => h0 ((cond0_iff ⟨n + 1, hn⟩).mp q)) ((cond1_iff ⟨n + 1, hn⟩).mpr h3) (outs c n (Nat.lt_of_succ_lt hn))
    else
      ptB m c ⟨n + 1, hn⟩ (fun q => h0 ((cond0_iff ⟨n + 1, hn⟩).mp q)) (fun q => h3 ((cond1_iff ⟨n + 1, hn⟩).mp q)) (outs c n (Nat.lt_of_succ_lt hn))

theorem outs_A (c : Dev nD) (t : Fin cfg0.N) (hc0 : cond0 (grid0.coords t)) (hc1 : ¬cond1 (grid0.coords t)) :
    outs m c t.val t.isLt = ptA m c t hc0 hc1 := by
  obtain ⟨n, hn⟩ := t
  cases n with
  | zero => rfl
  | succ n => exact (dif_pos ((cond0_iff ⟨n + 1, hn⟩).mp hc0)).trans rfl

theorem outs_C (c : Dev nD) (t : Fin cfg0.N) (hc0 : ¬cond0 (grid0.coords t)) (hc1 : cond1 (grid0.coords t)) :
    outs m c t.val t.isLt = ptC m c t hc0 hc1 (outs m c (t.val - 1) (Nat.lt_of_le_of_lt (Nat.sub_le _ _) t.isLt)) := by
  obtain ⟨n, hn⟩ := t
  cases n with
  | zero => exact absurd ((cond0_iff ⟨0, hn⟩).mpr rfl) hc0
  | succ n => exact ((dif_neg (fun q => hc0 ((cond0_iff ⟨n + 1, hn⟩).mpr q))).trans (dif_pos ((cond1_iff ⟨n + 1, hn⟩).mp hc1))).trans rfl

theorem outs_B (c : Dev nD) (t : Fin cfg0.N) (hc0 : ¬cond0 (grid0.coords t)) (hc1 : ¬cond1 (grid0.coords t)) :
    outs m c t.val t.isLt = ptB m c t hc0 hc1 (outs m c (t.val - 1) (Nat.lt_of_le_of_lt (Nat.sub_le _ _) t.isLt)) := by
  obtain ⟨n, hn⟩ := t
  cases n with
  | zero => exact absurd ((cond0_iff ⟨0, hn⟩).mpr rfl) hc0
  | succ n => exact ((dif_neg (fun q => hc0 ((cond0_iff ⟨n + 1, hn⟩).mpr q))).trans (dif_neg (fun q => hc1 ((cond1_iff ⟨n + 1, hn⟩).mpr q)))).trans rfl

theorem PhiA_eq (c : Dev nD) :
    (Pipeline.ΦA spec0 c : sProp 𝕄)
      = iprop(iprop((∃ d, owns (c : Thread nD τ) scA fullShare d) ∗ (∃ d, owns (c : Thread nD τ) scM fullShare d)) ∗ (∃ r, prngReg c r)) := by
  unfold Pipeline.ΦA; rw [scopedRest0_eq]; simp only [scA, scM, owns_whole]; try rfl

/-- The two scratch buffers as a point left them. -/
def Left (c : Dev nD) (p : St F) : sProp 𝕄 :=
  iprop(iprop(owns (c : Thread nD τ) scA fullShare (p.2.2.2.2.2.1) ∗ owns (c : Thread nD τ) scM fullShare (p.2.2.2.2.2.2)) ∗ (∃ r, prngReg c r))

/-- The invariant before position `n`: the scratch buffers as the point before left them. -/
def Inv (c : Dev nD) : (n : ℕ) → n ≤ cfg0.N → sProp 𝕄
  | 0, _ => Pipeline.ΦA spec0 c
  | n + 1, hn => Left c (outs m c n hn)

theorem Inv_succ (c : Dev nD) (n : ℕ) (hn : n < cfg0.N) :
    Inv m c (n + 1) hn = Left c (outs m c n hn) := rfl

theorem Inv_pos (c : Dev nD) (n : ℕ) (h : n ≤ cfg0.N) (hz : n ≠ 0) :
    Inv m c n h = Left c (outs m c (n - 1) (by omega)) := by
  cases n with
  | zero => exact absurd rfl hz
  | succ n => rfl

/-- Before every position the scratch buffers hold something. -/
theorem Inv_any (c : Dev nD) (n : ℕ) (h : n ≤ cfg0.N) : Inv m c n h ⊢ Pipeline.ΦA spec0 c := by
  cases n with
  | zero => exact Idealize.SL.BI.Entails.refl _
  | succ n =>
    rw [Inv_succ, PhiA_eq]; unfold Left
    iintro ⟨⟨H, H'⟩, Hg⟩
    isplitl [H H']
    · isplitl [H]
      · iexists _; iexact H
      · iexists _; iexact H'
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2.1
    | ⟨8, _⟩ => (outs m c t.val t.isLt).2.2.1
    | ⟨9, _⟩ => (outs m c t.val t.isLt).2.2.2.1
    | ⟨10, _⟩ => (outs m c t.val t.isLt).2.2.2.2.1
    | ⟨_ + 11, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outs m c t.val t.isLt).1 := by dsimp only [dats]
theorem after0_7 (c : Dev nD) (t : Fin cfg0.N) : (dats m 0 c).after 7 t = (outs m c t.val t.isLt).2.1 := by dsimp only [dats]
theorem after0_8 (c : Dev nD) (t : Fin cfg0.N) : (dats m 0 c).after 8 t = (outs m c t.val t.isLt).2.2.1 := by dsimp only [dats]
theorem after0_9 (c : Dev nD) (t : Fin cfg0.N) : (dats m 0 c).after 9 t = (outs m c t.val t.isLt).2.2.2.1 := by dsimp only [dats]
theorem after0_10 (c : Dev nD) (t : Fin cfg0.N) : (dats m 0 c).after 10 t = (outs m c t.val t.isLt).2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Where output 8 is not stored into, its contents are the point before's. -/
theorem keep8 (c : Dev nD) (t : Fin cfg0.N) (h : ¬t.val % 4 = 0) :
    (dats m 0 c).after 8 t = (outs m c (t.val - 1) (Nat.lt_of_le_of_lt (Nat.sub_le _ _) t.isLt)).2.2.1 := by
  have hc0 : ¬cond0 (grid0.coords t) := fun q => h ((cond0_iff t).mp q)
  by_cases hc1 : cond1 (grid0.coords t)
  · rw [after0_8, outs_C m c t hc0 hc1]; unfold ptC; dsimp only
  · rw [after0_8, outs_B m c t hc0 hc1]; unfold ptB; dsimp only

theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [keep8 m c t (idle8 t hi), after0_8]

theorem before0_8 (c : Dev nD) (t : Fin cfg0.N) (h : ¬t.val % 4 = 0) (d) :
    (dats m 0 c).before 8 t d = (outs m c (t.val - 1) (Nat.lt_of_le_of_lt (Nat.sub_le _ _) t.isLt)).2.2.1 := by
  rw [Dat.before_out_traj _ 8 rfl (fun _ _ => rfl) (carry8 m c) t.val t rfl d,
    if_neg (by rw [fresh8 t, show tab8 t.val = false from decide_eq_false h]; exact Bool.false_ne_true)]
  dsimp only [dats]

/-- A buffer the point neither stores into nor writes back is handed on as it was found. -/
theorem leaves_idle (c : Dev nD) (w : Fin cfg0.W) (t : Fin cfg0.N) (d)
    (hi : cfg0.idle w (grid0.coords t) = true) (hf : (cfg0.win w).flush t = false) :
    (owns (c : Thread nD τ) ((cfg0.win w).stage (cfg0.slots t w)) fullShare ((dats m 0 c).before w t d) : sProp 𝕄)
      ⊢ (dats m 0 c).leavesExact w t := by
  unfold Dat.leavesExact
  rw [hi, hf]
  iintro H; iexists d; iexact H

/-- A buffer the point stores into is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- A buffer that held the proof data's contents before the point and is not stored into still does. -/
theorem leaves_keep (c : Dev nD) (w : Fin cfg0.W) (t : Fin cfg0.N) (d)
    (hb : (dats m 0 c).before w t d = (dats m 0 c).after w t) :
    (owns (c : Thread nD τ) ((cfg0.win w).stage (cfg0.slots t w)) fullShare ((dats m 0 c).after w t) : sProp 𝕄)
      ⊢ (dats m 0 c).leavesExact w t := by
  unfold Dat.leavesExact
  cases hi : cfg0.idle w (cfg0.grid.coords t)
  · iintro H; iexact H
  · cases hf : (cfg0.win w).flush t
    · iintro H; iexists d; rw [hb]; iexact H
    · iintro H; iexact H

/-- What a point finds, with `P` for the scratch buffers. -/
def bodyPreOf (P : sProp 𝕄) (c : Dev nD) (t : Fin cfg0.N) : sProp 𝕄 :=
  iprop(P ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPre (c : Dev nD) (t : Fin cfg0.N) : sProp 𝕄 := bodyPreOf m ((dats m 0 c).Φ t.castSucc) c t

theorem pre_any (c : Dev nD) (t : Fin cfg0.N) : bodyPre m c t ⊢ bodyPreOf m (Pipeline.ΦA spec0 c) c t := by
  unfold bodyPre bodyPreOf
  rw [Inv_castSucc]
  iintro ⟨HP, HR⟩
  isplitl [HP]
  · iapply (Inv_any m c t.val (Nat.le_of_lt t.isLt)); iexact HP
  · iexact HR

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem soundA (c : Dev nD) (t : Fin cfg0.N) (h0 : t.val % 4 = 0) :
    bodyPreOf m (Pipeline.ΦA spec0 c) c t ⊢ wp frame (wpE (defs₀ (F := F)) Variants.none c none) Set.univ (bodyAt0 t) (fun _ => bodyPost m c t) := by
  have h3 : ¬t.val % 4 = 3 := by omega
  have hc0 := (cond0_iff t).mpr h0
  have hc1 : ¬cond1 (grid0.coords t) := fun q => h3 ((cond1_iff t).mp q)
  have ho := outs_A m c t hc0 hc1
  unfold bodyPreOf bodyPost bodyAt0
  simp only [before0_0, before0_1, before0_2, before0_3, before0_4, before0_5]
  rw [show (dats m 0 c).owesAt () t.succ = (dats m 0 c).owesAt () t.castSucc from rfl]
  rw [show (dats m 0 c).Φ t.succ = Inv m c (t.val + 1) t.isLt from rfl, Inv_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 8 t (live8 t h0), after0_8]
  rw [leaves_live m c 9 t rfl, after0_9]
  rw [leaves_live m c 10 t rfl, after0_10]
  rw [PhiA_eq]
  rw [ho]
  unfold Left ptA; dsimp only
  unfold outA_8 outA_9 outA_10 outA_11 outA_12
  iintro ⟨⟨⟨H11, H12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 (iblk m c 0 t) (iblk m c 1 t) (iblk m c 2 t) (iblk m c 3 t) (iblk m c 4 t) (iblk m c 5 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H10]; · iexists _; iexact H10
  isplitl [H11]; · iexact H11
  isplitl [H12]; · iexact H12
  iintro ⟨H0, H1, H2, H3, H4, H5, ⟨%e8, H8⟩, ⟨%e9, H9⟩, ⟨%e10, H10⟩, ⟨%e11, H11⟩, ⟨%e12, H12⟩⟩
  isplitl [H11 H12 Hg]
  · isplitl [H11 H12]
    · isplitl [H11]
      · unfold owns; iexists _; isplitr
        swap; · iexact H11
        ipureintro; exact View.read_writes_of_cover _ _ _ _ _ (covA_11 c t hc0 hc1 (iblk m c 0 t) (iblk m c 1 t) (iblk m c 2 t) (iblk m c 3 t) (iblk m c 4 t) (iblk m c 5 t))
      · unfold owns; iexists _; isplitr
        swap; · iexact H12
        ipureintro; exact View.read_writes_of_cover _ _ _ _ _ (covA_12 c t hc0 hc1 (iblk m c 0 t) (iblk m c 1 t) (iblk m c 2 t) (iblk m c 3 t) (iblk m c 4 t) (iblk m c 5 t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_idle m c 6 t d6 (idle6 t h3) (kept6 t h3)); iexact H6
  isplitl [H7]
  · iapply (leaves_idle m c 7 t d7 (idle7 t h3) (kept7 t h3)); iexact H7
  isplitl [H8]
  · unfold owns; iexists _; isplitr
    swap; · iexact H8
    ipureintro; exact View.read_writes_of_cover _ _ _ _ _ (covA_8 c t hc0 hc1 (iblk m c 0 t) (iblk m c 1 t) (iblk m c 2 t) (iblk m c 3 t) (iblk m c 4 t) (iblk m c 5 t))
  isplitl [H9]
  · unfold owns; iexists _; isplitr
    swap; · iexact H9
    ipureintro; exact View.read_writes_of_cover _ _ _ _ _ (covA_9 c t hc0 hc1 (iblk m c 0 t) (iblk m c 1 t) (iblk m c 2 t) (iblk m c 3 t) (iblk m c 4 t) (iblk m c 5 t))
  unfold owns; iexists _; isplitr
  swap; · iexact H10
  ipureintro; exact View.read_writes_of_cover _ _ _ _ _ (covA_10 c t hc0 hc1 (iblk m c 0 t) (iblk m c 1 t) (iblk m c 2 t) (iblk m c 3 t) (iblk m c 4 t) (iblk m c 5 t))

set_option maxHeartbeats 8000000 in
theorem soundB (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  have hz : t.val ≠ 0 := by omega
  have hc0 : ¬cond0 (grid0.coords t) := fun q => h0 ((cond0_iff t).mp q)
  have hc1 : ¬cond1 (grid0.coords t) := fun q => h3 ((cond1_iff t).mp q)
  have ho := outs_B m c t hc0 hc1
  unfold bodyPre bodyPreOf bodyPost bodyAt0
  simp only [before0_0, before0_1, before0_2, before0_3, before0_4, before0_5]
  rw [show (dats m 0 c).owesAt () t.succ = (dats m 0 c).owesAt () t.castSucc from rfl]
  rw [show (dats m 0 c).Φ t.succ = Inv m c (t.val + 1) t.isLt from rfl, Inv_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 9 t rfl, after0_9]
  rw [leaves_live m c 10 t rfl, after0_10]
  rw [Inv_castSucc m c t, Inv_pos m c _ _ hz]
  rw [ho]
  generalize hp : outs m c (t.val - 1) (Nat.lt_of_le_of_lt (Nat.sub_le _ _) t.isLt) = p
  unfold Left ptB; dsimp only
  unfold outB_9 outB_10 outB_11
  iintro ⟨⟨⟨H11, H12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 (iblk m c 3 t) (iblk m c 4 t) (iblk m c 5 t) p.2.2.2.2.2.1 p.2.2.2.2.2.2).2.2.2 Set.univ _)
  isplitl [H3]; · iexact H3
  isplitl [H4]; · iexact H4
  isplitl [H5]; · iexact H5
  isplitl [H9]; · iexists _; iexact H9
  isplitl [H10]; · iexists _; iexact H10
  isplitl [H11]; · iexact H11
  isplitl [H12]; · iexact H12
  iintro ⟨H3, H4, H5, ⟨%e9, H9⟩, ⟨%e10, H10⟩, ⟨%e11, H11⟩, H12⟩
  isplitl [H11 H12 Hg]
  · isplitl [H11 H12]
    · isplitl [H11]
      · unfold owns; iexists _; isplitr
        swap; · iexact H11
        ipureintro; exact View.read_writes_of_cover _ _ _ _ _ (covB_11 c t hc0 hc1 (iblk m c 3 t) (iblk m c 4 t) (iblk m c 5 t) p.2.2.2.2.2.1 p.2.2.2.2.2.2)
      · iexact H12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_idle m c 6 t d6 (idle6 t h3) (kept6 t h3)); iexact H6
  isplitl [H7]
  · iapply (leaves_idle m c 7 t d7 (idle7 t h3) (kept7 t h3)); iexact H7
  isplitl [H8]
  · iapply (leaves_keep m c 8 t d8 (by rw [before0_8 m c t h0, keep8 m c t h0]))
    rw [keep8 m c t h0, ← before0_8 m c t h0 d8]; iexact H8
  isplitl [H9]
  · unfold owns; iexists _; isplitr
    swap; · iexact H9
    ipureintro; exact View.read_writes_of_cover _ _ _ _ _ (covB_9 c t hc0 hc1 (iblk m c 3 t) (iblk m c 4 t) (iblk m c 5 t) p.2.2.2.2.2.1 p.2.2.2.2.2.2)
  unfold owns; iexists _; isplitr
  swap; · iexact H10
  ipureintro; exact View.read_writes_of_cover _ _ _ _ _ (covB_10 c t hc0 hc1 (iblk m c 3 t) (iblk m c 4 t) (iblk m c 5 t) p.2.2.2.2.2.1 p.2.2.2.2.2.2)

set_option maxHeartbeats 8000000 in
theorem soundC (c : Dev nD) (t : Fin cfg0.N) (h0 : ¬t.val % 4 = 0) (h3 : t.val % 4 = 3) :
    bodyPre m c t ⊢ wp frame (wpE (defs₀ (F := F)) Variants.none c none) Set.univ (bodyAt0 t) (fun _ => bodyPost m c t) := by
  have hz : t.val ≠ 0 := by omega
  have hc0 : ¬cond0 (grid0.coords t) := fun q => h0 ((cond0_iff t).mp q)
  have hc1 := (cond1_iff t).mpr h3
  have ho := outs_C m c t hc0 hc1
  unfold bodyPre bodyPreOf bodyPost bodyAt0
  simp only [before0_0, before0_1, before0_2, before0_3, before0_4, before0_5]
  rw [show (dats m 0 c).owesAt () t.succ = (dats m 0 c).owesAt () t.castSucc from rfl]
  rw [show (dats m 0 c).Φ t.succ = Inv m c (t.val + 1) t.isLt from rfl, Inv_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t (live6 t h3), after0_6]
  rw [leaves_live m c 7 t (live7 t h3), after0_7]
  rw [leaves_live m c 9 t rfl, after0_9]
  rw [leaves_live m c 10 t rfl, after0_10]
  rw [Inv_castSucc m c t, Inv_pos m c _ _ hz]
  rw [ho]
  generalize hp : outs m c (t.val - 1) (Nat.lt_of_le_of_lt (Nat.sub_le _ _) t.isLt) = p
  unfold Left ptC; dsimp only
  unfold outC_6 outC_7 outC_9 outC_10 outC_11
  iintro ⟨⟨⟨H11, H12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) (hs0_0 t) (hs0_1 t) (hs0_2 t) (hs0_3 t) (hs0_4 t) (hs0_5 t) (hs0_6 t) (hs0_7 t) (hs0_8 t) (hs0_9 t) (hs0_10 t) (Memref.isWhole_whole cc0_scratch0) (Memref.isWhole_whole cc0_scratch1) hc0 hc1 (iblk m c 3 t) (iblk m c 4 t) (iblk m c 5 t) p.2.2.2.2.2.1 p.2.2.2.2.2.2).2.2.2.2.2 Set.univ _)
  isplitl [H3]; · iexact H3
  isplitl [H4]; · iexact H4
  isplitl [H5]; · iexact H5
  isplitl [H6]; · iexists _; iexact H6
  isplitl [H7]; · iexists _; iexact H7
  isplitl [H9]; · iexists _; iexact H9
  isplitl [H10]; · iexists _; iexact H10
  isplitl [H11]; · iexact H11
  isplitl [H12]; · iexact H12
  iintro ⟨H3, H4, H5, ⟨%e6, H6⟩, ⟨%e7, H7⟩, ⟨%e9, H9⟩, ⟨%e10, H10⟩, ⟨%e11, H11⟩, H12⟩
  isplitl [H11 H12 Hg]
  · isplitl [H11 H12]
    · isplitl [H11]
      · unfold owns; iexists _; isplitr
        swap; · iexact H11
        ipureintro; exact View.read_writes_of_cover _ _ _ _ _ (covC_11 c t hc0 hc1 (iblk m c 3 t) (iblk m c 4 t) (iblk m c 5 t) p.2.2.2.2.2.1 p.2.2.2.2.2.2)
      · iexact H12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (covC_6 c t hc0 hc1 (iblk m c 3 t) (iblk m c 4 t) (iblk m c 5 t) p.2.2.2.2.2.1 p.2.2.2.2.2.2)
  isplitl [H7]
  · unfold owns; iexists _; isplitr
    swap; · iexact H7
    ipureintro; exact View.read_writes_of_cover _ _ _ _ _ (covC_7 c t hc0 hc1 (iblk m c 3 t) (iblk m c 4 t) (iblk m c 5 t) p.2.2.2.2.2.1 p.2.2.2.2.2.2)
  isplitl [H8]
  · iapply (leaves_keep m c 8 t d8 (by rw [before0_8 m c t h0, keep8 m c t h0]))
    rw [keep8 m c t h0, ← before0_8 m c t h0 d8]; iexact H8
  isplitl [H9]
  · unfold owns; iexists _; isplitr
    swap; · iexact H9
    ipureintro; exact View.read_writes_of_cover _ _ _ _ _ (covC_9 c t hc0 hc1 (iblk m c 3 t) (iblk m c 4 t) (iblk m c 5 t) p.2.2.2.2.2.1 p.2.2.2.2.2.2)
  unfold owns; iexists _; isplitr
  swap; · iexact H10
  ipureintro; exact View.read_writes_of_cover _ _ _ _ _ (covC_10 c t hc0 hc1 (iblk m c 3 t) (iblk m c 4 t) (iblk m c 5 t) p.2.2.2.2.2.1 p.2.2.2.2.2.2)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact (pre_any m c t).trans (soundA m c t h0)
  · by_cases h3 : t.val % 4 = 3
    · exact soundC m c t h0 h3
    · exact soundB m c t h0 h3

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  exact Idealize.SL.BI.Entails.refl _

theorem hout (c : Dev nD) : (dats m 0 c).Φ (Fin.last cfg0.N) ⊢ Pipeline.ΦA spec0 c :=
  Inv_any m c (Fin.last cfg0.N).val (Nat.le_of_lt_succ (Fin.last cfg0.N).isLt)

set_option backward.isDefEq.respectTransparency.types false in
/-- The launch: every array of the pipeline as the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FwdKernelIdeal.Hand

end
-- ==== Proof.FwdBits.lean ====
/-
The feed-forward forward program over bit patterns: its text is the ideal program's, so its frame is the ideal program's run, at the bit patterns.
-/
module

public import proofs.«01_k».proof.Proof.FwdFrame
public import proofs.«01_k».proof.Proof.Gen.FwdKernel
public import proofs.«01_k».proof.Defs

@[expose] public section

set_option maxRecDepth 16384

noncomputable section

open Idealize.ShloMosaic Idealize.ShloMosaic.TcCoe Idealize.SL.Sem

namespace Cert.FwdKernel.Hand

open Cert.FwdKernel Cert.FwdKernel.Gen

set_option maxHeartbeats 2000000 in
/-- The two bodies are one term. -/
theorem body_eq : @FwdKernel.cc0_ffn_fwd Bits _ _ = @FwdKernelIdeal.cc0_ffn_fwd Bits _ _ := rfl

set_option maxHeartbeats 2000000 in
theorem defs₀_eq : @FwdKernel.defs₀ Bits _ _ = @FwdKernelIdeal.defs₀ Bits _ _ := by
  unfold FwdKernel.defs₀ FwdKernelIdeal.defs₀
  refine congrArg Defs.onTc ?_
  funext l x
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _
  | ⟨_ + 1, h⟩, _ => exact absurd h (Nat.not_lt.2 (Nat.le_add_left _ _))

set_option maxHeartbeats 2000000 in
theorem defs_eq : @FwdKernel.defs Bits _ _ = @FwdKernelIdeal.defs Bits _ _ := by
  unfold FwdKernel.defs FwdKernelIdeal.defs
  rw [defs₀_eq]
  rfl

variable (m : (ℓ : Loc nD τ sig) → Buf (Elt Bits) ℓ) (ρ : Dev nD → PrngReg)

set_option maxHeartbeats 2000000 in
theorem frame_all : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (congrArg (fun d => θ_run d (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)) defs_eq).mpr (FwdKernelIdeal.Hand.frame_all (F := Bits) m ρ)

end Cert.FwdKernel.Hand

end
-- ==== Proof.FwdHost.lean ====
/- What the feed-forward forward program stages for its kernel. -/
module

public import Idealize.ShloMosaic.Lib.StableHlo.RunRead
public import proofs.«01_k».proof.Proof.Gen.FwdKernelIdeal.Frame
public import proofs.«01_k».proof.Proof.FfnHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FwdKernelIdeal.Hand

open Cert.FwdKernelIdeal Cert.FwdKernelIdeal.Gen

open Cert.FfnKernelIdeal.Hand (cat)

variable (m : (ℓ : Loc nD τ sig) → Buf (Elt Ideal) ℓ)

abbrev a0 (c : Dev nD) : FVec Ideal S8320x1024 .f32 := m ((c : Thread nD τ).loc main_arg0)
abbrev a1 (c : Dev nD) : FVec Ideal S1x1024 .f32 := m ((c : Thread nD τ).loc main_arg1)
abbrev a2 (c : Dev nD) : FVec Ideal S1x1024 .f32 := m ((c : Thread nD τ).loc main_arg2)
abbrev a3 (c : Dev nD) : FVec Ideal S1024x2816 .f32 := m ((c : Thread nD τ).loc main_arg3)
abbrev a4 (c : Dev nD) : FVec Ideal S1024x2816 .f32 := m ((c : Thread nD τ).loc main_arg4)
abbrev a5 (c : Dev nD) : FVec Ideal S2816x1024 .f32 := m ((c : Thread nD τ).loc main_arg5)

theorem W0 (c : Dev nD) : V m c (Pipeline.arrRef spec0 0) = a0 m c := V_main_arg0 m c
theorem W1 (c : Dev nD) : V m c (Pipeline.arrRef spec0 1) = a1 m c := V_main_arg1 m c
theorem W2 (c : Dev nD) : V m c (Pipeline.arrRef spec0 2) = a2 m c := V_main_arg2 m c

theorem W3 (c : Dev nD) (j : Fin 4) (f : Fin 704) (q : Fin 1024) :
    (V m c (Pipeline.arrRef spec0 3) : FVec Ideal S4x704x1024 .bf16) (ix3 j f q) = a3 m c (ix2 q (cat j f)) := by
  have e : (V m c (Pipeline.arrRef spec0 3) : FVec Ideal S4x704x1024 .bf16)
      = shapeCast S4x704x1024 (transpose S2816x1024 [1, 0] (truncf .bf16 (a3 m c) bitsLt_bf16_f32) transposes_S1024x2816_S2816x1024_1_0) shapeCasts_S2816x1024_S4x704x1024 := by
    show StableHlo.after hostOps0 _ _ = _
    after_reads_simp
    rfl
  rw [e]
  generalize a3 m c = y
  unfold cat
  pointwise

theorem W4 (c : Dev nD) (j : Fin 4) (f : Fin 704) (q : Fin 1024) :
    (V m c (Pipeline.arrRef spec0 4) : FVec Ideal S4x704x1024 .bf16) (ix3 j f q) = a4 m c (ix2 q (cat j f)) := by
  have e : (V m c (Pipeline.arrRef spec0 4) : FVec Ideal S4x704x1024 .bf16)
      = shapeCast S4x704x1024 (transpose S2816x1024 [1, 0] (truncf .bf16 (a4 m c) bitsLt_bf16_f32) transposes_S1024x2816_S2816x1024_1_0) shapeCasts_S2816x1024_S4x704x1024 := by
    show StableHlo.after hostOps0 _ _ = _
    after_reads_simp
    rfl
  rw [e]
  generalize a4 m c = y
  unfold cat
  pointwise

theorem W5 (c : Dev nD) (j : Fin 4) (f : Fin 704) (q : Fin 1024) :
    (V m c (Pipeline.arrRef spec0 5) : FVec Ideal S4x704x1024 .bf16) (ix3 j f q) = a5 m c (ix2 (cat j f) q) := by
  have e : (V m c (Pipeline.arrRef spec0 5) : FVec Ideal S4x704x1024 .bf16)
      = shapeCast S4x704x1024 (truncf .bf16 (a5 m c) bitsLt_bf16_f32) shapeCasts_S2816x1024_S4x704x1024 := by
    show StableHlo.after hostOps0 _ _ = _
    after_reads_simp
    rfl
  rw [e]
  generalize a5 m c = y
  unfold cat
  pointwise

end Cert.FwdKernelIdeal.Hand

end
-- ==== Proof.FwdPay.lean ====
/- The feed-forward forward kernel's payloads read at an index. -/
module

public import proofs.«01_k».proof.Proof.Gen.FwdKernelIdeal.Skeleton
public import proofs.«01_k».proof.Proof.FfnPay

@[expose] public section

set_option maxRecDepth 16384

noncomputable section

open Idealize.ShloMosaic Idealize.ShloMosaic.TcCoe Idealize.SL.Sem

namespace Cert.FwdKernelIdeal.Pay

open Cert.FwdKernelIdeal Cert.FwdKernelIdeal.Gen
open Cert.FfnKernelIdeal.Pay (c1024 cHalf cAlpha actE)

/-- Twice the residual's factor, and the constant under the root. -/
def c2A : EReal := Ideal.ofBits .f32 0x403504F3#32
def cEps : EReal := Ideal.ofBits .f32 0x3727C5AC#32

/-- The layer's input, at an index of a block. -/
def hE (x : FVec Ideal S640x1024 .f32) (g b : FVec Ideal S1x1024 .f32) (p : Fin 640) (q : Fin 1024) : EReal :=
  x (ix2 p q) * g (ix2 0 q) + b (ix2 0 q)

theorem pay5_apply (x : FVec Ideal S640x1024 .f32) (g b : FVec Ideal S1x1024 .f32) (p : Fin 640) (q : Fin 1024) :
    k0_pay5 (F := Ideal) x g b (ix2 p q) = hE x g b p q := by
  unfold hE
  pointwise [k0_pay5]

theorem pay6_apply (x : FVec Ideal S640x1024 .f32) (g b : FVec Ideal S1x1024 .f32) (p : Fin 640) (q : Fin 1024) :
    k0_pay6 (F := Ideal) x g b (ix2 p q) = hE x g b p q := by
  rw [← pay5_apply]
  pointwise [k0_pay6]

theorem pay7_apply (x : FVec Ideal S640x1024 .f32) (g b : FVec Ideal S1x1024 .f32) (p : Fin 640) (q : Fin 1024) :
    k0_pay7 (F := Ideal) x g b (ix2 p q) = hE x g b p q := by
  rw [← pay6_apply]
  pointwise [k0_pay7]

theorem pay8_apply (x : FVec Ideal S640x1024 .f32) (g b : FVec Ideal S1x1024 .f32) (p : Fin 640) (q : Fin 1024) :
    k0_pay8 (F := Ideal) x g b (ix2 p q) = c2A * hE x g b p q := by
  rw [← pay5_apply]
  pointwise [k0_pay8, c2A]

/-- A chunk's projection of a row. -/
def proj (xs : FVec Ideal S640x1024 .bf16) (w : FVec Ideal S1x704x1024 .bf16) (p : Fin 640) (f : Fin 704) : EReal :=
  ∑ k : Fin 1024, xs (ix2 p k) * w (ix3 0 f k)

theorem pay9_apply (xs : FVec Ideal S640x1024 .bf16) (w : FVec Ideal S1x704x1024 .bf16) (p : Fin 640) (f : Fin 704) :
    k0_pay9 (F := Ideal) xs w (ix2 p f) = proj xs w p f := by
  unfold proj
  pointwise [k0_pay9]

theorem pay10_apply (xs : FVec Ideal S640x1024 .bf16) (w : FVec Ideal S1x704x1024 .bf16) (p : Fin 640) (f : Fin 704) :
    k0_pay10 (F := Ideal) xs w (ix2 p f) = proj xs w p f := by
  unfold proj
  pointwise [k0_pay10]

theorem pay11_apply (xs : FVec Ideal S640x1024 .bf16) (w : FVec Ideal S1x704x1024 .bf16) (p : Fin 640) (f : Fin 704) :
    k0_pay11 (F := Ideal) xs w (ix3 0 p f) = proj xs w p f := by
  rw [← pay9_apply]
  pointwise [k0_pay11]

theorem pay12_apply (xs : FVec Ideal S640x1024 .bf16) (w : FVec Ideal S1x704x1024 .bf16) (p : Fin 640) (f : Fin 704) :
    k0_pay12 (F := Ideal) xs w (ix3 0 p f) = proj xs w p f := by
  rw [← pay10_apply]
  pointwise [k0_pay12]

/-- A chunk's part of the down projection. -/
def down (xs : FVec Ideal S640x1024 .bf16) (wg wu wd : FVec Ideal S1x704x1024 .bf16) (p : Fin 640) (q : Fin 1024) : EReal :=
  ∑ f : Fin 704, actE (proj xs wg p f) (proj xs wu p f) * wd (ix3 0 f q)

theorem pay1_apply (xs : FVec Ideal S640x1024 .bf16) (wg wu wd : FVec Ideal S1x704x1024 .bf16) (xo : FVec Ideal S640x1024 .f32) (p : Fin 640) (q : Fin 1024) :
    k0_pay1 (F := Ideal) (k0_pay13 (F := Ideal) xs wg wu xo wd) (ix2 p q) = xo (ix2 p q) + down xs wg wu wd p q := by
  have ha := pay9_apply xs wg
  have hb := pay10_apply xs wu
  unfold k0_pay1 k0_pay13
  generalize k0_pay9 (F := Ideal) xs wg = a at ha ⊢
  generalize k0_pay10 (F := Ideal) xs wu = b at hb ⊢
  unfold down actE
  simp only [← ha, ← hb]
  pointwise

/-- Half a row of the accumulator, less its mean. -/
def ctr (xo : FVec Ideal S640x1024 .f32) (p : Fin 640) (q : Fin 1024) : EReal :=
  cHalf * xo (ix2 p q) - Ideal.div (∑ k : Fin 1024, cHalf * xo (ix2 p k)) c1024

theorem pay2_apply (xo : FVec Ideal S640x1024 .f32) (p : Fin 640) (q : Fin 1024) :
    k0_pay2 (F := Ideal) xo (ix2 p q) = ctr xo p q := by
  unfold ctr
  pointwise [k0_pay2, c1024, cHalf]

/-- The factor that normalises a row. -/
def rsd (xo : FVec Ideal S640x1024 .f32) (p : Fin 640) : EReal :=
  Ideal.rsqrt (Ideal.div (∑ k : Fin 1024, ctr xo p k * ctr xo p k) c1024 + cEps)

theorem pay3_apply (xo : FVec Ideal S640x1024 .f32) (p : Fin 640) :
    k0_pay3 (F := Ideal) xo (ix2 p 0) = rsd xo p := by
  unfold rsd
  simp only [← pay2_apply]
  unfold k0_pay3
  generalize k0_pay2 (F := Ideal) xo = a
  pointwise [c1024, cEps]

theorem pay4_apply (xo : FVec Ideal S640x1024 .f32) (p : Fin 640) (q : Fin 1024) :
    k0_pay4 (F := Ideal) xo (ix2 p q) = ctr xo p q * rsd xo p := by
  rw [← pay3_apply, ← pay2_apply]
  pointwise [k0_pay4]

end Cert.FwdKernelIdeal.Pay

end
-- ==== Proof.FwdPoint.lean ====
/- What one grid point of the feed-forward forward kernel leaves in its outputs and its scratch, read at an index. -/
module

public import proofs.«01_k».proof.Proof.FwdFrame
public import proofs.«01_k».proof.Proof.FwdPay
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.FwdKernelIdeal.Hand

open Cert.FwdKernelIdeal Cert.FwdKernelIdeal.Gen Cert.FwdKernelIdeal.Pay

/-- The two scratch buffers, read back. -/
theorem read_acc (x : Vec Ideal S640x1024 .f32) :
    View.read (Elt Ideal) (View.whole cc0_scratch0) ((Memref.isWhole_whole cc0_scratch0).unread x) = x :=
  Memref.IsWhole.read_unread (Memref.isWhole_whole cc0_scratch0) x

theorem read_row (x : Vec Ideal S640x1024 .bf16) :
    View.read (Elt Ideal) (View.whole cc0_scratch1) ((Memref.isWhole_whole cc0_scratch1).unread x) = x :=
  Memref.IsWhole.read_unread (Memref.isWhole_whole cc0_scratch1) x

theorem outA_9_at (c : Dev nD) (t : Fin cfg0.N) (hc0 : cond0 (grid0.coords t)) (hc1 : ¬cond1 (grid0.coords t)) (x0 : Vec Ideal S640x1024 .f32) (x1 : Vec Ideal S1x1024 .f32) (x2 : Vec Ideal S1x1024 .f32) (x3 : Vec Ideal S1x704x1024 .bf16) (x4 : Vec Ideal S1x704x1024 .bf16) (x5 : Vec Ideal S1x704x1024 .bf16) (p : Fin 640) (f : Fin 704) :
    outA_9 (F := Ideal) c t hc0 hc1 x0 x1 x2 x3 x4 x5 (ix3 0 p f) = proj (k0_pay7 (F := Ideal) x0 x1 x2) x3 p f := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay11_apply _ _ p f

theorem outA_10_at (c : Dev nD) (t : Fin cfg0.N) (hc0 : cond0 (grid0.coords t)) (hc1 : ¬cond1 (grid0.coords t)) (x0 : Vec Ideal S640x1024 .f32) (x1 : Vec Ideal S1x1024 .f32) (x2 : Vec Ideal S1x1024 .f32) (x3 : Vec Ideal S1x704x1024 .bf16) (x4 : Vec Ideal S1x704x1024 .bf16) (x5 : Vec Ideal S1x704x1024 .bf16) (p : Fin 640) (f : Fin 704) :
    outA_10 (F := Ideal) c t hc0 hc1 x0 x1 x2 x3 x4 x5 (ix3 0 p f) = proj (k0_pay7 (F := Ideal) x0 x1 x2) x4 p f := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay12_apply _ _ p f

theorem outA_11_at (c : Dev nD) (t : Fin cfg0.N) (hc0 : cond0 (grid0.coords t)) (hc1 : ¬cond1 (grid0.coords t)) (x0 : Vec Ideal S640x1024 .f32) (x1 : Vec Ideal S1x1024 .f32) (x2 : Vec Ideal S1x1024 .f32) (x3 : Vec Ideal S1x704x1024 .bf16) (x4 : Vec Ideal S1x704x1024 .bf16) (x5 : Vec Ideal S1x704x1024 .bf16) (p : Fin 640) (q : Fin 1024) :
    outA_11 (F := Ideal) c t hc0 hc1 x0 x1 x2 x3 x4 x5 (ix2 p q) = (k0_pay8 (F := Ideal) x0 x1 x2) (ix2 p q) + down (k0_pay7 (F := Ideal) x0 x1 x2) x3 x4 x5 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay1_apply _ _ _ _ _ p q

theorem outA_8_at (c : Dev nD) (t : Fin cfg0.N) (hc0 : cond0 (grid0.coords t)) (hc1 : ¬cond1 (grid0.coords t)) (x0 : Vec Ideal S640x1024 .f32) (x1 : Vec Ideal S1x1024 .f32) (x2 : Vec Ideal S1x1024 .f32) (x3 : Vec Ideal S1x704x1024 .bf16) (x4 : Vec Ideal S1x704x1024 .bf16) (x5 : Vec Ideal S1x704x1024 .bf16) (p : Fin 640) (q : Fin 1024) :
    outA_8 (F := Ideal) c t hc0 hc1 x0 x1 x2 x3 x4 x5 (ix2 p q) = hE x0 x1 x2 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay6_apply _ _ _ p q

theorem outA_12_at (c : Dev nD) (t : Fin cfg0.N) (hc0 : cond0 (grid0.coords t)) (hc1 : ¬cond1 (grid0.coords t)) (x0 : Vec Ideal S640x1024 .f32) (x1 : Vec Ideal S1x1024 .f32) (x2 : Vec Ideal S1x1024 .f32) (x3 : Vec Ideal S1x704x1024 .bf16) (x4 : Vec Ideal S1x704x1024 .bf16) (x5 : Vec Ideal S1x704x1024 .bf16) (p : Fin 640) (q : Fin 1024) :
    outA_12 (F := Ideal) c t hc0 hc1 x0 x1 x2 x3 x4 x5 (ix2 p q) = hE x0 x1 x2 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay7_apply _ _ _ p q

theorem outB_9_at (c : Dev nD) (t : Fin cfg0.N) (hc0 : ¬cond0 (grid0.coords t)) (hc1 : ¬cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) (f : Fin 704) :
    outB_9 (F := Ideal) c t hc0 hc1 x3 x4 x5 x11 x12 (ix3 0 p f) = proj x12 x3 p f := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay11_apply _ _ p f

theorem outB_10_at (c : Dev nD) (t : Fin cfg0.N) (hc0 : ¬cond0 (grid0.coords t)) (hc1 : ¬cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) (f : Fin 704) :
    outB_10 (F := Ideal) c t hc0 hc1 x3 x4 x5 x11 x12 (ix3 0 p f) = proj x12 x4 p f := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay12_apply _ _ p f

theorem outB_11_at (c : Dev nD) (t : Fin cfg0.N) (hc0 : ¬cond0 (grid0.coords t)) (hc1 : ¬cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) (q : Fin 1024) :
    outB_11 (F := Ideal) c t hc0 hc1 x3 x4 x5 x11 x12 (ix2 p q) = x11 (ix2 p q) + down x12 x3 x4 x5 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay1_apply _ _ _ _ _ p q

theorem outC_9_at (c : Dev nD) (t : Fin cfg0.N) (hc0 : ¬cond0 (grid0.coords t)) (hc1 : cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) (f : Fin 704) :
    outC_9 (F := Ideal) c t hc0 hc1 x3 x4 x5 x11 x12 (ix3 0 p f) = proj x12 x3 p f := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay11_apply _ _ p f

theorem outC_10_at (c : Dev nD) (t : Fin cfg0.N) (hc0 : ¬cond0 (grid0.coords t)) (hc1 : cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) (f : Fin 704) :
    outC_10 (F := Ideal) c t hc0 hc1 x3 x4 x5 x11 x12 (ix3 0 p f) = proj x12 x4 p f := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay12_apply _ _ p f

theorem outC_11_at (c : Dev nD) (t : Fin cfg0.N) (hc0 : ¬cond0 (grid0.coords t)) (hc1 : cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) (q : Fin 1024) :
    outC_11 (F := Ideal) c t hc0 hc1 x3 x4 x5 x11 x12 (ix2 p q) = x11 (ix2 p q) + down x12 x3 x4 x5 p q := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay1_apply _ _ _ _ _ p q

theorem outC_7_at (c : Dev nD) (t : Fin cfg0.N) (hc0 : ¬cond0 (grid0.coords t)) (hc1 : cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) :
    outC_7 (F := Ideal) c t hc0 hc1 x3 x4 x5 x11 x12 (ix2 p 0) = rsd (k0_pay1 (F := Ideal) (k0_pay13 (F := Ideal) x12 x3 x4 x11 x5)) p := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay3_apply _ p

theorem outC_6_at (c : Dev nD) (t : Fin cfg0.N) (hc0 : ¬cond0 (grid0.coords t)) (hc1 : cond1 (grid0.coords t)) (x3 : Vec Ideal S1x704x1024 .bf16) (x4 : Vec Ideal S1x704x1024 .bf16) (x5 : Vec Ideal S1x704x1024 .bf16) (x11 : Vec Ideal S640x1024 .f32) (x12 : Vec Ideal S640x1024 .bf16) (p : Fin 640) (q : Fin 1024) :
    outC_6 (F := Ideal) c t hc0 hc1 x3 x4 x5 x11 x12 (ix2 p q) = ctr (k0_pay1 (F := Ideal) (k0_pay13 (F := Ideal) x12 x3 x4 x11 x5)) p q * rsd (k0_pay1 (F := Ideal) (k0_pay13 (F := Ideal) x12 x3 x4 x11 x5)) p := by
  frame_open
  try simp (disch := decide) only [↓ View.readCov_skip, ↓ View.readCov_cons_toLoadRect, ↓ View.readCov_fill]
  try frame_out
  try simp only [View.readAt_eq_ld, Memref.IsWhole.read_unread, View.read_writes_junk_eq_canon, read_acc, read_row]
  exact pay4_apply _ p q

end Cert.FwdKernelIdeal.Hand

end
-- ==== Proof.FwdState.lean ====
/- What the feed-forward forward kernel's outputs and its scratch hold after every grid point. -/
module

public import proofs.«01_k».proof.Proof.FwdPoint
public import Idealize.ShloMosaic.Lib.Pipeline.ValueKit

@[expose] public section

set_option maxRecDepth 16384

noncomputable section

open Idealize.ShloMosaic Idealize.ShloMosaic.TcCoe Idealize.SL.Sem

namespace Cert.FwdKernelIdeal.Hand

open Cert.FwdKernelIdeal Cert.FwdKernelIdeal.Gen Cert.FwdKernelIdeal.Pay
open Cert.FfnKernelIdeal.Pay (c1024 cHalf cAlpha actE)

/-- The staged arrays the kernel reads. -/
structure In where
  x : FVec Ideal S8320x1024 .f32
  gi : FVec Ideal S1x1024 .f32
  bi : FVec Ideal S1x1024 .f32
  wg : FVec Ideal S4x704x1024 .bf16
  wu : FVec Ideal S4x704x1024 .bf16
  wd : FVec Ideal S4x704x1024 .bf16

namespace In
variable (a : In)

/-- The layer's input. -/
def h (r : Fin 8320) (q : Fin 1024) : EReal := a.x (ix2 r q) * a.gi (ix2 0 q) + a.bi (ix2 0 q)
/-- The gate's projection and the other one, by chunks of columns. -/
def g (j : Fin 4) (r : Fin 8320) (f : Fin 704) : EReal := ∑ k : Fin 1024, a.h r k * a.wg (ix3 j f k)
def u (j : Fin 4) (r : Fin 8320) (f : Fin 704) : EReal := ∑ k : Fin 1024, a.h r k * a.wu (ix3 j f k)
/-- One chunk's part of the down projection. -/
def dn (j : Fin 4) (r : Fin 8320) (q : Fin 1024) : EReal := ∑ f : Fin 704, actE (a.g j r f) (a.u j r f) * a.wd (ix3 j f q)

/-- The accumulator after the chunks up to one of them. -/
def acc (r : Fin 8320) (q : Fin 1024) : ℕ → EReal
  | 0 => c2A * a.h r q + a.dn 0 r q
  | j + 1 => acc r q j + (if h : j + 1 < 4 then a.dn ⟨j + 1, h⟩ r q else 0)

/-- The normalised row: less its mean, the factor, and the two together. -/
def ctr (r : Fin 8320) (q : Fin 1024) : EReal := cHalf * a.acc r q 3 - Ideal.div (∑ k : Fin 1024, cHalf * a.acc r k 3) c1024
def rs (r : Fin 8320) : EReal := Ideal.rsqrt (Ideal.div (∑ k : Fin 1024, a.ctr r k * a.ctr r k) c1024 + cEps)
def xh (r : Fin 8320) (q : Fin 1024) : EReal := a.ctr r q * a.rs r

end In

variable (m : (ℓ : Loc nD τ sig) → Buf (Elt Ideal) ℓ)

/-- The arrays as the program stages them. -/
def inp (c : Dev nD) : In where
  x := V m c (Pipeline.arrRef spec0 0)
  gi := V m c (Pipeline.arrRef spec0 1)
  bi := V m c (Pipeline.arrRef spec0 2)
  wg := V m c (Pipeline.arrRef spec0 3)
  wu := V m c (Pipeline.arrRef spec0 4)
  wd := V m c (Pipeline.arrRef spec0 5)

theorem idx : ∀ t : Fin cfg0.N, win0_0.index t = ![t.val / 4, 0] ∧ win0_1.index t = ![0, 0] ∧ win0_2.index t = ![0, 0]
    ∧ win0_3.index t = ![t.val % 4, 0, 0] ∧ win0_4.index t = ![t.val % 4, 0, 0] ∧ win0_5.index t = ![t.val % 4, 0, 0] :=
  (by decide +kernel : ∀ t : Fin grid0.N, _)

/-- The row of the array behind a row of the point's block, and the point's chunk. -/
def row (t : Fin cfg0.N) (p : Fin 640) : Fin 8320 := ⟨t.val / 4 * 640 + p.val, by have := lt_of_lt_of_eq t.isLt N_0; omega⟩
def chk (t : Fin cfg0.N) : Fin 4 := ⟨t.val % 4, Nat.mod_lt _ (by decide)⟩

theorem ib0 (c : Dev nD) (t : Fin cfg0.N) (p : Fin 640) (q : Fin 1024) : (iblk m c 0 t : FVec Ideal S640x1024 .f32) (ix2 p q) = (inp m c).x (ix2 (row t p) q) := by
  unfold inp row
  blk_ext! [iblk, idx t]

theorem ib1 (c : Dev nD) (t : Fin cfg0.N) (q : Fin 1024) : (iblk m c 1 t : FVec Ideal S1x1024 .f32) (ix2 0 q) = (inp m c).gi (ix2 0 q) := by
  unfold inp
  blk_ext! [iblk, idx t]

theorem ib2 (c : Dev nD) (t : Fin cfg0.N) (q : Fin 1024) : (iblk m c 2 t : FVec Ideal S1x1024 .f32) (ix2 0 q) = (inp m c).bi (ix2 0 q) := by
  unfold inp
  blk_ext! [iblk, idx t]

theorem ib3 (c : Dev nD) (t : Fin cfg0.N) (f : Fin 704) (q : Fin 1024) : (iblk m c 3 t : FVec Ideal S1x704x1024 .bf16) (ix3 0 f q) = (inp m c).wg (ix3 (chk t) f q) := by
  unfold inp chk
  blk_ext! [iblk, idx t]

theorem ib4 (c : Dev nD) (t : Fin cfg0.N) (f : Fin 704) (q : Fin 1024) : (iblk m c 4 t : FVec Ideal S1x704x1024 .bf16) (ix3 0 f q) = (inp m c).wu (ix3 (chk t) f q) := by
  unfold inp chk
  blk_ext! [iblk, idx t]

theorem ib5 (c : Dev nD) (t : Fin cfg0.N) (f : Fin 704) (q : Fin 1024) : (iblk m c 5 t : FVec Ideal S1x704x1024 .bf16) (ix3 0 f q) = (inp m c).wd (ix3 (chk t) f q) := by
  unfold inp chk
  blk_ext! [iblk, idx t]

theorem h_at (c : Dev nD) (t : Fin cfg0.N) (p : Fin 640) (q : Fin 1024) :
    hE (iblk m c 0 t) (iblk m c 1 t) (iblk m c 2 t) p q = (inp m c).h (row t p) q := by
  simp only [hE, In.h, ib0, ib1, ib2]

section point
variable (c : Dev nD) (t : Fin cfg0.N) (xs : FVec Ideal S640x1024 .bf16) (hx : ∀ p q, xs (ix2 p q) = (inp m c).h (row t p) q)
include hx

theorem g_at (p : Fin 640) (f : Fin 704) : proj xs (iblk m c 3 t) p f = (inp m c).g (chk t) (row t p) f := by
  simp only [proj, In.g, hx, ib3]

theorem u_at (p : Fin 640) (f : Fin 704) : proj xs (iblk m c 4 t) p f = (inp m c).u (chk t) (row t p) f := by
  simp only [proj, In.u, hx, ib4]

theorem dn_at (p : Fin 640) (q : Fin 1024) :
    down xs (iblk m c 3 t) (iblk m c 4 t) (iblk m c 5 t) p q = (inp m c).dn (chk t) (row t p) q := by
  simp only [down, In.dn, g_at m c t xs hx, u_at m c t xs hx, ib5]

end point

theorem ctr_at (c : Dev nD) (t : Fin cfg0.N) (A : FVec Ideal S640x1024 .f32) (hA : ∀ p q, A (ix2 p q) = (inp m c).acc (row t p) q 3)
    (p : Fin 640) (q : Fin 1024) : ctr A p q = (inp m c).ctr (row t p) q := by
  simp only [ctr, In.ctr, hA]

theorem rsd_at (c : Dev nD) (t : Fin cfg0.N) (A : FVec Ideal S640x1024 .f32) (hA : ∀ p q, A (ix2 p q) = (inp m c).acc (row t p) q 3)
    (p : Fin 640) : rsd A p = (inp m c).rs (row t p) := by
  simp only [rsd, In.rs, ctr_at m c t A hA]

/-- What the outputs and the scratch hold after a point. -/
structure Good (c : Dev nD) (t : Fin cfg0.N) (s : St Ideal) : Prop where
  xh : t.val % 4 = 3 → ∀ (p : Fin 640) (q : Fin 1024), s.1 (ix2 p q) = (inp m c).xh (row t p) q
  rs : t.val % 4 = 3 → ∀ p : Fin 640, s.2.1 (ix2 p 0) = (inp m c).rs (row t p)
  h : ∀ (p : Fin 640) (q : Fin 1024), s.2.2.1 (ix2 p q) = (inp m c).h (row t p) q
  g : ∀ (p : Fin 640) (f : Fin 704), s.2.2.2.1 (ix3 0 p f) = (inp m c).g (chk t) (row t p) f
  u : ∀ (p : Fin 640) (f : Fin 704), s.2.2.2.2.1 (ix3 0 p f) = (inp m c).u (chk t) (row t p) f
  acc : ∀ (p : Fin 640) (q : Fin 1024), s.2.2.2.2.2.1 (ix2 p q) = (inp m c).acc (row t p) q (t.val % 4)
  scr : ∀ (p : Fin 640) (q : Fin 1024), s.2.2.2.2.2.2 (ix2 p q) = (inp m c).h (row t p) q

theorem scr_at (c : Dev nD) (t : Fin cfg0.N) (p : Fin 640) (q : Fin 1024) :
    k0_pay7 (F := Ideal) (iblk m c 0 t) (iblk m c 1 t) (iblk m c 2 t) (ix2 p q) = (inp m c).h (row t p) q :=
  (pay7_apply _ _ _ p q).trans (h_at m c t p q)

end Cert.FwdKernelIdeal.Hand

end
-- ==== Proof.FwdGood.lean ====
/- What the feed-forward forward kernel's outputs and its scratch hold after every grid point. -/
module

public import proofs.«01_k».proof.Proof.FwdState
public import Idealize.ShloMosaic.Lib.Pipeline.ValueKit

@[expose] public section

set_option maxRecDepth 16384

noncomputable section

open Idealize.ShloMosaic Idealize.ShloMosaic.TcCoe Idealize.SL.Sem

namespace Cert.FwdKernelIdeal.Hand

open Cert.FwdKernelIdeal Cert.FwdKernelIdeal.Gen Cert.FwdKernelIdeal.Pay
open Cert.FfnKernelIdeal.Pay (c1024 cHalf cAlpha actE)

variable (m : (ℓ : Loc nD τ sig) → Buf (Elt Ideal) ℓ)

theorem good_A (c : Dev nD) (t : Fin cfg0.N) (hm : t.val % 4 = 0) (hc0 : cond0 (grid0.coords t)) (hc1 : ¬cond1 (grid0.coords t)) :
    Good m c t (ptA m c t hc0 hc1) := by
  have hk : chk t = 0 := Fin.ext hm
  unfold ptA
  refine ⟨fun h => absurd (hm.symm.trans h) (by decide), fun h => absurd (hm.symm.trans h) (by decide), fun p q => ?_, fun p f => ?_, fun p f => ?_, fun p q => ?_, fun p q => ?_⟩
  · dsimp only; rw [outA_8_at]
    exact (h_at m c t p q)
  · dsimp only; rw [outA_9_at]
    exact (g_at m c t _ (scr_at m c t) p f)
  · dsimp only; rw [outA_10_at]
    exact (u_at m c t _ (scr_at m c t) p f)
  · dsimp only; rw [outA_11_at]
    rw [dn_at m c t _ (scr_at m c t), pay8_apply, h_at, hm, hk]
    rfl
  · dsimp only; rw [outA_12_at]
    exact (h_at m c t p q)

section next
variable (c : Dev nD) (t u : Fin cfg0.N) (hm : ¬t.val % 4 = 0) (hu : t.val = u.val + 1) (s : St Ideal) (hg : Good m c u s)
include hm hu hg

theorem row_next (p : Fin 640) : row t p = row u p := Fin.ext (by show t.val / 4 * 640 + p.val = u.val / 4 * 640 + p.val; omega)

theorem scr_next (p : Fin 640) (q : Fin 1024) : s.2.2.2.2.2.2 (ix2 p q) = (inp m c).h (row t p) q := by
  rw [hg.scr, row_next m c t u hm hu s hg]

theorem acc_next (p : Fin 640) (q : Fin 1024) :
    s.2.2.2.2.2.1 (ix2 p q) + down s.2.2.2.2.2.2 (iblk m c 3 t) (iblk m c 4 t) (iblk m c 5 t) p q = (inp m c).acc (row t p) q (t.val % 4) := by
  have hk : t.val % 4 = u.val % 4 + 1 := by omega
  have h3 : u.val % 4 + 1 < 4 := by omega
  rw [dn_at m c t _ (scr_next m c t u hm hu s hg), hg.acc, hk, row_next m c t u hm hu s hg]
  simp only [In.acc, dif_pos h3]
  rw [show chk t = ⟨u.val % 4 + 1, h3⟩ from Fin.ext hk]

theorem good_B (hc0 : ¬cond0 (grid0.coords t)) (hc1 : ¬cond1 (grid0.coords t)) : Good m c t (ptB m c t hc0 hc1 s) := by
  have h3 : ¬t.val % 4 = 3 := fun h => hc1 ((cond1_iff t).mpr h)
  have hs := scr_next m c t u hm hu s hg
  unfold ptB
  refine ⟨fun h => absurd h h3, fun h => absurd h h3, fun p q => ?_, fun p f => ?_, fun p f => ?_, fun p q => ?_, fun p q => ?_⟩
  · exact (hg.h p q).trans (by rw [row_next m c t u hm hu s hg])
  · dsimp only; rw [outB_9_at]
    exact (g_at m c t _ hs p f)
  · dsimp only; rw [outB_10_at]
    exact (u_at m c t _ hs p f)
  · dsimp only; rw [outB_11_at]
    exact (acc_next m c t u hm hu s hg p q)
  · exact hs p q

theorem good_C (hc0 : ¬cond0 (grid0.coords t)) (hc1 : cond1 (grid0.coords t)) : Good m c t (ptC m c t hc0 hc1 s) := by
  have h3 : t.val % 4 = 3 := (cond1_iff t).mp hc1
  have hs := scr_next m c t u hm hu s hg
  have hA : ∀ p q, k0_pay1 (F := Ideal) (k0_pay13 (F := Ideal) s.2.2.2.2.2.2 (iblk m c 3 t) (iblk m c 4 t) s.2.2.2.2.2.1 (iblk m c 5 t)) (ix2 p q)
      = (inp m c).acc (row t p) q 3 := fun p q =>
    ((pay1_apply _ _ _ _ _ p q).trans (acc_next m c t u hm hu s hg p q)).trans (by rw [h3])
  unfold ptC
  refine ⟨fun _ p q => ?_, fun _ p => ?_, fun p q => ?_, fun p f => ?_, fun p f => ?_, fun p q => ?_, fun p q => ?_⟩
  · dsimp only; rw [outC_6_at]
    rw [ctr_at m c t _ hA, rsd_at m c t _ hA]
    rfl
  · dsimp only; rw [outC_7_at]
    exact (rsd_at m c t _ hA p)
  · exact (hg.h p q).trans (by rw [row_next m c t u hm hu s hg])
  · dsimp only; rw [outC_9_at]
    exact (g_at m c t _ hs p f)
  · dsimp only; rw [outC_10_at]
    exact (u_at m c t _ hs p f)
  · dsimp only; rw [outC_11_at]
    exact (acc_next m c t u hm hu s hg p q)
  · exact hs p q

end next

theorem good_all (c : Dev nD) : ∀ (n : ℕ) (h : n < cfg0.N), Good m c ⟨n, h⟩ (outs m c n h)
  | 0, h => by
    have h0 : cond0 (grid0.coords ⟨0, h⟩) := (cond0_iff ⟨0, h⟩).mpr rfl
    have h1 : ¬cond1 (grid0.coords ⟨0, h⟩) := fun q => absurd ((cond1_iff ⟨0, h⟩).mp q) (by decide : ¬(0 % 4 = 3))
    have e := outs_A m c ⟨0, h⟩ h0 h1
    have := good_A m c ⟨0, h⟩ rfl h0 h1
    exact e ▸ this
  | n + 1, h => by
    have ih := good_all c n (Nat.lt_of_succ_lt h)
    by_cases hm : (n + 1) % 4 = 0
    · have h0 : cond0 (grid0.coords ⟨n + 1, h⟩) := (cond0_iff ⟨n + 1, h⟩).mpr hm
      have h1 : ¬cond1 (grid0.coords ⟨n + 1, h⟩) := fun q => by
        have := (cond1_iff ⟨n + 1, h⟩).mp q
        dsimp only at this
        omega
      have e := outs_A m c ⟨n + 1, h⟩ h0 h1
      have := good_A m c ⟨n + 1, h⟩ hm h0 h1
      exact e ▸ this
    · have h0 : ¬cond0 (grid0.coords ⟨n + 1, h⟩) := fun hc => hm ((cond0_iff ⟨n + 1, h⟩).mp hc)
      by_cases h1 : cond1 (grid0.coords ⟨n + 1, h⟩)
      · have e := outs_C m c ⟨n + 1, h⟩ h0 h1
        have := good_C m c ⟨n + 1, h⟩ ⟨n, Nat.lt_of_succ_lt h⟩ hm rfl _ ih h0 h1
        exact e ▸ this
      · have e := outs_B m c ⟨n + 1, h⟩ h0 h1
        have := good_B m c ⟨n + 1, h⟩ ⟨n, Nat.lt_of_succ_lt h⟩ hm rfl _ ih h0 h1
        exact e ▸ this

end Cert.FwdKernelIdeal.Hand

end
-- ==== Proof.FwdFinal.lean ====
/- The feed-forward forward kernel's five result arrays after the run. -/
module

public import proofs.«01_k».proof.Proof.FwdGood

@[expose] public section

set_option maxRecDepth 16384

noncomputable section

open Idealize.ShloMosaic Idealize.ShloMosaic.TcCoe Idealize.SL.Sem

namespace Cert.FwdKernelIdeal.Hand

open Cert.FwdKernelIdeal Cert.FwdKernelIdeal.Gen

variable (m : (ℓ : Loc nD τ sig) → Buf (Elt Ideal) ℓ) (ρ : Dev nD → PrngReg)

theorem odx : ∀ t : Fin cfg0.N, win0_6.index t = ![t.val / 4, 0] ∧ win0_7.index t = ![t.val / 4, 0] ∧ win0_8.index t = ![t.val / 4, 0]
    ∧ win0_9.index t = ![t.val % 4, t.val / 4, 0] ∧ win0_10.index t = ![t.val % 4, t.val / 4, 0] :=
  (by decide +kernel : ∀ t : Fin grid0.N, _)

set_option maxHeartbeats 1000000 in
theorem final6 (c : Dev nD) : (dats m 0 c).arrAt 6 cfg0.N
    = (fun y : S8320x1024.Idx => (inp m c).xh (y 0) (y 1) : FVec Ideal S8320x1024 .f32) := by
  refine (dats m 0 c).arrAt_eq_of_covers 6 _ (by decide +kernel) fun t hf y => ?_
  have hm : t.val % 4 = 3 := (flush0_6 t).mp hf
  have hN := lt_of_lt_of_eq t.isLt N_0
  blk_simp
  rw [after0_6]
  obtain ⟨p, q, rfl⟩ : ∃ (p : Fin 640) (q : Fin 1024), y = ix2 p q := ⟨y 0, y 1, by funext k; match k with | 0 => rfl | 1 => rfl⟩
  have hi := (odx t).1
  have e0 : ((win0_6.blk t).view.emb (ix2 p q) 0 : Fin 8320) = row t p := Fin.ext (by unfold row; blk_simp [hi])
  have e1 : ((win0_6.blk t).view.emb (ix2 p q) 1 : Fin 1024) = q := Fin.ext (by blk_simp [hi])
  rw [e0, e1]
  exact (good_all m c t.val t.isLt).xh hm p q

set_option maxHeartbeats 1000000 in
theorem final7 (c : Dev nD) : (dats m 0 c).arrAt 7 cfg0.N
    = (fun y : S8320x1.Idx => (inp m c).rs (y 0) : FVec Ideal S8320x1 .f32) := by
  refine (dats m 0 c).arrAt_eq_of_covers 7 _ (by decide +kernel) fun t hf y => ?_
  have hm : t.val % 4 = 3 := (flush0_7 t).mp hf
  have hN := lt_of_lt_of_eq t.isLt N_0
  blk_simp
  rw [after0_7]
  obtain ⟨p, rfl⟩ : ∃ p : Fin 640, y = ix2 p 0 :=
    ⟨y 0, by funext k; match k with | 0 => rfl | 1 => exact Fin.ext (by have h : (y 1).val < 1 := (y 1).isLt; show (y 1).val = 0; omega)⟩
  have hi := (odx t).2.1
  have e0 : ((win0_7.blk t).view.emb (ix2 p 0) 0 : Fin 8320) = row t p := Fin.ext (by unfold row; blk_simp [hi])
  rw [e0]
  exact (good_all m c t.val t.isLt).rs hm p

set_option maxHeartbeats 1000000 in
theorem final8 (c : Dev nD) : (dats m 0 c).arrAt 8 cfg0.N
    = (fun y : S8320x1024.Idx => (inp m c).h (y 0) (y 1) : FVec Ideal S8320x1024 .bf16) := by
  refine (dats m 0 c).arrAt_eq_of_covers 8 _ (by decide +kernel) fun t hf y => ?_
  have hm : t.val % 4 = 3 := (flush0_8 t).mp hf
  have hN := lt_of_lt_of_eq t.isLt N_0
  blk_simp
  rw [after0_8]
  obtain ⟨p, q, rfl⟩ : ∃ (p : Fin 640) (q : Fin 1024), y = ix2 p q := ⟨y 0, y 1, by funext k; match k with | 0 => rfl | 1 => rfl⟩
  have hi := (odx t).2.2.1
  have e0 : ((win0_8.blk t).view.emb (ix2 p q) 0 : Fin 8320) = row t p := Fin.ext (by unfold row; blk_simp [hi])
  have e1 : ((win0_8.blk t).view.emb (ix2 p q) 1 : Fin 1024) = q := Fin.ext (by blk_simp [hi])
  rw [e0, e1]
  exact (good_all m c t.val t.isLt).h p q

set_option maxHeartbeats 1000000 in
theorem final9 (c : Dev nD) : (dats m 0 c).arrAt 9 cfg0.N
    = (fun y : S4x8320x704.Idx => (inp m c).g (y 0) (y 1) (y 2) : FVec Ideal S4x8320x704 .bf16) := by
  refine (dats m 0 c).arrAt_eq_of_covers 9 _ (by decide +kernel) fun t hf y => ?_
  have hN := lt_of_lt_of_eq t.isLt N_0
  blk_simp
  rw [after0_9]
  obtain ⟨p, f, rfl⟩ : ∃ (p : Fin 640) (f : Fin 704), y = ix3 0 p f :=
    ⟨y 1, y 2, by funext k; match k with | 0 => exact Fin.ext (by have h : (y 0).val < 1 := (y 0).isLt; show (y 0).val = 0; omega) | 1 => rfl | 2 => rfl⟩
  have hi := (odx t).2.2.2.1
  have e0 : ((win0_9.blk t).view.emb (ix3 0 p f) 0 : Fin 4) = chk t := Fin.ext (by unfold chk; blk_simp [hi]; rfl)
  have e1 : ((win0_9.blk t).view.emb (ix3 0 p f) 1 : Fin 8320) = row t p := Fin.ext (by unfold row; blk_simp [hi])
  have e2 : ((win0_9.blk t).view.emb (ix3 0 p f) 2 : Fin 704) = f := Fin.ext (by blk_simp [hi])
  rw [e0, e1, e2]
  exact (good_all m c t.val t.isLt).g p f

set_option maxHeartbeats 1000000 in
theorem final10 (c : Dev nD) : (dats m 0 c).arrAt 10 cfg0.N
    = (fun y : S4x8320x704.Idx => (inp m c).u (y 0) (y 1) (y 2) : FVec Ideal S4x8320x704 .bf16) := by
  refine (dats m 0 c).arrAt_eq_of_covers 10 _ (by decide +kernel) fun t hf y => ?_
  have hN := lt_of_lt_of_eq t.isLt N_0
  blk_simp
  rw [after0_10]
  obtain ⟨p, f, rfl⟩ : ∃ (p : Fin 640) (f : Fin 704), y = ix3 0 p f :=
    ⟨y 1, y 2, by funext k; match k with | 0 => exact Fin.ext (by have h : (y 0).val < 1 := (y 0).isLt; show (y 0).val = 0; omega) | 1 => rfl | 2 => rfl⟩
  have hi := (odx t).2.2.2.2
  have e0 : ((win0_10.blk t).view.emb (ix3 0 p f) 0 : Fin 4) = chk t := Fin.ext (by unfold chk; blk_simp [hi]; rfl)
  have e1 : ((win0_10.blk t).view.emb (ix3 0 p f) 1 : Fin 8320) = row t p := Fin.ext (by unfold row; blk_simp [hi])
  have e2 : ((win0_10.blk t).view.emb (ix3 0 p f) 2 : Fin 704) = f := Fin.ext (by blk_simp [hi])
  rw [e0, e1, e2]
  exact (good_all m c t.val t.isLt).u p f

/-- The run: the five result arrays, and the arguments as they were. -/
theorem run_arrays : θ_run defs (onTc (τ := τ) (main (F := Ideal))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_v8_2) = (dats m 0 c).arrAt 8 cfg0.N
      ∧ r.2.mem ((c : Thread nD τ).loc main_v8_3) = (dats m 0 c).arrAt 9 cfg0.N
      ∧ r.2.mem ((c : Thread nD τ).loc main_v8_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.FwdKernelIdeal.Hand

end
-- ==== Proof.FwdEq.lean ====
/- The feed-forward forward kernel's five result arrays, equal to the reference's, for every input. -/
module

public import proofs.«01_k».proof.Proof.FwdHost
public import proofs.«01_k».proof.Proof.FwdFinal
public import proofs.«01_k».proof.Proof.FfnEq
public import proofs.«01_k».proof.Proof.Gen.FwdReferenceIdeal.Read

@[expose] public section

set_option maxRecDepth 16384

noncomputable section

open Idealize.ShloMosaic Idealize.ShloMosaic.TcCoe Idealize.SL.Sem

namespace Cert.FwdAlg

open Cert.FwdReferenceIdeal Cert.FwdReferenceIdeal.Read Cert.FwdKernelIdeal.Hand Cert.FwdKernelIdeal.Pay
open Cert.FfnMath (ofBits_half ofBits_one)
open Cert.FfnAlg (eta2 eta3 tiles)
open Cert.FfnKernelIdeal.Hand (cat)
open Cert.FfnKernelIdeal.Pay (c1024 cHalf cAlpha actE)

/-! ## Constants -/

/-- Half of the doubled factor is the factor. -/
theorem half_c2A : cHalf * c2A = cAlpha := by
  have h2 : Ideal.ofBits .f32 0x403504F3#32 = ((11863283 / 4194304 : ℝ) : EReal) := by
    simp [Ideal.ofBits, Ideal.ieee, -EReal.coe_mul]; norm_num
  have h1 : Ideal.ofBits .f32 0x3FB504F3#32 = ((11863283 / 8388608 : ℝ) : EReal) := by
    simp [Ideal.ofBits, Ideal.ieee, -EReal.coe_mul]; norm_num
  unfold cHalf c2A cAlpha
  rw [ofBits_half, h2, h1, ← EReal.coe_mul]
  exact congrArg _ (by norm_num)

theorem half_add (x y : EReal) : cHalf * (x + y) = cHalf * x + cHalf * y := by
  unfold cHalf
  rw [ofBits_half]
  exact EReal.left_distrib_of_nonneg_of_ne_top (EReal.coe_nonneg.mpr (by norm_num)) (EReal.coe_ne_top _) x y

/-- A reduction starts at zero. -/
theorem from_zero (x : EReal) : Ideal.ofBits .f32 0x00000000#32 + x = x := by
  rw [Ideal.ofBits_zero_f32, zero_add]

/-! ## The stages -/

variable (m : (ℓ : Loc Cert.FwdKernelIdeal.nD Cert.FwdKernelIdeal.τ Cert.FwdKernelIdeal.sig) → Buf (Elt Ideal) ℓ) (c : Dev Cert.FwdKernelIdeal.nD)

theorem h_eq (r : Fin 8320) (q : Fin 1024) : (inp m c).h r q = val_main_v3 (F := Ideal) (a0 m c) (a1 m c) (a2 m c) (ix2 r q) := by
  rw [val_main_v3_apply, val_main_v1_apply, val_main_v0_apply, val_main_v2_apply]
  refine congrArg₂ (fun x y : EReal => x + y) (congrArg₂ (fun x y : EReal => x * y) (congrFun (W0 m c) _) ((congrFun (W1 m c) _).trans (congrArg (a1 m c) ?_)))
    ((congrFun (W2 m c) _).trans (congrArg (a2 m c) ?_))
  · funext k
    match k with
    | 0 => rfl
    | 1 => rfl
  · funext k
    match k with
    | 0 => rfl
    | 1 => rfl

theorem g_eq (j : Fin 4) (r : Fin 8320) (f : Fin 704) :
    (inp m c).g j r f = val_main_v4 (F := Ideal) (a0 m c) (a1 m c) (a2 m c) (a3 m c) (ix2 r (cat j f)) := by
  rw [val_main_v4_apply]
  refine Finset.sum_congr rfl fun k _ => congrArg₂ (fun x y : EReal => x * y) ((h_eq m c r k).trans (congrArg (val_main_v3 (F := Ideal) (a0 m c) (a1 m c) (a2 m c)) ?_))
    ((W3 m c j f k).trans (congrArg (a3 m c) ?_))
  · funext k
    match k with
    | 0 => rfl
    | 1 => rfl
  · funext k
    match k with
    | 0 => rfl
    | 1 => rfl

theorem u_eq (j : Fin 4) (r : Fin 8320) (f : Fin 704) :
    (inp m c).u j r f = val_main_v5 (F := Ideal) (a0 m c) (a1 m c) (a2 m c) (a4 m c) (ix2 r (cat j f)) := by
  rw [val_main_v5_apply]
  refine Finset.sum_congr rfl fun k _ => congrArg₂ (fun x y : EReal => x * y) ((h_eq m c r k).trans (congrArg (val_main_v3 (F := Ideal) (a0 m c) (a1 m c) (a2 m c)) ?_))
    ((W4 m c j f k).trans (congrArg (a4 m c) ?_))
  · funext k
    match k with
    | 0 => rfl
    | 1 => rfl
  · funext k
    match k with
    | 0 => rfl
    | 1 => rfl

/-- The reference's sigmoid is the logistic function. -/
theorem sig (x0 : FVec Ideal S8320x1024 .f32) (x1 x2 : FVec Ideal S1x1024 .f32) (x3 : FVec Ideal S1024x2816 .f32) (i : S8320x2816.Idx) :
    val_main_call0_v5 (F := Ideal) x0 x1 x2 x3 i = Ideal.logistic (val_main_v4 (F := Ideal) x0 x1 x2 x3 i) := by
  rw [val_main_call0_v5_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-_)) = _
  rw [ofBits_one, EReal.coe_one]
  rfl

theorem act_eq (j : Fin 4) (r : Fin 8320) (f : Fin 704) :
    actE ((inp m c).g j r f) ((inp m c).u j r f) = val_main_v9 (F := Ideal) (a0 m c) (a1 m c) (a2 m c) (a3 m c) (a4 m c) (ix2 r (cat j f)) := by
  rw [val_main_v9_apply, val_main_v8_apply, sig, g_eq, u_eq]
  rfl

theorem down_eq (r : Fin 8320) (q : Fin 1024) :
    ∑ j : Fin 4, (inp m c).dn j r q = val_main_v10 (F := Ideal) (a0 m c) (a1 m c) (a2 m c) (a3 m c) (a4 m c) (a5 m c) (ix2 r q) := by
  rw [val_main_v10_apply, tiles]
  refine Finset.sum_congr rfl fun j _ => Finset.sum_congr rfl fun f _ => congrArg₂ (fun x y : EReal => x * y)
    ((act_eq m c j r f).trans (congrArg (val_main_v9 (F := Ideal) (a0 m c) (a1 m c) (a2 m c) (a3 m c) (a4 m c)) ?_)) ((W5 m c j f q).trans (congrArg (a5 m c) ?_))
  · funext k
    match k with
    | 0 => rfl
    | 1 => rfl
  · funext k
    match k with
    | 0 => rfl
    | 1 => rfl

/-- Half the accumulator is the sum that the reference normalises. -/
theorem L13 (i : S8320x1024.Idx) : val_main_v13 (F := Ideal) (a0 m c) (a1 m c) (a2 m c) (a3 m c) (a4 m c) (a5 m c) i = cHalf * (inp m c).acc (i 0) (i 1) 3 := by
  obtain ⟨r, q, rfl⟩ : ∃ (r : Fin 8320) (q : Fin 1024), i = ix2 r q := ⟨i 0, i 1, eta2 i⟩
  have e : (inp m c).acc r q 3 = c2A * (inp m c).h r q + ∑ j : Fin 4, (inp m c).dn j r q := by
    rw [Fin.sum_univ_four]
    show c2A * (inp m c).h r q + (inp m c).dn 0 r q + (inp m c).dn 1 r q + (inp m c).dn 2 r q + (inp m c).dn 3 r q = _
    rw [add_assoc, add_assoc, add_assoc, add_assoc, add_assoc]
  rw [val_main_v13_apply, val_main_v7_apply, val_main_v6_apply, val_main_v12_apply, val_main_v11_apply, ← down_eq, ← h_eq]
  refine Eq.trans ?_ (congrArg (fun x : EReal => cHalf * x) e).symm
  rw [half_add, ← mul_assoc, half_c2A]
  rfl

theorem L17 (i : S8320x1.Idx) : val_main_v17 (F := Ideal) (a0 m c) (a1 m c) (a2 m c) (a3 m c) (a4 m c) (a5 m c) i
    = Ideal.div (∑ k : Fin 1024, cHalf * (inp m c).acc (i 0) k 3) c1024 := by
  rw [val_main_v17_apply, val_main_v15_apply, val_main_v14_apply, val_main_v16_apply]
  exact congrArg (fun x : EReal => Ideal.div x c1024) ((from_zero _).trans (Finset.sum_congr rfl fun k _ => L13 m c _))

theorem L19 (i : S8320x1024.Idx) : val_main_v19 (F := Ideal) (a0 m c) (a1 m c) (a2 m c) (a3 m c) (a4 m c) (a5 m c) i = (inp m c).ctr (i 0) (i 1) := by
  rw [val_main_v19_apply, val_main_v18_apply, L13, L17]
  rfl

theorem L29 (i : S8320x1024.Idx) : val_main_v29 (F := Ideal) (a0 m c) (a1 m c) (a2 m c) (a3 m c) (a4 m c) (a5 m c) i = (inp m c).ctr (i 0) (i 1) := by
  rw [val_main_v29_apply, val_main_v28_apply, L13, L17]
  rfl

theorem L27 (i : S8320x1.Idx) : val_main_v27 (F := Ideal) (a0 m c) (a1 m c) (a2 m c) (a3 m c) (a4 m c) (a5 m c) i = (inp m c).rs (i 0) := by
  rw [val_main_v27_apply, val_main_v26_apply, val_main_v24_apply, val_main_v22_apply, val_main_v21_apply, val_main_v23_apply, val_main_v25_apply,
    Ideal.hostUnary_rsqrt_def]
  refine congrArg Ideal.rsqrt (congrArg (fun x : EReal => Ideal.div x c1024 + cEps) ((from_zero _).trans (Finset.sum_congr rfl fun k _ => ?_)))
  rw [val_main_v20_apply, L19]
  rfl

theorem L31 (i : S8320x1024.Idx) : val_main_v31 (F := Ideal) (a0 m c) (a1 m c) (a2 m c) (a3 m c) (a4 m c) (a5 m c) i = (inp m c).xh (i 0) (i 1) := by
  rw [val_main_v31_apply, val_main_v30_apply, L29, L27]
  rfl

/-- An array cut into chunks of columns, read at a chunk's index. -/
theorem chunk (y : FVec Ideal S8320x2816 .f32) (j : Fin 4) (r : Fin 8320) (f : Fin 704) :
    y (idx_main_v33 (idx_main_v34 (ix3 j r f))) = y (ix2 r (cat j f)) := by
  refine congrArg y ?_
  funext k
  match k with
  | 0 => exact Fin.ext (by show ((r.val * 4 + j.val) * 704 + f.val) / 2816 = r.val; omega)
  | 1 => exact Fin.ext (by show ((r.val * 4 + j.val) * 704 + f.val) % 2816 = j.val * 704 + f.val; omega)

theorem v35_ix (i : S4x8320x704.Idx) : val_main_v35 (F := Ideal) (a0 m c) (a1 m c) (a2 m c) (a3 m c) i
    = val_main_v4 (F := Ideal) (a0 m c) (a1 m c) (a2 m c) (a3 m c) (ix2 (i 1) (cat (i 0) (i 2))) := by
  rw [val_main_v35_apply, val_main_v34_apply, val_main_v33_apply]
  exact (congrArg (val_main_v4 (F := Ideal) (a0 m c) (a1 m c) (a2 m c) (a3 m c)) (congrArg (fun z => idx_main_v33 (idx_main_v34 z)) (eta3 i))).trans
    (chunk (val_main_v4 (F := Ideal) (a0 m c) (a1 m c) (a2 m c) (a3 m c)) (i 0) (i 1) (i 2))

theorem v38_ix (i : S4x8320x704.Idx) : val_main_v38 (F := Ideal) (a0 m c) (a1 m c) (a2 m c) (a4 m c) i
    = val_main_v5 (F := Ideal) (a0 m c) (a1 m c) (a2 m c) (a4 m c) (ix2 (i 1) (cat (i 0) (i 2))) := by
  rw [val_main_v38_apply, val_main_v37_apply, val_main_v36_apply]
  exact (congrArg (val_main_v5 (F := Ideal) (a0 m c) (a1 m c) (a2 m c) (a4 m c)) (congrArg (fun z => idx_main_v33 (idx_main_v34 z)) (eta3 i))).trans
    (chunk (val_main_v5 (F := Ideal) (a0 m c) (a1 m c) (a2 m c) (a4 m c)) (i 0) (i 1) (i 2))

/-! ## The result arrays -/

theorem eq6 : (dats m 0 c).arrAt 6 Cert.FwdKernelIdeal.cfg0.N = val_main_v31 (F := Ideal) (a0 m c) (a1 m c) (a2 m c) (a3 m c) (a4 m c) (a5 m c) := by
  rw [final6]
  funext i
  exact (L31 m c i).symm

theorem eq7 : (dats m 0 c).arrAt 7 Cert.FwdKernelIdeal.cfg0.N = val_main_v27 (F := Ideal) (a0 m c) (a1 m c) (a2 m c) (a3 m c) (a4 m c) (a5 m c) := by
  rw [final7]
  funext i
  exact (L27 m c i).symm

theorem eq8 : (dats m 0 c).arrAt 8 Cert.FwdKernelIdeal.cfg0.N = val_main_v32 (F := Ideal) (a0 m c) (a1 m c) (a2 m c) := by
  rw [final8]
  funext i
  rw [val_main_v32_apply]
  exact (h_eq m c (i 0) (i 1)).trans (congrArg (val_main_v3 (F := Ideal) (a0 m c) (a1 m c) (a2 m c)) (eta2 i).symm)

theorem eq9 : (dats m 0 c).arrAt 9 Cert.FwdKernelIdeal.cfg0.N = val_main_v35 (F := Ideal) (a0 m c) (a1 m c) (a2 m c) (a3 m c) := by
  rw [final9]
  funext i
  exact (g_eq m c (i 0) (i 1) (i 2)).trans (v35_ix m c i).symm

theorem eq10 : (dats m 0 c).arrAt 10 Cert.FwdKernelIdeal.cfg0.N = val_main_v38 (F := Ideal) (a0 m c) (a1 m c) (a2 m c) (a4 m c) := by
  rw [final10]
  funext i
  exact (u_eq m c (i 0) (i 1) (i 2)).trans (v38_ix m c i).symm

end Cert.FwdAlg

end
-- ==== Proof.OutGradKer.lean ====
/- The output projection's weights' gradient: the kernel's array after the run is the product over all the rows. -/
module

public import proofs.«01_k».proof.Proof.Gen.OutGradKernelIdeal.Value
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.OutGradKernelIdeal.Ker

open Cert.OutGradKernelIdeal Cert.OutGradKernelIdeal.Gen

variable (m : (ℓ : Loc nD τ sig) → Buf (Elt Ideal) ℓ)

theorem pay2_apply (acc : FVec Ideal S512x1024 .f32) (a : FVec Ideal S4160x512 .bf16) (b : FVec Ideal S4160x1024 .bf16) (p : Fin 512) (q : Fin 1024) :
    k0_pay2 (F := Ideal) acc a b (ix2 p q) = acc (ix2 p q) + ∑ k : Fin 4160, a (ix2 k p) * b (ix2 k q) := by
  pointwise [k0_pay2]

theorem sout_A (c : Dev nD) (t : Fin cfg0.N) hc0 hc1 (x0 : Vec Ideal S4160x512 .bf16) (x1 : Vec Ideal S4160x1024 .bf16) (p : Fin 512) (q : Fin 1024) :
    sout0_A_0 c (grid0.coords t) (ms0_0 t) (hs0_0 t) (ms0_1 t) (hs0_1 t) (ms0_2 t) (hs0_2 t) scM0_0 (Memref.isWhole_whole _) hc0 hc1 x0 x1 (ix2 p q)
      = ∑ k : Fin 4160, x0 (ix2 k p) * x1 (ix2 k q) := by
  frame_open
  simp (disch := decide) only [↓ View.readCov_skip, ↓ View.readCov_cons_toLoadRect, ↓ View.readCov_fill]
  frame_out
  refine (pay2_apply _ _ _ p q).trans ?_
  pointwise [k0_pay1]

theorem out_B (c : Dev nD) (t : Fin cfg0.N) hc0 hc1 (x0 : Vec Ideal S4160x512 .bf16) (x1 : Vec Ideal S4160x1024 .bf16) (xs : Vec Ideal S512x1024 .f32) (p : Fin 512) (q : Fin 1024) :
    out0_B_2 c (grid0.coords t) (ms0_0 t) (hs0_0 t) (ms0_1 t) (hs0_1 t) (ms0_2 t) (hs0_2 t) scM0_0 (Memref.isWhole_whole _) hc0 hc1 x0 x1 xs (ix2 p q)
      = xs (ix2 p q) + ∑ k : Fin 4160, x0 (ix2 k p) * x1 (ix2 k q) := by
  frame_open
  simp (disch := decide) only [↓ View.readCov_skip, ↓ View.readCov_cons_toLoadRect, ↓ View.readCov_fill]
  frame_out
  refine (pay2_apply _ _ _ p q).trans ?_
  exact congrArg (· + _) (congrFun (Memref.IsWhole.read_unread (Memref.isWhole_whole cc0_scratch0) xs) (ix2 p q))

abbrev aA (c : Dev nD) : FVec Ideal S8320x512 .f32 := m ((c : Thread nD τ).loc main_arg0)
abbrev aB (c : Dev nD) : FVec Ideal S8320x1024 .f32 := m ((c : Thread nD τ).loc main_arg1)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem A_at (c : Dev nD) (s : Fin 8320) (p : Fin 512) :
    (V m c (Pipeline.arrRef spec0 0) : FVec Ideal S8320x512 .bf16) (ix2 s p) = aA m c (ix2 s p) := by
  unfold V
  simp only [List.flatten_cons, List.flatten_nil, List.append_nil]
  entry_read
  rfl

theorem B_at (c : Dev nD) (s : Fin 8320) (q : Fin 1024) :
    (V m c (Pipeline.arrRef spec0 1) : FVec Ideal S8320x1024 .bf16) (ix2 s q) = aB m c (ix2 s q) := by
  unfold V
  simp only [List.flatten_cons, List.flatten_nil, List.append_nil]
  entry_read
  rfl

theorem iblk0_at (c : Dev nD) (t : Fin cfg0.N) (k : Fin 4160) (p : Fin 512) :
    (iblk m c 0 t : FVec Ideal S4160x512 .bf16) (ix2 k p)
      = aA m c (ix2 ⟨(t.val % 2) * 4160 + k.val, by omega⟩ ⟨(t.val / 2) * 512 + p.val, by have := lt_of_lt_of_eq t.isLt N_0; omega⟩) := by
  rw [← A_at m c]
  blk_ext! [iblk, idx t]

theorem iblk1_at (c : Dev nD) (t : Fin cfg0.N) (k : Fin 4160) (q : Fin 1024) :
    (iblk m c 1 t : FVec Ideal S4160x1024 .bf16) (ix2 k q) = aB m c (ix2 ⟨(t.val % 2) * 4160 + k.val, by omega⟩ q) := by
  rw [← B_at m c]
  blk_ext! [iblk, idx t]

/-- Both halves of the rows are all the rows. -/
theorem halves (f : Fin 8320 → EReal) :
    (∑ k : Fin 4160, f ⟨0 * 4160 + k.val, by omega⟩) + (∑ k : Fin 4160, f ⟨1 * 4160 + k.val, by omega⟩) = ∑ s : Fin 8320, f s := by
  rw [Fin.sum_univ_tiles 2 4160 rfl f, Fin.sum_univ_two]
  rfl

/-- The product over all the rows. -/
def W (A : FVec Ideal S8320x512 .f32) (B : FVec Ideal S8320x1024 .f32) (p : Fin 512) (q : Fin 1024) : EReal :=
  ∑ s : Fin 8320, A (ix2 s p) * B (ix2 s q)

set_option maxHeartbeats 1000000 in
theorem out_at (c : Dev nD) (t : Fin cfg0.N) (h : t.val % 2 = 1) (p : Fin 512) (q : Fin 1024) :
    (outsAt0 m c t.val t.isLt).1 (ix2 p q) = W (aA m c) (aB m c) ⟨(t.val / 2) * 512 + p.val, by have := lt_of_lt_of_eq t.isLt N_0; omega⟩ q := by
  have hN := lt_of_lt_of_eq t.isLt N_0
  let u : Fin cfg0.N := ⟨t.val - 1, Nat.lt_of_le_of_lt (Nat.sub_le _ _) t.isLt⟩
  have hu : u.val % 2 = 0 := by show (t.val - 1) % 2 = 0; omega
  rw [outsAt0_B m c t (by omega) h]
  dsimp only
  refine (out_B c t _ _ (iblk m c 0 t) (iblk m c 1 t) _ p q).trans ?_
  rw [show outsAt0 m c (t.val - 1) _ = _ from outsAt0_A m c u hu (by omega)]
  dsimp only
  refine (congrArg (· + _) (sout_A c u _ _ (iblk m c 0 u) (iblk m c 1 u) p q)).trans ?_
  unfold W
  rw [← halves]
  refine congrArg₂ (· + ·) (Finset.sum_congr rfl fun k _ => ?_) (Finset.sum_congr rfl fun k _ => ?_)
  · rw [iblk0_at, iblk1_at]
    refine congrArg₂ (· * ·) (congrArg (aA m c) (congrArg₂ ix2 (Fin.ext ?_) (Fin.ext ?_))) (congrArg (aB m c) (congrArg (ix2 · q) (Fin.ext ?_)))
    · show u.val % 2 * 4160 + k.val = 0 * 4160 + k.val
      rw [hu]
    · show (t.val - 1) / 2 * 512 + p.val = t.val / 2 * 512 + p.val
      rw [show (t.val - 1) / 2 = t.val / 2 by omega]
    · show u.val % 2 * 4160 + k.val = 0 * 4160 + k.val
      rw [hu]
  · rw [iblk0_at, iblk1_at]
    refine congrArg₂ (· * ·) (congrArg (aA m c) (congrArg₂ ix2 (Fin.ext ?_) rfl)) (congrArg (aB m c) (congrArg (ix2 · q) (Fin.ext ?_)))
    · show t.val % 2 * 4160 + k.val = 1 * 4160 + k.val
      rw [h]
    · show t.val % 2 * 4160 + k.val = 1 * 4160 + k.val
      rw [h]

set_option maxHeartbeats 1000000 in
theorem final2 (c : Dev nD) : (dats m 0 c).arrAt 2 cfg0.N
    = (fun y : S512x1024.Idx => W (aA m c) (aB m c) (y 0) (y 1) : FVec Ideal S512x1024 .bf16) := by
  refine (dats m 0 c).arrAt_eq_of_covers 2 _ (by decide +kernel) fun t hf y => ?_
  have hm : t.val % 2 = 1 := (flush0_2 t).mp hf
  have hN := lt_of_lt_of_eq t.isLt N_0
  blk_simp
  rw [after0_2]
  obtain ⟨p, q, rfl⟩ : ∃ (p : Fin 512) (q : Fin 1024), y = ix2 p q := ⟨y 0, y 1, by funext k; match k with | 0 => rfl | 1 => rfl⟩
  have hi := (idx t).2.2
  have hp : t.val / 2 * 512 + p.val < 512 := by have := p.isLt; omega
  have e0 : ((win0_2.blk t).view.emb (ix2 p q) 0 : Fin 512) = ⟨(t.val / 2) * 512 + p.val, hp⟩ := Fin.ext (by blk_simp [hi])
  have e1 : ((win0_2.blk t).view.emb (ix2 p q) 1 : Fin 1024) = q := Fin.ext (by blk_simp [hi])
  rw [e0, e1]
  exact out_at m c t hm p q

end Cert.OutGradKernelIdeal.Ker

end
-- ==== Proof.InGradKer.lean ====
/- The input projection's weights' gradient: the kernel's array after the run is the product over all the rows. -/
module

public import proofs.«01_k».proof.Proof.Gen.InGradKernelIdeal.Value
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.InGradKernelIdeal.Ker

open Cert.InGradKernelIdeal Cert.InGradKernelIdeal.Gen

variable (m : (ℓ : Loc nD τ sig) → Buf (Elt Ideal) ℓ)

theorem pay2_apply (acc : FVec Ideal S512x1024 .f32) (a : FVec Ideal S4160x512 .bf16) (b : FVec Ideal S4160x1024 .bf16) (p : Fin 512) (q : Fin 1024) :
    k0_pay2 (F := Ideal) acc a b (ix2 p q) = acc (ix2 p q) + ∑ k : Fin 4160, a (ix2 k p) * b (ix2 k q) := by
  pointwise [k0_pay2]

theorem sout_A (c : Dev nD) (t : Fin cfg0.N) hc0 hc1 (x0 : Vec Ideal S4160x512 .bf16) (x1 : Vec Ideal S4160x1024 .bf16) (p : Fin 512) (q : Fin 1024) :
    sout0_A_0 c (grid0.coords t) (ms0_0 t) (hs0_0 t) (ms0_1 t) (hs0_1 t) (ms0_2 t) (hs0_2 t) scM0_0 (Memref.isWhole_whole _) hc0 hc1 x0 x1 (ix2 p q)
      = ∑ k : Fin 4160, x0 (ix2 k p) * x1 (ix2 k q) := by
  frame_open
  simp (disch := decide) only [↓ View.readCov_skip, ↓ View.readCov_cons_toLoadRect, ↓ View.readCov_fill]
  frame_out
  refine (pay2_apply _ _ _ p q).trans ?_
  pointwise [k0_pay1]

theorem out_B (c : Dev nD) (t : Fin cfg0.N) hc0 hc1 (x0 : Vec Ideal S4160x512 .bf16) (x1 : Vec Ideal S4160x1024 .bf16) (xs : Vec Ideal S512x1024 .f32) (p : Fin 512) (q : Fin 1024) :
    out0_B_2 c (grid0.coords t) (ms0_0 t) (hs0_0 t) (ms0_1 t) (hs0_1 t) (ms0_2 t) (hs0_2 t) scM0_0 (Memref.isWhole_whole _) hc0 hc1 x0 x1 xs (ix2 p q)
      = xs (ix2 p q) + ∑ k : Fin 4160, x0 (ix2 k p) * x1 (ix2 k q) := by
  frame_open
  simp (disch := decide) only [↓ View.readCov_skip, ↓ View.readCov_cons_toLoadRect, ↓ View.readCov_fill]
  frame_out
  refine (pay2_apply _ _ _ p q).trans ?_
  exact congrArg (· + _) (congrFun (Memref.IsWhole.read_unread (Memref.isWhole_whole cc0_scratch0) xs) (ix2 p q))

abbrev aA (c : Dev nD) : FVec Ideal S8320x2048 .f32 := m ((c : Thread nD τ).loc main_arg0)
abbrev aB (c : Dev nD) : FVec Ideal S8320x1024 .f32 := m ((c : Thread nD τ).loc main_arg1)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem A_at (c : Dev nD) (s : Fin 8320) (p : Fin 2048) :
    (V m c (Pipeline.arrRef spec0 0) : FVec Ideal S8320x2048 .bf16) (ix2 s p) = aA m c (ix2 s p) := by
  unfold V
  simp only [List.flatten_cons, List.flatten_nil, List.append_nil]
  entry_read
  rfl

theorem B_at (c : Dev nD) (s : Fin 8320) (q : Fin 1024) :
    (V m c (Pipeline.arrRef spec0 1) : FVec Ideal S8320x1024 .bf16) (ix2 s q) = aB m c (ix2 s q) := by
  unfold V
  simp only [List.flatten_cons, List.flatten_nil, List.append_nil]
  entry_read
  rfl

theorem iblk0_at (c : Dev nD) (t : Fin cfg0.N) (k : Fin 4160) (p : Fin 512) :
    (iblk m c 0 t : FVec Ideal S4160x512 .bf16) (ix2 k p)
      = aA m c (ix2 ⟨(t.val % 2) * 4160 + k.val, by omega⟩ ⟨(t.val / 2) * 512 + p.val, by have := lt_of_lt_of_eq t.isLt N_0; omega⟩) := by
  rw [← A_at m c]
  blk_ext! [iblk, idx t]

theorem iblk1_at (c : Dev nD) (t : Fin cfg0.N) (k : Fin 4160) (q : Fin 1024) :
    (iblk m c 1 t : FVec Ideal S4160x1024 .bf16) (ix2 k q) = aB m c (ix2 ⟨(t.val % 2) * 4160 + k.val, by omega⟩ q) := by
  rw [← B_at m c]
  blk_ext! [iblk, idx t]

/-- Both halves of the rows are all the rows. -/
theorem halves (f : Fin 8320 → EReal) :
    (∑ k : Fin 4160, f ⟨0 * 4160 + k.val, by omega⟩) + (∑ k : Fin 4160, f ⟨1 * 4160 + k.val, by omega⟩) = ∑ s : Fin 8320, f s := by
  rw [Fin.sum_univ_tiles 2 4160 rfl f, Fin.sum_univ_two]
  rfl

/-- The product over all the rows. -/
def W (A : FVec Ideal S8320x2048 .f32) (B : FVec Ideal S8320x1024 .f32) (p : Fin 2048) (q : Fin 1024) : EReal :=
  ∑ s : Fin 8320, A (ix2 s p) * B (ix2 s q)

set_option maxHeartbeats 1000000 in
theorem out_at (c : Dev nD) (t : Fin cfg0.N) (h : t.val % 2 = 1) (p : Fin 512) (q : Fin 1024) :
    (outsAt0 m c t.val t.isLt).1 (ix2 p q) = W (aA m c) (aB m c) ⟨(t.val / 2) * 512 + p.val, by have := lt_of_lt_of_eq t.isLt N_0; omega⟩ q := by
  have hN := lt_of_lt_of_eq t.isLt N_0
  let u : Fin cfg0.N := ⟨t.val - 1, Nat.lt_of_le_of_lt (Nat.sub_le _ _) t.isLt⟩
  have hu : u.val % 2 = 0 := by show (t.val - 1) % 2 = 0; omega
  rw [outsAt0_B m c t (by omega) h]
  dsimp only
  refine (out_B c t _ _ (iblk m c 0 t) (iblk m c 1 t) _ p q).trans ?_
  rw [show outsAt0 m c (t.val - 1) _ = _ from outsAt0_A m c u hu (by omega)]
  dsimp only
  refine (congrArg (· + _) (sout_A c u _ _ (iblk m c 0 u) (iblk m c 1 u) p q)).trans ?_
  unfold W
  rw [← halves]
  refine congrArg₂ (· + ·) (Finset.sum_congr rfl fun k _ => ?_) (Finset.sum_congr rfl fun k _ => ?_)
  · rw [iblk0_at, iblk1_at]
    refine congrArg₂ (· * ·) (congrArg (aA m c) (congrArg₂ ix2 (Fin.ext ?_) (Fin.ext ?_))) (congrArg (aB m c) (congrArg (ix2 · q) (Fin.ext ?_)))
    · show u.val % 2 * 4160 + k.val = 0 * 4160 + k.val
      rw [hu]
    · show (t.val - 1) / 2 * 512 + p.val = t.val / 2 * 512 + p.val
      rw [show (t.val - 1) / 2 = t.val / 2 by omega]
    · show u.val % 2 * 4160 + k.val = 0 * 4160 + k.val
      rw [hu]
  · rw [iblk0_at, iblk1_at]
    refine congrArg₂ (· * ·) (congrArg (aA m c) (congrArg₂ ix2 (Fin.ext ?_) rfl)) (congrArg (aB m c) (congrArg (ix2 · q) (Fin.ext ?_)))
    · show t.val % 2 * 4160 + k.val = 1 * 4160 + k.val
      rw [h]
    · show t.val % 2 * 4160 + k.val = 1 * 4160 + k.val
      rw [h]

set_option maxHeartbeats 1000000 in
theorem final2 (c : Dev nD) : (dats m 0 c).arrAt 2 cfg0.N
    = (fun y : S2048x1024.Idx => W (aA m c) (aB m c) (y 0) (y 1) : FVec Ideal S2048x1024 .bf16) := by
  refine (dats m 0 c).arrAt_eq_of_covers 2 _ (by decide +kernel) fun t hf y => ?_
  have hm : t.val % 2 = 1 := (flush0_2 t).mp hf
  have hN := lt_of_lt_of_eq t.isLt N_0
  blk_simp
  rw [after0_2]
  obtain ⟨p, q, rfl⟩ : ∃ (p : Fin 512) (q : Fin 1024), y = ix2 p q := ⟨y 0, y 1, by funext k; match k with | 0 => rfl | 1 => rfl⟩
  have hi := (idx t).2.2
  have hp : t.val / 2 * 512 + p.val < 2048 := by have := p.isLt; omega
  have e0 : ((win0_2.blk t).view.emb (ix2 p q) 0 : Fin 2048) = ⟨(t.val / 2) * 512 + p.val, hp⟩ := Fin.ext (by blk_simp [hi])
  have e1 : ((win0_2.blk t).view.emb (ix2 p q) 1 : Fin 1024) = q := Fin.ext (by blk_simp [hi])
  rw [e0, e1]
  exact out_at m c t hm p q

end Cert.InGradKernelIdeal.Ker

end
-- ==== Proof.InprojKer.lean ====
/- The input projection's gradient: what the kernel leaves at a point. -/
module

public import proofs.«01_k».proof.Proof.Gen.InprojKernelIdeal.Value
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.InprojKernelIdeal.Ker

open Cert.InprojKernelIdeal Cert.InprojKernelIdeal.Gen

variable (m : (ℓ : Loc nD τ sig) → Buf (Elt Ideal) ℓ)

theorem pay7_apply (v0 : FVec Ideal S640x1024 .f32) (v1 : FVec Ideal S640x128 .bf16) (v3 : FVec Ideal S128x1024 .bf16) (v7 : FVec Ideal S640x512 .bf16)
    (v10 : FVec Ideal S512x1024 .bf16) (v14 : FVec Ideal S640x256 .bf16) (v17 : FVec Ideal S256x1024 .bf16) (v21 : FVec Ideal S640x256 .bf16) (v24 : FVec Ideal S256x1024 .bf16) (r : Fin 640) (q : Fin 1024) :
    k0_pay7 (F := Ideal) v0 v1 v3 v7 v10 v14 v17 v21 v24 (ix2 r q)
      = v0 (ix2 r q) + (∑ k : Fin 128, v1 (ix2 r k) * v3 (ix2 k q)) + (∑ k : Fin 512, v7 (ix2 r k) * v10 (ix2 k q))
        + (∑ k : Fin 256, v14 (ix2 r k) * v17 (ix2 k q)) + (∑ k : Fin 256, v21 (ix2 r k) * v24 (ix2 k q)) := by
  pointwise [k0_pay7, k0_pay4, k0_pay5, k0_pay6]

theorem pay3_apply (v27 : FVec Ideal S640x1024 .f32) (v28 : FVec Ideal S640x512 .bf16) (v31 : FVec Ideal S512x1024 .bf16) (v35 : FVec Ideal S640x512 .bf16)
    (v38 : FVec Ideal S512x1024 .bf16) (r : Fin 640) (q : Fin 1024) :
    k0_pay3 (F := Ideal) v27 v28 v31 v35 v38 (ix2 r q)
      = v27 (ix2 r q) + (∑ k : Fin 512, v28 (ix2 r k) * v31 (ix2 k q)) + (∑ k : Fin 512, v35 (ix2 r k) * v38 (ix2 k q)) := by
  pointwise [k0_pay3, k0_pay1, k0_pay2]

theorem out9_at (c : Dev nD) (t : Fin cfg0.N) (x0 : Vec Ideal S640x1024 .f32) (x1 : Vec Ideal S640x512 .bf16) (x2 : Vec Ideal S640x256 .bf16) (x3 : Vec Ideal S640x256 .bf16) (x4 : Vec Ideal S640x512 .bf16) (x5 : Vec Ideal S640x512 .bf16) (x6 : Vec Ideal S640x128 .bf16) (x7 : Vec Ideal S2048x1024 .bf16) (x8 : Vec Ideal S128x1024 .bf16) (r : Fin 640) (q : Fin 1024) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8 (ix2 r q)
      = x0 (ix2 r q) + (∑ k : Fin 128, x6 (ix2 r k) * x8 (ix2 k q)) + (∑ k : Fin 512, x1 (ix2 r k) * x7 (ix2 ⟨k.val, by omega⟩ q))
        + (∑ k : Fin 256, x2 (ix2 r k) * x7 (ix2 ⟨512 + k.val, by omega⟩ q)) + (∑ k : Fin 256, x3 (ix2 r k) * x7 (ix2 ⟨768 + k.val, by omega⟩ q))
        + (∑ k : Fin 512, x4 (ix2 r k) * x7 (ix2 ⟨1024 + k.val, by omega⟩ q)) + (∑ k : Fin 512, x5 (ix2 r k) * x7 (ix2 ⟨1536 + k.val, by omega⟩ q)) := by
  frame_open
  simp (disch := decide) only [↓ View.readCov_skip, ↓ View.readCov_cons_toLoadRect, ↓ View.readCov_fill]
  frame_out
  refine (pay3_apply _ _ _ _ _ r q).trans ?_
  refine (congrArg (fun z : EReal => z + _ + _) (pay7_apply _ _ _ _ _ _ _ _ _ r q)).trans ?_
  pointwise

/-- The five pieces side by side: whatever the piece that holds the column has there. -/
theorem out10_at (c : Dev nD) (t : Fin cfg0.N) (x0 : Vec Ideal S640x1024 .f32) (x1 : Vec Ideal S640x512 .bf16) (x2 : Vec Ideal S640x256 .bf16) (x3 : Vec Ideal S640x256 .bf16) (x4 : Vec Ideal S640x512 .bf16) (x5 : Vec Ideal S640x512 .bf16) (x6 : Vec Ideal S640x128 .bf16) (x7 : Vec Ideal S2048x1024 .bf16) (x8 : Vec Ideal S128x1024 .bf16) (r : Fin 640) (z : Fin 2048) (v : EReal)
    (h1 : ∀ k : Fin 512, z.val = 0 + k.val → x1 (ix2 r k) = v) (h2 : ∀ k : Fin 256, z.val = 512 + k.val → x2 (ix2 r k) = v) (h3 : ∀ k : Fin 256, z.val = 768 + k.val → x3 (ix2 r k) = v) (h4 : ∀ k : Fin 512, z.val = 1024 + k.val → x4 (ix2 r k) = v) (h5 : ∀ k : Fin 512, z.val = 1536 + k.val → x5 (ix2 r k) = v) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8 (ix2 r z) = v := by
  frame_open
  simp (disch := decide) only [↓ View.readCov_skip, ↓ View.readCov_cons_toLoadRect, ↓ View.readCov_fill]
  frame_out
  canon_tiles x hx using View.cover_of_tiledBy _ ![640, 256] (by sl_kernel_rfl) _
  case piece0 =>
    obtain ⟨a, b, rfl⟩ : ∃ (a : Fin 640) (b : Fin 512), x = ix2 a b := ⟨x 0, x 1, by funext k; match k with | 0 => rfl | 1 => rfl⟩
    have e0 : r.val = a.val := hx0
    have e1 : z.val = 1536 + b.val := hx1
    obtain rfl : a = r := Fin.ext (by omega)
    refine Eq.trans ?_ (h5 b e1)
    pointwise [k0_pay1, k0_pay2, k0_pay4, k0_pay5, k0_pay6]
  case piece1 =>
    obtain ⟨a, b, rfl⟩ : ∃ (a : Fin 640) (b : Fin 512), x = ix2 a b := ⟨x 0, x 1, by funext k; match k with | 0 => rfl | 1 => rfl⟩
    have e0 : r.val = a.val := hx0
    have e1 : z.val = 1024 + b.val := hx1
    obtain rfl : a = r := Fin.ext (by omega)
    refine Eq.trans ?_ (h4 b e1)
    pointwise [k0_pay1, k0_pay2, k0_pay4, k0_pay5, k0_pay6]
  case piece2 =>
    obtain ⟨a, b, rfl⟩ : ∃ (a : Fin 640) (b : Fin 256), x = ix2 a b := ⟨x 0, x 1, by funext k; match k with | 0 => rfl | 1 => rfl⟩
    have e0 : r.val = a.val := hx0
    have e1 : z.val = 768 + b.val := hx1
    obtain rfl : a = r := Fin.ext (by omega)
    refine Eq.trans ?_ (h3 b e1)
    pointwise [k0_pay1, k0_pay2, k0_pay4, k0_pay5, k0_pay6]
  case piece3 =>
    obtain ⟨a, b, rfl⟩ : ∃ (a : Fin 640) (b : Fin 256), x = ix2 a b := ⟨x 0, x 1, by funext k; match k with | 0 => rfl | 1 => rfl⟩
    have e0 : r.val = a.val := hx0
    have e1 : z.val = 512 + b.val := hx1
    obtain rfl : a = r := Fin.ext (by omega)
    refine Eq.trans ?_ (h2 b e1)
    pointwise [k0_pay1, k0_pay2, k0_pay4, k0_pay5, k0_pay6]
  case piece4 =>
    obtain ⟨a, b, rfl⟩ : ∃ (a : Fin 640) (b : Fin 512), x = ix2 a b := ⟨x 0, x 1, by funext k; match k with | 0 => rfl | 1 => rfl⟩
    have e0 : r.val = a.val := hx0
    have e1 : z.val = 0 + b.val := (hx1 : z.val = b.val).trans (Nat.zero_add _).symm
    obtain rfl : a = r := Fin.ext (by omega)
    refine Eq.trans ?_ (h1 b e1)
    pointwise [k0_pay1, k0_pay2, k0_pay4, k0_pay5, k0_pay6]

end Cert.InprojKernelIdeal.Ker

end
-- ==== Proof.InprojFinal.lean ====
/- The input projection's gradient: the kernel's results are the reference's. -/
module

public import proofs.«01_k».proof.Proof.InprojKer
public import proofs.«01_k».proof.Proof.Gen.InprojReferenceIdeal.Read
public import Idealize.ShloMosaic.Lib.StableHlo.RunRead

@[expose] public section

set_option maxRecDepth 16384

noncomputable section

open Idealize.ShloMosaic Idealize.ShloMosaic.TcCoe Idealize.SL.Sem

namespace Cert.InprojKernelIdeal.Ker

open Cert.InprojKernelIdeal Cert.InprojKernelIdeal.Gen
open Cert.InprojReferenceIdeal.Read

variable (m : (ℓ : Loc nD τ sig) → Buf (Elt Ideal) ℓ)

abbrev a0 (c : Dev nD) : FVec Ideal S8320x1024 .f32 := m ((c : Thread nD τ).loc main_arg0)
abbrev a1 (c : Dev nD) : FVec Ideal S8320x512 .f32 := m ((c : Thread nD τ).loc main_arg1)
abbrev a2 (c : Dev nD) : FVec Ideal S8320x256 .f32 := m ((c : Thread nD τ).loc main_arg2)
abbrev a3 (c : Dev nD) : FVec Ideal S8320x256 .f32 := m ((c : Thread nD τ).loc main_arg3)
abbrev a4 (c : Dev nD) : FVec Ideal S8320x512 .f32 := m ((c : Thread nD τ).loc main_arg4)
abbrev a5 (c : Dev nD) : FVec Ideal S8320x512 .f32 := m ((c : Thread nD τ).loc main_arg5)
abbrev a6 (c : Dev nD) : FVec Ideal S8320x16 .f32 := m ((c : Thread nD τ).loc main_arg6)
abbrev a7 (c : Dev nD) : FVec Ideal S1024x2064 .f32 := m ((c : Thread nD τ).loc main_arg7)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![0, 0]
    ∧ win0_9.index t = ![t.val, 0] ∧ win0_10.index t = ![t.val, 0] :=
  (by decide +kernel : ∀ t : Fin grid0.N, _)

/-- A row of a point's tile, in the array. -/
abbrev row (t : Fin cfg0.N) (r : Fin 640) : Fin 8320 := ⟨t.val * 640 + r.val, by have := lt_of_lt_of_eq t.isLt N_0; omega⟩

theorem W1 (c : Dev nD) (s : Fin 8320) (k : Fin 512) :
    (V m c (Pipeline.arrRef spec0 1) : FVec Ideal S8320x512 .bf16) (ix2 s k) = a1 m c (ix2 s k) := by
  have e : (V m c (Pipeline.arrRef spec0 1) : FVec Ideal S8320x512 .bf16) = truncf .bf16 (a1 m c) bitsLt_bf16_f32 := by
    show StableHlo.after hostOps0 _ _ = _
    after_reads_simp
  rw [e]
  rfl

theorem iblk1_at (c : Dev nD) (t : Fin cfg0.N) (r : Fin 640) (k : Fin 512) :
    (iblk m c 1 t : FVec Ideal S640x512 .bf16) (ix2 r k) = a1 m c (ix2 (row t r) k) := by
  rw [← W1 m c]
  blk_ext! [iblk, idx t]

theorem W2 (c : Dev nD) (s : Fin 8320) (k : Fin 256) :
    (V m c (Pipeline.arrRef spec0 2) : FVec Ideal S8320x256 .bf16) (ix2 s k) = a2 m c (ix2 s k) := by
  have e : (V m c (Pipeline.arrRef spec0 2) : FVec Ideal S8320x256 .bf16) = truncf .bf16 (a2 m c) bitsLt_bf16_f32 := by
    show StableHlo.after hostOps0 _ _ = _
    after_reads_simp
  rw [e]
  rfl

theorem iblk2_at (c : Dev nD) (t : Fin cfg0.N) (r : Fin 640) (k : Fin 256) :
    (iblk m c 2 t : FVec Ideal S640x256 .bf16) (ix2 r k) = a2 m c (ix2 (row t r) k) := by
  rw [← W2 m c]
  blk_ext! [iblk, idx t]

theorem W3 (c : Dev nD) (s : Fin 8320) (k : Fin 256) :
    (V m c (Pipeline.arrRef spec0 3) : FVec Ideal S8320x256 .bf16) (ix2 s k) = a3 m c (ix2 s k) := by
  have e : (V m c (Pipeline.arrRef spec0 3) : FVec Ideal S8320x256 .bf16) = truncf .bf16 (a3 m c) bitsLt_bf16_f32 := by
    show StableHlo.after hostOps0 _ _ = _
    after_reads_simp
  rw [e]
  rfl

theorem iblk3_at (c : Dev nD) (t : Fin cfg0.N) (r : Fin 640) (k : Fin 256) :
    (iblk m c 3 t : FVec Ideal S640x256 .bf16) (ix2 r k) = a3 m c (ix2 (row t r) k) := by
  rw [← W3 m c]
  blk_ext! [iblk, idx t]

theorem W4 (c : Dev nD) (s : Fin 8320) (k : Fin 512) :
    (V m c (Pipeline.arrRef spec0 4) : FVec Ideal S8320x512 .bf16) (ix2 s k) = a4 m c (ix2 s k) := by
  have e : (V m c (Pipeline.arrRef spec0 4) : FVec Ideal S8320x512 .bf16) = truncf .bf16 (a4 m c) bitsLt_bf16_f32 := by
    show StableHlo.after hostOps0 _ _ = _
    after_reads_simp
  rw [e]
  rfl

theorem iblk4_at (c : Dev nD) (t : Fin cfg0.N) (r : Fin 640) (k : Fin 512) :
    (iblk m c 4 t : FVec Ideal S640x512 .bf16) (ix2 r k) = a4 m c (ix2 (row t r) k) := by
  rw [← W4 m c]
  blk_ext! [iblk, idx t]

theorem W5 (c : Dev nD) (s : Fin 8320) (k : Fin 512) :
    (V m c (Pipeline.arrRef spec0 5) : FVec Ideal S8320x512 .bf16) (ix2 s k) = a5 m c (ix2 s k) := by
  have e : (V m c (Pipeline.arrRef spec0 5) : FVec Ideal S8320x512 .bf16) = truncf .bf16 (a5 m c) bitsLt_bf16_f32 := by
    show StableHlo.after hostOps0 _ _ = _
    after_reads_simp
  rw [e]
  rfl

theorem iblk5_at (c : Dev nD) (t : Fin cfg0.N) (r : Fin 640) (k : Fin 512) :
    (iblk m c 5 t : FVec Ideal S640x512 .bf16) (ix2 r k) = a5 m c (ix2 (row t r) k) := by
  rw [← W5 m c]
  blk_ext! [iblk, idx t]

theorem iblk0_at (c : Dev nD) (t : Fin cfg0.N) (r : Fin 640) (q : Fin 1024) :
    (iblk m c 0 t : FVec Ideal S640x1024 .f32) (ix2 r q) = a0 m c (ix2 (row t r) q) := by
  blk_ext! [iblk, V, idx t]

/-- The gate's gradient, filled up with zeros. -/
theorem W6 (c : Dev nD) (s : Fin 8320) (k : Fin 128) :
    (V m c (Pipeline.arrRef spec0 6) : FVec Ideal S8320x128 .bf16) (ix2 s k) = if h : k.val < 16 then a6 m c (ix2 s ⟨k.val, h⟩) else 0 := by
  have e : (V m c (Pipeline.arrRef spec0 6) : FVec Ideal S8320x128 .bf16)
      = concatenate S8320x128 1 [⟨S8320x16, (truncf .bf16 (a6 m c) bitsLt_bf16_f32 : FVec Ideal S8320x16 .bf16)⟩,
          ⟨S8320x112, (broadcastInDim S8320x112 ![] bcast_S_S8320x112 (constant S_ .bf16 0x0000#16 : FVec Ideal S_ .bf16) : FVec Ideal S8320x112 .bf16)⟩] concatenates_S8320x16_S8320x112_S8320x128_d1 := by
    show StableHlo.after hostOps0 _ _ = _
    after_reads_simp
    rfl
  rw [e]
  generalize a6 m c = y
  pointwise

theorem iblk6_at (c : Dev nD) (t : Fin cfg0.N) (r : Fin 640) (k : Fin 128) :
    (iblk m c 6 t : FVec Ideal S640x128 .bf16) (ix2 r k) = if h : k.val < 16 then a6 m c (ix2 (row t r) ⟨k.val, h⟩) else 0 := by
  rw [← W6 m c]
  blk_ext! [iblk, idx t]

/-- The projection's weights but the gate's, swapped. -/
theorem W7 (c : Dev nD) (k : Fin 2048) (q : Fin 1024) :
    (V m c (Pipeline.arrRef spec0 7) : FVec Ideal S2048x1024 .bf16) (ix2 k q) = a7 m c (ix2 q ⟨k.val, by omega⟩) := by
  have e : (V m c (Pipeline.arrRef spec0 7) : FVec Ideal S2048x1024 .bf16)
      = extractStridedSlice S2048x1024 ![0, 0] (transpose S2064x1024 [1, 0] (truncf .bf16 (a7 m c) bitsLt_bf16_f32) transposes_S1024x2064_S2064x1024_1_0) slices_S2064x1024_S2048x1024_0_0 := by
    show StableHlo.after hostOps0 _ _ = _
    after_reads_simp
  rw [e]
  generalize a7 m c = y
  pointwise

theorem iblk7_at (c : Dev nD) (t : Fin cfg0.N) (k : Fin 2048) (q : Fin 1024) :
    (iblk m c 7 t : FVec Ideal S2048x1024 .bf16) (ix2 k q) = a7 m c (ix2 q ⟨k.val, by omega⟩) := by
  rw [← W7 m c]
  blk_ext! [iblk, idx t]

/-- The gate's weights, swapped; the rows past them are not read but against zeros. -/
theorem W8 (c : Dev nD) (k : Fin 16) (q : Fin 1024) :
    (V m c (Pipeline.arrRef spec0 8) : FVec Ideal S128x1024 .bf16) (ix2 ⟨k.val, by omega⟩ q) = a7 m c (ix2 q ⟨2048 + k.val, by omega⟩) := by
  have e : (V m c (Pipeline.arrRef spec0 8) : FVec Ideal S128x1024 .bf16)
      = concatenate S128x1024 0 [⟨S16x1024, (extractStridedSlice S16x1024 ![2048, 0] (transpose S2064x1024 [1, 0] (truncf .bf16 (a7 m c) bitsLt_bf16_f32) transposes_S1024x2064_S2064x1024_1_0) slices_S2064x1024_S16x1024_2048_0 : FVec Ideal S16x1024 .bf16)⟩,
          ⟨S112x1024, (broadcastInDim S112x1024 ![] bcast_S_S112x1024 (constant S_ .bf16 0x0000#16 : FVec Ideal S_ .bf16) : FVec Ideal S112x1024 .bf16)⟩] concatenates_S16x1024_S112x1024_S128x1024_d0 := by
    show StableHlo.after hostOps0 _ _ = _
    after_reads_simp
    rfl
  rw [e]
  generalize a7 m c = y
  have hk := k.isLt
  pointwise

theorem iblk8_at (c : Dev nD) (t : Fin cfg0.N) (k : Fin 16) (q : Fin 1024) :
    (iblk m c 8 t : FVec Ideal S128x1024 .bf16) (ix2 ⟨k.val, by omega⟩ q) = a7 m c (ix2 q ⟨2048 + k.val, by omega⟩) := by
  rw [← W8 m c]
  blk_ext! [iblk, idx t]

theorem cat1 (x1 : FVec Ideal S8320x512 .f32) (x2 x3 : FVec Ideal S8320x256 .f32) (x4 x5 : FVec Ideal S8320x512 .f32) (x6 : FVec Ideal S8320x16 .f32) (s : Fin 8320) (k : Fin 512) (j : Fin 2064) (hj : j.val = 0 + k.val) :
    val_main_v0 (F := Ideal) x1 x2 x3 x4 x5 x6 (ix2 s j) = x1 (ix2 s k) := by
  unfold val_main_v0
  refine concatenate_apply_piece (t := Cert.InprojReferenceIdeal.S8320x2064) 1 _ _ (ix2 s j) 0 (by show 0 < 6; omega) S8320x512 x1 rfl rfl 0 (by rfl) (ix2 s k) (fun b hb => ?_) hj.symm
  match b with
  | 0 => rfl
  | 1 => exact absurd rfl hb

theorem cat2 (x1 : FVec Ideal S8320x512 .f32) (x2 x3 : FVec Ideal S8320x256 .f32) (x4 x5 : FVec Ideal S8320x512 .f32) (x6 : FVec Ideal S8320x16 .f32) (s : Fin 8320) (k : Fin 256) (j : Fin 2064) (hj : j.val = 512 + k.val) :
    val_main_v0 (F := Ideal) x1 x2 x3 x4 x5 x6 (ix2 s j) = x2 (ix2 s k) := by
  unfold val_main_v0
  refine concatenate_apply_piece (t := Cert.InprojReferenceIdeal.S8320x2064) 1 _ _ (ix2 s j) 1 (by show 1 < 6; omega) S8320x256 x2 rfl rfl 512 (by rfl) (ix2 s k) (fun b hb => ?_) hj.symm
  match b with
  | 0 => rfl
  | 1 => exact absurd rfl hb

theorem cat3 (x1 : FVec Ideal S8320x512 .f32) (x2 x3 : FVec Ideal S8320x256 .f32) (x4 x5 : FVec Ideal S8320x512 .f32) (x6 : FVec Ideal S8320x16 .f32) (s : Fin 8320) (k : Fin 256) (j : Fin 2064) (hj : j.val = 768 + k.val) :
    val_main_v0 (F := Ideal) x1 x2 x3 x4 x5 x6 (ix2 s j) = x3 (ix2 s k) := by
  unfold val_main_v0
  refine concatenate_apply_piece (t := Cert.InprojReferenceIdeal.S8320x2064) 1 _ _ (ix2 s j) 2 (by show 2 < 6; omega) S8320x256 x3 rfl rfl 768 (by rfl) (ix2 s k) (fun b hb => ?_) hj.symm
  match b with
  | 0 => rfl
  | 1 => exact absurd rfl hb

theorem cat4 (x1 : FVec Ideal S8320x512 .f32) (x2 x3 : FVec Ideal S8320x256 .f32) (x4 x5 : FVec Ideal S8320x512 .f32) (x6 : FVec Ideal S8320x16 .f32) (s : Fin 8320) (k : Fin 512) (j : Fin 2064) (hj : j.val = 1024 + k.val) :
    val_main_v0 (F := Ideal) x1 x2 x3 x4 x5 x6 (ix2 s j) = x4 (ix2 s k) := by
  unfold val_main_v0
  refine concatenate_apply_piece (t := Cert.InprojReferenceIdeal.S8320x2064) 1 _ _ (ix2 s j) 3 (by show 3 < 6; omega) S8320x512 x4 rfl rfl 1024 (by rfl) (ix2 s k) (fun b hb => ?_) hj.symm
  match b with
  | 0 => rfl
  | 1 => exact absurd rfl hb

theorem cat5 (x1 : FVec Ideal S8320x512 .f32) (x2 x3 : FVec Ideal S8320x256 .f32) (x4 x5 : FVec Ideal S8320x512 .f32) (x6 : FVec Ideal S8320x16 .f32) (s : Fin 8320) (k : Fin 512) (j : Fin 2064) (hj : j.val = 1536 + k.val) :
    val_main_v0 (F := Ideal) x1 x2 x3 x4 x5 x6 (ix2 s j) = x5 (ix2 s k) := by
  unfold val_main_v0
  refine concatenate_apply_piece (t := Cert.InprojReferenceIdeal.S8320x2064) 1 _ _ (ix2 s j) 4 (by show 4 < 6; omega) S8320x512 x5 rfl rfl 1536 (by rfl) (ix2 s k) (fun b hb => ?_) hj.symm
  match b with
  | 0 => rfl
  | 1 => exact absurd rfl hb

theorem cat6 (x1 : FVec Ideal S8320x512 .f32) (x2 x3 : FVec Ideal S8320x256 .f32) (x4 x5 : FVec Ideal S8320x512 .f32) (x6 : FVec Ideal S8320x16 .f32) (s : Fin 8320) (k : Fin 16) (j : Fin 2064) (hj : j.val = 2048 + k.val) :
    val_main_v0 (F := Ideal) x1 x2 x3 x4 x5 x6 (ix2 s j) = x6 (ix2 s k) := by
  unfold val_main_v0
  refine concatenate_apply_piece (t := Cert.InprojReferenceIdeal.S8320x2064) 1 _ _ (ix2 s j) 5 (by show 5 < 6; omega) S8320x16 x6 rfl rfl 2048 (by rfl) (ix2 s k) (fun b hb => ?_) hj.symm
  match b with
  | 0 => rfl
  | 1 => exact absurd rfl hb

/-- A sum in two parts. -/
theorem parts (a b : ℕ) {n : ℕ} (h : n = a + b) (f : Fin n → EReal) :
    ∑ k : Fin n, f k = (∑ k : Fin a, f ⟨k.val, by omega⟩) + ∑ k : Fin b, f ⟨a + k.val, by omega⟩ := by
  subst h
  exact Fin.sum_univ_add f

/-- The sum over the six pieces' columns, piece by piece. -/
theorem six (f : Fin 2064 → EReal) : ∑ k : Fin 2064, f k
    = (∑ k : Fin 512, f ⟨0 + k.val, by omega⟩) + (∑ k : Fin 256, f ⟨512 + k.val, by omega⟩) + (∑ k : Fin 256, f ⟨768 + k.val, by omega⟩)
      + (∑ k : Fin 512, f ⟨1024 + k.val, by omega⟩) + (∑ k : Fin 512, f ⟨1536 + k.val, by omega⟩) + (∑ k : Fin 16, f ⟨2048 + k.val, by omega⟩) := by
  rw [parts 2048 16 rfl, parts 1536 512 rfl, parts 1024 512 rfl, parts 768 256 rfl, parts 512 256 rfl]
  simp only [Nat.zero_add]

/-- The gate's part over the filled columns is that over its own. -/
theorem filled (x : Fin 16 → EReal) (w : Fin 128 → EReal) :
    (∑ k : Fin 128, (if h : k.val < 16 then x ⟨k.val, h⟩ else 0) * w k) = ∑ k : Fin 16, x k * w ⟨k.val, by omega⟩ := by
  rw [parts 16 112 rfl]
  have e : (∑ k : Fin 112, (if h : (⟨16 + k.val, by omega⟩ : Fin 128).val < 16 then x ⟨_, h⟩ else 0) * w ⟨16 + k.val, by omega⟩) = (0 : EReal) :=
    Finset.sum_eq_zero fun k _ => by rw [dif_neg (by show ¬ 16 + k.val < 16; omega), zero_mul]
  rw [e, add_zero]
  exact Finset.sum_congr rfl fun k _ => by rw [dif_pos k.isLt]

/-- The reference's first result at an index. -/
theorem ref9 (x0 : FVec Ideal S8320x1024 .f32) (x1 : FVec Ideal S8320x512 .f32) (x2 x3 : FVec Ideal S8320x256 .f32) (x4 x5 : FVec Ideal S8320x512 .f32) (x6 : FVec Ideal S8320x16 .f32) (x7 : FVec Ideal S1024x2064 .f32) (s : Fin 8320) (q : Fin 1024) :
    val_main_v4 (F := Ideal) x0 x1 x2 x3 x4 x5 x6 x7 (ix2 s q) = x0 (ix2 s q)
      + ((∑ k : Fin 512, x1 (ix2 s k) * x7 (ix2 q ⟨0 + k.val, by omega⟩)) + (∑ k : Fin 256, x2 (ix2 s k) * x7 (ix2 q ⟨512 + k.val, by omega⟩))
        + (∑ k : Fin 256, x3 (ix2 s k) * x7 (ix2 q ⟨768 + k.val, by omega⟩)) + (∑ k : Fin 512, x4 (ix2 s k) * x7 (ix2 q ⟨1024 + k.val, by omega⟩))
        + (∑ k : Fin 512, x5 (ix2 s k) * x7 (ix2 q ⟨1536 + k.val, by omega⟩)) + (∑ k : Fin 16, x6 (ix2 s k) * x7 (ix2 q ⟨2048 + k.val, by omega⟩))) := by
  have e : val_main_v3 (F := Ideal) x1 x2 x3 x4 x5 x6 x7 (ix2 s q) = ∑ k : Fin 2064, val_main_v0 (F := Ideal) x1 x2 x3 x4 x5 x6 (ix2 s k) * x7 (ix2 q k) := by
    refine (val_main_v3_apply x1 x2 x3 x4 x5 x6 x7 (ix2 s q)).trans (Finset.sum_congr rfl fun k _ => congrArg₂ (fun x y : EReal => x * y) (congrArg _ ?_) (congrArg x7 ?_))
    all_goals
      funext a
      match a with
      | ⟨0, _⟩ => rfl
      | ⟨1, _⟩ => rfl
  refine (congrArg (fun z : EReal => x0 (ix2 s q) + z) (e.trans (six _))).trans ?_
  refine congrArg (fun z : EReal => x0 (ix2 s q) + z) (congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_)
  · exact Finset.sum_congr rfl fun k _ => by rw [cat1 x1 x2 x3 x4 x5 x6 s k ⟨0 + k.val, by omega⟩ rfl]
  · exact Finset.sum_congr rfl fun k _ => by rw [cat2 x1 x2 x3 x4 x5 x6 s k ⟨512 + k.val, by omega⟩ rfl]
  · exact Finset.sum_congr rfl fun k _ => by rw [cat3 x1 x2 x3 x4 x5 x6 s k ⟨768 + k.val, by omega⟩ rfl]
  · exact Finset.sum_congr rfl fun k _ => by rw [cat4 x1 x2 x3 x4 x5 x6 s k ⟨1024 + k.val, by omega⟩ rfl]
  · exact Finset.sum_congr rfl fun k _ => by rw [cat5 x1 x2 x3 x4 x5 x6 s k ⟨1536 + k.val, by omega⟩ rfl]
  · exact Finset.sum_congr rfl fun k _ => by rw [cat6 x1 x2 x3 x4 x5 x6 s k ⟨2048 + k.val, by omega⟩ rfl]

/-- The reference's second result at an index. -/
theorem ref10 (x1 : FVec Ideal S8320x512 .f32) (x2 x3 : FVec Ideal S8320x256 .f32) (x4 x5 : FVec Ideal S8320x512 .f32) (x6 : FVec Ideal S8320x16 .f32) (s : Fin 8320) (z : Fin 2048) :
    val_main_v6 (F := Ideal) x1 x2 x3 x4 x5 x6 (ix2 s z) = val_main_v0 (F := Ideal) x1 x2 x3 x4 x5 x6 (ix2 s ⟨z.val, by omega⟩) := by
  refine (val_main_v5_apply (F := Ideal) x1 x2 x3 x4 x5 x6 (ix2 s z)).trans (congrArg _ ?_)
  funext a
  match a with
  | ⟨0, _⟩ => rfl
  | ⟨1, _⟩ => rfl

abbrev G9 (c : Dev nD) (s : Fin 8320) (q : Fin 1024) : EReal := val_main_v4 (F := Ideal) (a0 m c) (a1 m c) (a2 m c) (a3 m c) (a4 m c) (a5 m c) (a6 m c) (a7 m c) (ix2 s q)
abbrev G10 (c : Dev nD) (s : Fin 8320) (z : Fin 2048) : EReal := val_main_v6 (F := Ideal) (a1 m c) (a2 m c) (a3 m c) (a4 m c) (a5 m c) (a6 m c) (ix2 s z)

/-! A point's blocks. -/

abbrev B1 (c : Dev nD) (t : Fin cfg0.N) : FVec Ideal S640x512 .bf16 := iblk m c 1 t
abbrev B2 (c : Dev nD) (t : Fin cfg0.N) : FVec Ideal S640x256 .bf16 := iblk m c 2 t
abbrev B3 (c : Dev nD) (t : Fin cfg0.N) : FVec Ideal S640x256 .bf16 := iblk m c 3 t
abbrev B4 (c : Dev nD) (t : Fin cfg0.N) : FVec Ideal S640x512 .bf16 := iblk m c 4 t
abbrev B5 (c : Dev nD) (t : Fin cfg0.N) : FVec Ideal S640x512 .bf16 := iblk m c 5 t
abbrev B6 (c : Dev nD) (t : Fin cfg0.N) : FVec Ideal S640x128 .bf16 := iblk m c 6 t
abbrev B7 (c : Dev nD) (t : Fin cfg0.N) : FVec Ideal S2048x1024 .bf16 := iblk m c 7 t
abbrev B8 (c : Dev nD) (t : Fin cfg0.N) : FVec Ideal S128x1024 .bf16 := iblk m c 8 t

theorem point9 (c : Dev nD) (t : Fin cfg0.N) (r : Fin 640) (q : Fin 1024) : (outsAt0 m c t).1 (ix2 r q) = G9 m c (row t r) q := by
  unfold outsAt0
  dsimp only
  rw [out9_at]
  have e6 : (∑ k : Fin 128, B6 m c t (ix2 r k) * B8 m c t (ix2 k q) : EReal)
      = ∑ k : Fin 16, a6 m c (ix2 (row t r) k) * a7 m c (ix2 q ⟨2048 + k.val, by omega⟩) := by
    refine (Finset.sum_congr rfl fun k _ => ?_).trans ((filled (fun k => a6 m c (ix2 (row t r) k)) (fun k => B8 m c t (ix2 k q))).trans (Finset.sum_congr rfl fun k _ => ?_))
    · exact congrArg (fun z : EReal => z * B8 m c t (ix2 k q)) (iblk6_at m c t r k)
    · exact congrArg (fun z : EReal => a6 m c (ix2 (row t r) k) * z) (iblk8_at m c t k q)
  have e1 : (∑ k : Fin 512, B1 m c t (ix2 r k) * B7 m c t (ix2 ⟨k.val, by omega⟩ q) : EReal)
      = ∑ k : Fin 512, a1 m c (ix2 (row t r) k) * a7 m c (ix2 q ⟨0 + k.val, by omega⟩) :=
    Finset.sum_congr rfl fun k _ => congrArg₂ (fun x y : EReal => x * y) (iblk1_at m c t r k) ((iblk7_at m c t ⟨k.val, by omega⟩ q).trans (congrArg (fun z => a7 m c (ix2 q z)) (Fin.ext (Nat.zero_add _).symm)))
  have e2 : (∑ k : Fin 256, B2 m c t (ix2 r k) * B7 m c t (ix2 ⟨512 + k.val, by omega⟩ q) : EReal)
      = ∑ k : Fin 256, a2 m c (ix2 (row t r) k) * a7 m c (ix2 q ⟨512 + k.val, by omega⟩) :=
    Finset.sum_congr rfl fun k _ => congrArg₂ (fun x y : EReal => x * y) (iblk2_at m c t r k) (iblk7_at m c t ⟨512 + k.val, by omega⟩ q)
  have e3 : (∑ k : Fin 256, B3 m c t (ix2 r k) * B7 m c t (ix2 ⟨768 + k.val, by omega⟩ q) : EReal)
      = ∑ k : Fin 256, a3 m c (ix2 (row t r) k) * a7 m c (ix2 q ⟨768 + k.val, by omega⟩) :=
    Finset.sum_congr rfl fun k _ => congrArg₂ (fun x y : EReal => x * y) (iblk3_at m c t r k) (iblk7_at m c t ⟨768 + k.val, by omega⟩ q)
  have e4 : (∑ k : Fin 512, B4 m c t (ix2 r k) * B7 m c t (ix2 ⟨1024 + k.val, by omega⟩ q) : EReal)
      = ∑ k : Fin 512, a4 m c (ix2 (row t r) k) * a7 m c (ix2 q ⟨1024 + k.val, by omega⟩) :=
    Finset.sum_congr rfl fun k _ => congrArg₂ (fun x y : EReal => x * y) (iblk4_at m c t r k) (iblk7_at m c t ⟨1024 + k.val, by omega⟩ q)
  have e5 : (∑ k : Fin 512, B5 m c t (ix2 r k) * B7 m c t (ix2 ⟨1536 + k.val, by omega⟩ q) : EReal)
      = ∑ k : Fin 512, a5 m c (ix2 (row t r) k) * a7 m c (ix2 q ⟨1536 + k.val, by omega⟩) :=
    Finset.sum_congr rfl fun k _ => congrArg₂ (fun x y : EReal => x * y) (iblk5_at m c t r k) (iblk7_at m c t ⟨1536 + k.val, by omega⟩ q)
  refine (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (iblk0_at m c t r q) e6) e1) e2) e3) e4) e5).trans ?_
  refine Eq.trans ?_ (ref9 (a0 m c) (a1 m c) (a2 m c) (a3 m c) (a4 m c) (a5 m c) (a6 m c) (a7 m c) (row t r) q).symm
  generalize (∑ k : Fin 512, a1 m c (ix2 (row t r) k) * a7 m c (ix2 q ⟨0 + k.val, by omega⟩) : EReal) = s1
  generalize (∑ k : Fin 256, a2 m c (ix2 (row t r) k) * a7 m c (ix2 q ⟨512 + k.val, by omega⟩) : EReal) = s2
  generalize (∑ k : Fin 256, a3 m c (ix2 (row t r) k) * a7 m c (ix2 q ⟨768 + k.val, by omega⟩) : EReal) = s3
  generalize (∑ k : Fin 512, a4 m c (ix2 (row t r) k) * a7 m c (ix2 q ⟨1024 + k.val, by omega⟩) : EReal) = s4
  generalize (∑ k : Fin 512, a5 m c (ix2 (row t r) k) * a7 m c (ix2 q ⟨1536 + k.val, by omega⟩) : EReal) = s5
  generalize (∑ k : Fin 16, a6 m c (ix2 (row t r) k) * a7 m c (ix2 q ⟨2048 + k.val, by omega⟩) : EReal) = s6
  generalize (a0 m c (ix2 (row t r) q) : EReal) = s0
  show (s0 + s6 + s1 + s2 + s3 + s4 + s5 : EReal) = s0 + (s1 + s2 + s3 + s4 + s5 + s6)
  rw [add_assoc s0, add_assoc s0, add_assoc s0, add_assoc s0, add_assoc s0]
  congr 1
  rw [add_comm _ s6]
  simp only [add_assoc]

theorem point10 (c : Dev nD) (t : Fin cfg0.N) (r : Fin 640) (z : Fin 2048) : (outsAt0 m c t).2 (ix2 r z) = G10 m c (row t r) z := by
  unfold outsAt0
  dsimp only
  refine (out10_at c t _ _ _ _ _ _ _ _ _ r z _ ?_ ?_ ?_ ?_ ?_).trans (ref10 (a1 m c) (a2 m c) (a3 m c) (a4 m c) (a5 m c) (a6 m c) (row t r) z).symm
  · intro k hk
    rw [iblk1_at, cat1 (a1 m c) (a2 m c) (a3 m c) (a4 m c) (a5 m c) (a6 m c) (row t r) k ⟨z.val, by omega⟩ hk]
  · intro k hk
    rw [iblk2_at, cat2 (a1 m c) (a2 m c) (a3 m c) (a4 m c) (a5 m c) (a6 m c) (row t r) k ⟨z.val, by omega⟩ hk]
  · intro k hk
    rw [iblk3_at, cat3 (a1 m c) (a2 m c) (a3 m c) (a4 m c) (a5 m c) (a6 m c) (row t r) k ⟨z.val, by omega⟩ hk]
  · intro k hk
    rw [iblk4_at, cat4 (a1 m c) (a2 m c) (a3 m c) (a4 m c) (a5 m c) (a6 m c) (row t r) k ⟨z.val, by omega⟩ hk]
  · intro k hk
    rw [iblk5_at, cat5 (a1 m c) (a2 m c) (a3 m c) (a4 m c) (a5 m c) (a6 m c) (row t r) k ⟨z.val, by omega⟩ hk]

set_option maxHeartbeats 1000000 in
theorem final9 (c : Dev nD) : (dats m 0 c).arrAt 9 cfg0.N = (fun y : S8320x1024.Idx => G9 m c (y 0) (y 1) : FVec Ideal S8320x1024 .f32) := by
  refine (dats m 0 c).arrAt_eq_of_covers 9 _ (by decide +kernel) fun t hf y => ?_
  blk_simp
  rw [after0_9]
  obtain ⟨r, q, rfl⟩ : ∃ (r : Fin 640) (q : Fin 1024), y = ix2 r q := ⟨y 0, y 1, by funext k; match k with | 0 => rfl | 1 => rfl⟩
  have hi := (idx t).2.2.2.2.2.2.2.2.2.1
  have e0 : ((win0_9.blk t).view.emb (ix2 r q) 0 : Fin 8320) = row t r := Fin.ext (by blk_simp [hi])
  have e1 : ((win0_9.blk t).view.emb (ix2 r q) 1 : Fin 1024) = q := Fin.ext (by blk_simp [hi])
  rw [e0, e1]
  exact point9 m c t r q

set_option maxHeartbeats 1000000 in
theorem final10 (c : Dev nD) : (dats m 0 c).arrAt 10 cfg0.N = (fun y : S8320x2048.Idx => G10 m c (y 0) (y 1) : FVec Ideal S8320x2048 .bf16) := by
  refine (dats m 0 c).arrAt_eq_of_covers 10 _ (by decide +kernel) fun t hf y => ?_
  blk_simp
  rw [after0_10]
  obtain ⟨r, q, rfl⟩ : ∃ (r : Fin 640) (q : Fin 2048), y = ix2 r q := ⟨y 0, y 1, by funext k; match k with | 0 => rfl | 1 => rfl⟩
  have hi := (idx t).2.2.2.2.2.2.2.2.2.2
  have e0 : ((win0_10.blk t).view.emb (ix2 r q) 0 : Fin 8320) = row t r := Fin.ext (by blk_simp [hi])
  have e1 : ((win0_10.blk t).view.emb (ix2 r q) 1 : Fin 2048) = q := Fin.ext (by blk_simp [hi])
  rw [e0, e1]
  exact point10 m c t r q

theorem eq9 (c : Dev nD) : (dats m 0 c).arrAt 9 cfg0.N = val_main_v4 (F := Ideal) (a0 m c) (a1 m c) (a2 m c) (a3 m c) (a4 m c) (a5 m c) (a6 m c) (a7 m c) := by
  rw [final9]
  funext y
  exact congrArg (val_main_v4 (F := Ideal) (a0 m c) (a1 m c) (a2 m c) (a3 m c) (a4 m c) (a5 m c) (a6 m c) (a7 m c)) (by funext k; match k with | 0 => rfl | 1 => rfl)

theorem eq10 (c : Dev nD) : (dats m 0 c).arrAt 10 cfg0.N = val_main_v6 (F := Ideal) (a1 m c) (a2 m c) (a3 m c) (a4 m c) (a5 m c) (a6 m c) := by
  rw [final10]
  funext y
  exact congrArg (val_main_v6 (F := Ideal) (a1 m c) (a2 m c) (a3 m c) (a4 m c) (a5 m c) (a6 m c)) (by funext k; match k with | 0 => rfl | 1 => rfl)

end Cert.InprojKernelIdeal.Ker

end
-- ==== Proof.OutprojKer.lean ====
/- The output projection's kernel: what one grid point leaves in its two outputs. -/
module

public import proofs.«01_k».proof.Proof.Gen.OutprojKernelIdeal.Value
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.OutprojKernelIdeal.Ker

open Cert.OutprojKernelIdeal Cert.OutprojKernelIdeal.Gen

/-- The residual's factor, the row's length and the constant under the root. -/
def cA : EReal := Ideal.ofBits .f32 0x3FB504F3#32
def cN : EReal := Ideal.ofBits .f32 0x44800000#32
def cE : EReal := Ideal.ofBits .f32 0x3727C5AC#32

/-- A row less its mean, and the factor that normalises it. -/
def ctr (z : Fin 1024 → EReal) (q : Fin 1024) : EReal := z q - Ideal.div (∑ k : Fin 1024, z k) cN
def rsd (z : Fin 1024 → EReal) : EReal := Ideal.rsqrt (Ideal.div (∑ k : Fin 1024, ctr z k * ctr z k) cN + cE)

/-- A row before it is normalised, in a group of rows. -/
def pre (v0 : FVec Ideal S320x1024 .f32) (v1 v4 : FVec Ideal S1x1024 .f32) (v7 : FVec Ideal S320x512 .bf16) (v9 : FVec Ideal S512x1024 .bf16)
    (v12 : FVec Ideal S320x512 .bf16) (v14 : FVec Ideal S512x1024 .bf16) (p : Fin 320) (q : Fin 1024) : EReal :=
  cA * (v0 (ix2 p q) * v1 (ix2 0 q) + v4 (ix2 0 q)) + ((∑ k : Fin 512, v7 (ix2 p k) * v9 (ix2 k q)) + ∑ k : Fin 512, v12 (ix2 p k) * v14 (ix2 k q))

variable (v0 : FVec Ideal S320x1024 .f32) (v1 v4 : FVec Ideal S1x1024 .f32) (v7 : FVec Ideal S320x512 .bf16) (v9 : FVec Ideal S512x1024 .bf16)
    (v12 : FVec Ideal S320x512 .bf16) (v14 : FVec Ideal S512x1024 .bf16)

theorem pay3_apply (p : Fin 320) (q : Fin 1024) : k0_pay3 (F := Ideal) v0 v1 v4 v7 v9 v12 v14 (ix2 p q) = ctr (pre v0 v1 v4 v7 v9 v12 v14 p) q := by
  unfold ctr pre
  pointwise [k0_pay3, cA, cN]

theorem pay6_apply (p : Fin 320) (q : Fin 1024) : k0_pay6 (F := Ideal) v0 v1 v4 v7 v9 v12 v14 (ix2 p q) = ctr (pre v0 v1 v4 v7 v9 v12 v14 p) q := by
  unfold ctr pre
  pointwise [k0_pay6, cA, cN]

theorem pay4_apply (p : Fin 320) : k0_pay4 (F := Ideal) v0 v1 v4 v7 v9 v12 v14 (ix2 p 0) = rsd (pre v0 v1 v4 v7 v9 v12 v14 p) := by
  unfold rsd
  simp only [← pay3_apply]
  unfold k0_pay4
  generalize k0_pay3 (F := Ideal) v0 v1 v4 v7 v9 v12 v14 = a
  pointwise [cN, cE]

theorem pay5_apply (p : Fin 320) (q : Fin 1024) : k0_pay5 (F := Ideal) v0 v1 v4 v7 v9 v12 v14 (ix2 p q)
    = ctr (pre v0 v1 v4 v7 v9 v12 v14 p) q * rsd (pre v0 v1 v4 v7 v9 v12 v14 p) := by
  rw [← pay4_apply, ← pay3_apply]
  unfold k0_pay5
  generalize k0_pay3 (F := Ideal) v0 v1 v4 v7 v9 v12 v14 = a
  generalize k0_pay4 (F := Ideal) v0 v1 v4 v7 v9 v12 v14 = b
  pointwise

theorem pay1_apply (p : Fin 320) : k0_pay1 (F := Ideal) (k0_pay7 (F := Ideal) v0 v1 v4 v7 v9 v12 v14) (k0_pay8 (F := Ideal)) (ix2 p 0) = rsd (pre v0 v1 v4 v7 v9 v12 v14 p) := by
  unfold rsd
  simp only [← pay6_apply]
  unfold k0_pay1 k0_pay7 k0_pay8
  generalize k0_pay6 (F := Ideal) v0 v1 v4 v7 v9 v12 v14 = a
  pointwise [cN, cE]

theorem pay2_apply (p : Fin 320) (q : Fin 1024) :
    k0_pay2 (F := Ideal) (k0_pay6 (F := Ideal) v0 v1 v4 v7 v9 v12 v14) (k0_pay7 (F := Ideal) v0 v1 v4 v7 v9 v12 v14) (k0_pay8 (F := Ideal)) (ix2 p q)
    = ctr (pre v0 v1 v4 v7 v9 v12 v14 p) q * rsd (pre v0 v1 v4 v7 v9 v12 v14 p) := by
  rw [← pay1_apply, ← pay6_apply]
  unfold k0_pay2
  generalize k0_pay6 (F := Ideal) v0 v1 v4 v7 v9 v12 v14 = a
  generalize k0_pay1 (F := Ideal) (k0_pay7 (F := Ideal) v0 v1 v4 v7 v9 v12 v14) (k0_pay8 (F := Ideal)) = b
  pointwise

/-- A row before it is normalised, in a tile. -/
def row (x0 x1 : FVec Ideal S640x512 .bf16) (x2 : FVec Ideal S1024x1024 .bf16) (x3 : FVec Ideal S640x1024 .f32) (x4 x5 : FVec Ideal S1x1024 .f32)
    (r : Fin 640) (q : Fin 1024) : EReal :=
  cA * (x3 (ix2 r q) * x4 (ix2 0 q) + x5 (ix2 0 q))
    + ((∑ k : Fin 512, x0 (ix2 r k) * x2 (ix2 ⟨k.val, by omega⟩ q)) + ∑ k : Fin 512, x1 (ix2 r k) * x2 (ix2 ⟨512 + k.val, by omega⟩ q))

variable (x0 x1 : FVec Ideal S640x512 .bf16) (x2 : FVec Ideal S1024x1024 .bf16) (x3 : FVec Ideal S640x1024 .f32) (x4 x5 : FVec Ideal S1x1024 .f32)

/-- The lower group's rows are the tile's. -/
theorem pre_lo (p : Fin 320) (r : Fin 640) (h : r.val = p.val) :
    pre (View.ld x3 r0_0 : Vec Ideal S320x1024 .f32) (View.ld x4 r0_1 : Vec Ideal S1x1024 .f32) (View.ld x5 r0_1 : Vec Ideal S1x1024 .f32) (View.ld x0 r0_2 : Vec Ideal S320x512 .bf16) (View.ld x2 r0_3 : Vec Ideal S512x1024 .bf16) (View.ld x1 r0_2 : Vec Ideal S320x512 .bf16) (View.ld x2 r0_4 : Vec Ideal S512x1024 .bf16) p = row x0 x1 x2 x3 x4 x5 r := by
  obtain ⟨r, hr⟩ := r
  change r = p.val at h
  subst h
  funext q
  unfold pre row
  pointwise [r0_0, r0_1, r0_2, r0_3, r0_4]

/-- The upper group's rows are the tile's. -/
theorem pre_hi (p : Fin 320) (r : Fin 640) (h : r.val = 320 + p.val) :
    pre (View.ld x3 r0_6 : Vec Ideal S320x1024 .f32) (View.ld x4 r0_1 : Vec Ideal S1x1024 .f32) (View.ld x5 r0_1 : Vec Ideal S1x1024 .f32) (View.ld x0 r0_7 : Vec Ideal S320x512 .bf16) (View.ld x2 r0_3 : Vec Ideal S512x1024 .bf16) (View.ld x1 r0_7 : Vec Ideal S320x512 .bf16) (View.ld x2 r0_4 : Vec Ideal S512x1024 .bf16) p = row x0 x1 x2 x3 x4 x5 r := by
  obtain ⟨r, hr⟩ := r
  change r = 320 + p.val at h
  subst h
  funext q
  unfold pre row
  pointwise [r0_6, r0_1, r0_7, r0_3, r0_4]

theorem out6_at (r : Fin 640) (q : Fin 1024) : out0_6 (F := Ideal) x0 x1 x2 x3 x4 x5 (ix2 r q) = ctr (row x0 x1 x2 x3 x4 x5 r) q * rsd (row x0 x1 x2 x3 x4 x5 r) := by
  unfold out0_6 k0_pay10 k0_pay9
  canon_tiles x hx
  case piece0 =>
    obtain ⟨a, b, rfl⟩ : ∃ (a : Fin 320) (b : Fin 1024), x = ix2 a b := ⟨x 0, x 1, by funext k; match k with | 0 => rfl | 1 => rfl⟩
    have e0 : r.val = 320 + a.val := hx0
    have e1 : q.val = b.val := hx1
    obtain rfl : b = q := Fin.ext e1.symm
    refine (pay2_apply ..).trans ?_
    rw [pre_hi x0 x1 x2 x3 x4 x5 a r e0]
  case piece1 =>
    obtain ⟨a, b, rfl⟩ : ∃ (a : Fin 320) (b : Fin 1024), x = ix2 a b := ⟨x 0, x 1, by funext k; match k with | 0 => rfl | 1 => rfl⟩
    have e0 : r.val = a.val := hx0
    have e1 : q.val = b.val := hx1
    obtain rfl : b = q := Fin.ext e1.symm
    refine (pay5_apply ..).trans ?_
    rw [pre_lo x0 x1 x2 x3 x4 x5 a r e0]

theorem out7_at (r : Fin 640) : out0_7 (F := Ideal) x0 x1 x2 x3 x4 x5 (ix2 r 0) = rsd (row x0 x1 x2 x3 x4 x5 r) := by
  unfold out0_7 k0_pay10 k0_pay9
  canon_tiles x hx
  case piece0 =>
    obtain ⟨a, rfl⟩ : ∃ a : Fin 320, x = ix2 a 0 :=
      ⟨x 0, by funext k; match k with | 0 => rfl | 1 => exact Fin.ext (by have h : (x 1).val < 1 := (x 1).isLt; show (x 1).val = 0; omega)⟩
    have e0 : r.val = 320 + a.val := hx0
    refine (pay1_apply ..).trans ?_
    rw [pre_hi x0 x1 x2 x3 x4 x5 a r e0]
  case piece1 =>
    obtain ⟨a, rfl⟩ : ∃ a : Fin 320, x = ix2 a 0 :=
      ⟨x 0, by funext k; match k with | 0 => rfl | 1 => exact Fin.ext (by have h : (x 1).val < 1 := (x 1).isLt; show (x 1).val = 0; omega)⟩
    have e0 : r.val = a.val := hx0
    refine (pay4_apply ..).trans ?_
    rw [pre_lo x0 x1 x2 x3 x4 x5 a r e0]

end Cert.OutprojKernelIdeal.Ker

end
-- ==== Proof.OutprojFinal.lean ====
/- The output projection and its layer norm: the kernel's results are the reference's. -/
module

public import proofs.«01_k».proof.Proof.OutprojKer
public import proofs.«01_k».proof.Proof.Gen.OutprojReferenceIdeal.Read
public import Idealize.ShloMosaic.Lib.StableHlo.RunRead

@[expose] public section

set_option maxRecDepth 16384

noncomputable section

open Idealize.ShloMosaic Idealize.ShloMosaic.TcCoe Idealize.SL.Sem

namespace Cert.OutprojKernelIdeal.Ker

open Cert.OutprojKernelIdeal Cert.OutprojKernelIdeal.Gen
open Cert.OutprojReferenceIdeal.Read

variable (m : (ℓ : Loc nD τ sig) → Buf (Elt Ideal) ℓ)

abbrev a0 (c : Dev nD) : FVec Ideal S8320x512 .f32 := m ((c : Thread nD τ).loc main_arg0)
abbrev a1 (c : Dev nD) : FVec Ideal S8320x512 .f32 := m ((c : Thread nD τ).loc main_arg1)
abbrev a2 (c : Dev nD) : FVec Ideal S1024x1024 .f32 := m ((c : Thread nD τ).loc main_arg2)
abbrev a3 (c : Dev nD) : FVec Ideal S8320x1024 .f32 := m ((c : Thread nD τ).loc main_arg3)
abbrev a4 (c : Dev nD) : FVec Ideal S1x1024 .f32 := m ((c : Thread nD τ).loc main_arg4)
abbrev a5 (c : Dev nD) : FVec Ideal S1x1024 .f32 := m ((c : Thread nD τ).loc main_arg5)

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0] :=
  (by decide +kernel : ∀ t : Fin grid0.N, _)

/-- A row of a point's tile, in the array. -/
abbrev at_ (t : Fin cfg0.N) (r : Fin 640) : Fin 8320 := ⟨t.val * 640 + r.val, by have := lt_of_lt_of_eq t.isLt N_0; omega⟩

theorem W0 (c : Dev nD) (s : Fin 8320) (k : Fin 512) :
    (V m c (Pipeline.arrRef spec0 0) : FVec Ideal S8320x512 .bf16) (ix2 s k) = a0 m c (ix2 s k) := by
  have e : (V m c (Pipeline.arrRef spec0 0) : FVec Ideal S8320x512 .bf16) = truncf .bf16 (a0 m c) bitsLt_bf16_f32 := by
    show StableHlo.after hostOps0 _ _ = _
    after_reads_simp
  rw [e]
  rfl

theorem iblk0_at (c : Dev nD) (t : Fin cfg0.N) (r : Fin 640) (k : Fin 512) :
    (iblk m c 0 t : FVec Ideal S640x512 .bf16) (ix2 r k) = a0 m c (ix2 (at_ t r) k) := by
  rw [← W0 m c]
  blk_ext! [iblk, idx t]

theorem W1 (c : Dev nD) (s : Fin 8320) (k : Fin 512) :
    (V m c (Pipeline.arrRef spec0 1) : FVec Ideal S8320x512 .bf16) (ix2 s k) = a1 m c (ix2 s k) := by
  have e : (V m c (Pipeline.arrRef spec0 1) : FVec Ideal S8320x512 .bf16) = truncf .bf16 (a1 m c) bitsLt_bf16_f32 := by
    show StableHlo.after hostOps0 _ _ = _
    after_reads_simp
  rw [e]
  rfl

theorem iblk1_at (c : Dev nD) (t : Fin cfg0.N) (r : Fin 640) (k : Fin 512) :
    (iblk m c 1 t : FVec Ideal S640x512 .bf16) (ix2 r k) = a1 m c (ix2 (at_ t r) k) := by
  rw [← W1 m c]
  blk_ext! [iblk, idx t]

theorem W2 (c : Dev nD) (s : Fin 1024) (k : Fin 1024) :
    (V m c (Pipeline.arrRef spec0 2) : FVec Ideal S1024x1024 .bf16) (ix2 s k) = a2 m c (ix2 s k) := by
  have e : (V m c (Pipeline.arrRef spec0 2) : FVec Ideal S1024x1024 .bf16) = truncf .bf16 (a2 m c) bitsLt_bf16_f32 := by
    show StableHlo.after hostOps0 _ _ = _
    after_reads_simp
  rw [e]
  rfl

theorem iblk2_at (c : Dev nD) (t : Fin cfg0.N) (r : Fin 1024) (k : Fin 1024) :
    (iblk m c 2 t : FVec Ideal S1024x1024 .bf16) (ix2 r k) = a2 m c (ix2 r k) := by
  rw [← W2 m c]
  blk_ext! [iblk, idx t]

theorem iblk3_at (c : Dev nD) (t : Fin cfg0.N) (r : Fin 640) (q : Fin 1024) :
    (iblk m c 3 t : FVec Ideal S640x1024 .f32) (ix2 r q) = a3 m c (ix2 (at_ t r) q) := by
  blk_ext! [iblk, V, idx t]

theorem iblk4_at (c : Dev nD) (t : Fin cfg0.N) (q : Fin 1024) :
    (iblk m c 4 t : FVec Ideal S1x1024 .f32) (ix2 0 q) = a4 m c (ix2 0 q) := by
  blk_ext! [iblk, V, idx t]

theorem iblk5_at (c : Dev nD) (t : Fin cfg0.N) (q : Fin 1024) :
    (iblk m c 5 t : FVec Ideal S1x1024 .f32) (ix2 0 q) = a5 m c (ix2 0 q) := by
  blk_ext! [iblk, V, idx t]

/-- A row before it is normalised. -/
def R (x0 x1 : FVec Ideal S8320x512 .f32) (x2 : FVec Ideal S1024x1024 .f32) (x3 : FVec Ideal S8320x1024 .f32) (x4 x5 : FVec Ideal S1x1024 .f32)
    (s : Fin 8320) (q : Fin 1024) : EReal :=
  cA * (x3 (ix2 s q) * x4 (ix2 0 q) + x5 (ix2 0 q))
    + ((∑ k : Fin 512, x0 (ix2 s k) * x2 (ix2 ⟨k.val, by omega⟩ q)) + ∑ k : Fin 512, x1 (ix2 s k) * x2 (ix2 ⟨512 + k.val, by omega⟩ q))

theorem row_at (c : Dev nD) (t : Fin cfg0.N) (r : Fin 640) :
    row (iblk m c 0 t) (iblk m c 1 t) (iblk m c 2 t) (iblk m c 3 t) (iblk m c 4 t) (iblk m c 5 t) r
      = R (a0 m c) (a1 m c) (a2 m c) (a3 m c) (a4 m c) (a5 m c) (at_ t r) := by
  funext q
  unfold row R
  refine congrArg₂ (fun x y : EReal => x + y)
    (congrArg (fun z : EReal => cA * z) (congrArg₂ (fun x y : EReal => x + y) (congrArg₂ (fun x y : EReal => x * y) (iblk3_at m c t r q) (iblk4_at m c t q)) (iblk5_at m c t q)))
    (congrArg₂ (fun x y : EReal => x + y) ?_ ?_)
  · exact Finset.sum_congr rfl fun k _ => congrArg₂ (fun x y : EReal => x * y) (iblk0_at m c t r k) (iblk2_at m c t ⟨k.val, by omega⟩ q)
  · exact Finset.sum_congr rfl fun k _ => congrArg₂ (fun x y : EReal => x * y) (iblk1_at m c t r k) (iblk2_at m c t ⟨512 + k.val, by omega⟩ q)

/-! ## The reference -/

section
variable (x0 x1 : FVec Ideal S8320x512 .f32) (x2 : FVec Ideal S1024x1024 .f32) (x3 : FVec Ideal S8320x1024 .f32) (x4 x5 : FVec Ideal S1x1024 .f32)

theorem cat0 (s : Fin 8320) (k : Fin 512) (j : Fin 1024) (hj : j.val = 0 + k.val) :
    val_main_v6 (F := Ideal) x0 x1 (ix2 s j) = x0 (ix2 s k) := by
  unfold val_main_v6
  refine concatenate_apply_piece (t := Cert.OutprojReferenceIdeal.S8320x1024) 1 _ _ (ix2 s j) 0 (by show 0 < 2; omega) S8320x512 x0 rfl rfl 0 (by rfl) (ix2 s k) (fun b hb => ?_) hj.symm
  match b with
  | 0 => rfl
  | 1 => exact absurd rfl hb

theorem cat1 (s : Fin 8320) (k : Fin 512) (j : Fin 1024) (hj : j.val = 512 + k.val) :
    val_main_v6 (F := Ideal) x0 x1 (ix2 s j) = x1 (ix2 s k) := by
  unfold val_main_v6
  refine concatenate_apply_piece (t := Cert.OutprojReferenceIdeal.S8320x1024) 1 _ _ (ix2 s j) 1 (by show 1 < 2; omega) S8320x512 x1 rfl rfl 512 (by rfl) (ix2 s k) (fun b hb => ?_) hj.symm
  match b with
  | 0 => rfl
  | 1 => exact absurd rfl hb

/-- A sum in two halves. -/
theorem halves (f : Fin 1024 → EReal) : ∑ k : Fin 1024, f k = (∑ k : Fin 512, f ⟨k.val, by omega⟩) + ∑ k : Fin 512, f ⟨512 + k.val, by omega⟩ :=
  Fin.sum_univ_add (a := 512) (b := 512) f

/-- A reduction starts at zero. -/
theorem from_zero (x : EReal) : Ideal.ofBits .f32 0x00000000#32 + x = x := by
  rw [Ideal.ofBits_zero_f32, zero_add]

theorem L7 (s : Fin 8320) (q : Fin 1024) : val_main_v7 (F := Ideal) x0 x1 x2 (ix2 s q)
    = (∑ k : Fin 512, x0 (ix2 s k) * x2 (ix2 ⟨k.val, by omega⟩ q)) + ∑ k : Fin 512, x1 (ix2 s k) * x2 (ix2 ⟨512 + k.val, by omega⟩ q) := by
  have e : val_main_v7 (F := Ideal) x0 x1 x2 (ix2 s q) = ∑ k : Fin 1024, val_main_v6 (F := Ideal) x0 x1 (ix2 s k) * x2 (ix2 k q) := by
    refine (val_main_v7_apply x0 x1 x2 (ix2 s q)).trans (Finset.sum_congr rfl fun k _ =>
      congrArg₂ (fun x y : EReal => x * y) (congrArg (val_main_v6 (F := Ideal) x0 x1) ?_) (congrArg x2 ?_))
    all_goals
      funext a
      match a with
      | ⟨0, _⟩ => rfl
      | ⟨1, _⟩ => rfl
  refine (e.trans (halves _)).trans (congrArg₂ (fun x y : EReal => x + y) ?_ ?_)
  · exact Finset.sum_congr rfl fun k _ => by rw [cat0 x0 x1 s k ⟨k.val, by omega⟩ (Nat.zero_add _).symm]
  · exact Finset.sum_congr rfl fun k _ => by rw [cat1 x0 x1 s k ⟨512 + k.val, by omega⟩ rfl]

theorem L8 (i : S8320x1024.Idx) : val_main_v8 (F := Ideal) x0 x1 x2 x3 x4 x5 i = R x0 x1 x2 x3 x4 x5 (i 0) (i 1) := by
  obtain ⟨s, q, rfl⟩ : ∃ (s : Fin 8320) (q : Fin 1024), i = ix2 s q := ⟨i 0, i 1, by funext k; match k with | 0 => rfl | 1 => rfl⟩
  unfold R
  rw [val_main_v8_apply, val_main_v5_apply, val_main_v4_apply, val_main_v3_apply, val_main_v1_apply, val_main_v0_apply, val_main_v2_apply, L7]
  refine congrArg₂ (fun x y : EReal => x + y) (congrArg (fun z : EReal => cA * z) (congrArg₂ (fun x y : EReal => x + y)
    (congrArg (fun z : EReal => x3 (ix2 s q) * z) (congrArg x4 ?_)) (congrArg x5 ?_))) rfl
  all_goals
    funext a
    match a with
    | ⟨0, _⟩ => rfl
    | ⟨1, _⟩ => rfl

theorem L12 (i : S8320x1.Idx) : val_main_v12 (F := Ideal) x0 x1 x2 x3 x4 x5 i = Ideal.div (∑ k : Fin 1024, R x0 x1 x2 x3 x4 x5 (i 0) k) cN := by
  rw [val_main_v12_apply, val_main_v10_apply, val_main_v9_apply, val_main_v11_apply]
  exact congrArg (fun x : EReal => Ideal.div x cN) ((from_zero _).trans (Finset.sum_congr rfl fun k _ => L8 x0 x1 x2 x3 x4 x5 _))

theorem L14 (i : S8320x1024.Idx) : val_main_v14 (F := Ideal) x0 x1 x2 x3 x4 x5 i = ctr (R x0 x1 x2 x3 x4 x5 (i 0)) (i 1) := by
  rw [val_main_v14_apply, val_main_v13_apply, L8, L12]
  rfl

theorem L24 (i : S8320x1024.Idx) : val_main_v24 (F := Ideal) x0 x1 x2 x3 x4 x5 i = ctr (R x0 x1 x2 x3 x4 x5 (i 0)) (i 1) := by
  rw [val_main_v24_apply, val_main_v23_apply, L8, L12]
  rfl

theorem L22 (i : S8320x1.Idx) : val_main_v22 (F := Ideal) x0 x1 x2 x3 x4 x5 i = rsd (R x0 x1 x2 x3 x4 x5 (i 0)) := by
  rw [val_main_v22_apply, val_main_v21_apply, val_main_v19_apply, val_main_v17_apply, val_main_v16_apply, val_main_v18_apply, val_main_v20_apply,
    Ideal.hostUnary_rsqrt_def]
  refine congrArg Ideal.rsqrt (congrArg (fun x : EReal => Ideal.div x cN + cE) ((from_zero _).trans (Finset.sum_congr rfl fun k _ => ?_)))
  rw [val_main_v15_apply, L14]
  rfl

theorem L26 (i : S8320x1024.Idx) : val_main_v26 (F := Ideal) x0 x1 x2 x3 x4 x5 i = ctr (R x0 x1 x2 x3 x4 x5 (i 0)) (i 1) * rsd (R x0 x1 x2 x3 x4 x5 (i 0)) := by
  rw [val_main_v26_apply, val_main_v25_apply, L24, L22]
  rfl

end

/-! ## The result arrays -/

abbrev RR (c : Dev nD) : Fin 8320 → Fin 1024 → EReal := R (a0 m c) (a1 m c) (a2 m c) (a3 m c) (a4 m c) (a5 m c)

set_option maxHeartbeats 1000000 in
theorem final6 (c : Dev nD) : (dats m 0 c).arrAt 6 cfg0.N
    = (fun y : S8320x1024.Idx => ctr (RR m c (y 0)) (y 1) * rsd (RR m c (y 0)) : FVec Ideal S8320x1024 .f32) := by
  refine (dats m 0 c).arrAt_eq_of_covers 6 _ (by decide +kernel) fun t hf y => ?_
  blk_simp
  rw [after0_6]
  obtain ⟨r, q, rfl⟩ : ∃ (r : Fin 640) (q : Fin 1024), y = ix2 r q := ⟨y 0, y 1, by funext k; match k with | 0 => rfl | 1 => rfl⟩
  have hi := (idx t).2.2.2.2.2.2.1
  have e0 : ((win0_6.blk t).view.emb (ix2 r q) 0 : Fin 8320) = at_ t r := Fin.ext (by blk_simp [hi])
  have e1 : ((win0_6.blk t).view.emb (ix2 r q) 1 : Fin 1024) = q := Fin.ext (by blk_simp [hi])
  rw [e0, e1]
  refine (out6_at (iblk m c 0 t) (iblk m c 1 t) (iblk m c 2 t) (iblk m c 3 t) (iblk m c 4 t) (iblk m c 5 t) r q).trans ?_
  rw [row_at]

set_option maxHeartbeats 1000000 in
theorem final7 (c : Dev nD) : (dats m 0 c).arrAt 7 cfg0.N = (fun y : S8320x1.Idx => rsd (RR m c (y 0)) : FVec Ideal S8320x1 .f32) := by
  refine (dats m 0 c).arrAt_eq_of_covers 7 _ (by decide +kernel) fun t hf y => ?_
  blk_simp
  rw [after0_7]
  obtain ⟨r, rfl⟩ : ∃ r : Fin 640, y = ix2 r 0 :=
    ⟨y 0, by funext k; match k with | 0 => rfl | 1 => exact Fin.ext (by have h : (y 1).val < 1 := (y 1).isLt; show (y 1).val = 0; omega)⟩
  have hi := (idx t).2.2.2.2.2.2.2
  have e0 : ((win0_7.blk t).view.emb (ix2 r 0) 0 : Fin 8320) = at_ t r := Fin.ext (by blk_simp [hi])
  rw [e0]
  refine (out7_at (iblk m c 0 t) (iblk m c 1 t) (iblk m c 2 t) (iblk m c 3 t) (iblk m c 4 t) (iblk m c 5 t) r).trans ?_
  rw [row_at]

theorem eq6 (c : Dev nD) : (dats m 0 c).arrAt 6 cfg0.N = val_main_v26 (F := Ideal) (a0 m c) (a1 m c) (a2 m c) (a3 m c) (a4 m c) (a5 m c) := by
  rw [final6]
  funext i
  exact (L26 (a0 m c) (a1 m c) (a2 m c) (a3 m c) (a4 m c) (a5 m c) i).symm

theorem eq7 (c : Dev nD) : (dats m 0 c).arrAt 7 cfg0.N = val_main_v22 (F := Ideal) (a0 m c) (a1 m c) (a2 m c) (a3 m c) (a4 m c) (a5 m c) := by
  rw [final7]
  funext i
  exact (L22 (a0 m c) (a1 m c) (a2 m c) (a3 m c) (a4 m c) (a5 m c) i).symm

end Cert.OutprojKernelIdeal.Ker

end
-- ==== Proof.WgradKer.lean ====
/- The feed-forward weights' gradient: the kernel's array after the run is the product over all the rows. -/
module

public import proofs.«01_k».proof.Proof.Gen.WgradKernelIdeal.Value
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.WgradKernelIdeal.Ker

open Cert.WgradKernelIdeal Cert.WgradKernelIdeal.Gen

variable (m : (ℓ : Loc nD τ sig) → Buf (Elt Ideal) ℓ)

theorem pay2_apply (acc : FVec Ideal S704x1024 .f32) (a : FVec Ideal S1x4160x704 .bf16) (b : FVec Ideal S4160x1024 .bf16) (p : Fin 704) (q : Fin 1024) :
    k0_pay2 (F := Ideal) acc a b (ix2 p q) = acc (ix2 p q) + ∑ k : Fin 4160, a (ix3 0 k p) * b (ix2 k q) := by
  pointwise [k0_pay2]

theorem sout_A (c : Dev nD) (t : Fin cfg0.N) hc0 hc1 (x0 : Vec Ideal S1x4160x704 .bf16) (x1 : Vec Ideal S4160x1024 .bf16) (p : Fin 704) (q : Fin 1024) :
    sout0_A_0 c (grid0.coords t) (ms0_0 t) (hs0_0 t) (ms0_1 t) (hs0_1 t) (ms0_2 t) (hs0_2 t) scM0_0 (Memref.isWhole_whole _) hc0 hc1 x0 x1 (ix2 p q)
      = ∑ k : Fin 4160, x0 (ix3 0 k p) * x1 (ix2 k q) := by
  frame_open
  simp (disch := decide) only [↓ View.readCov_skip, ↓ View.readCov_cons_toLoadRect, ↓ View.readCov_fill]
  frame_out
  refine (pay2_apply _ _ _ p q).trans ?_
  pointwise [k0_pay1]

theorem out_B (c : Dev nD) (t : Fin cfg0.N) hc0 hc1 (x0 : Vec Ideal S1x4160x704 .bf16) (x1 : Vec Ideal S4160x1024 .bf16) (xs : Vec Ideal S704x1024 .f32) (p : Fin 704) (q : Fin 1024) :
    out0_B_2 c (grid0.coords t) (ms0_0 t) (hs0_0 t) (ms0_1 t) (hs0_1 t) (ms0_2 t) (hs0_2 t) scM0_0 (Memref.isWhole_whole _) hc0 hc1 x0 x1 xs (ix2 p q)
      = xs (ix2 p q) + ∑ k : Fin 4160, x0 (ix3 0 k p) * x1 (ix2 k q) := by
  frame_open
  simp (disch := decide) only [↓ View.readCov_skip, ↓ View.readCov_cons_toLoadRect, ↓ View.readCov_fill]
  frame_out
  refine (pay2_apply _ _ _ p q).trans ?_
  exact congrArg (· + _) (congrFun (Memref.IsWhole.read_unread (Memref.isWhole_whole cc0_scratch0) xs) (ix2 p q))

abbrev aA (c : Dev nD) : FVec Ideal S8320x2816 .f32 := m ((c : Thread nD τ).loc main_arg0)
abbrev aB (c : Dev nD) : FVec Ideal S8320x1024 .f32 := m ((c : Thread nD τ).loc main_arg1)

theorem idx : ∀ t : Fin cfg0.N, win0_0.index t = ![t.val / 2, t.val % 2, 0] ∧ win0_1.index t = ![t.val % 2, 0] ∧ win0_2.index t = ![t.val / 2, 0] :=
  (by decide +kernel : ∀ t : Fin grid0.N, _)

/-- The staged first operand: its four chunks of columns. -/
theorem A_at (c : Dev nD) (j : Fin 4) (s : Fin 8320) (p : Fin 704) :
    (V m c (Pipeline.arrRef spec0 0) : FVec Ideal S4x8320x704 .bf16) (ix3 j s p) = aA m c (ix2 s ⟨j.val * 704 + p.val, by omega⟩) := by
  have e : (V m c (Pipeline.arrRef spec0 0) : FVec Ideal S4x8320x704 .bf16)
      = transpose S4x8320x704 [1, 0, 2] (shapeCast S8320x4x704 (truncf .bf16 (aA m c) bitsLt_bf16_f32) shapeCasts_S8320x2816_S8320x4x704) transposes_S8320x4x704_S4x8320x704_1_0_2 := by
    unfold V
    simp only [List.flatten_cons, List.flatten_nil, List.append_nil]
    entry_read
    rfl
  rw [e]
  generalize aA m c = y
  pointwise

theorem B_at (c : Dev nD) (s : Fin 8320) (q : Fin 1024) :
    (V m c (Pipeline.arrRef spec0 1) : FVec Ideal S8320x1024 .bf16) (ix2 s q) = aB m c (ix2 s q) := by
  unfold V
  simp only [List.flatten_cons, List.flatten_nil, List.append_nil]
  entry_read
  rfl

theorem iblk0_at (c : Dev nD) (t : Fin cfg0.N) (k : Fin 4160) (p : Fin 704) :
    (iblk m c 0 t : FVec Ideal S1x4160x704 .bf16) (ix3 0 k p)
      = aA m c (ix2 ⟨(t.val % 2) * 4160 + k.val, by omega⟩ ⟨(t.val / 2) * 704 + p.val, by have := lt_of_lt_of_eq t.isLt N_0; omega⟩) := by
  rw [← A_at m c ⟨t.val / 2, by have := lt_of_lt_of_eq t.isLt N_0; omega⟩]
  blk_ext! [iblk, idx t]

theorem iblk1_at (c : Dev nD) (t : Fin cfg0.N) (k : Fin 4160) (q : Fin 1024) :
    (iblk m c 1 t : FVec Ideal S4160x1024 .bf16) (ix2 k q) = aB m c (ix2 ⟨(t.val % 2) * 4160 + k.val, by omega⟩ q) := by
  rw [← B_at m c]
  blk_ext! [iblk, idx t]

/-- Both halves of the rows are all the rows. -/
theorem halves (f : Fin 8320 → EReal) :
    (∑ k : Fin 4160, f ⟨0 * 4160 + k.val, by omega⟩) + (∑ k : Fin 4160, f ⟨1 * 4160 + k.val, by omega⟩) = ∑ s : Fin 8320, f s := by
  rw [Fin.sum_univ_tiles 2 4160 rfl f, Fin.sum_univ_two]
  rfl

/-- The product over all the rows. -/
def W (A : FVec Ideal S8320x2816 .f32) (B : FVec Ideal S8320x1024 .f32) (p : Fin 2816) (q : Fin 1024) : EReal :=
  ∑ s : Fin 8320, A (ix2 s p) * B (ix2 s q)

set_option maxHeartbeats 1000000 in
theorem out_at (c : Dev nD) (t : Fin cfg0.N) (h : t.val % 2 = 1) (p : Fin 704) (q : Fin 1024) :
    (outsAt0 m c t.val t.isLt).1 (ix2 p q) = W (aA m c) (aB m c) ⟨(t.val / 2) * 704 + p.val, by have := lt_of_lt_of_eq t.isLt N_0; omega⟩ q := by
  have hN := lt_of_lt_of_eq t.isLt N_0
  let u : Fin cfg0.N := ⟨t.val - 1, Nat.lt_of_le_of_lt (Nat.sub_le _ _) t.isLt⟩
  have hu : u.val % 2 = 0 := by show (t.val - 1) % 2 = 0; omega
  rw [outsAt0_B m c t (by omega) h]
  dsimp only
  refine (out_B c t _ _ (iblk m c 0 t) (iblk m c 1 t) _ p q).trans ?_
  rw [show outsAt0 m c (t.val - 1) _ = _ from outsAt0_A m c u hu (by omega)]
  dsimp only
  refine (congrArg (· + _) (sout_A c u _ _ (iblk m c 0 u) (iblk m c 1 u) p q)).trans ?_
  unfold W
  rw [← halves]
  refine congrArg₂ (· + ·) (Finset.sum_congr rfl fun k _ => ?_) (Finset.sum_congr rfl fun k _ => ?_)
  · rw [iblk0_at, iblk1_at]
    refine congrArg₂ (· * ·) (congrArg (aA m c) (congrArg₂ ix2 (Fin.ext ?_) (Fin.ext ?_))) (congrArg (aB m c) (congrArg (ix2 · q) (Fin.ext ?_)))
    · show u.val % 2 * 4160 + k.val = 0 * 4160 + k.val
      rw [hu]
    · show (t.val - 1) / 2 * 704 + p.val = t.val / 2 * 704 + p.val
      rw [show (t.val - 1) / 2 = t.val / 2 by omega]
    · show u.val % 2 * 4160 + k.val = 0 * 4160 + k.val
      rw [hu]
  · rw [iblk0_at, iblk1_at]
    refine congrArg₂ (· * ·) (congrArg (aA m c) (congrArg₂ ix2 (Fin.ext ?_) rfl)) (congrArg (aB m c) (congrArg (ix2 · q) (Fin.ext ?_)))
    · show t.val % 2 * 4160 + k.val = 1 * 4160 + k.val
      rw [h]
    · show t.val % 2 * 4160 + k.val = 1 * 4160 + k.val
      rw [h]

set_option maxHeartbeats 1000000 in
theorem final2 (c : Dev nD) : (dats m 0 c).arrAt 2 cfg0.N
    = (fun y : S2816x1024.Idx => W (aA m c) (aB m c) (y 0) (y 1) : FVec Ideal S2816x1024 .bf16) := by
  refine (dats m 0 c).arrAt_eq_of_covers 2 _ (by decide +kernel) fun t hf y => ?_
  have hm : t.val % 2 = 1 := (flush0_2 t).mp hf
  have hN := lt_of_lt_of_eq t.isLt N_0
  blk_simp
  rw [after0_2]
  obtain ⟨p, q, rfl⟩ : ∃ (p : Fin 704) (q : Fin 1024), y = ix2 p q := ⟨y 0, y 1, by funext k; match k with | 0 => rfl | 1 => rfl⟩
  have hi := (idx t).2.2
  have hp : t.val / 2 * 704 + p.val < 2816 := by have := p.isLt; omega
  have e0 : ((win0_2.blk t).view.emb (ix2 p q) 0 : Fin 2816) = ⟨(t.val / 2) * 704 + p.val, hp⟩ := Fin.ext (by blk_simp [hi])
  have e1 : ((win0_2.blk t).view.emb (ix2 p q) 1 : Fin 1024) = q := Fin.ext (by blk_simp [hi])
  rw [e0, e1]
  exact out_at m c t hm p q

end Cert.WgradKernelIdeal.Ker

end
-- ==== Proof.lean ====
module

public import proofs.«01_k».proof.Defs
public import proofs.«01_k».proof.Proof.Gen.PoolKernel
public import proofs.«01_k».proof.Proof.Gen.PoolKernel.Skeleton
public import proofs.«01_k».proof.Proof.Gen.PoolKernel.Launch
public import proofs.«01_k».proof.Proof.Gen.PoolKernel.Points
public import proofs.«01_k».proof.Proof.Gen.PoolKernel.Frame
public import proofs.«01_k».proof.Proof.Gen.PoolKernelIdeal
public import proofs.«01_k».proof.Proof.Gen.PoolKernelIdeal.Skeleton
public import proofs.«01_k».proof.Proof.Gen.PoolKernelIdeal.Launch
public import proofs.«01_k».proof.Proof.Gen.PoolKernelIdeal.Points
public import proofs.«01_k».proof.Proof.Gen.PoolKernelIdeal.Frame
public import proofs.«01_k».proof.Proof.Gen.PoolKernelIdeal.Value
public import proofs.«01_k».proof.Proof.Gen.PoolReferenceIdeal
public import proofs.«01_k».proof.Proof.Gen.PoolReferenceIdeal.Run
public import proofs.«01_k».proof.Proof.Gen.PoolReferenceIdeal.Read
public import proofs.«01_k».proof.Proof.Gen.Pre_pool_finite
public import proofs.«01_k».proof.Proof.Gen.WgradKernel
public import proofs.«01_k».proof.Proof.Gen.WgradKernel.Skeleton
public import proofs.«01_k».proof.Proof.Gen.WgradKernel.Launch
public import proofs.«01_k».proof.Proof.Gen.WgradKernel.Points
public import proofs.«01_k».proof.Proof.Gen.WgradKernel.Frame
public import proofs.«01_k».proof.Proof.Gen.WgradKernelIdeal
public import proofs.«01_k».proof.Proof.Gen.WgradKernelIdeal.Skeleton
public import proofs.«01_k».proof.Proof.Gen.WgradKernelIdeal.Launch
public import proofs.«01_k».proof.Proof.Gen.WgradKernelIdeal.Points
public import proofs.«01_k».proof.Proof.Gen.WgradKernelIdeal.Frame
public import proofs.«01_k».proof.Proof.Gen.WgradKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.Pre_ffn_finite
public import proofs.«01_k».proof.Proof.FfnBits
public import proofs.«01_k».proof.Proof.FfnEq
public import proofs.«01_k».proof.Proof.FwdBits
public import proofs.«01_k».proof.Proof.FwdEq
public import proofs.«01_k».proof.Proof.Gen.OutGradKernel
public import proofs.«01_k».proof.Proof.Gen.OutGradKernel.Skeleton
public import proofs.«01_k».proof.Proof.Gen.OutGradKernel.Launch
public import proofs.«01_k».proof.Proof.Gen.OutGradKernel.Points
public import proofs.«01_k».proof.Proof.Gen.OutGradKernel.Frame
public import proofs.«01_k».proof.Proof.Gen.OutGradKernelIdeal
public import proofs.«01_k».proof.Proof.Gen.OutGradKernelIdeal.Skeleton
public import proofs.«01_k».proof.Proof.Gen.OutGradKernelIdeal.Launch
public import proofs.«01_k».proof.Proof.Gen.OutGradKernelIdeal.Points
public import proofs.«01_k».proof.Proof.Gen.OutGradKernelIdeal.Frame
public import proofs.«01_k».proof.Proof.Gen.OutGradKernelIdeal.Value
public import proofs.«01_k».proof.Proof.Gen.OutGradReferenceIdeal
public import proofs.«01_k».proof.Proof.Gen.OutGradReferenceIdeal.Run
public import proofs.«01_k».proof.Proof.Gen.OutGradReferenceIdeal.Read
public import proofs.«01_k».proof.Proof.OutGradKer
public import proofs.«01_k».proof.Proof.Gen.InGradKernel
public import proofs.«01_k».proof.Proof.Gen.InGradKernel.Skeleton
public import proofs.«01_k».proof.Proof.Gen.InGradKernel.Launch
public import proofs.«01_k».proof.Proof.Gen.InGradKernel.Points
public import proofs.«01_k».proof.Proof.Gen.InGradKernel.Frame
public import proofs.«01_k».proof.Proof.Gen.InGradKernelIdeal
public import proofs.«01_k».proof.Proof.Gen.InGradKernelIdeal.Skeleton
public import proofs.«01_k».proof.Proof.Gen.InGradKernelIdeal.Launch
public import proofs.«01_k».proof.Proof.Gen.InGradKernelIdeal.Points
public import proofs.«01_k».proof.Proof.Gen.InGradKernelIdeal.Frame
public import proofs.«01_k».proof.Proof.Gen.InGradKernelIdeal.Value
public import proofs.«01_k».proof.Proof.Gen.InGradReferenceIdeal
public import proofs.«01_k».proof.Proof.Gen.InGradReferenceIdeal.Run
public import proofs.«01_k».proof.Proof.Gen.InGradReferenceIdeal.Read
public import proofs.«01_k».proof.Proof.InGradKer
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojKernelIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.InprojFinal
public import proofs.«01_k».proof.Proof.Gen.OutprojKernel
public import proofs.«01_k».proof.Proof.Gen.OutprojKernel.Skeleton
public import proofs.«01_k».proof.Proof.Gen.OutprojKernel.Launch
public import proofs.«01_k».proof.Proof.Gen.OutprojKernel.Points
public import proofs.«01_k».proof.Proof.Gen.OutprojKernel.Frame
public import proofs.«01_k».proof.Proof.Gen.OutprojKernelIdeal
public import proofs.«01_k».proof.Proof.Gen.OutprojKernelIdeal.Skeleton
public import proofs.«01_k».proof.Proof.Gen.OutprojKernelIdeal.Launch
public import proofs.«01_k».proof.Proof.Gen.OutprojKernelIdeal.Points
public import proofs.«01_k».proof.Proof.Gen.OutprojKernelIdeal.Frame
public import proofs.«01_k».proof.Proof.Gen.OutprojKernelIdeal.Value
public import proofs.«01_k».proof.Proof.Gen.OutprojReferenceIdeal
public import proofs.«01_k».proof.Proof.Gen.OutprojReferenceIdeal.Run
public import proofs.«01_k».proof.Proof.Gen.OutprojReferenceIdeal.Read
public import proofs.«01_k».proof.Proof.OutprojFinal
public import proofs.«01_k».proof.Proof.PoolFinal
public import proofs.«01_k».proof.Proof.WgradKer
public import Idealize.ShloMosaic.Adequacy
public import Idealize.ShloMosaic.Init

@[expose] public section

set_option maxRecDepth 16384

noncomputable section

namespace Cert.Proof

open Idealize.ShloMosaic Idealize.SL.Sem Cert.PoolKernel

/-- The pooling gradient's reference leaves its arguments as they were; it names no semaphore. -/
theorem pool_reference_frame : Cert.quiescent_PoolReferenceIdeal := fun m ρ _ => (θ_run Cert.PoolReferenceIdeal.defs _ _).mono
  (fun r h => And.intro (fun c => (h c).2.2.2) (sem_eq_zero_of_no_sems (by decide) r.2)) (Cert.PoolReferenceIdeal.Value.run (F := Ideal) m ρ)

/-- The pooling gradient: from finite arrays the kernel and the reference end with equal results. -/
theorem pool_algebraic : Cert.algebraic_PoolKernelIdeal_PoolReferenceIdeal_pre_pool_finite := by
  intro m g m' g' hpre hagree
  refine ⟨_, _, _, Cert.PoolKernelIdeal.Value.run_blocks m g, (θ_run _ _ _).mono (fun r h c => ?_) (Cert.PoolReferenceIdeal.Value.run m' g')⟩
  obtain ⟨e1, e2, e3, ek⟩ := h c
  obtain ⟨a0, a1, a2, a3⟩ := hagree c
  obtain ⟨r0, r2, r3⟩ := Cert.PoolKernelIdeal.Ker.pre_real _ _ _ _ (hpre c)
  refine ⟨e1.trans ?_, e2.trans ?_, e3.trans ?_, ek⟩
  · rw [Cert.PoolReferenceIdeal.Read.val_main_v143_eq, a0, a2, a3]
    exact (Cert.PoolKernelIdeal.Ker.eq4 m c r0 r2 r3).symm
  · rw [Cert.PoolReferenceIdeal.Read.val_main_v86_eq, a0, a1, a3]
    exact (Cert.PoolKernelIdeal.Ker.eq5 m c).symm
  · rw [Cert.PoolReferenceIdeal.Read.val_main_v78_eq, a0, a1, a2]
    exact (Cert.PoolKernelIdeal.Ker.eq6 m c).symm

/-- The down weight's gradient reference leaves its arguments as they were; it names no semaphore. -/
theorem down_reference_frame : Cert.quiescent_DownReferenceIdeal := fun m ρ _ => (θ_run Cert.DownReferenceIdeal.defs _ _).mono
  (fun r h => And.intro (fun c => (h c).2) (sem_eq_zero_of_no_sems (by decide) r.2)) (Cert.DownReferenceIdeal.Value.run (F := Ideal) m ρ)

/-- The gate weight's gradient reference leaves its arguments as they were; it names no semaphore. -/
theorem gate_reference_frame : Cert.quiescent_GateReferenceIdeal := fun m ρ _ => (θ_run Cert.GateReferenceIdeal.defs _ _).mono
  (fun r h => And.intro (fun c => (h c).2) (sem_eq_zero_of_no_sems (by decide) r.2)) (Cert.GateReferenceIdeal.Value.run (F := Ideal) m ρ)

/-- The down weight's gradient at an index: the product over all the rows, its factors in the other order. -/
theorem down_value (A : FVec Ideal Cert.DownReferenceIdeal.S8320x2816 .f32) (B : FVec Ideal Cert.DownReferenceIdeal.S8320x1024 .f32) (y : Cert.DownReferenceIdeal.S2816x1024.Idx) :
    Cert.DownReferenceIdeal.Read.val_main_v4 (F := Ideal) A B y = Cert.WgradKernelIdeal.Ker.W A B (y 0) (y 1) := by
  refine (Cert.DownReferenceIdeal.Read.val_main_v3_apply (F := Ideal) A B y).trans ((Cert.DownReferenceIdeal.Read.val_main_v2_apply A B _).trans ?_)
  unfold Cert.WgradKernelIdeal.Ker.W
  refine Finset.sum_congr rfl fun k _ => (mul_comm (G := EReal) _ _).trans (congrArg₂ (· * ·) (congrArg A ?_) (congrArg B ?_))
  all_goals
    funext a
    match a with
    | ⟨0, _⟩ => rfl
    | ⟨1, _⟩ => rfl

/-- The gate weight's gradient at an index: the product over all the rows. -/
theorem gate_value (A : FVec Ideal Cert.GateReferenceIdeal.S8320x2816 .f32) (B : FVec Ideal Cert.GateReferenceIdeal.S8320x1024 .f32) (y : Cert.GateReferenceIdeal.S2816x1024.Idx) :
    Cert.GateReferenceIdeal.Read.val_main_v5 (F := Ideal) A B y = Cert.WgradKernelIdeal.Ker.W A B (y 0) (y 1) := by
  refine (Cert.GateReferenceIdeal.Read.val_main_v4_apply (F := Ideal) A B y).trans ((Cert.GateReferenceIdeal.Read.val_main_v3_apply (F := Ideal) A B _).trans
    ((Cert.GateReferenceIdeal.Read.val_main_v2_apply A B _).trans ?_))
  unfold Cert.WgradKernelIdeal.Ker.W
  refine Finset.sum_congr rfl fun k _ => congrArg₂ (· * ·) (congrArg A ?_) (congrArg B ?_)
  all_goals
    funext a
    match a with
    | ⟨0, _⟩ => rfl
    | ⟨1, _⟩ => rfl

/-- The weights' gradient kernel is the down weight's gradient. -/
theorem down_algebraic : Cert.algebraic_WgradKernelIdeal_DownReferenceIdeal := by
  intro m g m' g' _ hagree
  refine ⟨_, Cert.WgradKernelIdeal.Value.run_blocks m g, (θ_run _ _ _).mono (fun r h c => ?_) (Cert.DownReferenceIdeal.Value.run m' g')⟩
  obtain ⟨e, ek⟩ := h c
  obtain ⟨a0, a1⟩ := hagree c
  refine ⟨e.trans ?_, ek⟩
  rw [Cert.DownReferenceIdeal.Read.val_main_v4_eq, a0, a1]
  refine Eq.trans ?_ (Cert.WgradKernelIdeal.Ker.final2 m c).symm
  funext y
  exact down_value _ _ y

/-- The weights' gradient kernel is the gate weight's gradient (and the up weight's), transposed as the version keeps it. -/
theorem gate_algebraic : Cert.algebraic_WgradKernelIdeal_GateReferenceIdeal := by
  intro m g m' g' _ hagree
  refine ⟨_, Cert.WgradKernelIdeal.Value.run_blocks m g, (θ_run _ _ _).mono (fun r h c => ?_) (Cert.GateReferenceIdeal.Value.run m' g')⟩
  obtain ⟨e, ek⟩ := h c
  obtain ⟨a0, a1⟩ := hagree c
  refine ⟨e.trans ?_, ek⟩
  rw [Cert.GateReferenceIdeal.Read.val_main_v5_eq, a0, a1]
  refine Eq.trans ?_ (Cert.WgradKernelIdeal.Ker.final2 m c).symm
  funext y
  exact gate_value _ _ y

/-- The feed-forward backward reference leaves its arguments as they were; it names no semaphore. -/
theorem ffn_reference_frame : Cert.quiescent_FfnReferenceIdeal := fun m ρ _ => (θ_run Cert.FfnReferenceIdeal.defs _ _).mono
  (fun r h => And.intro (fun c => (h c).2.2.2.2.2.2.2) (sem_eq_zero_of_no_sems (by decide) r.2)) (Cert.FfnReferenceIdeal.Value.run (F := Ideal) m ρ)

set_option maxHeartbeats 1600000 in
/-- The feed-forward backward kernel is the reference's derivative, where the arguments are finite. -/
theorem ffn_algebraic : Cert.algebraic_FfnKernelIdeal_FfnReferenceIdeal_pre_ffn_finite := by
  intro m g m' g' hpre hagree
  refine ⟨_, _, _, _, _, _, _, Cert.FfnKernelIdeal.Hand.run_arrays m g, (θ_run _ _ _).mono (fun r h c => ?_) (Cert.FfnReferenceIdeal.Value.run m' g')⟩
  obtain ⟨e1, e2, e3, e4, e5, e6, e7, ek⟩ := h c
  obtain ⟨a0, a1, a2, a3, a4, a5, a6⟩ := hagree c
  obtain ⟨r0, r1, r2, r3, r4, r5⟩ := Cert.FfnAlg.pre_real _ _ _ _ _ _ _ (hpre c)
  refine ⟨e1.trans ?_, e2.trans ?_, e3.trans ?_, e4.trans ?_, e5.trans ?_, e6.trans ?_, e7.trans ?_, ek⟩
  · refine (Cert.FfnReferenceIdeal.Read.val_main_v80_eq (StableHlo.launchContents m' c)).trans ?_
    change Cert.FfnReferenceIdeal.Read.val_main_v80 (F := Ideal) (m' (c.tc.loc Cert.FfnReferenceIdeal.main_arg0)) (m' (c.tc.loc Cert.FfnReferenceIdeal.main_arg1)) (m' (c.tc.loc Cert.FfnReferenceIdeal.main_arg2)) (m' (c.tc.loc Cert.FfnReferenceIdeal.main_arg3)) (m' (c.tc.loc Cert.FfnReferenceIdeal.main_arg4)) (m' (c.tc.loc Cert.FfnReferenceIdeal.main_arg5)) = _
    rw [a0, a1, a2, a3, a4, a5]
    exact (Cert.FfnAlg.eq9 m c r0 r1 r2 r3 r4 r5).symm
  · refine (Cert.FfnReferenceIdeal.Read.val_main_v81_eq (StableHlo.launchContents m' c)).trans ?_
    change Cert.FfnReferenceIdeal.Read.val_main_v81 (F := Ideal) (m' (c.tc.loc Cert.FfnReferenceIdeal.main_arg0)) (m' (c.tc.loc Cert.FfnReferenceIdeal.main_arg1)) (m' (c.tc.loc Cert.FfnReferenceIdeal.main_arg2)) (m' (c.tc.loc Cert.FfnReferenceIdeal.main_arg3)) (m' (c.tc.loc Cert.FfnReferenceIdeal.main_arg4)) (m' (c.tc.loc Cert.FfnReferenceIdeal.main_arg5)) = _
    rw [a0, a1, a2, a3, a4, a5]
    exact (Cert.FfnAlg.eq10 m c r0 r1 r2 r3 r4 r5).symm
  · refine (Cert.FfnReferenceIdeal.Read.val_main_v84_eq (StableHlo.launchContents m' c)).trans ?_
    change Cert.FfnReferenceIdeal.Read.val_main_v84 (F := Ideal) (m' (c.tc.loc Cert.FfnReferenceIdeal.main_arg0)) (m' (c.tc.loc Cert.FfnReferenceIdeal.main_arg1)) (m' (c.tc.loc Cert.FfnReferenceIdeal.main_arg2)) (m' (c.tc.loc Cert.FfnReferenceIdeal.main_arg3)) (m' (c.tc.loc Cert.FfnReferenceIdeal.main_arg4)) (m' (c.tc.loc Cert.FfnReferenceIdeal.main_arg5)) = _
    rw [a0, a1, a2, a3, a4, a5]
    exact (Cert.FfnAlg.eq11 m c r0 r1 r2 r3 r4 r5).symm
  · refine (Cert.FfnReferenceIdeal.Read.val_main_v87_eq (StableHlo.launchContents m' c)).trans ?_
    change Cert.FfnReferenceIdeal.Read.val_main_v87 (F := Ideal) (m' (c.tc.loc Cert.FfnReferenceIdeal.main_arg0)) (m' (c.tc.loc Cert.FfnReferenceIdeal.main_arg1)) (m' (c.tc.loc Cert.FfnReferenceIdeal.main_arg2)) (m' (c.tc.loc Cert.FfnReferenceIdeal.main_arg3)) (m' (c.tc.loc Cert.FfnReferenceIdeal.main_arg4)) (m' (c.tc.loc Cert.FfnReferenceIdeal.main_arg5)) = _
    rw [a0, a1, a2, a3, a4, a5]
    exact (Cert.FfnAlg.eq12 m c r0 r1 r2 r3 r4 r5).symm
  · refine (Cert.FfnReferenceIdeal.Read.val_main_v90_eq (StableHlo.launchContents m' c)).trans ?_
    change Cert.FfnReferenceIdeal.Read.val_main_v90 (F := Ideal) (m' (c.tc.loc Cert.FfnReferenceIdeal.main_arg1)) (m' (c.tc.loc Cert.FfnReferenceIdeal.main_arg2)) (m' (c.tc.loc Cert.FfnReferenceIdeal.main_arg3)) = _
    rw [a1, a2, a3]
    exact (Cert.FfnAlg.eq13 m c).symm
  · refine (Cert.FfnReferenceIdeal.Read.val_main_v42_eq (StableHlo.launchContents m' c)).trans ?_
    change Cert.FfnReferenceIdeal.Read.val_main_v42 (F := Ideal) (m' (c.tc.loc Cert.FfnReferenceIdeal.main_arg0)) (m' (c.tc.loc Cert.FfnReferenceIdeal.main_arg1)) (m' (c.tc.loc Cert.FfnReferenceIdeal.main_arg2)) (m' (c.tc.loc Cert.FfnReferenceIdeal.main_arg3)) (m' (c.tc.loc Cert.FfnReferenceIdeal.main_arg4)) = _
    rw [a0, a1, a2, a3, a4]
    exact (Cert.FfnAlg.eq14 m c).symm
  · refine (Cert.FfnReferenceIdeal.Read.val_main_v39_eq (StableHlo.launchContents m' c)).trans ?_
    change Cert.FfnReferenceIdeal.Read.val_main_v39 (F := Ideal) (m' (c.tc.loc Cert.FfnReferenceIdeal.main_arg0)) = _
    rw [a0]
    exact (Cert.FfnAlg.eq15 m c).symm

theorem fwd_reference_frame : Cert.quiescent_FwdReferenceIdeal := fun m ρ _ => (θ_run Cert.FwdReferenceIdeal.defs _ _).mono
  (fun r h => And.intro (fun c => (h c).2.2.2.2.2) (sem_eq_zero_of_no_sems (by decide) r.2)) (Cert.FwdReferenceIdeal.Value.run (F := Ideal) m ρ)

set_option maxHeartbeats 1600000 in
/-- The feed-forward forward kernel is the reference, for every input. -/
theorem fwd_algebraic : Cert.algebraic_FwdKernelIdeal_FwdReferenceIdeal := by
  intro m g m' g' _ hagree
  refine ⟨_, _, _, _, _, Cert.FwdKernelIdeal.Hand.run_arrays m g, (θ_run _ _ _).mono (fun r h c => ?_) (Cert.FwdReferenceIdeal.Value.run m' g')⟩
  obtain ⟨e1, e2, e3, e4, e5, ek⟩ := h c
  obtain ⟨a0, a1, a2, a3, a4, a5⟩ := hagree c
  refine ⟨e1.trans ?_, e2.trans ?_, e3.trans ?_, e4.trans ?_, e5.trans ?_, ek⟩
  · refine (Cert.FwdReferenceIdeal.Read.val_main_v31_eq m' c).trans ?_
    change Cert.FwdReferenceIdeal.Read.val_main_v31 (F := Ideal) (m' (c.tc.loc Cert.FwdReferenceIdeal.main_arg0)) (m' (c.tc.loc Cert.FwdReferenceIdeal.main_arg1)) (m' (c.tc.loc Cert.FwdReferenceIdeal.main_arg2)) (m' (c.tc.loc Cert.FwdReferenceIdeal.main_arg3)) (m' (c.tc.loc Cert.FwdReferenceIdeal.main_arg4)) (m' (c.tc.loc Cert.FwdReferenceIdeal.main_arg5)) = _
    rw [a0, a1, a2, a3, a4, a5]
    exact (Cert.FwdAlg.eq6 m c).symm
  · refine (Cert.FwdReferenceIdeal.Read.val_main_v27_eq m' c).trans ?_
    change Cert.FwdReferenceIdeal.Read.val_main_v27 (F := Ideal) (m' (c.tc.loc Cert.FwdReferenceIdeal.main_arg0)) (m' (c.tc.loc Cert.FwdReferenceIdeal.main_arg1)) (m' (c.tc.loc Cert.FwdReferenceIdeal.main_arg2)) (m' (c.tc.loc Cert.FwdReferenceIdeal.main_arg3)) (m' (c.tc.loc Cert.FwdReferenceIdeal.main_arg4)) (m' (c.tc.loc Cert.FwdReferenceIdeal.main_arg5)) = _
    rw [a0, a1, a2, a3, a4, a5]
    exact (Cert.FwdAlg.eq7 m c).symm
  · refine (Cert.FwdReferenceIdeal.Read.val_main_v32_eq _ _ _ ).trans ?_
    change Cert.FwdReferenceIdeal.Read.val_main_v32 (F := Ideal) (m' (c.tc.loc Cert.FwdReferenceIdeal.main_arg0)) (m' (c.tc.loc Cert.FwdReferenceIdeal.main_arg1)) (m' (c.tc.loc Cert.FwdReferenceIdeal.main_arg2)) = _
    rw [a0, a1, a2]
    exact (Cert.FwdAlg.eq8 m c).symm
  · refine (Cert.FwdReferenceIdeal.Read.val_main_v35_eq _ _ _ _ ).trans ?_
    change Cert.FwdReferenceIdeal.Read.val_main_v35 (F := Ideal) (m' (c.tc.loc Cert.FwdReferenceIdeal.main_arg0)) (m' (c.tc.loc Cert.FwdReferenceIdeal.main_arg1)) (m' (c.tc.loc Cert.FwdReferenceIdeal.main_arg2)) (m' (c.tc.loc Cert.FwdReferenceIdeal.main_arg3)) = _
    rw [a0, a1, a2, a3]
    exact (Cert.FwdAlg.eq9 m c).symm
  · refine (Cert.FwdReferenceIdeal.Read.val_main_v38_eq _ _ _ _ ).trans ?_
    change Cert.FwdReferenceIdeal.Read.val_main_v38 (F := Ideal) (m' (c.tc.loc Cert.FwdReferenceIdeal.main_arg0)) (m' (c.tc.loc Cert.FwdReferenceIdeal.main_arg1)) (m' (c.tc.loc Cert.FwdReferenceIdeal.main_arg2)) (m' (c.tc.loc Cert.FwdReferenceIdeal.main_arg4)) = _
    rw [a0, a1, a2, a4]
    exact (Cert.FwdAlg.eq10 m c).symm

/-- The output weights' gradient reference leaves its arguments as they were; it names no semaphore. -/
theorem out_grad_reference_frame : Cert.quiescent_OutGradReferenceIdeal := fun m ρ _ => (θ_run Cert.OutGradReferenceIdeal.defs _ _).mono
  (fun r h => And.intro (fun c => (h c).2) (sem_eq_zero_of_no_sems (by decide) r.2)) (Cert.OutGradReferenceIdeal.Value.run (F := Ideal) m ρ)

/-- The output weights' gradient at an index: the product over all the rows, its factors in the other order. -/
theorem out_grad_value (A : FVec Ideal Cert.OutGradReferenceIdeal.S8320x512 .f32) (B : FVec Ideal Cert.OutGradReferenceIdeal.S8320x1024 .f32) (y : Cert.OutGradReferenceIdeal.S512x1024.Idx) :
    Cert.OutGradReferenceIdeal.Read.val_main_v4 (F := Ideal) A B y = Cert.OutGradKernelIdeal.Ker.W A B (y 0) (y 1) := by
  refine (Cert.OutGradReferenceIdeal.Read.val_main_v3_apply (F := Ideal) A B y).trans ((Cert.OutGradReferenceIdeal.Read.val_main_v2_apply A B _).trans ?_)
  unfold Cert.OutGradKernelIdeal.Ker.W
  refine Finset.sum_congr rfl fun k _ => (mul_comm (G := EReal) _ _).trans (congrArg₂ (· * ·) (congrArg A ?_) (congrArg B ?_))
  all_goals
    funext a
    match a with
    | ⟨0, _⟩ => rfl
    | ⟨1, _⟩ => rfl

/-- The output weights' gradient kernel is the gradient of `w_out`'s rows. -/
theorem out_grad_algebraic : Cert.algebraic_OutGradKernelIdeal_OutGradReferenceIdeal := by
  intro m g m' g' _ hagree
  refine ⟨_, Cert.OutGradKernelIdeal.Value.run_blocks m g, (θ_run _ _ _).mono (fun r h c => ?_) (Cert.OutGradReferenceIdeal.Value.run m' g')⟩
  obtain ⟨e, ek⟩ := h c
  obtain ⟨a0, a1⟩ := hagree c
  refine ⟨e.trans ?_, ek⟩
  rw [Cert.OutGradReferenceIdeal.Read.val_main_v4_eq, a0, a1]
  refine Eq.trans ?_ (Cert.OutGradKernelIdeal.Ker.final2 m c).symm
  funext y
  exact out_grad_value _ _ y

/-- The input weights' gradient reference leaves its arguments as they were; it names no semaphore. -/
theorem in_grad_reference_frame : Cert.quiescent_InGradReferenceIdeal := fun m ρ _ => (θ_run Cert.InGradReferenceIdeal.defs _ _).mono
  (fun r h => And.intro (fun c => (h c).2) (sem_eq_zero_of_no_sems (by decide) r.2)) (Cert.InGradReferenceIdeal.Value.run (F := Ideal) m ρ)

/-- The input weights' gradient at an index: the product over all the rows. -/
theorem in_grad_value (A : FVec Ideal Cert.InGradReferenceIdeal.S8320x2048 .f32) (B : FVec Ideal Cert.InGradReferenceIdeal.S8320x1024 .f32) (y : Cert.InGradReferenceIdeal.S2048x1024.Idx) :
    Cert.InGradReferenceIdeal.Read.val_main_v5 (F := Ideal) A B y = Cert.InGradKernelIdeal.Ker.W A B (y 0) (y 1) := by
  refine (Cert.InGradReferenceIdeal.Read.val_main_v4_apply (F := Ideal) A B y).trans ((Cert.InGradReferenceIdeal.Read.val_main_v3_apply (F := Ideal) A B _).trans
    ((Cert.InGradReferenceIdeal.Read.val_main_v2_apply A B _).trans ?_))
  unfold Cert.InGradKernelIdeal.Ker.W
  refine Finset.sum_congr rfl fun k _ => congrArg₂ (· * ·) (congrArg A ?_) (congrArg B ?_)
  all_goals
    funext a
    match a with
    | ⟨0, _⟩ => rfl
    | ⟨1, _⟩ => rfl

/-- The input weights' gradient kernel is the gradient of `w_in`'s columns, transposed as the version keeps it. -/
theorem in_grad_algebraic : Cert.algebraic_InGradKernelIdeal_InGradReferenceIdeal := by
  intro m g m' g' _ hagree
  refine ⟨_, Cert.InGradKernelIdeal.Value.run_blocks m g, (θ_run _ _ _).mono (fun r h c => ?_) (Cert.InGradReferenceIdeal.Value.run m' g')⟩
  obtain ⟨e, ek⟩ := h c
  obtain ⟨a0, a1⟩ := hagree c
  refine ⟨e.trans ?_, ek⟩
  rw [Cert.InGradReferenceIdeal.Read.val_main_v5_eq, a0, a1]
  refine Eq.trans ?_ (Cert.InGradKernelIdeal.Ker.final2 m c).symm
  funext y
  exact in_grad_value _ _ y

/-- The reference leaves its arguments as they were; it names no semaphore. -/
theorem inproj_reference_frame : Cert.quiescent_InprojReferenceIdeal := fun m ρ _ => (θ_run Cert.InprojReferenceIdeal.defs _ _).mono
  (fun r h => And.intro (fun c => (h c).2.2) (sem_eq_zero_of_no_sems (by decide) r.2)) (Cert.InprojReferenceIdeal.Value.run (F := Ideal) m ρ)

set_option maxHeartbeats 1600000 in
/-- The kernel is the reference, for every input. -/
theorem inproj_algebraic : Cert.algebraic_InprojKernelIdeal_InprojReferenceIdeal := by
  intro m g m' g' _ hagree
  refine ⟨_, _, Cert.InprojKernelIdeal.Value.run_blocks m g, (θ_run _ _ _).mono (fun r h c => ?_) (Cert.InprojReferenceIdeal.Value.run m' g')⟩
  obtain ⟨e0, e1, ek⟩ := h c
  obtain ⟨a0, a1, a2, a3, a4, a5, a6, a7⟩ := hagree c
  refine ⟨e0.trans ?_, e1.trans ?_, ek⟩
  · refine (Cert.InprojReferenceIdeal.Read.val_main_v4_eq _ _ _ _ _ _ _ _).trans ?_
    change Cert.InprojReferenceIdeal.Read.val_main_v4 (F := Ideal) (m' (c.tc.loc Cert.InprojReferenceIdeal.main_arg0)) (m' (c.tc.loc Cert.InprojReferenceIdeal.main_arg1)) (m' (c.tc.loc Cert.InprojReferenceIdeal.main_arg2)) (m' (c.tc.loc Cert.InprojReferenceIdeal.main_arg3)) (m' (c.tc.loc Cert.InprojReferenceIdeal.main_arg4)) (m' (c.tc.loc Cert.InprojReferenceIdeal.main_arg5)) (m' (c.tc.loc Cert.InprojReferenceIdeal.main_arg6)) (m' (c.tc.loc Cert.InprojReferenceIdeal.main_arg7)) = _
    rw [a0, a1, a2, a3, a4, a5, a6, a7]
    exact (Cert.InprojKernelIdeal.Ker.eq9 m c).symm
  · refine (Cert.InprojReferenceIdeal.Read.val_main_v6_eq _ _ _ _ _ _).trans ?_
    change Cert.InprojReferenceIdeal.Read.val_main_v6 (F := Ideal) (m' (c.tc.loc Cert.InprojReferenceIdeal.main_arg1)) (m' (c.tc.loc Cert.InprojReferenceIdeal.main_arg2)) (m' (c.tc.loc Cert.InprojReferenceIdeal.main_arg3)) (m' (c.tc.loc Cert.InprojReferenceIdeal.main_arg4)) (m' (c.tc.loc Cert.InprojReferenceIdeal.main_arg5)) (m' (c.tc.loc Cert.InprojReferenceIdeal.main_arg6)) = _
    rw [a1, a2, a3, a4, a5, a6]
    exact (Cert.InprojKernelIdeal.Ker.eq10 m c).symm

/-- The reference leaves its arguments as they were; it names no semaphore. -/
theorem outproj_reference_frame : Cert.quiescent_OutprojReferenceIdeal := fun m ρ _ => (θ_run Cert.OutprojReferenceIdeal.defs _ _).mono
  (fun r h => And.intro (fun c => (h c).2.2) (sem_eq_zero_of_no_sems (by decide) r.2)) (Cert.OutprojReferenceIdeal.Value.run (F := Ideal) m ρ)

set_option maxHeartbeats 1600000 in
/-- The kernel is the reference, for every input. -/
theorem outproj_algebraic : Cert.algebraic_OutprojKernelIdeal_OutprojReferenceIdeal := by
  intro m g m' g' _ hagree
  refine ⟨_, _, Cert.OutprojKernelIdeal.Value.run_blocks m g, (θ_run _ _ _).mono (fun r h c => ?_) (Cert.OutprojReferenceIdeal.Value.run m' g')⟩
  obtain ⟨e0, e1, ek⟩ := h c
  obtain ⟨a0, a1, a2, a3, a4, a5⟩ := hagree c
  refine ⟨e0.trans ?_, e1.trans ?_, ek⟩
  · refine (Cert.OutprojReferenceIdeal.Read.val_main_v26_eq _ _).trans ?_
    change Cert.OutprojReferenceIdeal.Read.val_main_v26 (F := Ideal) (m' (c.tc.loc Cert.OutprojReferenceIdeal.main_arg0)) (m' (c.tc.loc Cert.OutprojReferenceIdeal.main_arg1)) (m' (c.tc.loc Cert.OutprojReferenceIdeal.main_arg2)) (m' (c.tc.loc Cert.OutprojReferenceIdeal.main_arg3)) (m' (c.tc.loc Cert.OutprojReferenceIdeal.main_arg4)) (m' (c.tc.loc Cert.OutprojReferenceIdeal.main_arg5)) = _
    rw [a0, a1, a2, a3, a4, a5]
    exact (Cert.OutprojKernelIdeal.Ker.eq6 m c).symm
  · refine (Cert.OutprojReferenceIdeal.Read.val_main_v22_eq _ _ _ _ _ _).trans ?_
    change Cert.OutprojReferenceIdeal.Read.val_main_v22 (F := Ideal) (m' (c.tc.loc Cert.OutprojReferenceIdeal.main_arg0)) (m' (c.tc.loc Cert.OutprojReferenceIdeal.main_arg1)) (m' (c.tc.loc Cert.OutprojReferenceIdeal.main_arg2)) (m' (c.tc.loc Cert.OutprojReferenceIdeal.main_arg3)) (m' (c.tc.loc Cert.OutprojReferenceIdeal.main_arg4)) (m' (c.tc.loc Cert.OutprojReferenceIdeal.main_arg5)) = _
    rw [a0, a1, a2, a3, a4, a5]
    exact (Cert.OutprojKernelIdeal.Ker.eq7 m c).symm

theorem claim : Cert.Claim := ⟨Cert.PoolKernel.Gen.facts, Cert.PoolKernelIdeal.Gen.facts, Cert.PoolReferenceIdeal.Gen.facts,
  Cert.WgradKernel.Gen.facts, Cert.WgradKernelIdeal.Gen.facts, Cert.DownReferenceIdeal.Gen.facts, Cert.GateReferenceIdeal.Gen.facts,
  Cert.FfnKernel.Gen.facts, Cert.FfnKernelIdeal.Gen.facts, Cert.FfnReferenceIdeal.Gen.facts,
  Cert.FwdKernel.Gen.facts, Cert.FwdKernelIdeal.Gen.facts, Cert.FwdReferenceIdeal.Gen.facts,
  Cert.OutGradKernel.Gen.facts, Cert.OutGradKernelIdeal.Gen.facts, Cert.OutGradReferenceIdeal.Gen.facts,
  Cert.InGradKernel.Gen.facts, Cert.InGradKernelIdeal.Gen.facts, Cert.InGradReferenceIdeal.Gen.facts,
  Cert.InprojKernel.Gen.facts, Cert.InprojKernelIdeal.Gen.facts, Cert.InprojReferenceIdeal.Gen.facts,
  Cert.OutprojKernel.Gen.facts, Cert.OutprojKernelIdeal.Gen.facts, Cert.OutprojReferenceIdeal.Gen.facts,
  Cert.Pre_pool_finite.Gen.facts, Cert.Pre_ffn_finite.Gen.facts, by
  refine ⟨fun m ρ _ => Cert.PoolKernel.Gen.frame m ρ, fun m ρ _ => Cert.PoolKernelIdeal.Gen.frame m ρ, fun m ρ _ => Cert.PoolKernelIdeal.Gen.frame m ρ,
    pool_reference_frame, fun m ρ _ => pool_reference_frame m ρ trivial,
    fun m ρ _ => Cert.WgradKernel.Gen.frame m ρ, fun m ρ _ => Cert.WgradKernelIdeal.Gen.frame m ρ, down_reference_frame, gate_reference_frame,
    fun m ρ _ => Cert.FfnKernel.Hand.frame_all m ρ, fun m ρ _ => Cert.FfnKernelIdeal.Hand.frame_all m ρ, fun m ρ _ => Cert.FfnKernelIdeal.Hand.frame_all m ρ,
    ffn_reference_frame, fun m ρ _ => ffn_reference_frame m ρ trivial,
    fun m ρ _ => Cert.FwdKernel.Hand.frame_all m ρ, fun m ρ _ => Cert.FwdKernelIdeal.Hand.frame_all m ρ, fwd_reference_frame,
    fun m ρ _ => Cert.OutGradKernel.Gen.frame m ρ, fun m ρ _ => Cert.OutGradKernelIdeal.Gen.frame m ρ, out_grad_reference_frame,
    fun m ρ _ => Cert.InGradKernel.Gen.frame m ρ, fun m ρ _ => Cert.InGradKernelIdeal.Gen.frame m ρ, in_grad_reference_frame,
    fun m ρ _ => Cert.InprojKernel.Gen.frame m ρ, fun m ρ _ => Cert.InprojKernelIdeal.Gen.frame m ρ, inproj_reference_frame,
    fun m ρ _ => Cert.OutprojKernel.Gen.frame m ρ, fun m ρ _ => Cert.OutprojKernelIdeal.Gen.frame m ρ, outproj_reference_frame,
    trivial, pool_algebraic, trivial, down_algebraic, gate_algebraic, trivial, ffn_algebraic, trivial, fwd_algebraic,
    trivial, out_grad_algebraic,
    trivial, in_grad_algebraic,
    trivial, inproj_algebraic,
    trivial, outproj_algebraic⟩⟩

end Cert.Proof

end
